-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v28_0)) (v1 : (c : Dev Cert.Kernel3Ideal.nD) → Buf (Elt Ideal) ((c.tc : Thread Cert.Kernel3Ideal.nD Cert.Kernel3Ideal.τ).loc Cert.Kernel3Ideal.main_v28_1)) (v2 : (c : Dev Cert.Kernel3Ideal.nD) → Buf (Elt Ideal) ((c.tc : Thread Cert.Kernel3Ideal.nD Cert.Kernel3Ideal.τ).loc Cert.Kernel3Ideal.main_v28_2)) (v3 : (c : Dev Cert.Kernel3Ideal.nD) → Buf (Elt Ideal) ((c.tc : Thread Cert.Kernel3Ideal.nD Cert.Kernel3Ideal.τ).loc Cert.Kernel3Ideal.main_v28_3)) (v4 : (c : Dev Cert.Kernel3Ideal.nD) → Buf (Elt Ideal) ((c.tc : Thread Cert.Kernel3Ideal.nD Cert.Kernel3Ideal.τ).loc Cert.Kernel3Ideal.main_v28_4)) (v5 : (c : Dev Cert.Kernel3Ideal.nD) → Buf (Elt Ideal) ((c.tc : Thread Cert.Kernel3Ideal.nD Cert.Kernel3Ideal.τ).loc Cert.Kernel3Ideal.main_v28_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_0) = v0 c
          ∧ r.2.mem ((c.tc : Thread Cert.Kernel3Ideal.nD Cert.Kernel3Ideal.τ).loc Cert.Kernel3Ideal.main_v28_1) = v1 c
          ∧ r.2.mem ((c.tc : Thread Cert.Kernel3Ideal.nD Cert.Kernel3Ideal.τ).loc Cert.Kernel3Ideal.main_v28_2) = v2 c
          ∧ r.2.mem ((c.tc : Thread Cert.Kernel3Ideal.nD Cert.Kernel3Ideal.τ).loc Cert.Kernel3Ideal.main_v28_3) = v3 c
          ∧ r.2.mem ((c.tc : Thread Cert.Kernel3Ideal.nD Cert.Kernel3Ideal.τ).loc Cert.Kernel3Ideal.main_v28_4) = v4 c
          ∧ r.2.mem ((c.tc : Thread Cert.Kernel3Ideal.nD Cert.Kernel3Ideal.τ).loc Cert.Kernel3Ideal.main_v28_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v161) = v0 c
          ∧ r.2.mem ((c.tc : Thread Cert.Reference3Ideal.nD Cert.Reference3Ideal.τ).loc Cert.Reference3Ideal.main_v162) = v1 c
          ∧ r.2.mem ((c.tc : Thread Cert.Reference3Ideal.nD Cert.Reference3Ideal.τ).loc Cert.Reference3Ideal.main_v163) = v2 c
          ∧ r.2.mem ((c.tc : Thread Cert.Reference3Ideal.nD Cert.Reference3Ideal.τ).loc Cert.Reference3Ideal.main_v165) = v3 c
          ∧ r.2.mem ((c.tc : Thread Cert.Reference3Ideal.nD Cert.Reference3Ideal.τ).loc Cert.Reference3Ideal.main_v167) = v4 c
          ∧ r.2.mem ((c.tc : Thread Cert.Reference3Ideal.nD Cert.Reference3Ideal.τ).loc Cert.Reference3Ideal.main_v169) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_scores_finite.lean ====
abbrev S4x2048x16x128 : Shape := ⟨4, ![4, 2048, 16, 128]⟩
abbrev S4x2048x4x128 : Shape := ⟨4, ![4, 2048, 4, 128]⟩
abbrev S_ : Shape := ⟨0, ![]⟩

class Facts : Prop where
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x2048x4x128 : S_.BroadcastsInDim S4x2048x4x128 (![] : Fin 0 → Fin S4x2048x4x128.rank)
  reducesTo_S4x2048x4x128_S_d0_1_2_3 : S4x2048x4x128.ReducesTo [0, 1, 2, 3] S_

variable [Facts]

def fn {F : FTy → Type} [FloatOps F] (main_arg0 : FVec F S4x2048x16x128 .f32) (main_arg1 : FVec F S4x2048x4x128 .f32) (main_arg2 : FVec F S4x2048x4x128 .f32) : IVec S_ 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_c : IVec S_ 1 := constantI S_ 1 1#1
  let main_v3 : IVec S_ 1 := (fun x v => Host.reduce IntOp.andi x v reducesTo_S4x2048x16x128_S_d0_1_2_3 h_S_) main_v2 main_c
  let main_v4 : FVec F S4x2048x4x128 .f32 := Host.absf main_arg1
  let main_cst_0 : FVec F S_ .f32 := constant S_ .f32 0x7F800000#32
  let main_v5 : FVec F S4x2048x4x128 .f32 := broadcastInDim S4x2048x4x128 ![] bcast_S_S4x2048x4x128 main_cst_0
  let main_v6 : IVec S4x2048x4x128 1 := cmpf .olt main_v4 main_v5
  let main_c_1 : IVec S_ 1 := constantI S_ 1 1#1
  let main_v7 : IVec S_ 1 := (fun x v => Host.reduce IntOp.andi x v reducesTo_S4x2048x4x128_S_d0_1_2_3 h_S_) main_v6 main_c_1
  let main_v8 : IVec S_ 1 := andi main_v3 main_v7
  main_v8
-- ==== Kernel.lean ====
abbrev S4x2048x16x128 : Shape := ⟨4, ![4, 2048, 16, 128]⟩
abbrev S4x2048x4x128 : Shape := ⟨4, ![4, 2048, 4, 128]⟩
abbrev S8192x2048 : Shape := ⟨2, ![8192, 2048]⟩
abbrev S8192x512 : Shape := ⟨2, ![8192, 512]⟩
abbrev S256x512 : Shape := ⟨2, ![256, 512]⟩
abbrev S2048x128 : Shape := ⟨2, ![2048, 128]⟩
abbrev S8x128 : Shape := ⟨2, ![8, 128]⟩
abbrev S8x256x128 : Shape := ⟨3, ![8, 256, 128]⟩
abbrev S8x128x256 : Shape := ⟨3, ![8, 128, 256]⟩
abbrev S256x128 : Shape := ⟨2, ![256, 128]⟩
abbrev S1x256x128 : Shape := ⟨3, ![1, 256, 128]⟩
abbrev S128x256 : Shape := ⟨2, ![128, 256]⟩
abbrev S1x128x256 : Shape := ⟨3, ![1, 128, 256]⟩
abbrev S1024x128 : Shape := ⟨2, ![1024, 128]⟩
abbrev S8x1024 : Shape := ⟨2, ![8, 1024]⟩
abbrev S1x1024 : Shape := ⟨2, ![1, 1024]⟩
abbrev S256x1024 : Shape := ⟨2, ![256, 1024]⟩
abbrev S1024 : Shape := ⟨1, ![1024]⟩
abbrev S128x1024 : Shape := ⟨2, ![128, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x4x128, .f32⟩
  | .hbm, ⟨2, _⟩ => ⟨S4x2048x4x128, .f32⟩
  | .hbm, ⟨3, _⟩ => ⟨S8192x2048, .f32⟩
  | .hbm, ⟨4, _⟩ => ⟨S8192x512, .f32⟩
  | .hbm, ⟨5, _⟩ => ⟨S8192x512, .f32⟩
  | .hbm, ⟨6, _⟩ => ⟨S8192x2048, .bf16⟩
  | .local _ .vmem, ⟨0, _⟩ => ⟨S256x512, .f32⟩
  | .local _ .vmem, ⟨1, _⟩ => ⟨S256x512, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .bf16⟩
  | .local _ .vmem, ⟨7, _⟩ => ⟨S256x512, .bf16⟩
  | .local _ .vmem, ⟨8, _⟩ => ⟨S8x128, .f32⟩
  | .local _ .vmem, ⟨9, _⟩ => ⟨S8x256x128, .bf16⟩
  | .local _ .vmem, ⟨10, _⟩ => ⟨S8x128x256, .bf16⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_off1 (i : grid0.Coords) : Fin 3 → Nat :=
  let arg2 : BitVec 32 := BitVec.ofNat 32 (i 2).val
  let v117 : Index := Scalar.indexCast arg2
  let c0_14 : Index := 0#32
  let c0_15 : Index := 0#32
  ![v117.toNat, 0, 0]
def k0_off2 (i : grid0.Coords) : Fin 3 → Nat :=
  let arg2 : BitVec 32 := BitVec.ofNat 32 (i 2).val
  let v135 : Index := Scalar.indexCast arg2
  let c0_20 : Index := 0#32
  let c0_21 : Index := 0#32
  ![v135.toNat, 0, 0]
@[reducible] def k0_t1_loop (i : grid0.Coords) : Scf.Loop 32 :=
  let c0_i32_23 : BitVec 32 := 0#32
  let arg2 : BitVec 32 := BitVec.ofNat 32 (i 2).val
  let v140 : BitVec 32 := Scalar.subi arg2 c0_i32_23
  let c1_i32_24 : BitVec 32 := 1#32
  let v142 : BitVec 32 := Scalar.divsi v140 c1_i32_24
  let v143 : BitVec 32 := Scalar.muli v142 c1_i32_24
  let v144 : BitVec 32 := Scalar.addi c0_i32_23 v143
  let c1_i32_25 : BitVec 32 := 1#32
  ⟨c0_i32_23, v144, c1_i32_25⟩
def k0_off3 (i : grid0.Coords) (k0_t1 : Fin (k0_t1_loop i).trips) : Fin 3 → Nat :=
  let c0_i32_23 : BitVec 32 := 0#32
  let c1_i32_25 : BitVec 32 := 1#32
  let arg10 : BitVec 32 := Scf.iv c0_i32_23 c1_i32_25 k0_t1
  let v159 : Index := Scalar.indexCast arg10
  let c0_35 : Index := 0#32
  let c0_36 : Index := 0#32
  ![v159.toNat, 0, 0]
def k0_off4 (i : grid0.Coords) (k0_t1 : Fin (k0_t1_loop i).trips) : Fin 3 → Nat :=
  let c0_i32_23 : BitVec 32 := 0#32
  let c1_i32_25 : BitVec 32 := 1#32
  let arg10 : BitVec 32 := Scf.iv c0_i32_23 c1_i32_25 k0_t1
  let v190 : Index := Scalar.indexCast arg10
  let c0_44 : Index := 0#32
  let c0_45 : Index := 0#32
  ![v190.toNat, 0, 0]
@[reducible] def k0_t2_loop (i : grid0.Coords) : Scf.Loop 32 :=
  let c0_i32_23 : BitVec 32 := 0#32
  let arg2 : BitVec 32 := BitVec.ofNat 32 (i 2).val
  let v140 : BitVec 32 := Scalar.subi arg2 c0_i32_23
  let c1_i32_24 : BitVec 32 := 1#32
  let v142 : BitVec 32 := Scalar.divsi v140 c1_i32_24
  let v143 : BitVec 32 := Scalar.muli v142 c1_i32_24
  let v144 : BitVec 32 := Scalar.addi c0_i32_23 v143
  let v141 : BitVec 32 := Scalar.addi c0_i32_23 v140
  let c1_i32_26 : BitVec 32 := 1#32
  ⟨v144, v141, c1_i32_26⟩
def k0_off5 (i : grid0.Coords) (k0_t2 : Fin (k0_t2_loop i).trips) : Fin 3 → Nat :=
  let c0_i32_23 : BitVec 32 := 0#32
  let arg2 : BitVec 32 := BitVec.ofNat 32 (i 2).val
  let v140 : BitVec 32 := Scalar.subi arg2 c0_i32_23
  let c1_i32_24 : BitVec 32 := 1#32
  let v142 : BitVec 32 := Scalar.divsi v140 c1_i32_24
  let v143 : BitVec 32 := Scalar.muli v142 c1_i32_24
  let v144 : BitVec 32 := Scalar.addi c0_i32_23 v143
  let c1_i32_26 : BitVec 32 := 1#32
  let arg10 : BitVec 32 := Scf.iv v144 c1_i32_26 k0_t2
  let v159 : Index := Scalar.indexCast arg10
  let c0_35 : Index := 0#32
  let c0_36 : Index := 0#32
  ![v159.toNat, 0, 0]
def k0_off6 (i : grid0.Coords) (k0_t2 : Fin (k0_t2_loop i).trips) : Fin 3 → Nat :=
  let c0_i32_23 : BitVec 32 := 0#32
  let arg2 : BitVec 32 := BitVec.ofNat 32 (i 2).val
  let v140 : BitVec 32 := Scalar.subi arg2 c0_i32_23
  let c1_i32_24 : BitVec 32 := 1#32
  let v142 : BitVec 32 := Scalar.divsi v140 c1_i32_24
  let v143 : BitVec 32 := Scalar.muli v142 c1_i32_24
  let v144 : BitVec 32 := Scalar.addi c0_i32_23 v143
  let c1_i32_26 : BitVec 32 := 1#32
  let arg10 : BitVec 32 := Scf.iv v144 c1_i32_26 k0_t2
  let v190 : Index := Scalar.indexCast arg10
  let c0_44 : Index := 0#32
  let c0_45 : Index := 0#32
  ![v190.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x2048x16x128 : Shape := ⟨4, ![4, 2048, 16, 128]⟩
abbrev S4x2048x4x128 : Shape := ⟨4, ![4, 2048, 4, 128]⟩
abbrev S4x8x256x4x128 : Shape := ⟨5, ![4, 8, 256, 4, 128]⟩
abbrev S4x4x8x256x128 : Shape := ⟨5, ![4, 4, 8, 256, 128]⟩
abbrev S_ : Shape := ⟨0, ![]⟩
abbrev S4x4x8x128 : Shape := ⟨4, ![4, 4, 8, 128]⟩
abbrev S4x2048x4x4x128 : Shape := ⟨5, ![4, 2048, 4, 4, 128]⟩
abbrev S2048 : Shape := ⟨1, ![2048]⟩
abbrev S4 : Shape := ⟨1, ![4]⟩
abbrev S4x1x1x1x1 : Shape := ⟨5, ![4, 1, 1, 1, 1]⟩
abbrev S1x1x4x1x1 : Shape := ⟨5, ![1, 1, 4, 1, 1]⟩
abbrev S8 : Shape := ⟨1, ![8]⟩
abbrev S256 : Shape := ⟨1, ![256]⟩
abbrev S4x4x8x2048x4 : Shape := ⟨5, ![4, 4, 8, 2048, 4]⟩
abbrev S4x2048x4x4x8 : Shape := ⟨5, ![4, 2048, 4, 4, 8]⟩
abbrev S1x8 : Shape := ⟨2, ![1, 8]⟩
abbrev S2048x1 : Shape := ⟨2, ![2048, 1]⟩
abbrev S2048x8 : Shape := ⟨2, ![2048, 8]⟩
abbrev S1x2048x1x1x8 : Shape := ⟨5, ![1, 2048, 1, 1, 8]⟩
abbrev S4x2048x4x4x3 : Shape := ⟨5, ![4, 2048, 4, 4, 3]⟩
abbrev S1x2048x1x1x1 : Shape := ⟨5, ![1, 2048, 1, 1, 1]⟩
abbrev S4x2048x4x4x1 : Shape := ⟨5, ![4, 2048, 4, 4, 1]⟩
abbrev S4x2048x4x4x4 : Shape := ⟨5, ![4, 2048, 4, 4, 4]⟩
abbrev S4x2048x4x4x4x1 : Shape := ⟨6, ![4, 2048, 4, 4, 4, 1]⟩
abbrev S4x2048x4x4x4x3 : Shape := ⟨6, ![4, 2048, 4, 4, 4, 3]⟩
abbrev S4x2048x4x4x4x256x128 : Shape := ⟨7, ![4, 2048, 4, 4, 4, 256, 128]⟩
abbrev S4x2048x4x4x4x256 : Shape := ⟨6, ![4, 2048, 4, 4, 4, 256]⟩
abbrev S1x256 : Shape := ⟨2, ![1, 256]⟩
abbrev S2048x256 : Shape := ⟨2, ![2048, 256]⟩
abbrev S4x2048x4x4x3x1 : Shape := ⟨6, ![4, 2048, 4, 4, 3, 1]⟩
abbrev S4x2048x4x4x3x256 : Shape := ⟨6, ![4, 2048, 4, 4, 3, 256]⟩
abbrev S1x2048x1x1x1x256 : Shape := ⟨6, ![1, 2048, 1, 1, 1, 256]⟩
abbrev S4x2048x4x4x1x256 : Shape := ⟨6, ![4, 2048, 4, 4, 1, 256]⟩
abbrev S4x2048x4x4x1024 : Shape := ⟨5, ![4, 2048, 4, 4, 1024]⟩
abbrev S4x2048x4x4 : Shape := ⟨4, ![4, 2048, 4, 4]⟩
abbrev S8192x2048 : Shape := ⟨2, ![8192, 2048]⟩

abbrev nBuf : Space → Nat
  | .hbm => 161
  | .vmem => 0
  | .smem => 0
  | _ => 0

abbrev hbmTy0_0 (i : Nat) : BufTy := match i % 128 with
  | 0 => ⟨S4x2048x16x128, .f32⟩
  | 1 => ⟨S4x2048x4x128, .f32⟩
  | 2 => ⟨S4x2048x4x128, .f32⟩
  | 3 => ⟨S4x8x256x4x128, .f32⟩
  | 4 => ⟨S4x4x8x256x128, .f32⟩
  | 5 => ⟨S4x8x256x4x128, .f32⟩
  | 6 => ⟨S4x4x8x256x128, .f32⟩
  | 7 => ⟨S_, .f32⟩
  | 8 => ⟨S4x4x8x128, .f32⟩
  | 9 => ⟨S_, .f32⟩
  | 10 => ⟨S4x4x8x128, .f32⟩
  | 11 => ⟨S4x4x8x128, .f32⟩
  | 12 => ⟨S4x2048x4x4x128, .f32⟩
  | 13 => ⟨S2048, .i32⟩
  | 14 => ⟨S4, .i32⟩
  | 15 => ⟨S4x1x1x1x1, .i32⟩
  | 16 => ⟨S4, .i32⟩
  | 17 => ⟨S1x1x4x1x1, .i32⟩
  | 18 => ⟨S8, .i32⟩
  | 19 => ⟨S256, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S4x4x8x2048x4, .f32⟩
  | 39 => ⟨S4x2048x4x4x8, .f32⟩
  | 40 => ⟨S1x8, .i32⟩
  | 41 => ⟨S2048x1, .i32⟩
  | 42 => ⟨S2048x8, .i32⟩
  | 43 => ⟨S2048x8, .i32⟩
  | 44 => ⟨S2048x8, .i1⟩
  | 45 => ⟨S1x2048x1x1x8, .i1⟩
  | 46 => ⟨S_, .f32⟩
  | 47 => ⟨S_, .f32⟩
  | 48 => ⟨S4x2048x4x4x8, .i1⟩
  | 49 => ⟨S4x2048x4x4x8, .f32⟩
  | 50 => ⟨S4x2048x4x4x8, .f32⟩
  | 51 => ⟨S4x2048x4x4x3, .f32⟩
  | 52 => ⟨S4x2048x4x4x3, .i32⟩
  | 53 => ⟨S1x2048x1x1x1, .i32⟩
  | 54 => ⟨S4x2048x4x4x3, .i32⟩
  | 55 => ⟨S4x2048x4x4x3, .i1⟩
  | 56 => ⟨S1x2048x1x1x1, .i32⟩
  | 57 => ⟨S4x2048x4x4x1, .i32⟩
  | 58 => ⟨S_, .i32⟩
  | 59 => ⟨S4x2048x4x4x3, .i32⟩
  | 60 => ⟨S4x2048x4x4x3, .i32⟩
  | 61 => ⟨S4x2048x4x4x4, .i32⟩
  | 62 => ⟨S_, .i32⟩
  | 63 => ⟨S4x1x1x1x1, .i32⟩
  | 64 => ⟨S4x1x1x1x1, .i1⟩
  | 65 => ⟨S_, .i32⟩
  | 66 => ⟨S4x1x1x1x1, .i32⟩
  | 67 => ⟨S4x1x1x1x1, .i32⟩
  | 68 => ⟨S4x1x1x1x1, .i32⟩
  | 69 => ⟨S_, .i32⟩
  | 70 => ⟨S1x1x4x1x1, .i32⟩
  | 71 => ⟨S1x1x4x1x1, .i1⟩
  | 72 => ⟨S_, .i32⟩
  | 73 => ⟨S1x1x4x1x1, .i32⟩
  | 74 => ⟨S1x1x4x1x1, .i32⟩
  | 75 => ⟨S1x1x4x1x1, .i32⟩
  | 76 => ⟨S_, .i32⟩
  | 77 => ⟨S4x2048x4x4x4, .i32⟩
  | 78 => ⟨S4x2048x4x4x4, .i1⟩
  | 79 => ⟨S_, .i32⟩
  | 80 => ⟨S4x2048x4x4x4, .i32⟩
  | 81 => ⟨S4x2048x4x4x4, .i32⟩
  | 82 => ⟨S4x2048x4x4x4, .i32⟩
  | 83 => ⟨S4x2048x4x4x4, .i32⟩
  | 84 => ⟨S4x2048x4x4x4, .i32⟩
  | 85 => ⟨S4x2048x4x4x4x1, .i32⟩
  | 86 => ⟨S4x2048x4x4x4x1, .i32⟩
  | 87 => ⟨S4x2048x4x4x4x1, .i32⟩
  | 88 => ⟨S4x2048x4x4x4x3, .i32⟩
  | 89 => ⟨S4x2048x4x4x4x256x128, .f32⟩
  | 90 => ⟨S_, .i32⟩
  | 91 => ⟨S4x1x1x1x1, .i32⟩
  | 92 => ⟨S4x1x1x1x1, .i1⟩
  | 93 => ⟨S_, .i32⟩
  | 94 => ⟨S4x1x1x1x1, .i32⟩
  | 95 => ⟨S4x1x1x1x1, .i32⟩
  | 96 => ⟨S4x1x1x1x1, .i32⟩
  | 97 => ⟨S_, .i32⟩
  | 98 => ⟨S1x1x4x1x1, .i32⟩
  | 99 => ⟨S1x1x4x1x1, .i1⟩
  | 100 => ⟨S_, .i32⟩
  | 101 => ⟨S1x1x4x1x1, .i32⟩
  | 102 => ⟨S1x1x4x1x1, .i32⟩
  | 103 => ⟨S1x1x4x1x1, .i32⟩
  | 104 => ⟨S_, .i32⟩
  | 105 => ⟨S4x2048x4x4x4, .i32⟩
  | 106 => ⟨S4x2048x4x4x4, .i1⟩
  | 107 => ⟨S_, .i32⟩
  | 108 => ⟨S4x2048x4x4x4, .i32⟩
  | 109 => ⟨S4x2048x4x4x4, .i32⟩
  | 110 => ⟨S4x2048x4x4x4, .i32⟩
  | 111 => ⟨S4x2048x4x4x4, .i32⟩
  | 112 => ⟨S4x2048x4x4x4, .i32⟩
  | 113 => ⟨S4x2048x4x4x4x1, .i32⟩
  | 114 => ⟨S4x2048x4x4x4x1, .i32⟩
  | 115 => ⟨S4x2048x4x4x4x1, .i32⟩
  | 116 => ⟨S4x2048x4x4x4x3, .i32⟩
  | 117 => ⟨S4x2048x4x4x4x256x128, .f32⟩
  | 118 => ⟨S4x2048x4x4x4x256, .f32⟩
  | 119 => ⟨S_, .f32⟩
  | 120 => ⟨S4x2048x4x4x4x256, .f32⟩
  | 121 => ⟨S4x2048x4x4x4x256, .f32⟩
  | 122 => ⟨S2048x1, .i32⟩
  | 123 => ⟨S_, .i32⟩
  | 124 => ⟨S2048x1, .i32⟩
  | 125 => ⟨S2048x1, .i32⟩
  | 126 => ⟨S1x256, .i32⟩
  | 127 => ⟨S2048x256, .i32⟩
  | _ => ⟨S4x2048x16x128, .f32⟩

abbrev hbmTy0_1 (i : Nat) : BufTy := match i % 128 with
  | 0 => ⟨S2048x256, .i32⟩
  | 1 => ⟨S2048x256, .i32⟩
  | 2 => ⟨S2048x1, .i32⟩
  | 3 => ⟨S2048x256, .i32⟩
  | 4 => ⟨S2048x256, .i1⟩
  | 5 => ⟨S4x2048x4x4x3x1, .i1⟩
  | 6 => ⟨S4x2048x4x4x3x256, .i1⟩
  | 7 => ⟨S1x2048x1x1x1x256, .i1⟩
  | 8 => ⟨S4x2048x4x4x1x256, .i1⟩
  | 9 => ⟨S4x2048x4x4x4x256, .i1⟩
  | 10 => ⟨S_, .f32⟩
  | 11 => ⟨S_, .f32⟩
  | 12 => ⟨S4x2048x4x4x4x256, .f32⟩
  | 13 => ⟨S4x2048x4x4x4x256, .f32⟩
  | 14 => ⟨S4x2048x4x4x1024, .f32⟩
  | 15 => ⟨S_, .f32⟩
  | 16 => ⟨S4x2048x4x4, .f32⟩
  | 17 => ⟨S_, .f32⟩
  | 18 => ⟨S4x2048x4x4, .f32⟩
  | 19 => ⟨S4x2048x4x4, .f32⟩
  | 20 => ⟨S4x2048x4x4x1, .f32⟩
  | 21 => ⟨S4x2048x4x4x1024, .f32⟩
  | 22 => ⟨S4x2048x4x4x1024, .f32⟩
  | 23 => ⟨S4x2048x4x4x1024, .f32⟩
  | 24 => ⟨S_, .f32⟩
  | 25 => ⟨S4x2048x4x4, .f32⟩
  | 26 => ⟨S4x2048x4x4x1, .f32⟩
  | 27 => ⟨S4x2048x4x4x1024, .f32⟩
  | 28 => ⟨S4x2048x4x4x1024, .f32⟩
  | 29 => ⟨S4x2048x4x4x4x256, .f32⟩
  | 30 => ⟨S4x2048x4x4x128, .f32⟩
  | 31 => ⟨S8192x2048, .f32⟩
  | 32 => ⟨S8192x2048, .bf16⟩
  | _ => ⟨S4x2048x16x128, .f32⟩

abbrev hbmTy (i : Nat) : BufTy := match i / 128 with
  | 0 => hbmTy0_0 i
  | 1 => hbmTy0_1 i
  | _ => ⟨S4x2048x16x128, .f32⟩

abbrev bufTy : (tb : Table) → Fin (tcTables nBuf tb) → BufTy
  | .hbm, ⟨i, _⟩ => hbmTy i
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_values : Ref sig .tc := ⟨.hbm, 51, rfl⟩
abbrev main_indices : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_3 : Ref sig .tc := ⟨.hbm, 62, rfl⟩
abbrev main_v33 : Ref sig .tc := ⟨.hbm, 63, rfl⟩
abbrev main_v34 : Ref sig .tc := ⟨.hbm, 64, rfl⟩
abbrev main_c_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_5 : Ref sig .tc := ⟨.hbm, 69, rfl⟩
abbrev main_v38 : Ref sig .tc := ⟨.hbm, 70, rfl⟩
abbrev main_v39 : Ref sig .tc := ⟨.hbm, 71, rfl⟩
abbrev main_c_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_v43 : Ref sig .tc := ⟨.hbm, 77, rfl⟩
abbrev main_v44 : Ref sig .tc := ⟨.hbm, 78, rfl⟩
abbrev main_c_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_c_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_c_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_13 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_15 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_16 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_call2_v0 : Ref sig .tc := ⟨.hbm, 139, rfl⟩
abbrev main_call2_v1 : Ref sig .tc := ⟨.hbm, 140, rfl⟩
abbrev main_v95 : Ref sig .tc := ⟨.hbm, 141, rfl⟩
abbrev main_v96 : Ref sig .tc := ⟨.hbm, 142, rfl⟩
abbrev main_cst_18 : Ref sig .tc := ⟨.hbm, 143, rfl⟩
abbrev main_v97 : Ref sig .tc := ⟨.hbm, 144, rfl⟩
abbrev main_cst_19 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_20 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩

abbrev nD : Nat := 1
abbrev τ : Topo := Topo.v7x

variable {F : FTy → Type} [FloatOps F]
-- ==== Kernel2.lean ====
abbrev S4x2048x4096 : Shape := ⟨3, ![4, 2048, 4096]⟩
abbrev S128x4x4096 : Shape := ⟨3, ![128, 4, 4096]⟩
abbrev S4096x17408 : Shape := ⟨2, ![4096, 17408]⟩
abbrev S8192x4096 : Shape := ⟨2, ![8192, 4096]⟩
abbrev S4x128x4096 : Shape := ⟨3, ![4, 128, 4096]⟩
abbrev S512x4096 : Shape := ⟨2, ![512, 4096]⟩
abbrev S8704x4096 : Shape := ⟨2, ![8704, 4096]⟩
abbrev S8704x17408 : Shape := ⟨2, ![8704, 17408]⟩
abbrev S4096x1024 : Shape := ⟨2, ![4096, 1024]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4096x17408, .f32⟩
  | .hbm, ⟨3, _⟩ => ⟨S8192x4096, .f32⟩
  | .hbm, ⟨4, _⟩ => ⟨S4x128x4096, .f32⟩
  | .hbm, ⟨5, _⟩ => ⟨S512x4096, .f32⟩
  | .hbm, ⟨6, _⟩ => ⟨S8704x4096, .f32⟩
  | .hbm, ⟨7, _⟩ => ⟨S8704x4096, .bf16⟩
  | .hbm, ⟨8, _⟩ => ⟨S8704x17408, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x4096 : Shape := ⟨3, ![4, 2048, 4096]⟩
abbrev S128x4x4096 : Shape := ⟨3, ![128, 4, 4096]⟩
abbrev S4096x17408 : Shape := ⟨2, ![4096, 17408]⟩
abbrev S4x2048x17408 : Shape := ⟨3, ![4, 2048, 17408]⟩
abbrev S128x4x17408 : Shape := ⟨3, ![128, 4, 17408]⟩
abbrev S8192x17408 : Shape := ⟨2, ![8192, 17408]⟩
abbrev S4x128x17408 : Shape := ⟨3, ![4, 128, 17408]⟩
abbrev S512x17408 : Shape := ⟨2, ![512, 17408]⟩
abbrev S8704x17408 : Shape := ⟨2, ![8704, 17408]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4x4096, .f32⟩
  | .hbm, ⟨2, _⟩ => ⟨S4096x17408, .f32⟩
  | .hbm, ⟨3, _⟩ => ⟨S4x2048x17408, .f32⟩
  | .hbm, ⟨4, _⟩ => ⟨S128x4x17408, .f32⟩
  | .hbm, ⟨5, _⟩ => ⟨S8192x17408, .f32⟩
  | .hbm, ⟨6, _⟩ => ⟨S4x128x17408, .f32⟩
  | .hbm, ⟨7, _⟩ => ⟨S512x17408, .f32⟩
  | .hbm, ⟨8, _⟩ => ⟨S8704x17408, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8704x17408 : Shape := ⟨2, ![8704, 17408]⟩
abbrev S16 : Shape := ⟨1, ![16]⟩
abbrev S_ : Shape := ⟨0, ![]⟩
abbrev S2048 : Shape := ⟨1, ![2048]⟩
abbrev S4 : Shape := ⟨1, ![4]⟩
abbrev S4x128 : Shape := ⟨2, ![4, 128]⟩
abbrev S512 : Shape := ⟨1, ![512]⟩
abbrev S2560 : Shape := ⟨1, ![2560]⟩
abbrev S2560x1 : Shape := ⟨2, ![2560, 1]⟩
abbrev S1x16 : Shape := ⟨2, ![1, 16]⟩
abbrev S2560x16 : Shape := ⟨2, ![2560, 16]⟩
abbrev S2560x96 : Shape := ⟨2, ![2560, 96]⟩
abbrev S2560x128 : Shape := ⟨2, ![2560, 128]⟩
abbrev S8192x2048 : Shape := ⟨2, ![8192, 2048]⟩
abbrev S8192x512 : Shape := ⟨2, ![8192, 512]⟩
abbrev S512x2048 : Shape := ⟨2, ![512, 2048]⟩
abbrev S512x512 : Shape := ⟨2, ![512, 512]⟩
abbrev S512x128 : Shape := ⟨2, ![512, 128]⟩

abbrev nBuf : Space → Nat
  | .hbm => 41
  | .vmem => 24
  | .smem => 0
  | _ => 0

abbrev bufTy : (tb : Table) → Fin (tcTables nBuf tb) → BufTy
  | .hbm, ⟨0, _⟩ => ⟨S8704x17408, .f32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S2048, .i32⟩
  | .hbm, ⟨10, _⟩ => ⟨S4, .i32⟩
  | .hbm, ⟨11, _⟩ => ⟨S4x128, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S2560, .i32⟩
  | .hbm, ⟨17, _⟩ => ⟨S2560, .f32⟩
  | .hbm, ⟨18, _⟩ => ⟨S2560x1, .f32⟩
  | .hbm, ⟨19, _⟩ => ⟨S1x16, .f32⟩
  | .hbm, ⟨20, _⟩ => ⟨S2560x16, .f32⟩
  | .hbm, ⟨21, _⟩ => ⟨S2560x16, .f32⟩
  | .hbm, ⟨22, _⟩ => ⟨S2560x16, .f32⟩
  | .hbm, ⟨23, _⟩ => ⟨S2560x16, .f32⟩
  | .hbm, ⟨24, _⟩ => ⟨S2560x16, .f32⟩
  | .hbm, ⟨25, _⟩ => ⟨S_, .f32⟩
  | .hbm, ⟨26, _⟩ => ⟨S2560x96, .f32⟩
  | .hbm, ⟨27, _⟩ => ⟨S_, .f32⟩
  | .hbm, ⟨28, _⟩ => ⟨S2560x96, .f32⟩
  | .hbm, ⟨29, _⟩ => ⟨S_, .f32⟩
  | .hbm, ⟨30, _⟩ => ⟨S2560x16, .f32⟩
  | .hbm, ⟨31, _⟩ => ⟨S2560x128, .f32⟩
  | .hbm, ⟨32, _⟩ => ⟨S2560x16, .f32⟩
  | .hbm, ⟨33, _⟩ => ⟨S2560x128, .f32⟩
  | .hbm, ⟨34, _⟩ => ⟨S2560x128, .f32⟩
  | .hbm, ⟨35, _⟩ => ⟨S8192x2048, .f32⟩
  | .hbm, ⟨36, _⟩ => ⟨S8192x512, .f32⟩
  | .hbm, ⟨37, _⟩ => ⟨S8192x512, .f32⟩
  | .hbm, ⟨38, _⟩ => ⟨S512x2048, .f32⟩
  | .hbm, ⟨39, _⟩ => ⟨S512x512, .f32⟩
  | .hbm, ⟨40, _⟩ => ⟨S512x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x2048, .f32⟩
  | .local _ .vmem, ⟨13, _⟩ => ⟨S512x2048, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x2048, .f32⟩
  | .local _ .vmem, ⟨19, _⟩ => ⟨S512x2048, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S8704x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev main_v28_4 : Ref sig .tc := ⟨.hbm, 39, rfl⟩
abbrev main_v28_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v6 : BitVec 1 := Scalar.cmpi .slt arg0 c16_i32
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c16_i32_5 : BitVec 32 := 16#32
  let v9 : BitVec 1 := Scalar.cmpi .eq arg0 c16_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c16_i32 : BitVec 32 := 16#32
  let v0 : BitVec 1 := Scalar.cmpi .slt arg0 c16_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8704x17408 : Shape := ⟨2, ![8704, 17408]⟩
abbrev S8192x17408 : Shape := ⟨2, ![8192, 17408]⟩
abbrev S4x2048x17408 : Shape := ⟨3, ![4, 2048, 17408]⟩
abbrev S2048 : Shape := ⟨1, ![2048]⟩
abbrev S4x2048x2048 : Shape := ⟨3, ![4, 2048, 2048]⟩
abbrev S4x2048x512 : Shape := ⟨3, ![4, 2048, 512]⟩
abbrev S4x2048x4096 : Shape := ⟨3, ![4, 2048, 4096]⟩
abbrev S4x2048x16x128 : Shape := ⟨4, ![4, 2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x16x32 : Shape := ⟨4, ![4, 2048, 16, 32]⟩
abbrev S4x2048x16x16 : Shape := ⟨4, ![4, 2048, 16, 16]⟩
abbrev S4x2048x16x96 : Shape := ⟨4, ![4, 2048, 16, 96]⟩
abbrev S4x2048x4x128 : Shape := ⟨4, ![4, 2048, 4, 128]⟩
abbrev S4x2048x4x32 : Shape := ⟨4, ![4, 2048, 4, 32]⟩
abbrev S4x2048x4x16 : Shape := ⟨4, ![4, 2048, 4, 16]⟩
abbrev S4x2048x4x96 : Shape := ⟨4, ![4, 2048, 4, 96]⟩
abbrev S512x17408 : Shape := ⟨2, ![512, 17408]⟩
abbrev S4x128x17408 : Shape := ⟨3, ![4, 128, 17408]⟩
abbrev S128x4x17408 : Shape := ⟨3, ![128, 4, 17408]⟩
abbrev S4 : Shape := ⟨1, ![4]⟩
abbrev S128x4x2048 : Shape := ⟨3, ![128, 4, 2048]⟩
abbrev S128x4x512 : Shape := ⟨3, ![128, 4, 512]⟩
abbrev S128x4x4096 : Shape := ⟨3, ![128, 4, 4096]⟩
abbrev S128x4x16x128 : Shape := ⟨4, ![128, 4, 16, 128]⟩
abbrev S4x1 : Shape := ⟨2, ![4, 1]⟩
abbrev S4x16 : Shape := ⟨2, ![4, 16]⟩
abbrev S1x4x1x16 : Shape := ⟨4, ![1, 4, 1, 16]⟩
abbrev S128x4x16x32 : Shape := ⟨4, ![128, 4, 16, 32]⟩
abbrev S128x4x16x16 : Shape := ⟨4, ![128, 4, 16, 16]⟩
abbrev S128x4x16x96 : Shape := ⟨4, ![128, 4, 16, 96]⟩
abbrev S128x4x4x128 : Shape := ⟨4, ![128, 4, 4, 128]⟩
abbrev S128x4x4x32 : Shape := ⟨4, ![128, 4, 4, 32]⟩
abbrev S128x4x4x16 : Shape := ⟨4, ![128, 4, 4, 16]⟩
abbrev S128x4x4x96 : Shape := ⟨4, ![128, 4, 4, 96]⟩
abbrev S8192x2048 : Shape := ⟨2, ![8192, 2048]⟩
abbrev S8192x512 : Shape := ⟨2, ![8192, 512]⟩
abbrev S4x128x2048 : Shape := ⟨3, ![4, 128, 2048]⟩
abbrev S512x2048 : Shape := ⟨2, ![512, 2048]⟩
abbrev S4x128x512 : Shape := ⟨3, ![4, 128, 512]⟩
abbrev S512x512 : Shape := ⟨2, ![512, 512]⟩

abbrev nBuf : Space → Nat
  | .hbm => 180
  | .vmem => 0
  | .smem => 0
  | _ => 0

abbrev hbmTy0_0 (i : Nat) : BufTy := match i % 128 with
  | 0 => ⟨S8704x17408, .f32⟩
  | 1 => ⟨S8192x17408, .f32⟩
  | 2 => ⟨S4x2048x17408, .f32⟩
  | 3 => ⟨S2048, .i32⟩
  | 4 => ⟨S4x2048x2048, .f32⟩
  | 5 => ⟨S4x2048x2048, .f32⟩
  | 6 => ⟨S4x2048x2048, .f32⟩
  | 7 => ⟨S4x2048x2048, .f32⟩
  | 8 => ⟨S4x2048x512, .f32⟩
  | 9 => ⟨S4x2048x512, .f32⟩
  | 10 => ⟨S4x2048x4096, .f32⟩
  | 11 => ⟨S4x2048x4096, .f32⟩
  | 12 => ⟨S4x2048x16x128, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2048, .f32⟩
  | 22 => ⟨S2048x1, .f32⟩
  | 23 => ⟨S1x16, .f32⟩
  | 24 => ⟨S2048x16, .f32⟩
  | 25 => ⟨S2048x16, .f32⟩
  | 26 => ⟨S2048x16, .f32⟩
  | 27 => ⟨S2048x16, .f32⟩
  | 28 => ⟨S1x2048x1x16, .f32⟩
  | 29 => ⟨S2048x16, .f32⟩
  | 30 => ⟨S1x2048x1x16, .f32⟩
  | 31 => ⟨S4x2048x16x32, .f32⟩
  | 32 => ⟨S4x2048x16x16, .f32⟩
  | 33 => ⟨S4x2048x16x16, .f32⟩
  | 34 => ⟨S4x2048x16x16, .f32⟩
  | 35 => ⟨S4x2048x16x16, .f32⟩
  | 36 => ⟨S4x2048x16x16, .f32⟩
  | 37 => ⟨S4x2048x16x16, .f32⟩
  | 38 => ⟨S4x2048x16x16, .f32⟩
  | 39 => ⟨S4x2048x16x16, .f32⟩
  | 40 => ⟨S4x2048x16x16, .f32⟩
  | 41 => ⟨S4x2048x16x16, .f32⟩
  | 42 => ⟨S4x2048x16x16, .f32⟩
  | 43 => ⟨S4x2048x16x16, .f32⟩
  | 44 => ⟨S4x2048x16x32, .f32⟩
  | 45 => ⟨S4x2048x16x96, .f32⟩
  | 46 => ⟨S4x2048x16x128, .f32⟩
  | 47 => ⟨S4x2048x4x128, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S2048, .f32⟩
  | 57 => ⟨S2048x1, .f32⟩
  | 58 => ⟨S1x16, .f32⟩
  | 59 => ⟨S2048x16, .f32⟩
  | 60 => ⟨S2048x16, .f32⟩
  | 61 => ⟨S2048x16, .f32⟩
  | 62 => ⟨S2048x16, .f32⟩
  | 63 => ⟨S1x2048x1x16, .f32⟩
  | 64 => ⟨S2048x16, .f32⟩
  | 65 => ⟨S1x2048x1x16, .f32⟩
  | 66 => ⟨S4x2048x4x32, .f32⟩
  | 67 => ⟨S4x2048x4x16, .f32⟩
  | 68 => ⟨S4x2048x4x16, .f32⟩
  | 69 => ⟨S4x2048x4x16, .f32⟩
  | 70 => ⟨S4x2048x4x16, .f32⟩
  | 71 => ⟨S4x2048x4x16, .f32⟩
  | 72 => ⟨S4x2048x4x16, .f32⟩
  | 73 => ⟨S4x2048x4x16, .f32⟩
  | 74 => ⟨S4x2048x4x16, .f32⟩
  | 75 => ⟨S4x2048x4x16, .f32⟩
  | 76 => ⟨S4x2048x4x16, .f32⟩
  | 77 => ⟨S4x2048x4x16, .f32⟩
  | 78 => ⟨S4x2048x4x16, .f32⟩
  | 79 => ⟨S4x2048x4x32, .f32⟩
  | 80 => ⟨S4x2048x4x96, .f32⟩
  | 81 => ⟨S4x2048x4x128, .f32⟩
  | 82 => ⟨S4x2048x2048, .f32⟩
  | 83 => ⟨S4x2048x512, .f32⟩
  | 84 => ⟨S512x17408, .f32⟩
  | 85 => ⟨S4x128x17408, .f32⟩
  | 86 => ⟨S128x4x17408, .f32⟩
  | 87 => ⟨S4, .i32⟩
  | 88 => ⟨S_, .i32⟩
  | 89 => ⟨S4, .i32⟩
  | 90 => ⟨S4, .i32⟩
  | 91 => ⟨S128x4x2048, .f32⟩
  | 92 => ⟨S128x4x2048, .f32⟩
  | 93 => ⟨S128x4x2048, .f32⟩
  | 94 => ⟨S128x4x2048, .f32⟩
  | 95 => ⟨S128x4x512, .f32⟩
  | 96 => ⟨S128x4x512, .f32⟩
  | 97 => ⟨S128x4x4096, .f32⟩
  | 98 => ⟨S128x4x4096, .f32⟩
  | 99 => ⟨S128x4x16x128, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S4, .f32⟩
  | 109 => ⟨S4x1, .f32⟩
  | 110 => ⟨S1x16, .f32⟩
  | 111 => ⟨S4x16, .f32⟩
  | 112 => ⟨S4x16, .f32⟩
  | 113 => ⟨S4x16, .f32⟩
  | 114 => ⟨S4x16, .f32⟩
  | 115 => ⟨S1x4x1x16, .f32⟩
  | 116 => ⟨S4x16, .f32⟩
  | 117 => ⟨S1x4x1x16, .f32⟩
  | 118 => ⟨S128x4x16x32, .f32⟩
  | 119 => ⟨S128x4x16x16, .f32⟩
  | 120 => ⟨S128x4x16x16, .f32⟩
  | 121 => ⟨S128x4x16x16, .f32⟩
  | 122 => ⟨S128x4x16x16, .f32⟩
  | 123 => ⟨S128x4x16x16, .f32⟩
  | 124 => ⟨S128x4x16x16, .f32⟩
  | 125 => ⟨S128x4x16x16, .f32⟩
  | 126 => ⟨S128x4x16x16, .f32⟩
  | 127 => ⟨S128x4x16x16, .f32⟩
  | _ => ⟨S8704x17408, .f32⟩

abbrev hbmTy0_1 (i : Nat) : BufTy := match i % 128 with
  | 0 => ⟨S128x4x16x16, .f32⟩
  | 1 => ⟨S128x4x16x16, .f32⟩
  | 2 => ⟨S128x4x16x16, .f32⟩
  | 3 => ⟨S128x4x16x32, .f32⟩
  | 4 => ⟨S128x4x16x96, .f32⟩
  | 5 => ⟨S128x4x16x128, .f32⟩
  | 6 => ⟨S128x4x4x128, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S4, .f32⟩
  | 16 => ⟨S4x1, .f32⟩
  | 17 => ⟨S1x16, .f32⟩
  | 18 => ⟨S4x16, .f32⟩
  | 19 => ⟨S4x16, .f32⟩
  | 20 => ⟨S4x16, .f32⟩
  | 21 => ⟨S4x16, .f32⟩
  | 22 => ⟨S1x4x1x16, .f32⟩
  | 23 => ⟨S4x16, .f32⟩
  | 24 => ⟨S1x4x1x16, .f32⟩
  | 25 => ⟨S128x4x4x32, .f32⟩
  | 26 => ⟨S128x4x4x16, .f32⟩
  | 27 => ⟨S128x4x4x16, .f32⟩
  | 28 => ⟨S128x4x4x16, .f32⟩
  | 29 => ⟨S128x4x4x16, .f32⟩
  | 30 => ⟨S128x4x4x16, .f32⟩
  | 31 => ⟨S128x4x4x16, .f32⟩
  | 32 => ⟨S128x4x4x16, .f32⟩
  | 33 => ⟨S128x4x4x16, .f32⟩
  | 34 => ⟨S128x4x4x16, .f32⟩
  | 35 => ⟨S128x4x4x16, .f32⟩
  | 36 => ⟨S128x4x4x16, .f32⟩
  | 37 => ⟨S128x4x4x16, .f32⟩
  | 38 => ⟨S128x4x4x32, .f32⟩
  | 39 => ⟨S128x4x4x96, .f32⟩
  | 40 => ⟨S128x4x4x128, .f32⟩
  | 41 => ⟨S128x4x2048, .f32⟩
  | 42 => ⟨S128x4x512, .f32⟩
  | 43 => ⟨S8192x2048, .f32⟩
  | 44 => ⟨S8192x512, .f32⟩
  | 45 => ⟨S8192x512, .f32⟩
  | 46 => ⟨S4x128x2048, .f32⟩
  | 47 => ⟨S512x2048, .f32⟩
  | 48 => ⟨S4x128x512, .f32⟩
  | 49 => ⟨S512x512, .f32⟩
  | 50 => ⟨S4x128x512, .f32⟩
  | 51 => ⟨S512x512, .f32⟩
  | _ => ⟨S8704x17408, .f32⟩

abbrev hbmTy (i : Nat) : BufTy := match i / 128 with
  | 0 => hbmTy0_0 i
  | 1 => hbmTy0_1 i
  | _ => ⟨S8704x17408, .f32⟩

abbrev bufTy : (tb : Table) → Fin (tcTables nBuf tb) → BufTy
  | .hbm, ⟨i, _⟩ => hbmTy i
  | _, _ => ⟨S8704x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_cst_1 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_c : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_cst_3 : Ref sig .tc := ⟨.hbm, 102, rfl⟩
abbrev main_v96 : Ref sig .tc := ⟨.hbm, 103, rfl⟩
abbrev main_v97 : Ref sig .tc := ⟨.hbm, 104, rfl⟩
abbrev main_cst_4 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_cst_5 : Ref sig .tc := ⟨.hbm, 137, rfl⟩
abbrev main_v129 : Ref sig .tc := ⟨.hbm, 138, rfl⟩
abbrev main_v130 : Ref sig .tc := ⟨.hbm, 139, rfl⟩
abbrev main_cst_6 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩

abbrev nD : Nat := 1
abbrev τ : Topo := Topo.v7x

variable {F : FTy → Type} [FloatOps F]
-- ==== Kernel4.lean ====
abbrev S8704x17408 : Shape := ⟨2, ![8704, 17408]⟩
abbrev S3x2048 : Shape := ⟨2, ![3, 2048]⟩
abbrev S8192x2048 : Shape := ⟨2, ![8192, 2048]⟩
abbrev S4x2x2048 : Shape := ⟨3, ![4, 2, 2048]⟩
abbrev S512x512 : Shape := ⟨2, ![512, 512]⟩
abbrev S3x512 : Shape := ⟨2, ![3, 512]⟩
abbrev S1x2x512 : Shape := ⟨3, ![1, 2, 512]⟩
abbrev S8x512 : Shape := ⟨2, ![8, 512]⟩
abbrev S1x512 : Shape := ⟨2, ![1, 512]⟩
abbrev S2x512 : Shape := ⟨2, ![2, 512]⟩

abbrev nBuf : Space → Nat
  | .hbm => 4
  | .vmem => 13
  | .smem => 0
  | _ => 0

abbrev bufTy : (tb : Table) → Fin (tcTables nBuf tb) → BufTy
  | .hbm, ⟨0, _⟩ => ⟨S8704x17408, .f32⟩
  | .hbm, ⟨1, _⟩ => ⟨S3x2048, .f32⟩
  | .hbm, ⟨2, _⟩ => ⟨S8192x2048, .bf16⟩
  | .hbm, ⟨3, _⟩ => ⟨S4x2x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S3x512, .f32⟩
  | .local _ .vmem, ⟨7, _⟩ => ⟨S3x512, .f32⟩
  | .local _ .vmem, ⟨8, _⟩ => ⟨S512x512, .bf16⟩
  | .local _ .vmem, ⟨9, _⟩ => ⟨S512x512, .bf16⟩
  | .local _ .vmem, ⟨10, _⟩ => ⟨S1x2x512, .f32⟩
  | .local _ .vmem, ⟨11, _⟩ => ⟨S1x2x512, .f32⟩
  | .local _ .vmem, ⟨12, _⟩ => ⟨S8x512, .f32⟩
  | _, _ => ⟨S8704x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8704x17408 : Shape := ⟨2, ![8704, 17408]⟩
abbrev S3x2048 : Shape := ⟨2, ![3, 2048]⟩
abbrev S8192x17408 : Shape := ⟨2, ![8192, 17408]⟩
abbrev S4x2048x17408 : Shape := ⟨3, ![4, 2048, 17408]⟩
abbrev S4x2048x2048 : Shape := ⟨3, ![4, 2048, 2048]⟩
abbrev S4x2048x512 : Shape := ⟨3, ![4, 2048, 512]⟩
abbrev S4x2048x4096 : Shape := ⟨3, ![4, 2048, 4096]⟩
abbrev S_ : Shape := ⟨0, ![]⟩
abbrev S4x2x2048 : Shape := ⟨3, ![4, 2, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8704x17408, .f32⟩
  | .hbm, ⟨1, _⟩ => ⟨S3x2048, .f32⟩
  | .hbm, ⟨2, _⟩ => ⟨S8192x17408, .f32⟩
  | .hbm, ⟨3, _⟩ => ⟨S4x2048x17408, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x512, .f32⟩
  | .hbm, ⟨9, _⟩ => ⟨S4x2048x512, .f32⟩
  | .hbm, ⟨10, _⟩ => ⟨S4x2048x4096, .f32⟩
  | .hbm, ⟨11, _⟩ => ⟨S4x2048x4096, .f32⟩
  | .hbm, ⟨12, _⟩ => ⟨S4x2048x2048, .f32⟩
  | .hbm, ⟨13, _⟩ => ⟨S_, .f32⟩
  | .hbm, ⟨14, _⟩ => ⟨S4x2x2048, .f32⟩
  | .hbm, ⟨15, _⟩ => ⟨S4x2050x2048, .f32⟩
  | .hbm, ⟨16, _⟩ => ⟨S1x2048, .f32⟩
  | .hbm, ⟨17, _⟩ => ⟨S2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S1x2048, .f32⟩
  | .hbm, ⟨26, _⟩ => ⟨S2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S1x2048, .f32⟩
  | .hbm, ⟨33, _⟩ => ⟨S2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2x2048, .f32⟩
  | .hbm, ⟨40, _⟩ => ⟨S4x2048x2048, .f32⟩
  | .hbm, ⟨41, _⟩ => ⟨S8192x2048, .f32⟩
  | .hbm, ⟨42, _⟩ => ⟨S8192x2048, .bf16⟩
  | _, _ => ⟨S8704x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== Kernel5.lean ====
abbrev S8704x17408 : Shape := ⟨2, ![8704, 17408]⟩
abbrev S128x2x2048 : Shape := ⟨3, ![128, 2, 2048]⟩
abbrev S3x2048 : Shape := ⟨2, ![3, 2048]⟩
abbrev S2x128x2048 : Shape := ⟨3, ![2, 128, 2048]⟩
abbrev S512x2048 : Shape := ⟨2, ![512, 2048]⟩
abbrev S512x512 : Shape := ⟨2, ![512, 512]⟩
abbrev S2x128x512 : Shape := ⟨3, ![2, 128, 512]⟩
abbrev S3x512 : Shape := ⟨2, ![3, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 6
  | .vmem => 14
  | .smem => 0
  | _ => 0

abbrev bufTy : (tb : Table) → Fin (tcTables nBuf tb) → BufTy
  | .hbm, ⟨0, _⟩ => ⟨S8704x17408, .f32⟩
  | .hbm, ⟨1, _⟩ => ⟨S128x2x2048, .f32⟩
  | .hbm, ⟨2, _⟩ => ⟨S3x2048, .f32⟩
  | .hbm, ⟨3, _⟩ => ⟨S2x128x2048, .f32⟩
  | .hbm, ⟨4, _⟩ => ⟨S512x2048, .bf16⟩
  | .hbm, ⟨5, _⟩ => ⟨S2x128x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x128x512, .f32⟩
  | .local _ .vmem, ⟨7, _⟩ => ⟨S2x128x512, .f32⟩
  | .local _ .vmem, ⟨8, _⟩ => ⟨S3x512, .f32⟩
  | .local _ .vmem, ⟨9, _⟩ => ⟨S3x512, .f32⟩
  | .local _ .vmem, ⟨10, _⟩ => ⟨S512x512, .bf16⟩
  | .local _ .vmem, ⟨11, _⟩ => ⟨S512x512, .bf16⟩
  | .local _ .vmem, ⟨12, _⟩ => ⟨S2x128x512, .f32⟩
  | .local _ .vmem, ⟨13, _⟩ => ⟨S2x128x512, .f32⟩
  | _, _ => ⟨S8704x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c16_i32 : BitVec 32 := 16#32
  let c0_i32_0 : BitVec 32 := 0#32
  ![c16_i32.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c16_i32 : BitVec 32 := 16#32
  let c0_i32 : BitVec 32 := 0#32
  ![c16_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c16_i32 : BitVec 32 := 16#32
  let c0_i32 : BitVec 32 := 0#32
  ![c16_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8704x17408 : Shape := ⟨2, ![8704, 17408]⟩
abbrev S128x2x2048 : Shape := ⟨3, ![128, 2, 2048]⟩
abbrev S3x2048 : Shape := ⟨2, ![3, 2048]⟩
abbrev S512x17408 : Shape := ⟨2, ![512, 17408]⟩
abbrev S4x128x17408 : Shape := ⟨3, ![4, 128, 17408]⟩
abbrev S128x4x17408 : Shape := ⟨3, ![128, 4, 17408]⟩
abbrev S128x4x2048 : Shape := ⟨3, ![128, 4, 2048]⟩
abbrev S128x4x512 : Shape := ⟨3, ![128, 4, 512]⟩
abbrev S128x4x4096 : Shape := ⟨3, ![128, 4, 4096]⟩
abbrev S128x6x2048 : Shape := ⟨3, ![128, 6, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S4x128x2048 : Shape := ⟨3, ![4, 128, 2048]⟩
abbrev S512x2048 : Shape := ⟨2, ![512, 2048]⟩
abbrev S2x128x2048 : Shape := ⟨3, ![2, 128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8704x17408, .f32⟩
  | .hbm, ⟨1, _⟩ => ⟨S128x2x2048, .f32⟩
  | .hbm, ⟨2, _⟩ => ⟨S3x2048, .f32⟩
  | .hbm, ⟨3, _⟩ => ⟨S512x17408, .f32⟩
  | .hbm, ⟨4, _⟩ => ⟨S4x128x17408, .f32⟩
  | .hbm, ⟨5, _⟩ => ⟨S128x4x17408, .f32⟩
  | .hbm, ⟨6, _⟩ => ⟨S128x4x2048, .f32⟩
  | .hbm, ⟨7, _⟩ => ⟨S128x4x2048, .f32⟩
  | .hbm, ⟨8, _⟩ => ⟨S128x4x2048, .f32⟩
  | .hbm, ⟨9, _⟩ => ⟨S128x4x2048, .f32⟩
  | .hbm, ⟨10, _⟩ => ⟨S128x4x512, .f32⟩
  | .hbm, ⟨11, _⟩ => ⟨S128x4x512, .f32⟩
  | .hbm, ⟨12, _⟩ => ⟨S128x4x4096, .f32⟩
  | .hbm, ⟨13, _⟩ => ⟨S128x4x4096, .f32⟩
  | .hbm, ⟨14, _⟩ => ⟨S128x4x2048, .f32⟩
  | .hbm, ⟨15, _⟩ => ⟨S128x6x2048, .f32⟩
  | .hbm, ⟨16, _⟩ => ⟨S1x2048, .f32⟩
  | .hbm, ⟨17, _⟩ => ⟨S2048, .f32⟩
  | .hbm, ⟨18, _⟩ => ⟨S128x4x2048, .f32⟩
  | .hbm, ⟨19, _⟩ => ⟨S1x1x2048, .f32⟩
  | .hbm, ⟨20, _⟩ => ⟨S128x4x2048, .f32⟩
  | .hbm, ⟨21, _⟩ => ⟨S128x4x2048, .f32⟩
  | .hbm, ⟨22, _⟩ => ⟨S_, .f32⟩
  | .hbm, ⟨23, _⟩ => ⟨S128x4x2048, .f32⟩
  | .hbm, ⟨24, _⟩ => ⟨S128x4x2048, .f32⟩
  | .hbm, ⟨25, _⟩ => ⟨S1x2048, .f32⟩
  | .hbm, ⟨26, _⟩ => ⟨S2048, .f32⟩
  | .hbm, ⟨27, _⟩ => ⟨S128x4x2048, .f32⟩
  | .hbm, ⟨28, _⟩ => ⟨S1x1x2048, .f32⟩
  | .hbm, ⟨29, _⟩ => ⟨S128x4x2048, .f32⟩
  | .hbm, ⟨30, _⟩ => ⟨S128x4x2048, .f32⟩
  | .hbm, ⟨31, _⟩ => ⟨S128x4x2048, .f32⟩
  | .hbm, ⟨32, _⟩ => ⟨S1x2048, .f32⟩
  | .hbm, ⟨33, _⟩ => ⟨S2048, .f32⟩
  | .hbm, ⟨34, _⟩ => ⟨S128x4x2048, .f32⟩
  | .hbm, ⟨35, _⟩ => ⟨S1x1x2048, .f32⟩
  | .hbm, ⟨36, _⟩ => ⟨S128x4x2048, .f32⟩
  | .hbm, ⟨37, _⟩ => ⟨S128x4x2048, .f32⟩
  | .hbm, ⟨38, _⟩ => ⟨S128x4x2048, .f32⟩
  | .hbm, ⟨39, _⟩ => ⟨S128x2x2048, .f32⟩
  | .hbm, ⟨40, _⟩ => ⟨S128x4x2048, .f32⟩
  | .hbm, ⟨41, _⟩ => ⟨S4x128x2048, .f32⟩
  | .hbm, ⟨42, _⟩ => ⟨S512x2048, .f32⟩
  | .hbm, ⟨43, _⟩ => ⟨S512x2048, .bf16⟩
  | .hbm, ⟨44, _⟩ => ⟨S2x128x2048, .f32⟩
  | _, _ => ⟨S8704x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== Kernel6.lean ====
abbrev S8704x4096 : Shape := ⟨2, ![8704, 4096]⟩
abbrev S4096x4096 : Shape := ⟨2, ![4096, 4096]⟩
abbrev S4x2048x4096 : Shape := ⟨3, ![4, 2048, 4096]⟩
abbrev S128x4x4096 : Shape := ⟨3, ![128, 4, 4096]⟩
abbrev S8192x4096 : Shape := ⟨2, ![8192, 4096]⟩
abbrev S4x128x4096 : Shape := ⟨3, ![4, 128, 4096]⟩
abbrev S512x4096 : Shape := ⟨2, ![512, 4096]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S4x2048x4096, .f32⟩
  | .hbm, ⟨3, _⟩ => ⟨S128x4x4096, .f32⟩
  | .hbm, ⟨4, _⟩ => ⟨S8192x4096, .f32⟩
  | .hbm, ⟨5, _⟩ => ⟨S4x128x4096, .f32⟩
  | .hbm, ⟨6, _⟩ => ⟨S512x4096, .f32⟩
  | .hbm, ⟨7, _⟩ => ⟨S8704x4096, .bf16⟩
  | .hbm, ⟨8, _⟩ => ⟨S8704x4096, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .f32⟩
  | .local _ .vmem, ⟨3, _⟩ => ⟨S4096x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4096x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 34], ![false, false]⟩

def k0_cond2 (i : grid0.Coords) : BitVec 1 :=
  let arg1 : BitVec 32 := BitVec.ofNat 32 (i 1).val
  let c32_i32 : BitVec 32 := 32#32
  let v7 : BitVec 1 := Scalar.cmpi .slt arg1 c32_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c32_i32_5 : BitVec 32 := 32#32
  let v10 : BitVec 1 := Scalar.cmpi .sge arg1 c32_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8704x4096 : Shape := ⟨2, ![8704, 4096]⟩
abbrev S4096x4096 : Shape := ⟨2, ![4096, 4096]⟩
abbrev S4x2048x4096 : Shape := ⟨3, ![4, 2048, 4096]⟩
abbrev S128x4x4096 : Shape := ⟨3, ![128, 4, 4096]⟩
abbrev S8192x4096 : Shape := ⟨2, ![8192, 4096]⟩
abbrev S512x4096 : Shape := ⟨2, ![512, 4096]⟩
abbrev S4x128x4096 : Shape := ⟨3, ![4, 128, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S4x2048x4096, .f32⟩
  | .hbm, ⟨3, _⟩ => ⟨S128x4x4096, .f32⟩
  | .hbm, ⟨4, _⟩ => ⟨S8192x4096, .f32⟩
  | .hbm, ⟨5, _⟩ => ⟨S4x2048x4096, .f32⟩
  | .hbm, ⟨6, _⟩ => ⟨S4x2048x4096, .f32⟩
  | .hbm, ⟨7, _⟩ => ⟨S512x4096, .f32⟩
  | .hbm, ⟨8, _⟩ => ⟨S4x128x4096, .f32⟩
  | .hbm, ⟨9, _⟩ => ⟨S128x4x4096, .f32⟩
  | .hbm, ⟨10, _⟩ => ⟨S128x4x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S8192x4096, .f32⟩
  | .hbm, ⟨16, _⟩ => ⟨S_, .f32⟩
  | .hbm, ⟨17, _⟩ => ⟨S128x4x4096, .f32⟩
  | .hbm, ⟨18, _⟩ => ⟨S128x4x4096, .f32⟩
  | .hbm, ⟨19, _⟩ => ⟨S128x4x4096, .f32⟩
  | .hbm, ⟨20, _⟩ => ⟨S4x128x4096, .f32⟩
  | .hbm, ⟨21, _⟩ => ⟨S512x4096, .f32⟩
  | .hbm, ⟨22, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S8192x2048 : Shape := ⟨2, ![8192, 2048]⟩
abbrev S512x2048 : Shape := ⟨2, ![512, 2048]⟩
abbrev S2048x4096 : Shape := ⟨2, ![2048, 4096]⟩
abbrev S8704x17408 : Shape := ⟨2, ![8704, 17408]⟩
abbrev S8704x4096 : Shape := ⟨2, ![8704, 4096]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S2048x4096, .f32⟩
  | .hbm, ⟨5, _⟩ => ⟨S2048x4096, .f32⟩
  | .hbm, ⟨6, _⟩ => ⟨S8704x17408, .f32⟩
  | .hbm, ⟨7, _⟩ => ⟨S8192x2048, .bf16⟩
  | .hbm, ⟨8, _⟩ => ⟨S512x2048, .bf16⟩
  | .hbm, ⟨9, _⟩ => ⟨S8192x2048, .bf16⟩
  | .hbm, ⟨10, _⟩ => ⟨S512x2048, .bf16⟩
  | .hbm, ⟨11, _⟩ => ⟨S8704x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S2048x1024, .bf16⟩
  | .local _ .vmem, ⟨19, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 34], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .sge arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8192x2048 : Shape := ⟨2, ![8192, 2048]⟩
abbrev S512x2048 : Shape := ⟨2, ![512, 2048]⟩
abbrev S2048x4096 : Shape := ⟨2, ![2048, 4096]⟩
abbrev S8704x17408 : Shape := ⟨2, ![8704, 17408]⟩
abbrev S8192x17408 : Shape := ⟨2, ![8192, 17408]⟩
abbrev S8192x512 : Shape := ⟨2, ![8192, 512]⟩
abbrev S8192x4096 : Shape := ⟨2, ![8192, 4096]⟩
abbrev S_ : Shape := ⟨0, ![]⟩
abbrev S512x17408 : Shape := ⟨2, ![512, 17408]⟩
abbrev S512x512 : Shape := ⟨2, ![512, 512]⟩
abbrev S512x4096 : Shape := ⟨2, ![512, 4096]⟩
abbrev S8704x4096 : Shape := ⟨2, ![8704, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S8192x2048, .f32⟩
  | .hbm, ⟨3, _⟩ => ⟨S512x2048, .f32⟩
  | .hbm, ⟨4, _⟩ => ⟨S2048x4096, .f32⟩
  | .hbm, ⟨5, _⟩ => ⟨S2048x4096, .f32⟩
  | .hbm, ⟨6, _⟩ => ⟨S8704x17408, .f32⟩
  | .hbm, ⟨7, _⟩ => ⟨S8192x17408, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x512, .f32⟩
  | .hbm, ⟨13, _⟩ => ⟨S8192x512, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S512x17408, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S512x512, .f32⟩
  | .hbm, ⟨43, _⟩ => ⟨S512x512, .f32⟩
  | .hbm, ⟨44, _⟩ => ⟨S512x4096, .f32⟩
  | .hbm, ⟨45, _⟩ => ⟨S512x4096, .f32⟩
  | .hbm, ⟨46, _⟩ => ⟨S512x4096, .f32⟩
  | .hbm, ⟨47, _⟩ => ⟨S512x4096, .f32⟩
  | .hbm, ⟨48, _⟩ => ⟨S512x4096, .f32⟩
  | .hbm, ⟨49, _⟩ => ⟨S512x4096, .f32⟩
  | .hbm, ⟨50, _⟩ => ⟨S_, .f32⟩
  | .hbm, ⟨51, _⟩ => ⟨S512x4096, .f32⟩
  | .hbm, ⟨52, _⟩ => ⟨S512x4096, .f32⟩
  | .hbm, ⟨53, _⟩ => ⟨S_, .f32⟩
  | .hbm, ⟨54, _⟩ => ⟨S512x4096, .f32⟩
  | .hbm, ⟨55, _⟩ => ⟨S512x4096, .f32⟩
  | .hbm, ⟨56, _⟩ => ⟨S512x4096, .f32⟩
  | .hbm, ⟨57, _⟩ => ⟨S512x4096, .f32⟩
  | .hbm, ⟨58, _⟩ => ⟨S512x4096, .f32⟩
  | .hbm, ⟨59, _⟩ => ⟨S_, .f32⟩
  | .hbm, ⟨60, _⟩ => ⟨S512x4096, .f32⟩
  | .hbm, ⟨61, _⟩ => ⟨S512x4096, .f32⟩
  | .hbm, ⟨62, _⟩ => ⟨S_, .f32⟩
  | .hbm, ⟨63, _⟩ => ⟨S512x4096, .f32⟩
  | .hbm, ⟨64, _⟩ => ⟨S512x4096, .f32⟩
  | .hbm, ⟨65, _⟩ => ⟨S512x4096, .f32⟩
  | .hbm, ⟨66, _⟩ => ⟨S512x4096, .f32⟩
  | .hbm, ⟨67, _⟩ => ⟨S8704x4096, .f32⟩
  | .hbm, ⟨68, _⟩ => ⟨S8704x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.InProj.lean ====
/-
  The input projection: the kernel's array is the reference's.

  Every grid point multiplies a block of 512 rows of the stacked activations by a block of 1024 columns of the
  weight, which a scratch array holds, cast once per column block (`scratch_eq`). So the array is the product
  (`array_apply`); the reference's product is the same sum of products at every index (`equation`).
-/
module

public import proofs.«01_k».proof.Proof.Gen.Kernel2Ideal.Value
public import proofs.«01_k».proof.Proof.Gen.Reference2Ideal.Read
public import Idealize.ShloMosaic.Lib.Tactic
public import Idealize.ShloMosaic.Lib.Pointwise

@[expose] public section
set_option maxRecDepth 16384
noncomputable section
namespace Cert.Kernel2Ideal.InProj
open Cert.Kernel2Ideal Cert.Kernel2Ideal.Gen Cert.Kernel2Ideal.Value Idealize.ShloMosaic Idealize.ShloMosaic.TcCoe Idealize.SL.Sem

section Body
variable {F : FTy → Type} [FloatOps F]
variable (c : Dev nD) (i : grid0.Coords) (arg2 : Memref sig .tc .vmem S512x4096 .bf16) (harg2 : arg2.IsWhole) (arg3 : Memref sig .tc .vmem S4096x1024 .f32) (harg3 : arg3.IsWhole) (arg4 : Memref sig .tc .vmem S512x1024 .f32) (harg4 : arg4.IsWhole) (arg5 : Memref sig .tc .vmem S4096x1024 .bf16) (harg5 : arg5.IsWhole)

/-- The scratch at the first point of a column block: the weight block, cast. -/
theorem cast_eq (hc0 : cond0_0 i) (x0 : Vec F S512x4096 .bf16) (x1 : Vec F S4096x1024 .f32) :
    sout0_A_0 c i arg2 harg2 arg3 harg3 arg4 harg4 arg5 harg5 hc0 x0 x1 = k0_pay1 x1 := by
  have hz : (![0, 0] : Fin 2 → Nat) = fun _ => 0 := by funext a; fin_cases a <;> rfl
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.readAt_eq_ld, harg3.read_unread, View.ld_unit_zero (S := S4096x1024) hz]
  rw [View.canon_unit_zero hz]

/-- What a later point of a column block stores: its rows times the scratch. -/
theorem later_eq (hc0 : ¬cond0_0 i) (x0 : Vec F S512x4096 .bf16) (x1 : Vec F S4096x1024 .f32) (xs0 : Vec F S4096x1024 .bf16) :
    out0_B_2 c i arg2 harg2 arg3 harg3 arg4 harg4 arg5 harg5 hc0 x0 x1 xs0 = k0_pay2 x0 xs0 := by
  have hz : (![0, 0] : Fin 2 → Nat) = fun _ => 0 := by funext a; fin_cases a <;> rfl
  unfold out0_B_2
  rw [View.read_writes_eq_canon _ _ _ (cover0_B_2 c i arg2 harg2 arg3 harg3 arg4 harg4 arg5 harg5 hc0 x0 x1 xs0)]
  unfold kernelRun0_B
  dsimp only
  sl_unfold_words
  simp only [View.readAt_eq_ld, harg2.read_unread, harg5.read_unread, View.ld_unit_zero (S := S4096x1024) hz, View.ld_unit_zero (S := S512x4096) hz]
  rw [View.canon_unit_zero hz]

/-- What the first point of a column block stores: its rows times the weight block, cast. -/
theorem first_eq (hc0 : cond0_0 i) (x0 : Vec F S512x4096 .bf16) (x1 : Vec F S4096x1024 .f32) :
    out0_A_2 c i arg2 harg2 arg3 harg3 arg4 harg4 arg5 harg5 hc0 x0 x1 = k0_pay2 x0 (k0_pay1 x1) := by
  have hz : (![0, 0] : Fin 2 → Nat) = fun _ => 0 := by funext a; fin_cases a <;> rfl
  unfold out0_A_2
  rw [View.read_writes_eq_canon _ _ _ (cover0_A_2 c i arg2 harg2 arg3 harg3 arg4 harg4 arg5 harg5 hc0 x0 x1)]
  unfold kernelRun0_A
  dsimp only
  sl_unfold_words
  simp only [View.readAt_eq_ld, harg2.read_unread, harg3.read_unread, harg5.read_unread, View.ld_unit_zero (S := S4096x1024) hz, View.ld_unit_zero (S := S512x4096) hz]
  rw [View.canon_unit_zero hz]
  rw [View.readCov_unit_zero _ hz]

end Body

variable (m : (ℓ : Loc nD τ sig) → Buf (Elt Ideal) ℓ) (c : Dev nD)

/-- The stacked activations and the weight, as the kernel's windows see them. -/
abbrev arrX : S8704x4096.Idx → EReal := V m c (Pipeline.arrRef spec0 0)
abbrev arrW : S4096x17408.Idx → EReal := V m c (Pipeline.arrRef spec0 1)

/-- The arguments. -/
abbrev argP : S4x2048x4096.Idx → EReal := m ((c : Thread nD τ).loc main_arg0)
abbrev argS : S128x4x4096.Idx → EReal := m ((c : Thread nD τ).loc main_arg1)
abbrev argW : S4096x17408.Idx → EReal := m ((c : Thread nD τ).loc main_arg2)

theorem index0 : ∀ t : Fin cfg0.N, (cc0_transform_0 (grid0.coords t) 0 = t.val % 17 ∧ cc0_transform_0 (grid0.coords t) 1 = 0)
    ∧ (cc0_transform_1 (grid0.coords t) 0 = 0 ∧ cc0_transform_1 (grid0.coords t) 1 = t.val / 17) := by
  decide +kernel

/-- The rows a point loads. -/
theorem iblk0 (t : Fin cfg0.N) (p : Fin 512) (k : Fin 4096) :
    iblk m c 0 t (ix2 p k : S512x4096.Idx) = arrX m c (ix2 (⟨t.val % 17 * 512 + p.val, by omega⟩ : Fin 8704) k) := by
  unfold iblk
  rw [View.read_apply]
  refine congrArg (arrX m c) ((eq_ix2 _).trans (congrArg₂ ix2 (Fin.ext ?_) (Fin.ext ?_)))
  · show cc0_transform_0 (grid0.coords t) 0 * 512 + 1 * p.val = _
    rw [(index0 t).1.1, one_mul]
  · show cc0_transform_0 (grid0.coords t) 1 * 4096 + 1 * k.val = _
    rw [(index0 t).1.2, one_mul, Nat.zero_mul, Nat.zero_add]

/-- The columns a point loads. -/
theorem iblk1 (t : Fin cfg0.N) (k : Fin 4096) (q : Fin 1024) :
    iblk m c 1 t (ix2 k q : S4096x1024.Idx) = arrW m c (ix2 k (⟨t.val / 17 * 1024 + q.val, by have := t.isLt; have : cfg0.N = 289 := N_0; omega⟩ : Fin 17408)) := by
  unfold iblk
  rw [View.read_apply]
  refine congrArg (arrW m c) ((eq_ix2 _).trans (congrArg₂ ix2 (Fin.ext ?_) (Fin.ext ?_)))
  · show cc0_transform_1 (grid0.coords t) 0 * 4096 + 1 * k.val = _
    rw [(index0 t).2.1, one_mul, Nat.zero_mul, Nat.zero_add]
  · show cc0_transform_1 (grid0.coords t) 1 * 1024 + 1 * q.val = _
    rw [(index0 t).2.2, one_mul]

/-- A point's rows and columns. -/
abbrev xr (t : Fin cfg0.N) : Vec Ideal S512x4096 .bf16 := iblk m c 0 t
abbrev xw (t : Fin cfg0.N) : Vec Ideal S4096x1024 .f32 := iblk m c 1 t

/-- Points of one run of seventeen have the same columns. -/
theorem xw_eq (t t' : Fin cfg0.N) (h : t.val / 17 = t'.val / 17) : xw m c t = xw m c t' := by
  funext y
  rw [show y = ix2 (y 0 : Fin 4096) (y 1 : Fin 1024) from eq_ix2 y]
  refine (iblk1 m c t _ _).trans (Eq.trans ?_ (iblk1 m c t' _ _).symm)
  refine congrArg (arrW m c) (congrArg₂ ix2 rfl (Fin.ext ?_))
  show t.val / 17 * 1024 + (y 1).val = t'.val / 17 * 1024 + (y 1).val
  rw [h]

/-- The scratch after every point: its columns, cast. -/
theorem scratch_eq : ∀ (n : ℕ) (hn : n < cfg0.N), (outsAt0 m c n hn).2 = k0_pay1 (xw m c ⟨n, hn⟩) := by
  intro n
  induction n with
  | zero =>
    intro hn
    rw [outsAt0_A m c ⟨0, hn⟩ (Nat.zero_mod _)]
    dsimp only
    rw [cast_eq]
  | succ n ih =>
    intro hn
    by_cases h0 : (n + 1) % 17 = 0
    · rw [outsAt0_A m c ⟨n + 1, hn⟩ h0]
      dsimp only
      rw [cast_eq]
    · rw [outsAt0_B m c ⟨n + 1, hn⟩ h0]
      have e := ih (by omega)
      rw [xw_eq m c ⟨n, by omega⟩ ⟨n + 1, hn⟩ (by show n / 17 = (n + 1) / 17; omega)] at e
      exact e

/-- What every point stores: its rows times its columns. -/
theorem stored_eq (t : Fin cfg0.N) : (outsAt0 m c t.val t.isLt).1 = k0_pay2 (xr m c t) (k0_pay1 (xw m c t)) := by
  by_cases h0 : t.val % 17 = 0
  · rw [outsAt0_A m c t h0]
    dsimp only
    rw [first_eq]
  · rw [outsAt0_B m c t h0]
    dsimp only
    rw [later_eq, scratch_eq m c (t.val - 1) (Nat.lt_of_le_of_lt (Nat.sub_le _ _) t.isLt)]
    rw [xw_eq m c ⟨t.val - 1, Nat.lt_of_le_of_lt (Nat.sub_le _ _) t.isLt⟩ t (by show (t.val - 1) / 17 = t.val / 17; omega)]

/-- One entry of a block: the sum of products. -/
theorem block_apply (x : Vec Ideal S512x4096 .bf16) (w : Vec Ideal S4096x1024 .f32) (p : Fin 512) (q : Fin 1024) :
    k0_pay2 x (k0_pay1 w) (ix2 p q : S512x1024.Idx) = ∑ k : Fin 4096, x (ix2 p k : S512x4096.Idx) * w (ix2 k q : S4096x1024.Idx) := by
  unfold k0_pay2 k0_pay1
  pointwise

/-- The kernel's array at the end: the product of the staged arrays. -/
theorem array_apply (r : Fin 8704) (q : Fin 17408) :
    G2 m c (ix2 r q : S8704x17408.Idx) = ∑ k : Fin 4096, arrX m c (ix2 r k : S8704x4096.Idx) * arrW m c (ix2 k q : S4096x17408.Idx) := by
  have hN : cfg0.N = 289 := N_0
  have ht : q.val / 1024 * 17 + r.val / 512 < cfg0.N := by omega
  have hp : run2Of (ix2 r q : S8704x17408.Idx) = q.val / 1024 * 17 + r.val / 512 := by
    show 1 * (r.val / 512 - 0) + 17 * (q.val / 1024 - 0) = _
    omega
  have hl : loc2Of (ix2 r q : S8704x17408.Idx) = ix2 (⟨r.val % 512, Nat.mod_lt _ (by decide)⟩ : Fin 512) (⟨q.val % 1024, Nat.mod_lt _ (by decide)⟩ : Fin 1024) := eq_ix2 _
  have e := stored_eq m c ⟨_, ht⟩
  rw [outsAt0_sweep] at e
  unfold G2
  rw [dif_pos (by rw [show pt2Of (ix2 r q : S8704x17408.Idx) = _ from hp]; exact ht), hl, fold0_congr m c _ _ _ (by omega) hp]
  refine (congrFun e _).trans ((block_apply _ _ _ _).trans (Finset.sum_congr rfl fun k _ => ?_))
  refine congrArg₂ (· * ·) ((iblk0 m c _ _ _).trans (congrArg (arrX m c) (congrArg₂ ix2 (Fin.ext ?_) rfl))) ((iblk1 m c _ _ _).trans (congrArg (arrW m c) (congrArg₂ ix2 rfl (Fin.ext ?_))))
  · show (q.val / 1024 * 17 + r.val / 512) % 17 * 512 + r.val % 512 = r.val
    omega
  · show (q.val / 1024 * 17 + r.val / 512) / 17 * 1024 + q.val % 1024 = q.val
    omega

/-- The samples' activations, step by step. -/
theorem swap_apply (u : S128x4x4096.Idx → EReal) (s : Fin 4) (b : Fin 128) (k : Fin 4096) :
    transpose S4x128x4096 [1, 0, 2] u transposes_S128x4x4096_S4x128x4096_1_0_2 (ix3 s b k) = u (ix3 b s k) := by
  pointwise

/-- Two arrays, one below the other and cast, at an index. -/
theorem stack_apply (u : S8192x4096.Idx → EReal) (v : S512x4096.Idx → EReal) (r : Fin 8704) (k : Fin 4096) :
    truncf (F := Ideal) (φ := .f32) .bf16 (concatenate S8704x4096 0 [⟨S8192x4096, u⟩, ⟨S512x4096, v⟩] concatenates_S8192x4096_S512x4096_S8704x4096_d0) bitsLt_bf16_f32 (ix2 r k)
      = if h : r.val < 8192 then u (ix2 ⟨r.val, h⟩ k) else v (ix2 ⟨r.val - 8192, by omega⟩ k) := by
  pointwise

/-- The staged activations at a row of the prompt. -/
theorem arrX_prompt (r : Fin 8704) (h : r.val < 8192) (k : Fin 4096) :
    arrX m c (ix2 r k) = argP m c (ix3 (⟨r.val / 2048, by omega⟩ : Fin 4) (⟨r.val % 2048, by omega⟩ : Fin 2048) k) := by
  unfold arrX
  change V m c main_v4 _ = _
  unfold V hostOps0
  after_results
  refine (stack_apply _ _ r k).trans ?_
  rw [dif_pos h]
  refine shapeCast_apply _ _ _ _ ?_
  refine (Shape.rowMajor_val_three _).trans (Eq.trans ?_ (Shape.rowMajor_val_two _).symm)
  show (r.val / 2048 * 2048 + r.val % 2048) * 4096 + k.val = r.val * 4096 + k.val
  omega

/-- The staged activations at a row of the samples. -/
theorem arrX_sample (r : Fin 8704) (h : ¬r.val < 8192) (k : Fin 4096) :
    arrX m c (ix2 r k) = argS m c (ix3 (⟨(r.val - 8192) % 128, by omega⟩ : Fin 128) (⟨(r.val - 8192) / 128, by omega⟩ : Fin 4) k) := by
  unfold arrX
  change V m c main_v4 _ = _
  unfold V hostOps0
  after_results
  refine (stack_apply _ _ r k).trans ?_
  rw [dif_neg h]
  refine (shapeCast_apply _ _ _ (ix3 (⟨(r.val - 8192) / 128, by omega⟩ : Fin 4) (⟨(r.val - 8192) % 128, by omega⟩ : Fin 128) k) ?_).trans ?_
  · refine (Shape.rowMajor_val_three _).trans (Eq.trans ?_ (Shape.rowMajor_val_two _).symm)
    show ((r.val - 8192) / 128 * 128 + (r.val - 8192) % 128) * 4096 + k.val = (r.val - 8192) * 4096 + k.val
    omega
  · exact swap_apply _ _ _ _

/-- The staged weight is the argument. -/
theorem arrW_eq : arrW m c = argW m c := V_main_arg2 m c

/-- The kernel's array at a row of the prompt, of the arguments. -/
theorem array_prompt (r : Fin 8704) (h : r.val < 8192) (q : Fin 17408) :
    G2 m c (ix2 r q : S8704x17408.Idx) = ∑ k : Fin 4096, argP m c (ix3 (⟨r.val / 2048, by omega⟩ : Fin 4) (⟨r.val % 2048, by omega⟩ : Fin 2048) k) * argW m c (ix2 k q) := by
  rw [array_apply]
  simp only [arrX_prompt m c r h]
  exact congrArg (fun W : S4096x17408.Idx → EReal => ∑ k : Fin 4096, argP m c (ix3 (⟨r.val / 2048, by omega⟩ : Fin 4) (⟨r.val % 2048, by omega⟩ : Fin 2048) k) * W (ix2 k q)) (arrW_eq m c)

/-- The kernel's array at a row of the samples, of the arguments. -/
theorem array_sample (r : Fin 8704) (h : ¬r.val < 8192) (q : Fin 17408) :
    G2 m c (ix2 r q : S8704x17408.Idx) = ∑ k : Fin 4096, argS m c (ix3 (⟨(r.val - 8192) % 128, by omega⟩ : Fin 128) (⟨(r.val - 8192) / 128, by omega⟩ : Fin 4) k) * argW m c (ix2 k q) := by
  rw [array_apply]
  simp only [arrX_sample m c r h]
  exact congrArg (fun W : S4096x17408.Idx → EReal => ∑ k : Fin 4096, argS m c (ix3 (⟨(r.val - 8192) % 128, by omega⟩ : Fin 128) (⟨(r.val - 8192) / 128, by omega⟩ : Fin 4) k) * W (ix2 k q)) (arrW_eq m c)

end Cert.Kernel2Ideal.InProj

namespace Cert.Reference2Ideal.InProj
open Cert.Reference2Ideal Cert.Reference2Ideal.Gen Cert.Reference2Ideal.Read Idealize.ShloMosaic Idealize.ShloMosaic.TcCoe Idealize.SL.Sem

variable (x : S4x2048x4096.Idx → EReal) (z : S128x4x4096.Idx → EReal) (w : S4096x17408.Idx → EReal)

/-- The reference at a row of the prompt. -/
theorem prompt_apply (r : Fin 8704) (h : r.val < 8192) (q : Fin 17408) :
    val_main_v5 (F := Ideal) x z w (ix2 r q) = ∑ k : Fin 4096, x (ix3 (⟨r.val / 2048, by omega⟩ : Fin 4) (⟨r.val % 2048, by omega⟩ : Fin 2048) k) * w (ix2 k q) := by
  unfold val_main_v5
  pointwise
  rw [dif_pos h, val_main_v2_apply, val_main_v0_apply]
  refine Finset.sum_congr rfl fun k _ => ?_
  refine congrArg₂ (fun a b => x a * w b) ?_ ?_
  · refine (eq_ix3 _).trans (congr (congrArg₂ ix3 (Fin.ext ?_) (Fin.ext ?_)) rfl)
    · show (r.val * 17408 + q.val) / 35651584 = r.val / 2048
      omega
    · show (r.val * 17408 + q.val) / 17408 % 2048 = r.val % 2048
      omega
  · refine (eq_ix2 _).trans (congrArg₂ ix2 rfl (Fin.ext ?_))
    show (r.val * 17408 + q.val) % 17408 = q.val
    omega

/-- The reference at a row of the samples. -/
theorem sample_apply (r : Fin 8704) (h : ¬r.val < 8192) (q : Fin 17408) :
    val_main_v5 (F := Ideal) x z w (ix2 r q) = ∑ k : Fin 4096, z (ix3 (⟨(r.val - 8192) % 128, by omega⟩ : Fin 128) (⟨(r.val - 8192) / 128, by omega⟩ : Fin 4) k) * w (ix2 k q) := by
  unfold val_main_v5
  pointwise
  rw [dif_neg h, val_main_v4_apply, val_main_v3_apply, val_main_v1_apply]
  refine Finset.sum_congr rfl fun k _ => ?_
  refine congrArg₂ (fun a b => z a * w b) ?_ ?_
  · refine (eq_ix3 _).trans (congr (congrArg₂ ix3 (Fin.ext ?_) (Fin.ext ?_)) rfl)
    · show ((r.val - 8192) * 17408 + q.val) / 17408 % 128 = (r.val - 8192) % 128
      omega
    · show ((r.val - 8192) * 17408 + q.val) / 2228224 = (r.val - 8192) / 128
      omega
  · refine (eq_ix2 _).trans (congrArg₂ ix2 rfl (Fin.ext ?_))
    show ((r.val - 8192) * 17408 + q.val) % 17408 = q.val
    omega

end Cert.Reference2Ideal.InProj

namespace Cert.InProj
open Idealize.ShloMosaic Idealize.ShloMosaic.TcCoe Idealize.SL.Sem

/-- The kernel's array is the reference's array of the same arguments. -/
theorem equation (m : (ℓ : Loc Kernel2Ideal.nD Kernel2Ideal.τ Kernel2Ideal.sig) → Buf (Elt Ideal) ℓ) (c : Dev Kernel2Ideal.nD) :
    Kernel2Ideal.Value.G2 m c = Reference2Ideal.Read.val_main_v5 (F := Ideal) (Kernel2Ideal.InProj.argP m c) (Kernel2Ideal.InProj.argS m c) (Kernel2Ideal.InProj.argW m c) := by
  funext y
  rw [show y = ix2 (y 0 : Fin 8704) (y 1 : Fin 17408) from eq_ix2 y]
  by_cases h : (y 0 : Fin 8704).val < 8192
  · exact (Kernel2Ideal.InProj.array_prompt m c _ h _).trans (Reference2Ideal.InProj.prompt_apply _ _ _ _ h _).symm
  · exact (Kernel2Ideal.InProj.array_sample m c _ h _).trans (Reference2Ideal.InProj.sample_apply _ _ _ _ h _).symm

end Cert.InProj
end
-- ==== Proof.RopeForm.lean ====
/-
  The rotary embedding, in closed form: an angle is a position times a frequency, and of a head's 128 lanes the first
  sixteen and the next sixteen are turned against each other while the rest stay.
-/
module

public import proofs.«01_k».proof.Kernel3Ideal
public import Idealize.ShloMosaic.Lib.Tactic
public import Idealize.ShloMosaic.Lib.Pointwise
public import Idealize.ShloMosaic.Lib.IdealHost

@[expose] public section
set_option maxRecDepth 16384
noncomputable section

namespace Cert.Rope
open Idealize.ShloMosaic Cert.Kernel3Ideal

/-- The frequency of a lane pair: `500000 ^ (-j / 16)`. -/
def freq (j : ℕ) : EReal :=
  FloatOps.hostPowf (F := Ideal) (φ := .f32) (FloatOps.ofBits .f32 0x48F42400#32)
    (FloatOps.hostDivf (F := Ideal) (φ := .f32) (FloatOps.hostNegf (F := Ideal) (φ := .f32) (FloatOps.sitofp .f32 (BitVec.ofNat 32 j))) (FloatOps.ofBits .f32 0x41800000#32))

/-- The angle of a position's lane pair. -/
def angle (w : BitVec 32) (j : ℕ) : EReal := FloatOps.mulf (F := Ideal) (φ := .f32) (FloatOps.sitofp .f32 w) (freq j)
/-- Its cosine and its sine. -/
def cosOf (w : BitVec 32) (j : ℕ) : EReal := FloatOps.hostUnary (F := Ideal) (φ := .f32) .cos (angle w j)
def sinOf (w : BitVec 32) (j : ℕ) : EReal := FloatOps.hostUnary (F := Ideal) (φ := .f32) .sin (angle w j)

/-- Lane `l` of a head `x` turned at position `w`. -/
def spin (w : BitVec 32) (x : ℕ → EReal) (l : ℕ) : EReal :=
  if l < 16 then x l * cosOf w l - x (l + 16) * sinOf w l
  else if l < 32 then x l * cosOf w (l - 16) + x (l - 16) * sinOf w (l - 16)
  else x l

/-- A row of the projections, its columns numbered. -/
def colAt (u : S8704x17408.Idx → EReal) (r : Fin 8704) (k : ℕ) : EReal :=
  if hk : k < 17408 then u (ix2 r (⟨k, hk⟩ : Fin 17408)) else 0

theorem colAt_eq (u : S8704x17408.Idx → EReal) (r r' : Fin 8704) (k : ℕ) (q : Fin 17408) (hq : q.val = k) (hr : r' = r) : u (ix2 r' q) = colAt u r k := by
  subst hq hr
  unfold colAt
  rw [dif_pos q.isLt]

/-- The kernel's three tables at a lane. -/
def tableC (w : BitVec 32) (l : ℕ) : EReal := if l < 16 then cosOf w l else if l < 32 then cosOf w (l - 16) else 1
def tableS (w : BitVec 32) (l : ℕ) : EReal := if l < 16 then -sinOf w l else 0
def tableT (w : BitVec 32) (l : ℕ) : EReal := if l < 16 then 0 else if l < 32 then sinOf w (l - 16) else 0

/-- What the kernel forms of the three tables is the turned lane. -/
theorem spin_of_tables (w : BitVec 32) (x : ℕ → EReal) (l : ℕ) (hl : l < 128) :
    x l * tableC w l + x ((l + 16) % 128) * tableS w l + x ((l + 112) % 128) * tableT w l = spin w x l := by
  unfold tableC tableS tableT spin
  by_cases h1 : l < 16
  · simp only [h1, if_true]
    rw [mul_zero, add_zero, mul_neg, ← sub_eq_add_neg, Nat.mod_eq_of_lt (by omega : l + 16 < 128)]
  · by_cases h2 : l < 32
    · simp only [h1, h2, if_true, if_false]
      rw [mul_zero, add_zero, show (l + 112) % 128 = l - 16 by omega]
    · simp only [h1, h2, if_false]
      rw [mul_zero, mul_zero, add_zero, add_zero, mul_one]

/-- The position of a row of the tables: the prompt's 2048, then four steps of 128 sequences. -/
def wordOf (n : ℕ) : BitVec 32 := if n < 2048 then BitVec.ofNat 32 n else 2048#32 + BitVec.ofNat 32 ((n - 2048) / 128)

end Cert.Rope
-- ==== Proof.RopeIdeal.lean ====
/-
The rotary call, written once for each instance of the program (Kernel3Ideal): what its body leaves in the output
buffers at a grid point, the proof that it does so, and from it the run of the whole call.

The grid has 17 points. The first 16 turn the prompt's queries and keys and copy its values, a block of 512
rows each; the last does the same for the sample's 512 rows into three other outputs. At that last point the
prompt's output buffers still hold what point 15 left, and it is then that block 15 is written back.
-/
module

public import proofs.«01_k».proof.Proof.Gen.Kernel3Ideal.Frame
public import proofs.«01_k».proof.Proof.Gen.Kernel3Ideal.Skeleton
public import Idealize.ShloMosaic.Lib.Claim

@[expose] public section

set_option maxRecDepth 16384

noncomputable section

namespace Cert.Kernel3Ideal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- One head's 128 lanes turned: every lane times its cosine, plus the lane 16 further times one sine table,
    plus the lane 16 before times the other. -/
def turn (x c s1 s2 : Vec F S512x128 .f32) : Vec F S512x128 .f32 :=
  addf (addf (mulf x c) (mulf (dynamicRotate 1 112#32 none x rotates_S512x128_d1) s1))
    (mulf (dynamicRotate 1 16#32 none x rotates_S512x128_d1) s2)

/-- The whole of a table's block, as the body loads it. -/
abbrev allT : Rect S512x128 := Rect.unit (s := S512x128) ![0, 0] S512x128.size inb_S512x128_S512x128_0_0
/-- The whole of a block of values. -/
abbrev allV : Rect S512x512 := Rect.unit (s := S512x512) ![0, 0] S512x512.size inb_S512x512_S512x512_0_0
abbrev qHead0 : Rect S512x2048 := Rect.unit (s := S512x2048) ![0, 0] S512x128.size inb_S512x2048_S512x128_0_0
abbrev qHead1 : Rect S512x2048 := Rect.unit (s := S512x2048) ![0, 128] S512x128.size inb_S512x2048_S512x128_0_128
abbrev qHead2 : Rect S512x2048 := Rect.unit (s := S512x2048) ![0, 256] S512x128.size inb_S512x2048_S512x128_0_256
abbrev qHead3 : Rect S512x2048 := Rect.unit (s := S512x2048) ![0, 384] S512x128.size inb_S512x2048_S512x128_0_384
abbrev qHead4 : Rect S512x2048 := Rect.unit (s := S512x2048) ![0, 512] S512x128.size inb_S512x2048_S512x128_0_512
abbrev qHead5 : Rect S512x2048 := Rect.unit (s := S512x2048) ![0, 640] S512x128.size inb_S512x2048_S512x128_0_640
abbrev qHead6 : Rect S512x2048 := Rect.unit (s := S512x2048) ![0, 768] S512x128.size inb_S512x2048_S512x128_0_768
abbrev qHead7 : Rect S512x2048 := Rect.unit (s := S512x2048) ![0, 896] S512x128.size inb_S512x2048_S512x128_0_896
abbrev qHead8 : Rect S512x2048 := Rect.unit (s := S512x2048) ![0, 1024] S512x128.size inb_S512x2048_S512x128_0_1024
abbrev qHead9 : Rect S512x2048 := Rect.unit (s := S512x2048) ![0, 1152] S512x128.size inb_S512x2048_S512x128_0_1152
abbrev qHead10 : Rect S512x2048 := Rect.unit (s := S512x2048) ![0, 1280] S512x128.size inb_S512x2048_S512x128_0_1280
abbrev qHead11 : Rect S512x2048 := Rect.unit (s := S512x2048) ![0, 1408] S512x128.size inb_S512x2048_S512x128_0_1408
abbrev qHead12 : Rect S512x2048 := Rect.unit (s := S512x2048) ![0, 1536] S512x128.size inb_S512x2048_S512x128_0_1536
abbrev qHead13 : Rect S512x2048 := Rect.unit (s := S512x2048) ![0, 1664] S512x128.size inb_S512x2048_S512x128_0_1664
abbrev qHead14 : Rect S512x2048 := Rect.unit (s := S512x2048) ![0, 1792] S512x128.size inb_S512x2048_S512x128_0_1792
abbrev qHead15 : Rect S512x2048 := Rect.unit (s := S512x2048) ![0, 1920] S512x128.size inb_S512x2048_S512x128_0_1920
abbrev kHead0 : Rect S512x512 := Rect.unit (s := S512x512) ![0, 0] S512x128.size inb_S512x512_S512x128_0_0
abbrev kHead1 : Rect S512x512 := Rect.unit (s := S512x512) ![0, 128] S512x128.size inb_S512x512_S512x128_0_128
abbrev kHead2 : Rect S512x512 := Rect.unit (s := S512x512) ![0, 256] S512x128.size inb_S512x512_S512x128_0_256
abbrev kHead3 : Rect S512x512 := Rect.unit (s := S512x512) ![0, 384] S512x128.size inb_S512x512_S512x128_0_384

/-- A block of queries, its 16 heads turned one by one. -/
def turnQ (x : Vec F S512x2048 .f32) (c s1 s2 : Vec F S512x128 .f32) : Vec F S512x2048 .f32 :=
  View.canon [⟨qHead15, turn (View.ld x qHead15) (k0_pay1 (View.ld c allT)) (k0_pay2 (View.ld s1 allT)) (k0_pay3 (View.ld s2 allT))⟩,
    ⟨qHead14, turn (View.ld x qHead14) (k0_pay1 (View.ld c allT)) (k0_pay2 (View.ld s1 allT)) (k0_pay3 (View.ld s2 allT))⟩,
    ⟨qHead13, turn (View.ld x qHead13) (k0_pay1 (View.ld c allT)) (k0_pay2 (View.ld s1 allT)) (k0_pay3 (View.ld s2 allT))⟩,
    ⟨qHead12, turn (View.ld x qHead12) (k0_pay1 (View.ld c allT)) (k0_pay2 (View.ld s1 allT)) (k0_pay3 (View.ld s2 allT))⟩,
    ⟨qHead11, turn (View.ld x qHead11) (k0_pay1 (View.ld c allT)) (k0_pay2 (View.ld s1 allT)) (k0_pay3 (View.ld s2 allT))⟩,
    ⟨qHead10, turn (View.ld x qHead10) (k0_pay1 (View.ld c allT)) (k0_pay2 (View.ld s1 allT)) (k0_pay3 (View.ld s2 allT))⟩,
    ⟨qHead9, turn (View.ld x qHead9) (k0_pay1 (View.ld c allT)) (k0_pay2 (View.ld s1 allT)) (k0_pay3 (View.ld s2 allT))⟩,
    ⟨qHead8, turn (View.ld x qHead8) (k0_pay1 (View.ld c allT)) (k0_pay2 (View.ld s1 allT)) (k0_pay3 (View.ld s2 allT))⟩,
    ⟨qHead7, turn (View.ld x qHead7) (k0_pay1 (View.ld c allT)) (k0_pay2 (View.ld s1 allT)) (k0_pay3 (View.ld s2 allT))⟩,
    ⟨qHead6, turn (View.ld x qHead6) (k0_pay1 (View.ld c allT)) (k0_pay2 (View.ld s1 allT)) (k0_pay3 (View.ld s2 allT))⟩,
    ⟨qHead5, turn (View.ld x qHead5) (k0_pay1 (View.ld c allT)) (k0_pay2 (View.ld s1 allT)) (k0_pay3 (View.ld s2 allT))⟩,
    ⟨qHead4, turn (View.ld x qHead4) (k0_pay1 (View.ld c allT)) (k0_pay2 (View.ld s1 allT)) (k0_pay3 (View.ld s2 allT))⟩,
    ⟨qHead3, turn (View.ld x qHead3) (k0_pay1 (View.ld c allT)) (k0_pay2 (View.ld s1 allT)) (k0_pay3 (View.ld s2 allT))⟩,
    ⟨qHead2, turn (View.ld x qHead2) (k0_pay1 (View.ld c allT)) (k0_pay2 (View.ld s1 allT)) (k0_pay3 (View.ld s2 allT))⟩,
    ⟨qHead1, turn (View.ld x qHead1) (k0_pay1 (View.ld c allT)) (k0_pay2 (View.ld s1 allT)) (k0_pay3 (View.ld s2 allT))⟩,
    ⟨qHead0, turn (View.ld x qHead0) (k0_pay1 (View.ld c allT)) (k0_pay2 (View.ld s1 allT)) (k0_pay3 (View.ld s2 allT))⟩]

/-- A block of keys, its 4 heads turned one by one. -/
def turnK (x : Vec F S512x512 .f32) (c s1 s2 : Vec F S512x128 .f32) : Vec F S512x512 .f32 :=
  View.canon [⟨kHead3, turn (View.ld x kHead3) (k0_pay1 (View.ld c allT)) (k0_pay2 (View.ld s1 allT)) (k0_pay3 (View.ld s2 allT))⟩,
    ⟨kHead2, turn (View.ld x kHead2) (k0_pay1 (View.ld c allT)) (k0_pay2 (View.ld s1 allT)) (k0_pay3 (View.ld s2 allT))⟩,
    ⟨kHead1, turn (View.ld x kHead1) (k0_pay1 (View.ld c allT)) (k0_pay2 (View.ld s1 allT)) (k0_pay3 (View.ld s2 allT))⟩,
    ⟨kHead0, turn (View.ld x kHead0) (k0_pay1 (View.ld c allT)) (k0_pay2 (View.ld s1 allT)) (k0_pay3 (View.ld s2 allT))⟩]

/-- A block of values, copied. -/
def copyV (x : Vec F S512x512 .f32) : Vec F S512x512 .f32 := View.canon [⟨allV, View.ld x allV⟩]

/-- The 16 heads fill the block of queries. -/
theorem coverQ (p0 p1 p2 p3 p4 p5 p6 p7 p8 p9 p10 p11 p12 p13 p14 p15 : Vec F S512x128 .f32) (y : S512x2048.Idx) :
    ∃ pc ∈ ([⟨qHead15, p15⟩, ⟨qHead14, p14⟩, ⟨qHead13, p13⟩, ⟨qHead12, p12⟩, ⟨qHead11, p11⟩, ⟨qHead10, p10⟩, ⟨qHead9, p9⟩, ⟨qHead8, p8⟩, ⟨qHead7, p7⟩, ⟨qHead6, p6⟩, ⟨qHead5, p5⟩, ⟨qHead4, p4⟩, ⟨qHead3, p3⟩, ⟨qHead2, p2⟩, ⟨qHead1, p1⟩, ⟨qHead0, p0⟩] : List (View.Piece (Elt F) S512x2048 .f32)), y ∈ pc.1.set :=
  View.cover_of_tiled [⟨qHead15, p15⟩, ⟨qHead14, p14⟩, ⟨qHead13, p13⟩, ⟨qHead12, p12⟩, ⟨qHead11, p11⟩, ⟨qHead10, p10⟩, ⟨qHead9, p9⟩, ⟨qHead8, p8⟩, ⟨qHead7, p7⟩, ⟨qHead6, p6⟩, ⟨qHead5, p5⟩, ⟨qHead4, p4⟩, ⟨qHead3, p3⟩, ⟨qHead2, p2⟩, ⟨qHead1, p1⟩, ⟨qHead0, p0⟩] S512x128.size (by rfl) y

/-- The 4 heads fill the block of keys. -/
theorem coverK (p0 p1 p2 p3 : Vec F S512x128 .f32) (y : S512x512.Idx) :
    ∃ pc ∈ ([⟨kHead3, p3⟩, ⟨kHead2, p2⟩, ⟨kHead1, p1⟩, ⟨kHead0, p0⟩] : List (View.Piece (Elt F) S512x512 .f32)), y ∈ pc.1.set :=
  View.cover_of_tiled [⟨kHead3, p3⟩, ⟨kHead2, p2⟩, ⟨kHead1, p1⟩, ⟨kHead0, p0⟩] S512x128.size (by rfl) y

/-- The one store fills the block of values. -/
theorem coverV (p0 : Vec F S512x512 .f32) (y : S512x512.Idx) :
    ∃ pc ∈ ([⟨allV, p0⟩] : List (View.Piece (Elt F) S512x512 .f32)), y ∈ pc.1.set :=
  View.cover_of_tiled [⟨allV, p0⟩] S512x512.size (by rfl) y

set_option maxHeartbeats 4000000 in
/-- The body at a point of the prompt: from any contents of the prompt's three output buffers it leaves the
    turned queries and keys and the values there, and touches no other output. -/
theorem body_prompt (c : Dev nD) (E : Set ℕ) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2048 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .f32) (harg10 : arg10.IsWhole) (arg11 : Memref sig .tc .vmem S512x512 .f32) (harg11 : arg11.IsWhole) (arg12 : Memref sig .tc .vmem S512x512 .f32) (harg12 : arg12.IsWhole)
    (hc1 : k0_cond1 i = 1#1) (hc2 : ¬ k0_cond2 i = 1#1)
    (x0 : Vec F S512x2048 .f32) (x1 : Vec F S512x512 .f32) (x2 : Vec F S512x512 .f32) (x3 : Vec F S512x128 .f32) (x4 : Vec F S512x128 .f32) (x5 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (turnQ x0 x3 x4 x5) ∗ owns (c : Thread nD τ) arg8 fullShare (turnK x1 x3 x4 x5) ∗ owns (c : Thread nD τ) arg9 fullShare (copyV x2)) -∗ K ⟨⟩))
      ⊢ wp frame (wpE (defs₀ (F := F)) Variants.none c none) E (cc0_rope i arg1 harg1 arg2 harg2 arg3 harg3 arg4 harg4 arg5 harg5 arg6 harg6 arg7 harg7 arg8 harg8 arg9 harg9 arg10 harg10 arg11 harg11 arg12 harg12) K := by
  simp only [cc0_rope_eq_skeleton]; unfold cc0_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverQ _ _ _ _ _ _ _ _ _ _ _ _ _ _ _ _ )).trans ?_
    rfl
  isplitl [H7]
  · iexists _; isplitr
    swap; · iexact H7
    ipureintro
    refine (View.read_writes_eq_canon _ _ _ (coverK _ _ _ _)).trans ?_
    rfl
  iexists _; isplitr
  swap; · iexact H8
  ipureintro
  refine (View.read_writes_eq_canon _ _ _ (coverV _)).trans ?_
  rfl

set_option maxHeartbeats 4000000 in
/-- The body at the sample's point: the same, into the sample's three output buffers. -/
theorem body_sample (c : Dev nD) (E : Set ℕ) (i : grid0.Coords) (arg1 : Memref sig .tc .vmem S512x2048 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x2048 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x2048 .f32) (harg10 : arg10.IsWhole) (arg11 : Memref sig .tc .vmem S512x512 .f32) (harg11 : arg11.IsWhole) (arg12 : Memref sig .tc .vmem S512x512 .f32) (harg12 : arg12.IsWhole)
    (hc1 : ¬ k0_cond1 i = 1#1) (hc2 : k0_cond2 i = 1#1)
    (x0 : Vec F S512x2048 .f32) (x1 : Vec F S512x512 .f32) (x2 : Vec F S512x512 .f32) (x3 : Vec F S512x128 .f32) (x4 : Vec F S512x128 .f32) (x5 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg10 fullShare (turnQ x0 x3 x4 x5) ∗ owns (c : Thread nD τ) arg11 fullShare (turnK x1 x3 x4 x5) ∗ owns (c : Thread nD τ) arg12 fullShare (copyV x2)) -∗ K ⟨⟩))
      ⊢ wp frame (wpE (defs₀ (F := F)) Variants.none c none) E (cc0_rope i arg1 harg1 arg2 harg2 arg3 harg3 arg4 harg4 arg5 harg5 arg6 harg6 arg7 harg7 arg8 harg8 arg9 harg9 arg10 harg10 arg11 harg11 arg12 harg12) K := by
  simp only [cc0_rope_eq_skeleton]; unfold cc0_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (coverQ _ _ _ _ _ _ _ _ _ _ _ _ _ _ _ _ )).trans ?_
    rfl
  isplitl [H7]
  · iexists _; isplitr
    swap; · iexact H7
    ipureintro
    refine (View.read_writes_eq_canon _ _ _ (coverK _ _ _ _)).trans ?_
    rfl
  iexists _; isplitr
  swap; · iexact H8
  ipureintro
  refine (View.read_writes_eq_canon _ _ _ (coverV _)).trans ?_
  rfl

/-! ## What every buffer holds after every point -/

/-- The point whose block the prompt's outputs are on: the point itself, and point 15 at the last one. -/
def held (t : Fin cfg0.N) : Fin cfg0.N := ⟨min t.val 15, lt_of_le_of_lt (Nat.min_le_left _ _) t.isLt⟩

theorem held_of_lt (t : Fin cfg0.N) (h : t.val < 16) : held t = t := Fin.ext (Nat.min_eq_left (by omega))

/-- Queries, keys and values as the body leaves them when it runs at point `t`. -/
def queriesAt (c : Dev nD) (t : Fin cfg0.N) : Vec F S512x2048 .f32 :=
  turnQ (X0_0 m c t) (iblk m c 3 t) (iblk m c 4 t) (iblk m c 5 t)
def keysAt (c : Dev nD) (t : Fin cfg0.N) : Vec F S512x512 .f32 :=
  turnK (iblk m c 1 t) (iblk m c 3 t) (iblk m c 4 t) (iblk m c 5 t)
def valuesAt (c : Dev nD) (t : Fin cfg0.N) : Vec F S512x512 .f32 := copyV (iblk m c 2 t)

/-- The pipeline's proof data: the inputs' buffers keep their blocks, the prompt's outputs hold what the body
    leaves at the point whose block they are on, the sample's what the body leaves. -/
def data (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => queriesAt m c (held t)
    | ⟨7, _⟩ => keysAt m c (held t)
    | ⟨8, _⟩ => valuesAt m c (held t)
    | ⟨9, _⟩ => queriesAt m c t
    | ⟨10, _⟩ => keysAt m c t
    | ⟨11, _⟩ => valuesAt m c t
  Φ _ := Pipeline.ΦA spec0 c
  q w := Pipeline.shareOf spec0 w
  owed _ := 0

/-- The arrays are the ones the region is entered with. -/
theorem arrays (c : Dev nD) (w : Fin cfg0.W) : (data m 0 c).A w = V m c (Pipeline.arrRef spec0 w) := by
  dsimp only [data]

theorem after_0 (c : Dev nD) (t : Fin cfg0.N) : (data m 0 c).after 0 t = X0_0 m c t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = queriesAt m c (held t) := by dsimp only [data]
theorem after_7 (c : Dev nD) (t : Fin cfg0.N) : (data m 0 c).after 7 t = keysAt m c (held t) := by dsimp only [data]
theorem after_8 (c : Dev nD) (t : Fin cfg0.N) : (data m 0 c).after 8 t = valuesAt m c (held t) := by dsimp only [data]
theorem after_9 (c : Dev nD) (t : Fin cfg0.N) : (data m 0 c).after 9 t = queriesAt m c t := by dsimp only [data]
theorem after_10 (c : Dev nD) (t : Fin cfg0.N) : (data m 0 c).after 10 t = keysAt m c t := by dsimp only [data]
theorem after_11 (c : Dev nD) (t : Fin cfg0.N) : (data m 0 c).after 11 t = valuesAt m c t := by dsimp only [data]

/-! What the inputs' buffers hold before the body runs. -/

theorem found_0 (c : Dev nD) (t : Fin cfg0.N) (d) : (data m 0 c).before 0 t d = X0_0 m c t :=
  before0_0_of m (data m 0 c) (arrays m c 0) (after_0 m c) t d
theorem found_1 (c : Dev nD) (t : Fin cfg0.N) (d) : (data m 0 c).before 1 t d = iblk m c 1 t :=
  before0_1_of m (data m 0 c) (arrays m c 1) (after_1 m c) t d
theorem found_2 (c : Dev nD) (t : Fin cfg0.N) (d) : (data m 0 c).before 2 t d = iblk m c 2 t :=
  before0_2_of m (data m 0 c) (arrays m c 2) (after_2 m c) t d
theorem found_3 (c : Dev nD) (t : Fin cfg0.N) (d) : (data m 0 c).before 3 t d = iblk m c 3 t :=
  before0_3_of m (data m 0 c) (arrays m c 3) (after_3 m c) t d
theorem found_4 (c : Dev nD) (t : Fin cfg0.N) (d) : (data m 0 c).before 4 t d = iblk m c 4 t :=
  before0_4_of m (data m 0 c) (arrays m c 4) (after_4 m c) t d
theorem found_5 (c : Dev nD) (t : Fin cfg0.N) (d) : (data m 0 c).before 5 t d = iblk m c 5 t :=
  before0_5_of m (data m 0 c) (arrays m c 5) (after_5 m c) t d

/-! ## Which branch is taken, and which outputs are touched -/

theorem first_iff : ∀ t : Fin cfg0.N, k0_cond1 (grid0.coords t) = 1#1 ↔ t.val < 16 :=
  (by decide +kernel : ∀ t : Fin grid0.N, k0_cond1 (grid0.coords t) = 1#1 ↔ t.val < 16)
theorem second_iff : ∀ t : Fin cfg0.N, k0_cond2 (grid0.coords t) = 1#1 ↔ t.val = 16 :=
  (by decide +kernel : ∀ t : Fin grid0.N, k0_cond2 (grid0.coords t) = 1#1 ↔ t.val = 16)
theorem live_6 : ∀ t : Fin cfg0.N, t.val < 16 → cfg0.idle 6 (grid0.coords t) = false := by decide +kernel
theorem rest_6 : ∀ t : Fin cfg0.N, t.val = 16 → cfg0.idle 6 (grid0.coords t) = true := by decide +kernel
theorem back_6 : ∀ t : Fin cfg0.N, (cfg0.win 6).flush t = decide (t.val ≠ 15) := by decide +kernel
theorem live_7 : ∀ t : Fin cfg0.N, t.val < 16 → cfg0.idle 7 (grid0.coords t) = false := by decide +kernel
theorem rest_7 : ∀ t : Fin cfg0.N, t.val = 16 → cfg0.idle 7 (grid0.coords t) = true := by decide +kernel
theorem back_7 : ∀ t : Fin cfg0.N, (cfg0.win 7).flush t = decide (t.val ≠ 15) := by decide +kernel
theorem live_8 : ∀ t : Fin cfg0.N, t.val < 16 → cfg0.idle 8 (grid0.coords t) = false := by decide +kernel
theorem rest_8 : ∀ t : Fin cfg0.N, t.val = 16 → cfg0.idle 8 (grid0.coords t) = true := by decide +kernel
theorem back_8 : ∀ t : Fin cfg0.N, (cfg0.win 8).flush t = decide (t.val ≠ 15) := by decide +kernel
theorem live_9 : ∀ t : Fin cfg0.N, t.val = 16 → cfg0.idle 9 (grid0.coords t) = false := by decide +kernel
theorem rest_9 : ∀ t : Fin cfg0.N, t.val < 16 → cfg0.idle 9 (grid0.coords t) = true := by decide +kernel
theorem back_9 : ∀ t : Fin cfg0.N, (cfg0.win 9).flush t = decide (t.val = 16) := by decide +kernel
theorem live_10 : ∀ t : Fin cfg0.N, t.val = 16 → cfg0.idle 10 (grid0.coords t) = false := by decide +kernel
theorem rest_10 : ∀ t : Fin cfg0.N, t.val < 16 → cfg0.idle 10 (grid0.coords t) = true := by decide +kernel
theorem back_10 : ∀ t : Fin cfg0.N, (cfg0.win 10).flush t = decide (t.val = 16) := by decide +kernel
theorem live_11 : ∀ t : Fin cfg0.N, t.val = 16 → cfg0.idle 11 (grid0.coords t) = false := by decide +kernel
theorem rest_11 : ∀ t : Fin cfg0.N, t.val < 16 → cfg0.idle 11 (grid0.coords t) = true := by decide +kernel
theorem back_11 : ∀ t : Fin cfg0.N, (cfg0.win 11).flush t = decide (t.val = 16) := by decide +kernel

/-- At the last point output 6's buffer still holds what point 15 left. -/
theorem kept_6 (c : Dev nD) (t : Fin cfg0.N) (ht : t.val = 16) (d) : (data m 0 c).before 6 t d = (data m 0 c).after 6 t := by
  rw [(data m 0 c).before_of_pos 6 t (by omega) rfl d]
  have h15 : (⟨t.val - 1, Nat.lt_of_le_of_lt (Nat.sub_le _ _) t.isLt⟩ : Fin cfg0.N).val = 15 := by show t.val - 1 = 15; omega
  have hf : (cfg0.win 6).flush ⟨t.val - 1, Nat.lt_of_le_of_lt (Nat.sub_le _ _) t.isLt⟩ = false :=
    (back_6 _).trans (decide_eq_false fun h => h h15)
  rw [hf, if_neg Bool.false_ne_true]
  unfold Dat.left
  rw [live_6 _ (by rw [h15]; omega)]
  show (data m 0 c).after 6 _ = _
  rw [after_6, after_6]
  congr 1
  exact Fin.ext (by show min (t.val - 1) 15 = min t.val 15; omega)

/-- At the last point output 7's buffer still holds what point 15 left. -/
theorem kept_7 (c : Dev nD) (t : Fin cfg0.N) (ht : t.val = 16) (d) : (data m 0 c).before 7 t d = (data m 0 c).after 7 t := by
  rw [(data m 0 c).before_of_pos 7 t (by omega) rfl d]
  have h15 : (⟨t.val - 1, Nat.lt_of_le_of_lt (Nat.sub_le _ _) t.isLt⟩ : Fin cfg0.N).val = 15 := by show t.val - 1 = 15; omega
  have hf : (cfg0.win 7).flush ⟨t.val - 1, Nat.lt_of_le_of_lt (Nat.sub_le _ _) t.isLt⟩ = false :=
    (back_7 _).trans (decide_eq_false fun h => h h15)
  rw [hf, if_neg Bool.false_ne_true]
  unfold Dat.left
  rw [live_7 _ (by rw [h15]; omega)]
  show (data m 0 c).after 7 _ = _
  rw [after_7, after_7]
  congr 1
  exact Fin.ext (by show min (t.val - 1) 15 = min t.val 15; omega)

/-- At the last point output 8's buffer still holds what point 15 left. -/
theorem kept_8 (c : Dev nD) (t : Fin cfg0.N) (ht : t.val = 16) (d) : (data m 0 c).before 8 t d = (data m 0 c).after 8 t := by
  rw [(data m 0 c).before_of_pos 8 t (by omega) rfl d]
  have h15 : (⟨t.val - 1, Nat.lt_of_le_of_lt (Nat.sub_le _ _) t.isLt⟩ : Fin cfg0.N).val = 15 := by show t.val - 1 = 15; omega
  have hf : (cfg0.win 8).flush ⟨t.val - 1, Nat.lt_of_le_of_lt (Nat.sub_le _ _) t.isLt⟩ = false :=
    (back_8 _).trans (decide_eq_false fun h => h h15)
  rw [hf, if_neg Bool.false_ne_true]
  unfold Dat.left
  rw [live_8 _ (by rw [h15]; omega)]
  show (data m 0 c).after 8 _ = _
  rw [after_8, after_8]
  congr 1
  exact Fin.ext (by show min (t.val - 1) 15 = min t.val 15; omega)

/-! ## The body at a point -/

/-- What the body is called with at point `t`, -/
def given (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d))
    ∗ (∃ d, owns (c : Thread nD τ) (st0_11 t) fullShare ((data m 0 c).before 11 t d)))

/-- and what it hands back. -/
def handed (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t)

set_option maxHeartbeats 2000000 in
/-- At a point of the prompt: the sample's outputs are handed back as they were found. -/
theorem at_prompt (c : Dev nD) (t : Fin cfg0.N) (ht : t.val < 16) :
    given m c t ⊢ wp frame (wpE (defs₀ (F := F)) Variants.none c none) Set.univ (bodyAt0 t) (fun _ => handed m c t) := by
  unfold given handed bodyAt0
  simp only [found_0, found_1, found_2, found_3, found_4, found_5]
  rw [show (data m 0 c).Φ t.succ = (data m 0 c).Φ t.castSucc from rfl,
    show (data m 0 c).owesAt () t.succ = (data m 0 c).owesAt () t.castSucc from rfl]
  rw [show (data m 0 c).leavesExact 0 t = owns (c : Thread nD τ) (st0_0 t) fullShare ((data m 0 c).after 0 t) from rfl, after_0]
  rw [show (data m 0 c).leavesExact 1 t = owns (c : Thread nD τ) (st0_1 t) fullShare ((data m 0 c).after 1 t) from rfl, after_1]
  rw [show (data m 0 c).leavesExact 2 t = owns (c : Thread nD τ) (st0_2 t) fullShare ((data m 0 c).after 2 t) from rfl, after_2]
  rw [show (data m 0 c).leavesExact 3 t = owns (c : Thread nD τ) (st0_3 t) fullShare ((data m 0 c).after 3 t) from rfl, after_3]
  rw [show (data m 0 c).leavesExact 4 t = owns (c : Thread nD τ) (st0_4 t) fullShare ((data m 0 c).after 4 t) from rfl, after_4]
  rw [show (data m 0 c).leavesExact 5 t = owns (c : Thread nD τ) (st0_5 t) fullShare ((data m 0 c).after 5 t) from rfl, after_5]
  rw [show (data m 0 c).leavesExact 6 t = owns (c : Thread nD τ) (st0_6 t) fullShare ((data m 0 c).after 6 t) from by
    unfold Dat.leavesExact; rw [live_6 t ht], after_6]
  rw [show (data m 0 c).leavesExact 7 t = owns (c : Thread nD τ) (st0_7 t) fullShare ((data m 0 c).after 7 t) from by
    unfold Dat.leavesExact; rw [live_7 t ht], after_7]
  rw [show (data m 0 c).leavesExact 8 t = owns (c : Thread nD τ) (st0_8 t) fullShare ((data m 0 c).after 8 t) from by
    unfold Dat.leavesExact; rw [live_8 t ht], after_8]
  rw [(data m 0 c).leavesExact_idle 9 t (rest_9 t ht) (by rw [back_9]; exact decide_eq_false (by omega))]
  rw [(data m 0 c).leavesExact_idle 10 t (rest_10 t ht) (by rw [back_10]; exact decide_eq_false (by omega))]
  rw [(data m 0 c).leavesExact_idle 11 t (rest_11 t ht) (by rw [back_11]; exact decide_eq_false (by omega))]
  rw [held_of_lt t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_prompt c Set.univ (grid0.coords t) _ _ _ _ _ _ _ _ _ _ _ _ _ _ _ _ _ _ _ _ _ _ _ _ ((first_iff t).mpr ht) (fun h => absurd ((second_iff t).mp h) (by omega))
    (X0_0 m c t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

set_option maxHeartbeats 2000000 in
/-- At the last point: the prompt's outputs are handed back holding block 15. -/
theorem at_sample (c : Dev nD) (t : Fin cfg0.N) (ht : t.val = 16) :
    given m c t ⊢ wp frame (wpE (defs₀ (F := F)) Variants.none c none) Set.univ (bodyAt0 t) (fun _ => handed m c t) := by
  unfold given handed bodyAt0
  simp only [found_0, found_1, found_2, found_3, found_4, found_5]
  rw [show (data m 0 c).Φ t.succ = (data m 0 c).Φ t.castSucc from rfl,
    show (data m 0 c).owesAt () t.succ = (data m 0 c).owesAt () t.castSucc from rfl]
  rw [show (data m 0 c).leavesExact 0 t = owns (c : Thread nD τ) (st0_0 t) fullShare ((data m 0 c).after 0 t) from rfl, after_0]
  rw [show (data m 0 c).leavesExact 1 t = owns (c : Thread nD τ) (st0_1 t) fullShare ((data m 0 c).after 1 t) from rfl, after_1]
  rw [show (data m 0 c).leavesExact 2 t = owns (c : Thread nD τ) (st0_2 t) fullShare ((data m 0 c).after 2 t) from rfl, after_2]
  rw [show (data m 0 c).leavesExact 3 t = owns (c : Thread nD τ) (st0_3 t) fullShare ((data m 0 c).after 3 t) from rfl, after_3]
  rw [show (data m 0 c).leavesExact 4 t = owns (c : Thread nD τ) (st0_4 t) fullShare ((data m 0 c).after 4 t) from rfl, after_4]
  rw [show (data m 0 c).leavesExact 5 t = owns (c : Thread nD τ) (st0_5 t) fullShare ((data m 0 c).after 5 t) from rfl, after_5]
  simp only [kept_6 m c t ht, kept_7 m c t ht, kept_8 m c t ht]
  rw [show (data m 0 c).leavesExact 6 t = owns (c : Thread nD τ) (st0_6 t) fullShare ((data m 0 c).after 6 t) from by
    unfold Dat.leavesExact; rw [rest_6 t ht, back_6, decide_eq_true (by omega : t.val ≠ 15)]]
  rw [show (data m 0 c).leavesExact 7 t = owns (c : Thread nD τ) (st0_7 t) fullShare ((data m 0 c).after 7 t) from by
    unfold Dat.leavesExact; rw [rest_7 t ht, back_7, decide_eq_true (by omega : t.val ≠ 15)]]
  rw [show (data m 0 c).leavesExact 8 t = owns (c : Thread nD τ) (st0_8 t) fullShare ((data m 0 c).after 8 t) from by
    unfold Dat.leavesExact; rw [rest_8 t ht, back_8, decide_eq_true (by omega : t.val ≠ 15)]]
  rw [show (data m 0 c).leavesExact 9 t = owns (c : Thread nD τ) (st0_9 t) fullShare ((data m 0 c).after 9 t) from by
    unfold Dat.leavesExact; rw [live_9 t ht], after_9]
  rw [show (data m 0 c).leavesExact 10 t = owns (c : Thread nD τ) (st0_10 t) fullShare ((data m 0 c).after 10 t) from by
    unfold Dat.leavesExact; rw [live_10 t ht], after_10]
  rw [show (data m 0 c).leavesExact 11 t = owns (c : Thread nD τ) (st0_11 t) fullShare ((data m 0 c).after 11 t) from by
    unfold Dat.leavesExact; rw [live_11 t ht], after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_sample c Set.univ (grid0.coords t) _ _ _ _ _ _ _ _ _ _ _ _ _ _ _ _ _ _ _ _ _ _ _ _ (fun h => absurd ((first_iff t).mp h) (by omega)) ((second_iff t).mpr ht)
    (X0_0 m c t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H9]; · iexists _; iexact H9
  isplitl [H10]; · iexists _; iexact H10
  isplitl [H11]; · iexists _; iexact H11
  iintro ⟨H0, H1, H2, H3, H4, H5, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at every point. -/
theorem at_point (c : Dev nD) (t : Fin cfg0.N) :
    given m c t ⊢ wp frame (wpE (defs₀ (F := F)) Variants.none c none) Set.univ (bodyAt0 t) (fun _ => handed m c t) := by
  have hN : t.val < 17 := lt_of_lt_of_eq t.isLt (show cfg0.N = 17 from N_0)
  by_cases ht : t.val < 16
  · exact at_prompt m c t ht
  · exact at_sample m c t (by omega)

/-- The table's row for the body at a point is the body called there. -/
theorem row (t : Fin cfg0.N) :
    defs₀ (F := F) .tc cfg0.body (cfg0.bodyArgs t (cfg0.slots t)) = bodyAt0 t := by
  unfold defs₀; rw [Defs.onTc_tc]

set_option maxHeartbeats 1000000 in
/-- The pipeline's obligation on the body. -/
theorem obligation (c : Dev nD) : BodyObligation (data (F := F) m 0 c) (defs₀ (F := F)) Variants.none () Set.univ := fun t => by
  rw [bigSep_W0, bigSep_W0, row]
  exact triple_restated (at_point m c t) rfl .rfl fun _ => .rfl

/-! ## The run of the call -/

set_option backward.isDefEq.respectTransparency.types false in
set_option maxHeartbeats 800000 in
/-- The call ends, with every array at what the proof data compute and every counter at zero. -/
theorem run_zero : θ_run defs (onTc (τ := τ) (main (F := F))) (s₀ m ρ)
    (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := arrays m) (hΦ := fun _ _ => rfl)

theorem run : θ_run defs (onTc (τ := τ) (main (F := F))) (s₀ m ρ) (Pipeline.FramePost cfgs (data m) 0 (V m)) :=
  (θ_run defs _ _).mono (fun _ h => h.1) (run_zero m ρ)

/-- The call ends, leaves its argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (data m) (arrays m) (run m ρ)) ((θ_run defs _ _).mono (fun _ h => h.2) (run_zero m ρ))

end Cert.Kernel3Ideal.Rope

end
-- ==== Proof.RopeTables.lean ====
/-
  The rotary embedding's three tables, which the host computes, at a row and a lane.
-/
module

public import proofs.«01_k».proof.Proof.RopeForm
public import proofs.«01_k».proof.Proof.RopeIdeal
public import Idealize.ShloMosaic.Lib.Tactic
public import Idealize.ShloMosaic.Lib.Pointwise
public import Idealize.ShloMosaic.Lib.IdealHost

@[expose] public section
set_option maxRecDepth 16384
noncomputable section

namespace Cert.Kernel3Ideal.Rope
open Cert.Rope Cert.Kernel3Ideal Cert.Kernel3Ideal.Gen Idealize.ShloMosaic Idealize.ShloMosaic.TcCoe Idealize.SL.Sem

/-- Three pieces side by side, at a lane. -/
theorem pieces_apply (a b : S2560x16.Idx → EReal) (d : S2560x96.Idx → EReal) (r : Fin 2560) (l : Fin 128) :
    concatenate S2560x128 1 [⟨S2560x16, a⟩, ⟨S2560x16, b⟩, ⟨S2560x96, d⟩] concatenates_S2560x16_S2560x16_S2560x96_S2560x128_d1 (ix2 r l)
      = if h : l.val < 16 then a (ix2 r (⟨l.val, h⟩ : Fin 16)) else if h' : l.val < 32 then b (ix2 r (⟨l.val - 16, by omega⟩ : Fin 16)) else d (ix2 r (⟨l.val - 32, by omega⟩ : Fin 96)) := by
  by_cases h : l.val < 16
  · rw [dif_pos h]
    pointwise
    rw [dif_pos h]
  · rw [dif_neg h]
    by_cases h' : l.val < 32
    · rw [dif_pos h']
      pointwise
      rw [dif_neg h, dif_pos (show l.val - 16 < 16 by omega)]
    · rw [dif_neg h']
      pointwise
      rw [dif_neg h, dif_neg (show ¬ l.val - 16 < 16 by omega)]
      exact congrArg d (congrArg₂ ix2 rfl (Fin.ext (by show l.val - 16 - 16 = l.val - 32; omega)))

/-- The frequencies, the positions and the angles as the host forms them. -/
def freqs : S16.Idx → EReal :=
  Host.powf (F := Ideal) (φ := .f32) (broadcastInDim S16 ![] bcast_S_S16 (constant (F := Ideal) S_ .f32 0x48F42400#32))
    (Host.divf (F := Ideal) (φ := .f32) (Host.negf (F := Ideal) (φ := .f32) (sitofp (F := Ideal) .f32 (iotaInDim S16 32 0))) (broadcastInDim S16 ![] bcast_S_S16 (constant (F := Ideal) S_ .f32 0x41800000#32)))

def steps : IVec S512 32 := shapeCast S512 (broadcastInDim S4x128 ![0] bcast_S4_S4x128_0 (iotaInDim S4 32 0)) shapeCasts_S4x128_S512

def positions : IVec S2560 32 :=
  concatenate S2560 0 [⟨S2048, iotaInDim S2048 32 0⟩, ⟨S512, addi (broadcastInDim S512 ![] bcast_S_S512 (constantI S_ 32 2048#32)) steps⟩] concatenates_S2048_S512_S2560_d0

def angles : S2560x16.Idx → EReal :=
  mulf (F := Ideal) (φ := .f32) (broadcastInDim S2560x16 ![0, 1] bcast_S2560x1_S2560x16_0_1 (broadcastInDim S2560x1 ![0] bcast_S2560_S2560x1_0 (sitofp (F := Ideal) .f32 positions)))
    (broadcastInDim S2560x16 ![0, 1] bcast_S1x16_S2560x16_0_1 (broadcastInDim S1x16 ![1] bcast_S16_S1x16_1 freqs))

def ones : S2560x96.Idx → EReal := broadcastInDim S2560x96 ![] bcast_S_S2560x96 (constant (F := Ideal) S_ .f32 0x3F800000#32)
def zeros : S2560x96.Idx → EReal := broadcastInDim S2560x96 ![] bcast_S_S2560x96 (constant (F := Ideal) S_ .f32 0x00000000#32)
def zeros16 : S2560x16.Idx → EReal := broadcastInDim S2560x16 ![] bcast_S_S2560x16 (constant (F := Ideal) S_ .f32 0x00000000#32)

theorem freqs_apply (j : Fin 16) : freqs (ix1 j) = freq j.val := by
  unfold freqs freq
  rfl

theorem steps_apply (r : Fin 512) : steps (ix1 r) = BitVec.ofNat 32 (r.val / 128) := by
  unfold steps
  refine (shapeCast_apply _ _ _ (ix2 (⟨r.val / 128, by omega⟩ : Fin 4) (⟨r.val % 128, by omega⟩ : Fin 128)) ?_).trans ?_
  · refine (Shape.rowMajor_val_two _).trans (Eq.trans ?_ (Shape.rowMajor_val_one _).symm)
    show r.val / 128 * 128 + r.val % 128 = r.val
    omega
  · pointwise

theorem positions_apply (r : Fin 2560) : positions (ix1 r) = wordOf r.val := by
  unfold positions wordOf
  by_cases h : r.val < 2048
  · rw [if_pos h]
    pointwise
    rw [dif_pos h]
  · rw [if_neg h]
    pointwise
    rw [dif_neg h]
    exact congrArg (fun z : BitVec 32 => 2048#32 + z) (steps_apply (⟨r.val - 2048, by omega⟩ : Fin 512))

theorem angles_apply (r : Fin 2560) (j : Fin 16) : angles (ix2 r j) = angle (wordOf r.val) j.val := by
  unfold angles angle
  generalize hp : sitofp (F := Ideal) .f32 positions = p
  generalize hf : freqs = f
  pointwise
  subst hp hf
  exact congrArg₂ (fun a b : EReal => a * b) (congrArg (FloatOps.sitofp (F := Ideal) .f32) (positions_apply r)) (freqs_apply j)

theorem ones_apply (r : Fin 2560) (l : Fin 96) : ones (ix2 r l) = 1 := by
  unfold ones
  pointwise

theorem zeros_apply (r : Fin 2560) (l : Fin 96) : zeros (ix2 r l) = 0 := by
  unfold zeros
  pointwise

theorem zeros16_apply (r : Fin 2560) (l : Fin 16) : zeros16 (ix2 r l) = 0 := by
  unfold zeros16
  pointwise

variable (m : (ℓ : Loc nD τ sig) → Buf (Elt Ideal) ℓ) (c : Dev nD)

/-- The tables as the kernel's windows see them. -/
abbrev arrC : S2560x128.Idx → EReal := V m c main_v24
abbrev arrS : S2560x128.Idx → EReal := V m c main_v26
abbrev arrT : S2560x128.Idx → EReal := V m c main_v27

theorem arrC_apply (r : Fin 2560) (l : Fin 128) : arrC m c (ix2 r l) = tableC (wordOf r.val) l.val := by
  have e : arrC m c = concatenate S2560x128 1 [⟨S2560x16, Host.cos (F := Ideal) (φ := .f32) angles⟩, ⟨S2560x16, Host.cos (F := Ideal) (φ := .f32) angles⟩, ⟨S2560x96, ones⟩] concatenates_S2560x16_S2560x16_S2560x96_S2560x128_d1 := by
    unfold arrC V hostOps0
    after_results
    rfl
  rw [e]
  refine (pieces_apply _ _ _ r l).trans ?_
  unfold tableC
  by_cases h : l.val < 16
  · rw [dif_pos h, if_pos h]
    exact congrArg (FloatOps.hostUnary (F := Ideal) (φ := .f32) .cos) (angles_apply r ⟨l.val, h⟩)
  · rw [dif_neg h, if_neg h]
    by_cases h' : l.val < 32
    · rw [dif_pos h', if_pos h']
      exact congrArg (FloatOps.hostUnary (F := Ideal) (φ := .f32) .cos) (angles_apply r ⟨l.val - 16, by omega⟩)
    · rw [dif_neg h', if_neg h']
      exact ones_apply r _

theorem arrS_apply (r : Fin 2560) (l : Fin 128) : arrS m c (ix2 r l) = tableS (wordOf r.val) l.val := by
  have e : arrS m c = concatenate S2560x128 1 [⟨S2560x16, Host.negf (F := Ideal) (φ := .f32) (Host.sin (F := Ideal) (φ := .f32) angles)⟩, ⟨S2560x16, zeros16⟩, ⟨S2560x96, zeros⟩] concatenates_S2560x16_S2560x16_S2560x96_S2560x128_d1 := by
    unfold arrS V hostOps0
    after_results
    rfl
  rw [e]
  refine (pieces_apply _ _ _ r l).trans ?_
  unfold tableS
  by_cases h : l.val < 16
  · rw [dif_pos h, if_pos h]
    exact congrArg (fun z : EReal => -z) (congrArg (FloatOps.hostUnary (F := Ideal) (φ := .f32) .sin) (angles_apply r ⟨l.val, h⟩))
  · rw [dif_neg h, if_neg h]
    by_cases h' : l.val < 32
    · rw [dif_pos h']
      exact zeros16_apply r _
    · rw [dif_neg h']
      exact zeros_apply r _

theorem arrT_apply (r : Fin 2560) (l : Fin 128) : arrT m c (ix2 r l) = tableT (wordOf r.val) l.val := by
  have e : arrT m c = concatenate S2560x128 1 [⟨S2560x16, zeros16⟩, ⟨S2560x16, Host.sin (F := Ideal) (φ := .f32) angles⟩, ⟨S2560x96, zeros⟩] concatenates_S2560x16_S2560x16_S2560x96_S2560x128_d1 := by
    unfold arrT V hostOps0
    after_results
    rfl
  rw [e]
  refine (pieces_apply _ _ _ r l).trans ?_
  unfold tableT
  by_cases h : l.val < 16
  · rw [dif_pos h, if_pos h]
    exact zeros16_apply r _
  · rw [dif_neg h, if_neg h]
    by_cases h' : l.val < 32
    · rw [dif_pos h', if_pos h']
      exact congrArg (FloatOps.hostUnary (F := Ideal) (φ := .f32) .sin) (angles_apply r ⟨l.val - 16, by omega⟩)
    · rw [dif_neg h', if_neg h']
      exact zeros_apply r _

end Cert.Kernel3Ideal.Rope
-- ==== Proof.RopeBlocks.lean ====
/-
  The rotary embedding's blocks at a row and a column: a block of heads is turned head by head.
-/
module

public import proofs.«01_k».proof.Proof.RopeForm
public import proofs.«01_k».proof.Proof.RopeIdeal
public import Idealize.ShloMosaic.Lib.Tactic
public import Idealize.ShloMosaic.Lib.Pointwise
public import Idealize.ShloMosaic.Lib.IdealHost
public import Idealize.ShloMosaic.Lib.Pipeline.ValueKit.Tiles

@[expose] public section
set_option maxRecDepth 16384
noncomputable section

namespace Cert.Kernel3Ideal.Rope
open Cert.Rope Cert.Kernel3Ideal Cert.Kernel3Ideal.Gen Idealize.ShloMosaic Idealize.ShloMosaic.TcCoe Idealize.SL.Sem

/-- What the body forms of a head's lanes and the three tables. -/
def formed (X : ℕ → EReal) (a b d : EReal) (l : ℕ) : EReal := X l * a + X ((l + 16) % 128) * b + X ((l + 112) % 128) * d

theorem turn_apply (x c s1 s2 : Vec Ideal S512x128 .f32) (p : Fin 512) (l : Fin 128) (X : ℕ → EReal) (hX : ∀ l' : Fin 128, (x (ix2 p l') : EReal) = X l'.val) :
    (turn x (k0_pay1 c) (k0_pay2 s1) (k0_pay3 s2) (ix2 p l) : EReal) = formed X (c (ix2 p l)) (s1 (ix2 p l)) (s2 (ix2 p l)) l.val := by
  unfold turn formed k0_pay1 k0_pay2 k0_pay3
  pointwise
  refine congrArg₂ (fun a b : EReal => a + b) (congrArg₂ (fun a b : EReal => a + b) (congrArg (fun z : EReal => z * c (ix2 p l)) (hX l)) (congrArg (fun z : EReal => z * s1 (ix2 p l)) ((hX _).trans (congrArg X ?_))))
    (congrArg (fun z : EReal => z * s2 (ix2 p l)) ((hX _).trans (congrArg X ?_)))
  · show (l.val + 128 - 112) % 128 = (l.val + 16) % 128
    omega
  · show (l.val + 128 - 16) % 128 = (l.val + 112) % 128
    omega

/-- A block of values is copied. -/
theorem copyV_apply (x : Vec Ideal S512x512 .f32) (p q : Fin 512) : copyV x (ix2 p q) = x (ix2 p q) := by
  have hz : (![0, 0] : Fin 2 → Nat) = fun _ => 0 := by funext a; fin_cases a <;> rfl
  unfold copyV
  rw [View.canon_unit_zero hz, View.ld_unit_zero (S := S512x512) hz]

/-- A row of a block, its columns numbered. -/
def wideQ (x : S512x2048.Idx → EReal) (p : Fin 512) (k : ℕ) : EReal := if h : k < 2048 then x (ix2 p (⟨k, h⟩ : Fin 2048)) else 0

theorem wideQ_eq (x : S512x2048.Idx → EReal) (p p' : Fin 512) (k : ℕ) (q : Fin 2048) (hp : p' = p) (hq : q.val = k) : x (ix2 p' q) = wideQ x p k := by
  subst hp hq
  unfold wideQ
  rw [dif_pos q.isLt]

/-- The block turned, at a row and a column. -/
def blockQ (x : S512x2048.Idx → EReal) (c s1 s2 : S512x128.Idx → EReal) (p : Fin 512) (q : Fin 2048) : EReal :=
  formed (fun k => wideQ x p (q.val / 128 * 128 + k)) (c (ix2 p (⟨q.val % 128, Nat.mod_lt _ (by decide)⟩ : Fin 128))) (s1 (ix2 p (⟨q.val % 128, Nat.mod_lt _ (by decide)⟩ : Fin 128)))
    (s2 (ix2 p (⟨q.val % 128, Nat.mod_lt _ (by decide)⟩ : Fin 128))) (q.val % 128)

theorem headQ (x : Vec Ideal S512x2048 .f32) (c s1 s2 : Vec Ideal S512x128 .f32) (h o : ℕ) (ho : o = h * 128) (inb) (p : Fin 512) (l : Fin 128) (p' : Fin 512) (q : Fin 2048) (hp : p'.val = p.val) (hq : q.val = o + l.val) :
    (turn (View.ld x (Rect.unit (s := S512x2048) ![0, o] S512x128.size inb)) (k0_pay1 (View.ld c allT)) (k0_pay2 (View.ld s1 allT)) (k0_pay3 (View.ld s2 allT)) (ix2 p l) : EReal)
      = blockQ x c s1 s2 p' q := by
  have hz : (![0, 0] : Fin 2 → Nat) = fun _ => 0 := by funext a; fin_cases a <;> rfl
  have e1 : p' = p := Fin.ext hp
  subst e1
  have hl := l.isLt
  have hql := q.isLt
  have eh : q.val / 128 = h := by omega
  have el : q.val % 128 = l.val := by omega
  refine (turn_apply _ _ _ _ p' l (fun k => wideQ x p' (h * 128 + k)) ?_).trans ?_
  · intro l'
    have hl' := l'.isLt
    refine (View.ld_unit_apply_of x _ _ inb (ix2 p' l' : S512x128.Idx) (ix2 p' (⟨h * 128 + l'.val, by omega⟩ : Fin 2048)) (Fin.forall_fin_two.mpr ⟨?_, ?_⟩)).trans (wideQ_eq x p' p' _ _ rfl rfl)
    · show p'.val = 0 + p'.val
      omega
    · show h * 128 + l'.val = o + l'.val
      omega
  · have e : (⟨q.val % 128, Nat.mod_lt _ (by decide)⟩ : Fin 128) = l := Fin.ext el
    unfold blockQ
    rw [e, eh, el]
    rw [View.ld_unit_zero (S := S512x128) hz, View.ld_unit_zero (S := S512x128) hz, View.ld_unit_zero (S := S512x128) hz]

theorem turnQ_apply (x : Vec Ideal S512x2048 .f32) (c s1 s2 : Vec Ideal S512x128 .f32) (p : Fin 512) (q : Fin 2048) :
    (turnQ x c s1 s2 (ix2 p q) : EReal) = blockQ x c s1 s2 p q := by
  unfold turnQ
  refine View.canon_apply_of_pieces (Val := Elt Ideal) (S := S512x2048) (e := .f32) (fun y => blockQ x c s1 s2 (y 0 : Fin 512) (y 1 : Fin 2048)) _ ?_ (ix2 p q) (coverQ _ _ _ _ _ _ _ _ _ _ _ _ _ _ _ _ _)
  simp only [List.forall_mem_cons, List.not_mem_nil, false_imp_iff, implies_true, and_true]
  refine ⟨?_, ?_, ?_, ?_, ?_, ?_, ?_, ?_, ?_, ?_, ?_, ?_, ?_, ?_, ?_, ?_⟩ <;> intro y <;> idx_vars y
  · exact headQ x c s1 s2 15 1920 rfl inb_S512x2048_S512x128_0_1920 y0 y1 _ _ (by show 0 + 1 * y0.val = y0.val; omega) (by show 1920 + 1 * y1.val = 1920 + y1.val; omega)
  · exact headQ x c s1 s2 14 1792 rfl inb_S512x2048_S512x128_0_1792 y0 y1 _ _ (by show 0 + 1 * y0.val = y0.val; omega) (by show 1792 + 1 * y1.val = 1792 + y1.val; omega)
  · exact headQ x c s1 s2 13 1664 rfl inb_S512x2048_S512x128_0_1664 y0 y1 _ _ (by show 0 + 1 * y0.val = y0.val; omega) (by show 1664 + 1 * y1.val = 1664 + y1.val; omega)
  · exact headQ x c s1 s2 12 1536 rfl inb_S512x2048_S512x128_0_1536 y0 y1 _ _ (by show 0 + 1 * y0.val = y0.val; omega) (by show 1536 + 1 * y1.val = 1536 + y1.val; omega)
  · exact headQ x c s1 s2 11 1408 rfl inb_S512x2048_S512x128_0_1408 y0 y1 _ _ (by show 0 + 1 * y0.val = y0.val; omega) (by show 1408 + 1 * y1.val = 1408 + y1.val; omega)
  · exact headQ x c s1 s2 10 1280 rfl inb_S512x2048_S512x128_0_1280 y0 y1 _ _ (by show 0 + 1 * y0.val = y0.val; omega) (by show 1280 + 1 * y1.val = 1280 + y1.val; omega)
  · exact headQ x c s1 s2 9 1152 rfl inb_S512x2048_S512x128_0_1152 y0 y1 _ _ (by show 0 + 1 * y0.val = y0.val; omega) (by show 1152 + 1 * y1.val = 1152 + y1.val; omega)
  · exact headQ x c s1 s2 8 1024 rfl inb_S512x2048_S512x128_0_1024 y0 y1 _ _ (by show 0 + 1 * y0.val = y0.val; omega) (by show 1024 + 1 * y1.val = 1024 + y1.val; omega)
  · exact headQ x c s1 s2 7 896 rfl inb_S512x2048_S512x128_0_896 y0 y1 _ _ (by show 0 + 1 * y0.val = y0.val; omega) (by show 896 + 1 * y1.val = 896 + y1.val; omega)
  · exact headQ x c s1 s2 6 768 rfl inb_S512x2048_S512x128_0_768 y0 y1 _ _ (by show 0 + 1 * y0.val = y0.val; omega) (by show 768 + 1 * y1.val = 768 + y1.val; omega)
  · exact headQ x c s1 s2 5 640 rfl inb_S512x2048_S512x128_0_640 y0 y1 _ _ (by show 0 + 1 * y0.val = y0.val; omega) (by show 640 + 1 * y1.val = 640 + y1.val; omega)
  · exact headQ x c s1 s2 4 512 rfl inb_S512x2048_S512x128_0_512 y0 y1 _ _ (by show 0 + 1 * y0.val = y0.val; omega) (by show 512 + 1 * y1.val = 512 + y1.val; omega)
  · exact headQ x c s1 s2 3 384 rfl inb_S512x2048_S512x128_0_384 y0 y1 _ _ (by show 0 + 1 * y0.val = y0.val; omega) (by show 384 + 1 * y1.val = 384 + y1.val; omega)
  · exact headQ x c s1 s2 2 256 rfl inb_S512x2048_S512x128_0_256 y0 y1 _ _ (by show 0 + 1 * y0.val = y0.val; omega) (by show 256 + 1 * y1.val = 256 + y1.val; omega)
  · exact headQ x c s1 s2 1 128 rfl inb_S512x2048_S512x128_0_128 y0 y1 _ _ (by show 0 + 1 * y0.val = y0.val; omega) (by show 128 + 1 * y1.val = 128 + y1.val; omega)
  · exact headQ x c s1 s2 0 0 rfl inb_S512x2048_S512x128_0_0 y0 y1 _ _ (by show 0 + 1 * y0.val = y0.val; omega) (by show 0 + 1 * y1.val = 0 + y1.val; omega)

/-- A row of a block, its columns numbered. -/
def wideK (x : S512x512.Idx → EReal) (p : Fin 512) (k : ℕ) : EReal := if h : k < 512 then x (ix2 p (⟨k, h⟩ : Fin 512)) else 0

theorem wideK_eq (x : S512x512.Idx → EReal) (p p' : Fin 512) (k : ℕ) (q : Fin 512) (hp : p' = p) (hq : q.val = k) : x (ix2 p' q) = wideK x p k := by
  subst hp hq
  unfold wideK
  rw [dif_pos q.isLt]

/-- The block turned, at a row and a column. -/
def blockK (x : S512x512.Idx → EReal) (c s1 s2 : S512x128.Idx → EReal) (p : Fin 512) (q : Fin 512) : EReal :=
  formed (fun k => wideK x p (q.val / 128 * 128 + k)) (c (ix2 p (⟨q.val % 128, Nat.mod_lt _ (by decide)⟩ : Fin 128))) (s1 (ix2 p (⟨q.val % 128, Nat.mod_lt _ (by decide)⟩ : Fin 128)))
    (s2 (ix2 p (⟨q.val % 128, Nat.mod_lt _ (by decide)⟩ : Fin 128))) (q.val % 128)

theorem headK (x : Vec Ideal S512x512 .f32) (c s1 s2 : Vec Ideal S512x128 .f32) (h o : ℕ) (ho : o = h * 128) (inb) (p : Fin 512) (l : Fin 128) (p' : Fin 512) (q : Fin 512) (hp : p'.val = p.val) (hq : q.val = o + l.val) :
    (turn (View.ld x (Rect.unit (s := S512x512) ![0, o] S512x128.size inb)) (k0_pay1 (View.ld c allT)) (k0_pay2 (View.ld s1 allT)) (k0_pay3 (View.ld s2 allT)) (ix2 p l) : EReal)
      = blockK x c s1 s2 p' q := by
  have hz : (![0, 0] : Fin 2 → Nat) = fun _ => 0 := by funext a; fin_cases a <;> rfl
  have e1 : p' = p := Fin.ext hp
  subst e1
  have hl := l.isLt
  have hql := q.isLt
  have eh : q.val / 128 = h := by omega
  have el : q.val % 128 = l.val := by omega
  refine (turn_apply _ _ _ _ p' l (fun k => wideK x p' (h * 128 + k)) ?_).trans ?_
  · intro l'
    have hl' := l'.isLt
    refine (View.ld_unit_apply_of x _ _ inb (ix2 p' l' : S512x128.Idx) (ix2 p' (⟨h * 128 + l'.val, by omega⟩ : Fin 512)) (Fin.forall_fin_two.mpr ⟨?_, ?_⟩)).trans (wideK_eq x p' p' _ _ rfl rfl)
    · show p'.val = 0 + p'.val
      omega
    · show h * 128 + l'.val = o + l'.val
      omega
  · have e : (⟨q.val % 128, Nat.mod_lt _ (by decide)⟩ : Fin 128) = l := Fin.ext el
    unfold blockK
    rw [e, eh, el]
    rw [View.ld_unit_zero (S := S512x128) hz, View.ld_unit_zero (S := S512x128) hz, View.ld_unit_zero (S := S512x128) hz]

theorem turnK_apply (x : Vec Ideal S512x512 .f32) (c s1 s2 : Vec Ideal S512x128 .f32) (p : Fin 512) (q : Fin 512) :
    (turnK x c s1 s2 (ix2 p q) : EReal) = blockK x c s1 s2 p q := by
  unfold turnK
  refine View.canon_apply_of_pieces (Val := Elt Ideal) (S := S512x512) (e := .f32) (fun y => blockK x c s1 s2 (y 0 : Fin 512) (y 1 : Fin 512)) _ ?_ (ix2 p q) (coverK _ _ _ _ _)
  simp only [List.forall_mem_cons, List.not_mem_nil, false_imp_iff, implies_true, and_true]
  refine ⟨?_, ?_, ?_, ?_⟩ <;> intro y <;> idx_vars y
  · exact headK x c s1 s2 3 384 rfl inb_S512x512_S512x128_0_384 y0 y1 _ _ (by show 0 + 1 * y0.val = y0.val; omega) (by show 384 + 1 * y1.val = 384 + y1.val; omega)
  · exact headK x c s1 s2 2 256 rfl inb_S512x512_S512x128_0_256 y0 y1 _ _ (by show 0 + 1 * y0.val = y0.val; omega) (by show 256 + 1 * y1.val = 256 + y1.val; omega)
  · exact headK x c s1 s2 1 128 rfl inb_S512x512_S512x128_0_128 y0 y1 _ _ (by show 0 + 1 * y0.val = y0.val; omega) (by show 128 + 1 * y1.val = 128 + y1.val; omega)
  · exact headK x c s1 s2 0 0 rfl inb_S512x512_S512x128_0_0 y0 y1 _ _ (by show 0 + 1 * y0.val = y0.val; omega) (by show 0 + 1 * y1.val = 0 + y1.val; omega)

end Cert.Kernel3Ideal.Rope
-- ==== Proof.RopeRef.lean ====
/-
  The rotary embedding's reference at a row and a column: its rotated queries and keys are the turned lanes of the
  projections' rows, its values the projections' rows.
-/
module

public import proofs.«01_k».proof.Proof.RopeForm
public import proofs.«01_k».proof.Proof.Gen.Reference3Ideal.Read
public import Idealize.ShloMosaic.Lib.Tactic
public import Idealize.ShloMosaic.Lib.Pointwise
public import Idealize.ShloMosaic.Lib.IdealHost

@[expose] public section
set_option maxRecDepth 16384
noncomputable section

namespace Cert.Reference3Ideal.Rope
open Cert.Rope Cert.Reference3Ideal Cert.Reference3Ideal.Gen Cert.Reference3Ideal.Read Idealize.ShloMosaic Idealize.ShloMosaic.TcCoe Idealize.SL.Sem

variable (u : S8704x17408.Idx → EReal)

/-- The prompt's rows and the sample's rows of the projections. -/
theorem prompt_row (b : Fin 4) (i : Fin 2048) (q : Fin 17408) (r : Fin 8704) (hr : r.val = b.val * 2048 + i.val) (k : ℕ) (hk : q.val = k) :
    val_main_v1 (F := Ideal) u (ix3 b i q) = colAt u r k := by
  rw [val_main_v1_apply, val_main_v0_apply]
  refine (congrArg u (eq_ix2 _)).trans (colAt_eq u r _ k _ ?_ (Fin.ext ?_))
  · show ((b.val * 2048 + i.val) * 17408 + q.val) % 17408 = k
    omega
  · show ((b.val * 2048 + i.val) * 17408 + q.val) / 17408 = r.val
    omega

theorem sample_row (b : Fin 128) (i : Fin 4) (q : Fin 17408) (r : Fin 8704) (hr : r.val = 8192 + i.val * 128 + b.val) (k : ℕ) (hk : q.val = k) :
    val_main_v81 (F := Ideal) u (ix3 b i q) = colAt u r k := by
  rw [val_main_v81_apply, val_main_v80_apply, val_main_v79_apply]
  refine (congrArg u (eq_ix2 _)).trans (colAt_eq u r _ k _ ?_ (Fin.ext ?_))
  · show ((i.val * 128 + b.val) * 17408 + q.val) % 17408 = k
    omega
  · show 8192 + ((i.val * 128 + b.val) * 17408 + q.val) / 17408 = r.val
    omega

/-- A head's first and second sixteen lanes; a table repeated over the heads. -/
def lo4_16 (x : S4x2048x16x128.Idx → EReal) : S4x2048x16x16.Idx → EReal :=
  extractStridedSlice S4x2048x16x16 ![0, 0, 0, 0] (extractStridedSlice S4x2048x16x32 ![0, 0, 0, 0] x slices_S4x2048x16x128_S4x2048x16x32_0_0_0_0) slices_S4x2048x16x32_S4x2048x16x16_0_0_0_0
def hi4_16 (x : S4x2048x16x128.Idx → EReal) : S4x2048x16x16.Idx → EReal :=
  extractStridedSlice S4x2048x16x16 ![0, 0, 0, 16] (extractStridedSlice S4x2048x16x32 ![0, 0, 0, 0] x slices_S4x2048x16x128_S4x2048x16x32_0_0_0_0) slices_S4x2048x16x32_S4x2048x16x16_0_0_0_16
def wide4_16 (t : S2048x16.Idx → EReal) : S4x2048x16x16.Idx → EReal :=
  broadcastInDim S4x2048x16x16 ![0, 1, 2, 3] bcast_S1x2048x1x16_S4x2048x16x16_0_1_2_3 (broadcastInDim S1x2048x1x16 ![1, 3] bcast_S2048x16_S1x2048x1x16_1_3 t)

theorem lo4_16_apply (x : S4x2048x16x128.Idx → EReal) (b : Fin 4) (s : Fin 2048) (h : Fin 16) (j : Fin 16) :
    lo4_16 x (ix4 b s h j) = x (ix4 b s h (⟨j.val, by omega⟩ : Fin 128)) := by
  unfold lo4_16
  pointwise
theorem hi4_16_apply (x : S4x2048x16x128.Idx → EReal) (b : Fin 4) (s : Fin 2048) (h : Fin 16) (j : Fin 16) :
    hi4_16 x (ix4 b s h j) = x (ix4 b s h (⟨16 + j.val, by omega⟩ : Fin 128)) := by
  unfold hi4_16
  pointwise
theorem wide4_16_apply (t : S2048x16.Idx → EReal) (b : Fin 4) (s : Fin 2048) (h : Fin 16) (j : Fin 16) :
    wide4_16 t (ix4 b s h j) = t (ix2 s j) := by
  unfold wide4_16
  pointwise

/-- Two pieces of sixteen lanes and one of 96 side by side. -/
theorem beside4_16 (p q : S4x2048x16x16.Idx → EReal) (x : S4x2048x16x128.Idx → EReal) (b : Fin 4) (s : Fin 2048) (h : Fin 16) (l : Fin 128) :
    concatenate S4x2048x16x128 3 [⟨S4x2048x16x32, concatenate S4x2048x16x32 3 [⟨S4x2048x16x16, p⟩, ⟨S4x2048x16x16, q⟩] concatenates_S4x2048x16x16_S4x2048x16x16_S4x2048x16x32_d3⟩,
      ⟨S4x2048x16x96, extractStridedSlice S4x2048x16x96 ![0, 0, 0, 32] x slices_S4x2048x16x128_S4x2048x16x96_0_0_0_32⟩] concatenates_S4x2048x16x32_S4x2048x16x96_S4x2048x16x128_d3 (ix4 b s h l)
      = if h1 : l.val < 16 then p (ix4 b s h (⟨l.val, h1⟩ : Fin 16)) else if h2 : l.val < 32 then q (ix4 b s h (⟨l.val - 16, by omega⟩ : Fin 16)) else x (ix4 b s h l) := by
  by_cases h1 : l.val < 16
  · rw [dif_pos h1]
    pointwise
    rw [dif_pos (show l.val < 32 by omega), dif_pos h1]
  · rw [dif_neg h1]
    by_cases h2 : l.val < 32
    · rw [dif_pos h2]
      pointwise
      rw [dif_pos h2, dif_neg h1]
    · rw [dif_neg h2]
      pointwise
      rw [dif_neg h2]
      exact congrArg x (congrArg (ix4 b s h) (Fin.ext (Nat.add_sub_cancel' (Nat.le_of_not_lt h2))))

/-- A head turned by pieces, at a lane. -/
theorem spun4_16 (x : S4x2048x16x128.Idx → EReal) (cs sn : S2048x16.Idx → EReal) (b : Fin 4) (s : Fin 2048) (h : Fin 16) (l : Fin 128) (w : BitVec 32) (X : ℕ → EReal)
    (hx : ∀ l' : Fin 128, x (ix4 b s h l') = X l'.val) (hc : ∀ j : Fin 16, cs (ix2 s j) = cosOf w j.val) (hs : ∀ j : Fin 16, sn (ix2 s j) = sinOf w j.val) :
    concatenate S4x2048x16x128 3 [⟨S4x2048x16x32, concatenate S4x2048x16x32 3 [⟨S4x2048x16x16, subf (F := Ideal) (φ := .f32) (mulf (F := Ideal) (φ := .f32) (lo4_16 x) (wide4_16 cs)) (mulf (F := Ideal) (φ := .f32) (hi4_16 x) (wide4_16 sn))⟩,
      ⟨S4x2048x16x16, addf (F := Ideal) (φ := .f32) (mulf (F := Ideal) (φ := .f32) (hi4_16 x) (wide4_16 cs)) (mulf (F := Ideal) (φ := .f32) (lo4_16 x) (wide4_16 sn))⟩] concatenates_S4x2048x16x16_S4x2048x16x16_S4x2048x16x32_d3⟩,
      ⟨S4x2048x16x96, extractStridedSlice S4x2048x16x96 ![0, 0, 0, 32] x slices_S4x2048x16x128_S4x2048x16x96_0_0_0_32⟩] concatenates_S4x2048x16x32_S4x2048x16x96_S4x2048x16x128_d3 (ix4 b s h l) = spin w X l.val := by
  refine (beside4_16 _ _ x b s h l).trans ?_
  unfold spin
  by_cases h1 : l.val < 16
  · rw [dif_pos h1, if_pos h1]
    exact congrArg₂ (fun a b : EReal => a - b) (congrArg₂ (fun a b : EReal => a * b) ((lo4_16_apply x b s h _).trans (hx _)) ((wide4_16_apply cs b s h _).trans (hc _)))
      (congrArg₂ (fun a b : EReal => a * b) ((hi4_16_apply x b s h _).trans ((hx _).trans (congrArg X (Nat.add_comm 16 l.val)))) ((wide4_16_apply sn b s h _).trans (hs _)))
  · rw [dif_neg h1, if_neg h1]
    by_cases h2 : l.val < 32
    · rw [dif_pos h2, if_pos h2]
      exact congrArg₂ (fun a b : EReal => a + b) (congrArg₂ (fun a b : EReal => a * b) ((hi4_16_apply x b s h _).trans ((hx _).trans (congrArg X (Nat.add_sub_cancel' (Nat.le_of_not_lt h1))))) ((wide4_16_apply cs b s h _).trans (hc _)))
        (congrArg₂ (fun a b : EReal => a * b) ((lo4_16_apply x b s h _).trans (hx _)) ((wide4_16_apply sn b s h _).trans (hs _)))
    · rw [dif_neg h2, if_neg h2]
      exact hx l

/-- A head's first and second sixteen lanes; a table repeated over the heads. -/
def lo4_4 (x : S4x2048x4x128.Idx → EReal) : S4x2048x4x16.Idx → EReal :=
  extractStridedSlice S4x2048x4x16 ![0, 0, 0, 0] (extractStridedSlice S4x2048x4x32 ![0, 0, 0, 0] x slices_S4x2048x4x128_S4x2048x4x32_0_0_0_0) slices_S4x2048x4x32_S4x2048x4x16_0_0_0_0
def hi4_4 (x : S4x2048x4x128.Idx → EReal) : S4x2048x4x16.Idx → EReal :=
  extractStridedSlice S4x2048x4x16 ![0, 0, 0, 16] (extractStridedSlice S4x2048x4x32 ![0, 0, 0, 0] x slices_S4x2048x4x128_S4x2048x4x32_0_0_0_0) slices_S4x2048x4x32_S4x2048x4x16_0_0_0_16
def wide4_4 (t : S2048x16.Idx → EReal) : S4x2048x4x16.Idx → EReal :=
  broadcastInDim S4x2048x4x16 ![0, 1, 2, 3] bcast_S1x2048x1x16_S4x2048x4x16_0_1_2_3 (broadcastInDim S1x2048x1x16 ![1, 3] bcast_S2048x16_S1x2048x1x16_1_3 t)

theorem lo4_4_apply (x : S4x2048x4x128.Idx → EReal) (b : Fin 4) (s : Fin 2048) (h : Fin 4) (j : Fin 16) :
    lo4_4 x (ix4 b s h j) = x (ix4 b s h (⟨j.val, by omega⟩ : Fin 128)) := by
  unfold lo4_4
  pointwise
theorem hi4_4_apply (x : S4x2048x4x128.Idx → EReal) (b : Fin 4) (s : Fin 2048) (h : Fin 4) (j : Fin 16) :
    hi4_4 x (ix4 b s h j) = x (ix4 b s h (⟨16 + j.val, by omega⟩ : Fin 128)) := by
  unfold hi4_4
  pointwise
theorem wide4_4_apply (t : S2048x16.Idx → EReal) (b : Fin 4) (s : Fin 2048) (h : Fin 4) (j : Fin 16) :
    wide4_4 t (ix4 b s h j) = t (ix2 s j) := by
  unfold wide4_4
  pointwise

/-- Two pieces of sixteen lanes and one of 96 side by side. -/
theorem beside4_4 (p q : S4x2048x4x16.Idx → EReal) (x : S4x2048x4x128.Idx → EReal) (b : Fin 4) (s : Fin 2048) (h : Fin 4) (l : Fin 128) :
    concatenate S4x2048x4x128 3 [⟨S4x2048x4x32, concatenate S4x2048x4x32 3 [⟨S4x2048x4x16, p⟩, ⟨S4x2048x4x16, q⟩] concatenates_S4x2048x4x16_S4x2048x4x16_S4x2048x4x32_d3⟩,
      ⟨S4x2048x4x96, extractStridedSlice S4x2048x4x96 ![0, 0, 0, 32] x slices_S4x2048x4x128_S4x2048x4x96_0_0_0_32⟩] concatenates_S4x2048x4x32_S4x2048x4x96_S4x2048x4x128_d3 (ix4 b s h l)
      = if h1 : l.val < 16 then p (ix4 b s h (⟨l.val, h1⟩ : Fin 16)) else if h2 : l.val < 32 then q (ix4 b s h (⟨l.val - 16, by omega⟩ : Fin 16)) else x (ix4 b s h l) := by
  by_cases h1 : l.val < 16
  · rw [dif_pos h1]
    pointwise
    rw [dif_pos (show l.val < 32 by omega), dif_pos h1]
  · rw [dif_neg h1]
    by_cases h2 : l.val < 32
    · rw [dif_pos h2]
      pointwise
      rw [dif_pos h2, dif_neg h1]
    · rw [dif_neg h2]
      pointwise
      rw [dif_neg h2]
      exact congrArg x (congrArg (ix4 b s h) (Fin.ext (Nat.add_sub_cancel' (Nat.le_of_not_lt h2))))

/-- A head turned by pieces, at a lane. -/
theorem spun4_4 (x : S4x2048x4x128.Idx → EReal) (cs sn : S2048x16.Idx → EReal) (b : Fin 4) (s : Fin 2048) (h : Fin 4) (l : Fin 128) (w : BitVec 32) (X : ℕ → EReal)
    (hx : ∀ l' : Fin 128, x (ix4 b s h l') = X l'.val) (hc : ∀ j : Fin 16, cs (ix2 s j) = cosOf w j.val) (hs : ∀ j : Fin 16, sn (ix2 s j) = sinOf w j.val) :
    concatenate S4x2048x4x128 3 [⟨S4x2048x4x32, concatenate S4x2048x4x32 3 [⟨S4x2048x4x16, subf (F := Ideal) (φ := .f32) (mulf (F := Ideal) (φ := .f32) (lo4_4 x) (wide4_4 cs)) (mulf (F := Ideal) (φ := .f32) (hi4_4 x) (wide4_4 sn))⟩,
      ⟨S4x2048x4x16, addf (F := Ideal) (φ := .f32) (mulf (F := Ideal) (φ := .f32) (hi4_4 x) (wide4_4 cs)) (mulf (F := Ideal) (φ := .f32) (lo4_4 x) (wide4_4 sn))⟩] concatenates_S4x2048x4x16_S4x2048x4x16_S4x2048x4x32_d3⟩,
      ⟨S4x2048x4x96, extractStridedSlice S4x2048x4x96 ![0, 0, 0, 32] x slices_S4x2048x4x128_S4x2048x4x96_0_0_0_32⟩] concatenates_S4x2048x4x32_S4x2048x4x96_S4x2048x4x128_d3 (ix4 b s h l) = spin w X l.val := by
  refine (beside4_4 _ _ x b s h l).trans ?_
  unfold spin
  by_cases h1 : l.val < 16
  · rw [dif_pos h1, if_pos h1]
    exact congrArg₂ (fun a b : EReal => a - b) (congrArg₂ (fun a b : EReal => a * b) ((lo4_4_apply x b s h _).trans (hx _)) ((wide4_4_apply cs b s h _).trans (hc _)))
      (congrArg₂ (fun a b : EReal => a * b) ((hi4_4_apply x b s h _).trans ((hx _).trans (congrArg X (Nat.add_comm 16 l.val)))) ((wide4_4_apply sn b s h _).trans (hs _)))
  · rw [dif_neg h1, if_neg h1]
    by_cases h2 : l.val < 32
    · rw [dif_pos h2, if_pos h2]
      exact congrArg₂ (fun a b : EReal => a + b) (congrArg₂ (fun a b : EReal => a * b) ((hi4_4_apply x b s h _).trans ((hx _).trans (congrArg X (Nat.add_sub_cancel' (Nat.le_of_not_lt h1))))) ((wide4_4_apply cs b s h _).trans (hc _)))
        (congrArg₂ (fun a b : EReal => a * b) ((lo4_4_apply x b s h _).trans (hx _)) ((wide4_4_apply sn b s h _).trans (hs _)))
    · rw [dif_neg h2, if_neg h2]
      exact hx l

/-- A head's first and second sixteen lanes; a table repeated over the heads. -/
def lo128_16 (x : S128x4x16x128.Idx → EReal) : S128x4x16x16.Idx → EReal :=
  extractStridedSlice S128x4x16x16 ![0, 0, 0, 0] (extractStridedSlice S128x4x16x32 ![0, 0, 0, 0] x slices_S128x4x16x128_S128x4x16x32_0_0_0_0) slices_S128x4x16x32_S128x4x16x16_0_0_0_0
def hi128_16 (x : S128x4x16x128.Idx → EReal) : S128x4x16x16.Idx → EReal :=
  extractStridedSlice S128x4x16x16 ![0, 0, 0, 16] (extractStridedSlice S128x4x16x32 ![0, 0, 0, 0] x slices_S128x4x16x128_S128x4x16x32_0_0_0_0) slices_S128x4x16x32_S128x4x16x16_0_0_0_16
def wide128_16 (t : S4x16.Idx → EReal) : S128x4x16x16.Idx → EReal :=
  broadcastInDim S128x4x16x16 ![0, 1, 2, 3] bcast_S1x4x1x16_S128x4x16x16_0_1_2_3 (broadcastInDim S1x4x1x16 ![1, 3] bcast_S4x16_S1x4x1x16_1_3 t)

theorem lo128_16_apply (x : S128x4x16x128.Idx → EReal) (b : Fin 128) (s : Fin 4) (h : Fin 16) (j : Fin 16) :
    lo128_16 x (ix4 b s h j) = x (ix4 b s h (⟨j.val, by omega⟩ : Fin 128)) := by
  unfold lo128_16
  pointwise
theorem hi128_16_apply (x : S128x4x16x128.Idx → EReal) (b : Fin 128) (s : Fin 4) (h : Fin 16) (j : Fin 16) :
    hi128_16 x (ix4 b s h j) = x (ix4 b s h (⟨16 + j.val, by omega⟩ : Fin 128)) := by
  unfold hi128_16
  pointwise
theorem wide128_16_apply (t : S4x16.Idx → EReal) (b : Fin 128) (s : Fin 4) (h : Fin 16) (j : Fin 16) :
    wide128_16 t (ix4 b s h j) = t (ix2 s j) := by
  unfold wide128_16
  pointwise

/-- Two pieces of sixteen lanes and one of 96 side by side. -/
theorem beside128_16 (p q : S128x4x16x16.Idx → EReal) (x : S128x4x16x128.Idx → EReal) (b : Fin 128) (s : Fin 4) (h : Fin 16) (l : Fin 128) :
    concatenate S128x4x16x128 3 [⟨S128x4x16x32, concatenate S128x4x16x32 3 [⟨S128x4x16x16, p⟩, ⟨S128x4x16x16, q⟩] concatenates_S128x4x16x16_S128x4x16x16_S128x4x16x32_d3⟩,
      ⟨S128x4x16x96, extractStridedSlice S128x4x16x96 ![0, 0, 0, 32] x slices_S128x4x16x128_S128x4x16x96_0_0_0_32⟩] concatenates_S128x4x16x32_S128x4x16x96_S128x4x16x128_d3 (ix4 b s h l)
      = if h1 : l.val < 16 then p (ix4 b s h (⟨l.val, h1⟩ : Fin 16)) else if h2 : l.val < 32 then q (ix4 b s h (⟨l.val - 16, by omega⟩ : Fin 16)) else x (ix4 b s h l) := by
  by_cases h1 : l.val < 16
  · rw [dif_pos h1]
    pointwise
    rw [dif_pos (show l.val < 32 by omega), dif_pos h1]
  · rw [dif_neg h1]
    by_cases h2 : l.val < 32
    · rw [dif_pos h2]
      pointwise
      rw [dif_pos h2, dif_neg h1]
    · rw [dif_neg h2]
      pointwise
      rw [dif_neg h2]
      exact congrArg x (congrArg (ix4 b s h) (Fin.ext (Nat.add_sub_cancel' (Nat.le_of_not_lt h2))))

/-- A head turned by pieces, at a lane. -/
theorem spun128_16 (x : S128x4x16x128.Idx → EReal) (cs sn : S4x16.Idx → EReal) (b : Fin 128) (s : Fin 4) (h : Fin 16) (l : Fin 128) (w : BitVec 32) (X : ℕ → EReal)
    (hx : ∀ l' : Fin 128, x (ix4 b s h l') = X l'.val) (hc : ∀ j : Fin 16, cs (ix2 s j) = cosOf w j.val) (hs : ∀ j : Fin 16, sn (ix2 s j) = sinOf w j.val) :
    concatenate S128x4x16x128 3 [⟨S128x4x16x32, concatenate S128x4x16x32 3 [⟨S128x4x16x16, subf (F := Ideal) (φ := .f32) (mulf (F := Ideal) (φ := .f32) (lo128_16 x) (wide128_16 cs)) (mulf (F := Ideal) (φ := .f32) (hi128_16 x) (wide128_16 sn))⟩,
      ⟨S128x4x16x16, addf (F := Ideal) (φ := .f32) (mulf (F := Ideal) (φ := .f32) (hi128_16 x) (wide128_16 cs)) (mulf (F := Ideal) (φ := .f32) (lo128_16 x) (wide128_16 sn))⟩] concatenates_S128x4x16x16_S128x4x16x16_S128x4x16x32_d3⟩,
      ⟨S128x4x16x96, extractStridedSlice S128x4x16x96 ![0, 0, 0, 32] x slices_S128x4x16x128_S128x4x16x96_0_0_0_32⟩] concatenates_S128x4x16x32_S128x4x16x96_S128x4x16x128_d3 (ix4 b s h l) = spin w X l.val := by
  refine (beside128_16 _ _ x b s h l).trans ?_
  unfold spin
  by_cases h1 : l.val < 16
  · rw [dif_pos h1, if_pos h1]
    exact congrArg₂ (fun a b : EReal => a - b) (congrArg₂ (fun a b : EReal => a * b) ((lo128_16_apply x b s h _).trans (hx _)) ((wide128_16_apply cs b s h _).trans (hc _)))
      (congrArg₂ (fun a b : EReal => a * b) ((hi128_16_apply x b s h _).trans ((hx _).trans (congrArg X (Nat.add_comm 16 l.val)))) ((wide128_16_apply sn b s h _).trans (hs _)))
  · rw [dif_neg h1, if_neg h1]
    by_cases h2 : l.val < 32
    · rw [dif_pos h2, if_pos h2]
      exact congrArg₂ (fun a b : EReal => a + b) (congrArg₂ (fun a b : EReal => a * b) ((hi128_16_apply x b s h _).trans ((hx _).trans (congrArg X (Nat.add_sub_cancel' (Nat.le_of_not_lt h1))))) ((wide128_16_apply cs b s h _).trans (hc _)))
        (congrArg₂ (fun a b : EReal => a * b) ((lo128_16_apply x b s h _).trans (hx _)) ((wide128_16_apply sn b s h _).trans (hs _)))
    · rw [dif_neg h2, if_neg h2]
      exact hx l

/-- A head's first and second sixteen lanes; a table repeated over the heads. -/
def lo128_4 (x : S128x4x4x128.Idx → EReal) : S128x4x4x16.Idx → EReal :=
  extractStridedSlice S128x4x4x16 ![0, 0, 0, 0] (extractStridedSlice S128x4x4x32 ![0, 0, 0, 0] x slices_S128x4x4x128_S128x4x4x32_0_0_0_0) slices_S128x4x4x32_S128x4x4x16_0_0_0_0
def hi128_4 (x : S128x4x4x128.Idx → EReal) : S128x4x4x16.Idx → EReal :=
  extractStridedSlice S128x4x4x16 ![0, 0, 0, 16] (extractStridedSlice S128x4x4x32 ![0, 0, 0, 0] x slices_S128x4x4x128_S128x4x4x32_0_0_0_0) slices_S128x4x4x32_S128x4x4x16_0_0_0_16
def wide128_4 (t : S4x16.Idx → EReal) : S128x4x4x16.Idx → EReal :=
  broadcastInDim S128x4x4x16 ![0, 1, 2, 3] bcast_S1x4x1x16_S128x4x4x16_0_1_2_3 (broadcastInDim S1x4x1x16 ![1, 3] bcast_S4x16_S1x4x1x16_1_3 t)

theorem lo128_4_apply (x : S128x4x4x128.Idx → EReal) (b : Fin 128) (s : Fin 4) (h : Fin 4) (j : Fin 16) :
    lo128_4 x (ix4 b s h j) = x (ix4 b s h (⟨j.val, by omega⟩ : Fin 128)) := by
  unfold lo128_4
  pointwise
theorem hi128_4_apply (x : S128x4x4x128.Idx → EReal) (b : Fin 128) (s : Fin 4) (h : Fin 4) (j : Fin 16) :
    hi128_4 x (ix4 b s h j) = x (ix4 b s h (⟨16 + j.val, by omega⟩ : Fin 128)) := by
  unfold hi128_4
  pointwise
theorem wide128_4_apply (t : S4x16.Idx → EReal) (b : Fin 128) (s : Fin 4) (h : Fin 4) (j : Fin 16) :
    wide128_4 t (ix4 b s h j) = t (ix2 s j) := by
  unfold wide128_4
  pointwise

/-- Two pieces of sixteen lanes and one of 96 side by side. -/
theorem beside128_4 (p q : S128x4x4x16.Idx → EReal) (x : S128x4x4x128.Idx → EReal) (b : Fin 128) (s : Fin 4) (h : Fin 4) (l : Fin 128) :
    concatenate S128x4x4x128 3 [⟨S128x4x4x32, concatenate S128x4x4x32 3 [⟨S128x4x4x16, p⟩, ⟨S128x4x4x16, q⟩] concatenates_S128x4x4x16_S128x4x4x16_S128x4x4x32_d3⟩,
      ⟨S128x4x4x96, extractStridedSlice S128x4x4x96 ![0, 0, 0, 32] x slices_S128x4x4x128_S128x4x4x96_0_0_0_32⟩] concatenates_S128x4x4x32_S128x4x4x96_S128x4x4x128_d3 (ix4 b s h l)
      = if h1 : l.val < 16 then p (ix4 b s h (⟨l.val, h1⟩ : Fin 16)) else if h2 : l.val < 32 then q (ix4 b s h (⟨l.val - 16, by omega⟩ : Fin 16)) else x (ix4 b s h l) := by
  by_cases h1 : l.val < 16
  · rw [dif_pos h1]
    pointwise
    rw [dif_pos (show l.val < 32 by omega), dif_pos h1]
  · rw [dif_neg h1]
    by_cases h2 : l.val < 32
    · rw [dif_pos h2]
      pointwise
      rw [dif_pos h2, dif_neg h1]
    · rw [dif_neg h2]
      pointwise
      rw [dif_neg h2]
      exact congrArg x (congrArg (ix4 b s h) (Fin.ext (Nat.add_sub_cancel' (Nat.le_of_not_lt h2))))

/-- A head turned by pieces, at a lane. -/
theorem spun128_4 (x : S128x4x4x128.Idx → EReal) (cs sn : S4x16.Idx → EReal) (b : Fin 128) (s : Fin 4) (h : Fin 4) (l : Fin 128) (w : BitVec 32) (X : ℕ → EReal)
    (hx : ∀ l' : Fin 128, x (ix4 b s h l') = X l'.val) (hc : ∀ j : Fin 16, cs (ix2 s j) = cosOf w j.val) (hs : ∀ j : Fin 16, sn (ix2 s j) = sinOf w j.val) :
    concatenate S128x4x4x128 3 [⟨S128x4x4x32, concatenate S128x4x4x32 3 [⟨S128x4x4x16, subf (F := Ideal) (φ := .f32) (mulf (F := Ideal) (φ := .f32) (lo128_4 x) (wide128_4 cs)) (mulf (F := Ideal) (φ := .f32) (hi128_4 x) (wide128_4 sn))⟩,
      ⟨S128x4x4x16, addf (F := Ideal) (φ := .f32) (mulf (F := Ideal) (φ := .f32) (hi128_4 x) (wide128_4 cs)) (mulf (F := Ideal) (φ := .f32) (lo128_4 x) (wide128_4 sn))⟩] concatenates_S128x4x4x16_S128x4x4x16_S128x4x4x32_d3⟩,
      ⟨S128x4x4x96, extractStridedSlice S128x4x4x96 ![0, 0, 0, 32] x slices_S128x4x4x128_S128x4x4x96_0_0_0_32⟩] concatenates_S128x4x4x32_S128x4x4x96_S128x4x4x128_d3 (ix4 b s h l) = spin w X l.val := by
  refine (beside128_4 _ _ x b s h l).trans ?_
  unfold spin
  by_cases h1 : l.val < 16
  · rw [dif_pos h1, if_pos h1]
    exact congrArg₂ (fun a b : EReal => a - b) (congrArg₂ (fun a b : EReal => a * b) ((lo128_4_apply x b s h _).trans (hx _)) ((wide128_4_apply cs b s h _).trans (hc _)))
      (congrArg₂ (fun a b : EReal => a * b) ((hi128_4_apply x b s h _).trans ((hx _).trans (congrArg X (Nat.add_comm 16 l.val)))) ((wide128_4_apply sn b s h _).trans (hs _)))
  · rw [dif_neg h1, if_neg h1]
    by_cases h2 : l.val < 32
    · rw [dif_pos h2, if_pos h2]
      exact congrArg₂ (fun a b : EReal => a + b) (congrArg₂ (fun a b : EReal => a * b) ((hi128_4_apply x b s h _).trans ((hx _).trans (congrArg X (Nat.add_sub_cancel' (Nat.le_of_not_lt h1))))) ((wide128_4_apply cs b s h _).trans (hc _)))
        (congrArg₂ (fun a b : EReal => a * b) ((lo128_4_apply x b s h _).trans (hx _)) ((wide128_4_apply sn b s h _).trans (hs _)))
    · rw [dif_neg h2, if_neg h2]
      exact hx l

/-- The queries of the prompt: the head, the angle, the turned head. -/
theorem queries_prompt_head (b : Fin 4) (s : Fin 2048) (h : Fin 16) (l : Fin 128) (r : Fin 8704) (hr : r.val = b.val * 2048 + s.val) :
    val_main_v11 (F := Ideal) u (ix4 b s h l) = colAt u r (6144 + h.val * 128 + l.val) := by
  unfold val_main_v11
  refine (shapeCast_apply _ _ _ (ix3 b s (⟨h.val * 128 + l.val, by omega⟩ : Fin 2048)) ?_).trans ?_
  · refine (Shape.rowMajor_val_three _).trans (Eq.trans ?_ (Shape.rowMajor_val_four _).symm)
    show (b.val * 2048 + s.val) * 2048 + (h.val * 128 + l.val) = ((b.val * 2048 + s.val) * 16 + h.val) * 128 + l.val
    omega
  · rw [val_main_v6_apply]
    refine (congrArg (val_main_v1 (F := Ideal) u) (eq_ix3 _)).trans (prompt_row u b s _ r hr _ ?_)
    show 6144 + (h.val * 128 + l.val) = 6144 + h.val * 128 + l.val
    omega

theorem queries_prompt_freq (j : Fin 16) : val_main_v17 (F := Ideal) (ix1 j) = freq j.val := by
  unfold val_main_v17 val_main_v16 val_main_v15 val_main_v14 val_main_v13 val_main_v12 freq
  rfl

theorem queries_prompt_angle (s : Fin 2048) (j : Fin 16) : val_main_v23 (F := Ideal) (ix2 s j) = angle (BitVec.ofNat 32 s.val) j.val := by
  have hf := queries_prompt_freq j
  unfold val_main_v23 val_main_v22 val_main_v21 val_main_v20 val_main_v19 angle
  generalize hp : val_main_v18 (F := Ideal) = p
  generalize val_main_v17 (F := Ideal) = f at hf
  pointwise
  subst hp
  exact congrArg₂ (fun a b : EReal => a * b) rfl hf

theorem queries_prompt_cos (s : Fin 2048) (j : Fin 16) : val_main_v24 (F := Ideal) (ix2 s j) = cosOf (BitVec.ofNat 32 s.val) j.val := by
  rw [val_main_v24_apply, queries_prompt_angle s j]
  rfl

theorem queries_prompt_sin (s : Fin 2048) (j : Fin 16) : val_main_v26 (F := Ideal) (ix2 s j) = sinOf (BitVec.ofNat 32 s.val) j.val := by
  rw [val_main_v26_apply, queries_prompt_angle s j]
  rfl

theorem queries_prompt_turned (b : Fin 4) (s : Fin 2048) (h : Fin 16) (l : Fin 128) (r : Fin 8704) (hr : r.val = b.val * 2048 + s.val) :
    val_main_v43 (F := Ideal) u (ix4 b s h l) = spin (BitVec.ofNat 32 s.val) (fun k => colAt u r (6144 + h.val * 128 + k)) l.val := by
  have hx := fun l' : Fin 128 => queries_prompt_head u b s h l' r hr
  have hc := queries_prompt_cos s
  have hs := queries_prompt_sin s
  unfold val_main_v43 val_main_v41 val_main_v42 val_main_v35 val_main_v40 val_main_v32 val_main_v34 val_main_v37 val_main_v39 val_main_v31 val_main_v33 val_main_v36 val_main_v38 val_main_v25 val_main_v27 val_main_v29 val_main_v30 val_main_v28
  generalize val_main_v11 (F := Ideal) u = x at hx
  generalize val_main_v24 (F := Ideal) = cs at hc
  generalize val_main_v26 (F := Ideal) = sn at hs
  generalize BitVec.ofNat 32 s.val = w at hc hs
  exact spun4_16 x cs sn b s h l w (fun k => colAt u r (6144 + h.val * 128 + k)) hx hc hs

/-- The keys of the prompt: the head, the angle, the turned head. -/
theorem keys_prompt_head (b : Fin 4) (s : Fin 2048) (h : Fin 4) (l : Fin 128) (r : Fin 8704) (hr : r.val = b.val * 2048 + s.val) :
    val_main_v44 (F := Ideal) u (ix4 b s h l) = colAt u r (8192 + h.val * 128 + l.val) := by
  unfold val_main_v44
  refine (shapeCast_apply _ _ _ (ix3 b s (⟨h.val * 128 + l.val, by omega⟩ : Fin 512)) ?_).trans ?_
  · refine (Shape.rowMajor_val_three _).trans (Eq.trans ?_ (Shape.rowMajor_val_four _).symm)
    show (b.val * 2048 + s.val) * 512 + (h.val * 128 + l.val) = ((b.val * 2048 + s.val) * 4 + h.val) * 128 + l.val
    omega
  · rw [val_main_v7_apply]
    refine (congrArg (val_main_v1 (F := Ideal) u) (eq_ix3 _)).trans (prompt_row u b s _ r hr _ ?_)
    show 8192 + (h.val * 128 + l.val) = 8192 + h.val * 128 + l.val
    omega

theorem keys_prompt_freq (j : Fin 16) : val_main_v50 (F := Ideal) (ix1 j) = freq j.val := by
  unfold val_main_v50 val_main_v49 val_main_v48 val_main_v47 val_main_v46 val_main_v45 freq
  rfl

theorem keys_prompt_angle (s : Fin 2048) (j : Fin 16) : val_main_v56 (F := Ideal) (ix2 s j) = angle (BitVec.ofNat 32 s.val) j.val := by
  have hf := keys_prompt_freq j
  unfold val_main_v56 val_main_v55 val_main_v54 val_main_v53 val_main_v52 angle
  generalize hp : val_main_v51 (F := Ideal) = p
  generalize val_main_v50 (F := Ideal) = f at hf
  pointwise
  subst hp
  exact congrArg₂ (fun a b : EReal => a * b) rfl hf

theorem keys_prompt_cos (s : Fin 2048) (j : Fin 16) : val_main_v57 (F := Ideal) (ix2 s j) = cosOf (BitVec.ofNat 32 s.val) j.val := by
  rw [val_main_v57_apply, keys_prompt_angle s j]
  rfl

theorem keys_prompt_sin (s : Fin 2048) (j : Fin 16) : val_main_v59 (F := Ideal) (ix2 s j) = sinOf (BitVec.ofNat 32 s.val) j.val := by
  rw [val_main_v59_apply, keys_prompt_angle s j]
  rfl

theorem keys_prompt_turned (b : Fin 4) (s : Fin 2048) (h : Fin 4) (l : Fin 128) (r : Fin 8704) (hr : r.val = b.val * 2048 + s.val) :
    val_main_v76 (F := Ideal) u (ix4 b s h l) = spin (BitVec.ofNat 32 s.val) (fun k => colAt u r (8192 + h.val * 128 + k)) l.val := by
  have hx := fun l' : Fin 128 => keys_prompt_head u b s h l' r hr
  have hc := keys_prompt_cos s
  have hs := keys_prompt_sin s
  unfold val_main_v76 val_main_v74 val_main_v75 val_main_v68 val_main_v73 val_main_v65 val_main_v67 val_main_v70 val_main_v72 val_main_v64 val_main_v66 val_main_v69 val_main_v71 val_main_v58 val_main_v60 val_main_v62 val_main_v63 val_main_v61
  generalize val_main_v44 (F := Ideal) u = x at hx
  generalize val_main_v57 (F := Ideal) = cs at hc
  generalize val_main_v59 (F := Ideal) = sn at hs
  generalize BitVec.ofNat 32 s.val = w at hc hs
  exact spun4_4 x cs sn b s h l w (fun k => colAt u r (8192 + h.val * 128 + k)) hx hc hs

/-- The queries of the sample: the head, the angle, the turned head. -/
theorem queries_sample_head (b : Fin 128) (s : Fin 4) (h : Fin 16) (l : Fin 128) (r : Fin 8704) (hr : r.val = 8192 + s.val * 128 + b.val) :
    val_main_v93 (F := Ideal) u (ix4 b s h l) = colAt u r (6144 + h.val * 128 + l.val) := by
  unfold val_main_v93
  refine (shapeCast_apply _ _ _ (ix3 b s (⟨h.val * 128 + l.val, by omega⟩ : Fin 2048)) ?_).trans ?_
  · refine (Shape.rowMajor_val_three _).trans (Eq.trans ?_ (Shape.rowMajor_val_four _).symm)
    show (b.val * 4 + s.val) * 2048 + (h.val * 128 + l.val) = ((b.val * 4 + s.val) * 16 + h.val) * 128 + l.val
    omega
  · rw [val_main_v88_apply]
    refine (congrArg (val_main_v81 (F := Ideal) u) (eq_ix3 _)).trans (sample_row u b s _ r hr _ ?_)
    show 6144 + (h.val * 128 + l.val) = 6144 + h.val * 128 + l.val
    omega

theorem queries_sample_freq (j : Fin 16) : val_main_v99 (F := Ideal) (ix1 j) = freq j.val := by
  unfold val_main_v99 val_main_v98 val_main_v97 val_main_v96 val_main_v95 val_main_v94 freq
  rfl

theorem queries_sample_angle (s : Fin 4) (j : Fin 16) : val_main_v105 (F := Ideal) (ix2 s j) = angle (2048#32 + BitVec.ofNat 32 s.val) j.val := by
  have hf := queries_sample_freq j
  unfold val_main_v105 val_main_v104 val_main_v103 val_main_v102 val_main_v101 angle
  generalize hp : val_main_v100 (F := Ideal) = p
  generalize val_main_v99 (F := Ideal) = f at hf
  pointwise
  subst hp
  exact congrArg₂ (fun a b : EReal => a * b) rfl hf

theorem queries_sample_cos (s : Fin 4) (j : Fin 16) : val_main_v106 (F := Ideal) (ix2 s j) = cosOf (2048#32 + BitVec.ofNat 32 s.val) j.val := by
  rw [val_main_v106_apply, queries_sample_angle s j]
  rfl

theorem queries_sample_sin (s : Fin 4) (j : Fin 16) : val_main_v108 (F := Ideal) (ix2 s j) = sinOf (2048#32 + BitVec.ofNat 32 s.val) j.val := by
  rw [val_main_v108_apply, queries_sample_angle s j]
  rfl

theorem queries_sample_turned (b : Fin 128) (s : Fin 4) (h : Fin 16) (l : Fin 128) (r : Fin 8704) (hr : r.val = 8192 + s.val * 128 + b.val) :
    val_main_v125 (F := Ideal) u (ix4 b s h l) = spin (2048#32 + BitVec.ofNat 32 s.val) (fun k => colAt u r (6144 + h.val * 128 + k)) l.val := by
  have hx := fun l' : Fin 128 => queries_sample_head u b s h l' r hr
  have hc := queries_sample_cos s
  have hs := queries_sample_sin s
  unfold val_main_v125 val_main_v123 val_main_v124 val_main_v117 val_main_v122 val_main_v114 val_main_v116 val_main_v119 val_main_v121 val_main_v113 val_main_v115 val_main_v118 val_main_v120 val_main_v107 val_main_v109 val_main_v111 val_main_v112 val_main_v110
  generalize val_main_v93 (F := Ideal) u = x at hx
  generalize val_main_v106 (F := Ideal) = cs at hc
  generalize val_main_v108 (F := Ideal) = sn at hs
  generalize 2048#32 + BitVec.ofNat 32 s.val = w at hc hs
  exact spun128_16 x cs sn b s h l w (fun k => colAt u r (6144 + h.val * 128 + k)) hx hc hs

/-- The keys of the sample: the head, the angle, the turned head. -/
theorem keys_sample_head (b : Fin 128) (s : Fin 4) (h : Fin 4) (l : Fin 128) (r : Fin 8704) (hr : r.val = 8192 + s.val * 128 + b.val) :
    val_main_v126 (F := Ideal) u (ix4 b s h l) = colAt u r (8192 + h.val * 128 + l.val) := by
  unfold val_main_v126
  refine (shapeCast_apply _ _ _ (ix3 b s (⟨h.val * 128 + l.val, by omega⟩ : Fin 512)) ?_).trans ?_
  · refine (Shape.rowMajor_val_three _).trans (Eq.trans ?_ (Shape.rowMajor_val_four _).symm)
    show (b.val * 4 + s.val) * 512 + (h.val * 128 + l.val) = ((b.val * 4 + s.val) * 4 + h.val) * 128 + l.val
    omega
  · rw [val_main_v89_apply]
    refine (congrArg (val_main_v81 (F := Ideal) u) (eq_ix3 _)).trans (sample_row u b s _ r hr _ ?_)
    show 8192 + (h.val * 128 + l.val) = 8192 + h.val * 128 + l.val
    omega

theorem keys_sample_freq (j : Fin 16) : val_main_v132 (F := Ideal) (ix1 j) = freq j.val := by
  unfold val_main_v132 val_main_v131 val_main_v130 val_main_v129 val_main_v128 val_main_v127 freq
  rfl

theorem keys_sample_angle (s : Fin 4) (j : Fin 16) : val_main_v138 (F := Ideal) (ix2 s j) = angle (2048#32 + BitVec.ofNat 32 s.val) j.val := by
  have hf := keys_sample_freq j
  unfold val_main_v138 val_main_v137 val_main_v136 val_main_v135 val_main_v134 angle
  generalize hp : val_main_v133 (F := Ideal) = p
  generalize val_main_v132 (F := Ideal) = f at hf
  pointwise
  subst hp
  exact congrArg₂ (fun a b : EReal => a * b) rfl hf

theorem keys_sample_cos (s : Fin 4) (j : Fin 16) : val_main_v139 (F := Ideal) (ix2 s j) = cosOf (2048#32 + BitVec.ofNat 32 s.val) j.val := by
  rw [val_main_v139_apply, keys_sample_angle s j]
  rfl

theorem keys_sample_sin (s : Fin 4) (j : Fin 16) : val_main_v141 (F := Ideal) (ix2 s j) = sinOf (2048#32 + BitVec.ofNat 32 s.val) j.val := by
  rw [val_main_v141_apply, keys_sample_angle s j]
  rfl

theorem keys_sample_turned (b : Fin 128) (s : Fin 4) (h : Fin 4) (l : Fin 128) (r : Fin 8704) (hr : r.val = 8192 + s.val * 128 + b.val) :
    val_main_v158 (F := Ideal) u (ix4 b s h l) = spin (2048#32 + BitVec.ofNat 32 s.val) (fun k => colAt u r (8192 + h.val * 128 + k)) l.val := by
  have hx := fun l' : Fin 128 => keys_sample_head u b s h l' r hr
  have hc := keys_sample_cos s
  have hs := keys_sample_sin s
  unfold val_main_v158 val_main_v156 val_main_v157 val_main_v150 val_main_v155 val_main_v147 val_main_v149 val_main_v152 val_main_v154 val_main_v146 val_main_v148 val_main_v151 val_main_v153 val_main_v140 val_main_v142 val_main_v144 val_main_v145 val_main_v143
  generalize val_main_v126 (F := Ideal) u = x at hx
  generalize val_main_v139 (F := Ideal) = cs at hc
  generalize val_main_v141 (F := Ideal) = sn at hs
  generalize 2048#32 + BitVec.ofNat 32 s.val = w at hc hs
  exact spun128_4 x cs sn b s h l w (fun k => colAt u r (8192 + h.val * 128 + k)) hx hc hs

/-- The queries of the prompt, as the reference returns them. -/
theorem queries_prompt_result (n : Fin 8192) (q : Fin 2048) (r : Fin 8704) (hr : r.val = n.val) :
    val_main_v161 (F := Ideal) u (ix2 n q) = spin (BitVec.ofNat 32 (n.val % 2048)) (fun k => colAt u r (6144 + q.val / 128 * 128 + k)) (q.val % 128) := by
  unfold val_main_v161
  refine (shapeCast_apply _ _ _ (ix3 (⟨n.val / 2048, by omega⟩ : Fin 4) (⟨n.val % 2048, by omega⟩ : Fin 2048) q) ?_).trans ?_
  · refine (Shape.rowMajor_val_three _).trans (Eq.trans ?_ (Shape.rowMajor_val_two _).symm)
    show (n.val / 2048 * 2048 + n.val % 2048) * 2048 + q.val = n.val * 2048 + q.val
    omega
  · unfold val_main_v77
    refine (shapeCast_apply _ _ _ (ix4 (⟨n.val / 2048, by omega⟩ : Fin 4) (⟨n.val % 2048, by omega⟩ : Fin 2048) (⟨q.val / 128, by omega⟩ : Fin 16) (⟨q.val % 128, by omega⟩ : Fin 128)) ?_).trans ?_
    · refine (Shape.rowMajor_val_four _).trans (Eq.trans ?_ (Shape.rowMajor_val_three _).symm)
      show ((n.val / 2048 * 2048 + n.val % 2048) * 16 + q.val / 128) * 128 + q.val % 128 = (n.val / 2048 * 2048 + n.val % 2048) * 2048 + q.val
      omega
    · exact queries_prompt_turned u _ _ _ _ r (by show r.val = n.val / 2048 * 2048 + n.val % 2048; omega)

/-- The keys of the prompt, as the reference returns them. -/
theorem keys_prompt_result (n : Fin 8192) (q : Fin 512) (r : Fin 8704) (hr : r.val = n.val) :
    val_main_v162 (F := Ideal) u (ix2 n q) = spin (BitVec.ofNat 32 (n.val % 2048)) (fun k => colAt u r (8192 + q.val / 128 * 128 + k)) (q.val % 128) := by
  unfold val_main_v162
  refine (shapeCast_apply _ _ _ (ix3 (⟨n.val / 2048, by omega⟩ : Fin 4) (⟨n.val % 2048, by omega⟩ : Fin 2048) q) ?_).trans ?_
  · refine (Shape.rowMajor_val_three _).trans (Eq.trans ?_ (Shape.rowMajor_val_two _).symm)
    show (n.val / 2048 * 2048 + n.val % 2048) * 512 + q.val = n.val * 512 + q.val
    omega
  · unfold val_main_v78
    refine (shapeCast_apply _ _ _ (ix4 (⟨n.val / 2048, by omega⟩ : Fin 4) (⟨n.val % 2048, by omega⟩ : Fin 2048) (⟨q.val / 128, by omega⟩ : Fin 4) (⟨q.val % 128, by omega⟩ : Fin 128)) ?_).trans ?_
    · refine (Shape.rowMajor_val_four _).trans (Eq.trans ?_ (Shape.rowMajor_val_three _).symm)
      show ((n.val / 2048 * 2048 + n.val % 2048) * 4 + q.val / 128) * 128 + q.val % 128 = (n.val / 2048 * 2048 + n.val % 2048) * 512 + q.val
      omega
    · exact keys_prompt_turned u _ _ _ _ r (by show r.val = n.val / 2048 * 2048 + n.val % 2048; omega)

/-- The queries of the sample, as the reference returns them. -/
theorem queries_sample_result (n : Fin 512) (q : Fin 2048) (r : Fin 8704) (hr : r.val = 8192 + n.val) :
    val_main_v165 (F := Ideal) u (ix2 n q) = spin (2048#32 + BitVec.ofNat 32 (n.val / 128)) (fun k => colAt u r (6144 + q.val / 128 * 128 + k)) (q.val % 128) := by
  unfold val_main_v165
  refine (shapeCast_apply _ _ _ (ix3 (⟨n.val / 128, by omega⟩ : Fin 4) (⟨n.val % 128, by omega⟩ : Fin 128) q) ?_).trans ?_
  · refine (Shape.rowMajor_val_three _).trans (Eq.trans ?_ (Shape.rowMajor_val_two _).symm)
    show (n.val / 128 * 128 + n.val % 128) * 2048 + q.val = n.val * 2048 + q.val
    omega
  · rw [val_main_v164_apply]
    refine (congrArg (val_main_v159 (F := Ideal) u) (eq_ix3 _)).trans ?_
    unfold val_main_v159
    refine (shapeCast_apply _ _ _ (ix4 (⟨n.val % 128, by omega⟩ : Fin 128) (⟨n.val / 128, by omega⟩ : Fin 4) (⟨q.val / 128, by omega⟩ : Fin 16) (⟨q.val % 128, by omega⟩ : Fin 128)) ?_).trans ?_
    · refine (Shape.rowMajor_val_four _).trans (Eq.trans ?_ (Shape.rowMajor_val_three _).symm)
      show ((n.val % 128 * 4 + n.val / 128) * 16 + q.val / 128) * 128 + q.val % 128 = (n.val % 128 * 4 + n.val / 128) * 2048 + q.val
      omega
    · exact queries_sample_turned u _ _ _ _ r (by show r.val = 8192 + n.val / 128 * 128 + n.val % 128; omega)

/-- The keys of the sample, as the reference returns them. -/
theorem keys_sample_result (n : Fin 512) (q : Fin 512) (r : Fin 8704) (hr : r.val = 8192 + n.val) :
    val_main_v167 (F := Ideal) u (ix2 n q) = spin (2048#32 + BitVec.ofNat 32 (n.val / 128)) (fun k => colAt u r (8192 + q.val / 128 * 128 + k)) (q.val % 128) := by
  unfold val_main_v167
  refine (shapeCast_apply _ _ _ (ix3 (⟨n.val / 128, by omega⟩ : Fin 4) (⟨n.val % 128, by omega⟩ : Fin 128) q) ?_).trans ?_
  · refine (Shape.rowMajor_val_three _).trans (Eq.trans ?_ (Shape.rowMajor_val_two _).symm)
    show (n.val / 128 * 128 + n.val % 128) * 512 + q.val = n.val * 512 + q.val
    omega
  · rw [val_main_v166_apply]
    refine (congrArg (val_main_v160 (F := Ideal) u) (eq_ix3 _)).trans ?_
    unfold val_main_v160
    refine (shapeCast_apply _ _ _ (ix4 (⟨n.val % 128, by omega⟩ : Fin 128) (⟨n.val / 128, by omega⟩ : Fin 4) (⟨q.val / 128, by omega⟩ : Fin 4) (⟨q.val % 128, by omega⟩ : Fin 128)) ?_).trans ?_
    · refine (Shape.rowMajor_val_four _).trans (Eq.trans ?_ (Shape.rowMajor_val_three _).symm)
      show ((n.val % 128 * 4 + n.val / 128) * 4 + q.val / 128) * 128 + q.val % 128 = (n.val % 128 * 4 + n.val / 128) * 512 + q.val
      omega
    · exact keys_sample_turned u _ _ _ _ r (by show r.val = 8192 + n.val / 128 * 128 + n.val % 128; omega)

/-- The values. -/
theorem values_prompt_result (n : Fin 8192) (q : Fin 512) (r : Fin 8704) (hr : r.val = n.val) :
    val_main_v163 (F := Ideal) u (ix2 n q) = colAt u r (8704 + q.val) := by
  unfold val_main_v163
  refine (shapeCast_apply _ _ _ (ix3 (⟨n.val / 2048, by omega⟩ : Fin 4) (⟨n.val % 2048, by omega⟩ : Fin 2048) q) ?_).trans ?_
  · refine (Shape.rowMajor_val_three _).trans (Eq.trans ?_ (Shape.rowMajor_val_two _).symm)
    show (n.val / 2048 * 2048 + n.val % 2048) * 512 + q.val = n.val * 512 + q.val
    omega
  · rw [val_main_v8_apply]
    exact (congrArg (val_main_v1 (F := Ideal) u) (eq_ix3 _)).trans (prompt_row u _ _ _ r (by show r.val = n.val / 2048 * 2048 + n.val % 2048; omega) _ rfl)

theorem values_sample_result (n : Fin 512) (q : Fin 512) (r : Fin 8704) (hr : r.val = 8192 + n.val) :
    val_main_v169 (F := Ideal) u (ix2 n q) = colAt u r (8704 + q.val) := by
  unfold val_main_v169
  refine (shapeCast_apply _ _ _ (ix3 (⟨n.val / 128, by omega⟩ : Fin 4) (⟨n.val % 128, by omega⟩ : Fin 128) q) ?_).trans ?_
  · refine (Shape.rowMajor_val_three _).trans (Eq.trans ?_ (Shape.rowMajor_val_two _).symm)
    show (n.val / 128 * 128 + n.val % 128) * 512 + q.val = n.val * 512 + q.val
    omega
  · rw [val_main_v168_apply, val_main_v90_apply]
    exact (congrArg (val_main_v81 (F := Ideal) u) (eq_ix3 _)).trans (sample_row u _ _ _ r (by show r.val = 8192 + n.val / 128 * 128 + n.val % 128; omega) _ rfl)

end Cert.Reference3Ideal.Rope
-- ==== Proof.Rope.lean ====
/-
  The rotary embedding: the kernel's six arrays are the reference's.

  A grid point takes 512 rows: the first sixteen points the prompt's, the last the sample's. A block's rows meet the
  tables' rows of their positions, so a point leaves the turned lanes of its rows; the prompt's arrays take the blocks
  of the first sixteen points (the sixteenth is written back at the last), the sample's the last point's.
-/
module

public import proofs.«01_k».proof.Proof.RopeTables
public import proofs.«01_k».proof.Proof.RopeBlocks
public import proofs.«01_k».proof.Proof.RopeRef
public import Idealize.ShloMosaic.Lib.Pipeline.Value

@[expose] public section
set_option maxRecDepth 16384
noncomputable section

namespace Cert.Kernel3Ideal.Rope
open Cert.Rope Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The argument, and the arrays as the kernel's windows see them. -/
abbrev argH : S8704x17408.Idx → EReal := m ((c : Thread nD τ).loc main_arg0)
abbrev arr0 : S8704x17408.Idx → EReal := V m c (Pipeline.arrRef spec0 0)
abbrev arr1 : S8704x17408.Idx → EReal := V m c (Pipeline.arrRef spec0 1)
abbrev arr2 : S8704x17408.Idx → EReal := V m c (Pipeline.arrRef spec0 2)
abbrev arr3 : S2560x128.Idx → EReal := V m c (Pipeline.arrRef spec0 3)
abbrev arr4 : S2560x128.Idx → EReal := V m c (Pipeline.arrRef spec0 4)
abbrev arr5 : S2560x128.Idx → EReal := V m c (Pipeline.arrRef spec0 5)

/-- The tables' row block of a point. -/
def part (t : ℕ) : ℕ := if t = 16 then 4 else t % 4

theorem part_le (t : ℕ) : part t ≤ 4 := by
  unfold part
  by_cases h : t = 16
  · rw [if_pos h]
  · rw [if_neg h]
    omega

theorem index_in : ∀ t : Fin cfg0.N,
    (cc0_transform_0 (grid0.coords t) 0 = t.val ∧ cc0_transform_0 (grid0.coords t) 1 = 3)
    ∧ (cc0_transform_1 (grid0.coords t) 0 = t.val ∧ cc0_transform_1 (grid0.coords t) 1 = 16)
    ∧ (cc0_transform_2 (grid0.coords t) 0 = t.val ∧ cc0_transform_2 (grid0.coords t) 1 = 17)
    ∧ (cc0_transform_3 (grid0.coords t) 0 = part t.val ∧ cc0_transform_3 (grid0.coords t) 1 = 0)
    ∧ (cc0_transform_4 (grid0.coords t) 0 = part t.val ∧ cc0_transform_4 (grid0.coords t) 1 = 0)
    ∧ (cc0_transform_5 (grid0.coords t) 0 = part t.val ∧ cc0_transform_5 (grid0.coords t) 1 = 0) := by
  decide +kernel

theorem index_out : ∀ t : Fin cfg0.N,
    (cc0_transform_6 (grid0.coords t) 0 = min t.val 15 ∧ cc0_transform_6 (grid0.coords t) 1 = 0)
    ∧ (cc0_transform_7 (grid0.coords t) 0 = min t.val 15 ∧ cc0_transform_7 (grid0.coords t) 1 = 0)
    ∧ (cc0_transform_8 (grid0.coords t) 0 = min t.val 15 ∧ cc0_transform_8 (grid0.coords t) 1 = 0)
    ∧ (cc0_transform_9 (grid0.coords t) 0 = 0 ∧ cc0_transform_9 (grid0.coords t) 1 = 0)
    ∧ (cc0_transform_10 (grid0.coords t) 0 = 0 ∧ cc0_transform_10 (grid0.coords t) 1 = 0)
    ∧ (cc0_transform_11 (grid0.coords t) 0 = 0 ∧ cc0_transform_11 (grid0.coords t) 1 = 0) := by
  decide +kernel

theorem lt17 (t : Fin cfg0.N) : t.val < 17 := lt_of_lt_of_eq t.isLt N_0

/-- A point's blocks of the projections. -/
theorem block0 (t : Fin cfg0.N) (p : Fin 512) (q : Fin 2048) (r : Fin 8704) (hr : r.val = t.val * 512 + p.val) :
    (X0_0 m c t (ix2 p q : S512x2048.Idx) : EReal) = colAt (argH m c) r (6144 + q.val) := by
  unfold X0_0 Pipeline.Window.fill
  rw [dif_pos (moved0_0 t _)]
  unfold iblk
  rw [View.read_apply]
  refine Eq.trans (congrArg (arr0 m c) (eq_ix2 _)) ((congrFun (V_main_arg0 m c) _).trans (colAt_eq (argH m c) r _ _ _ ?_ (Fin.ext ?_)))
  · show cc0_transform_0 (grid0.coords t) 1 * 2048 + 1 * q.val = 6144 + q.val
    rw [(index_in t).1.2]
    omega
  · show cc0_transform_0 (grid0.coords t) 0 * 512 + 1 * p.val = r.val
    rw [(index_in t).1.1]
    omega

theorem block1 (t : Fin cfg0.N) (p q : Fin 512) (r : Fin 8704) (hr : r.val = t.val * 512 + p.val) :
    (iblk m c 1 t (ix2 p q : S512x512.Idx) : EReal) = colAt (argH m c) r (8192 + q.val) := by
  unfold iblk
  rw [View.read_apply]
  refine Eq.trans (congrArg (arr1 m c) (eq_ix2 _)) ((congrFun (V_main_arg0 m c) _).trans (colAt_eq (argH m c) r _ _ _ ?_ (Fin.ext ?_)))
  · show cc0_transform_1 (grid0.coords t) 1 * 512 + 1 * q.val = 8192 + q.val
    rw [(index_in t).2.1.2]
    omega
  · show cc0_transform_1 (grid0.coords t) 0 * 512 + 1 * p.val = r.val
    rw [(index_in t).2.1.1]
    omega

theorem block2 (t : Fin cfg0.N) (p q : Fin 512) (r : Fin 8704) (hr : r.val = t.val * 512 + p.val) :
    (iblk m c 2 t (ix2 p q : S512x512.Idx) : EReal) = colAt (argH m c) r (8704 + q.val) := by
  unfold iblk
  rw [View.read_apply]
  refine Eq.trans (congrArg (arr2 m c) (eq_ix2 _)) ((congrFun (V_main_arg0 m c) _).trans (colAt_eq (argH m c) r _ _ _ ?_ (Fin.ext ?_)))
  · show cc0_transform_2 (grid0.coords t) 1 * 512 + 1 * q.val = 8704 + q.val
    rw [(index_in t).2.2.1.2]
    omega
  · show cc0_transform_2 (grid0.coords t) 0 * 512 + 1 * p.val = r.val
    rw [(index_in t).2.2.1.1]
    omega

/-- A point's blocks of the tables. -/
theorem block3 (t : Fin cfg0.N) (p : Fin 512) (l : Fin 128) :
    (iblk m c 3 t (ix2 p l : S512x128.Idx) : EReal) = tableC (wordOf (part t.val * 512 + p.val)) l.val := by
  have hp := part_le t.val
  unfold iblk
  rw [View.read_apply]
  refine Eq.trans (congrArg (arr3 m c) ((eq_ix2 _).trans (congrArg₂ ix2 (Fin.ext ?_) (Fin.ext ?_)))) (arrC_apply m c (⟨part t.val * 512 + p.val, by omega⟩ : Fin 2560) l)
  · show cc0_transform_3 (grid0.coords t) 0 * 512 + 1 * p.val = part t.val * 512 + p.val
    rw [(index_in t).2.2.2.1.1]
    omega
  · show cc0_transform_3 (grid0.coords t) 1 * 128 + 1 * l.val = l.val
    rw [(index_in t).2.2.2.1.2]
    omega

theorem block4 (t : Fin cfg0.N) (p : Fin 512) (l : Fin 128) :
    (iblk m c 4 t (ix2 p l : S512x128.Idx) : EReal) = tableS (wordOf (part t.val * 512 + p.val)) l.val := by
  have hp := part_le t.val
  unfold iblk
  rw [View.read_apply]
  refine Eq.trans (congrArg (arr4 m c) ((eq_ix2 _).trans (congrArg₂ ix2 (Fin.ext ?_) (Fin.ext ?_)))) (arrS_apply m c (⟨part t.val * 512 + p.val, by omega⟩ : Fin 2560) l)
  · show cc0_transform_4 (grid0.coords t) 0 * 512 + 1 * p.val = part t.val * 512 + p.val
    rw [(index_in t).2.2.2.2.1.1]
    omega
  · show cc0_transform_4 (grid0.coords t) 1 * 128 + 1 * l.val = l.val
    rw [(index_in t).2.2.2.2.1.2]
    omega

theorem block5 (t : Fin cfg0.N) (p : Fin 512) (l : Fin 128) :
    (iblk m c 5 t (ix2 p l : S512x128.Idx) : EReal) = tableT (wordOf (part t.val * 512 + p.val)) l.val := by
  have hp := part_le t.val
  unfold iblk
  rw [View.read_apply]
  refine Eq.trans (congrArg (arr5 m c) ((eq_ix2 _).trans (congrArg₂ ix2 (Fin.ext ?_) (Fin.ext ?_)))) (arrT_apply m c (⟨part t.val * 512 + p.val, by omega⟩ : Fin 2560) l)
  · show cc0_transform_5 (grid0.coords t) 0 * 512 + 1 * p.val = part t.val * 512 + p.val
    rw [(index_in t).2.2.2.2.2.1]
    omega
  · show cc0_transform_5 (grid0.coords t) 1 * 128 + 1 * l.val = l.val
    rw [(index_in t).2.2.2.2.2.2]
    omega

/-- What a point leaves of its queries: the turned lanes of its rows. -/
theorem queriesAt_apply (t : Fin cfg0.N) (p : Fin 512) (q : Fin 2048) (r : Fin 8704) (hr : r.val = t.val * 512 + p.val) :
    (queriesAt m c t (ix2 p q : S512x2048.Idx) : EReal)
      = spin (wordOf (part t.val * 512 + p.val)) (fun k => colAt (argH m c) r (6144 + q.val / 128 * 128 + k)) (q.val % 128) := by
  have hq := q.isLt
  have hX : ∀ k : ℕ, k < 128 → wideQ (X0_0 m c t) p (q.val / 128 * 128 + k) = colAt (argH m c) r (6144 + q.val / 128 * 128 + k) := by
    intro k hk
    rw [← wideQ_eq (X0_0 m c t) p p (q.val / 128 * 128 + k) (⟨q.val / 128 * 128 + k, by omega⟩ : Fin 2048) rfl rfl]
    exact (block0 m c t p _ r hr).trans (congrArg (colAt (argH m c) r) (Nat.add_assoc _ _ _).symm)
  unfold queriesAt
  refine (turnQ_apply _ _ _ _ p q).trans ?_
  unfold blockQ formed
  refine Eq.trans ?_ (spin_of_tables (wordOf (part t.val * 512 + p.val)) (fun k => colAt (argH m c) r (6144 + q.val / 128 * 128 + k)) (q.val % 128) (Nat.mod_lt _ (by decide)))
  exact congrArg₂ (fun a b : EReal => a + b) (congrArg₂ (fun a b : EReal => a + b)
    (congrArg₂ (fun a b : EReal => a * b) (hX _ (Nat.mod_lt _ (by decide))) (block3 m c t p _))
    (congrArg₂ (fun a b : EReal => a * b) (hX _ (Nat.mod_lt _ (by decide))) (block4 m c t p _)))
    (congrArg₂ (fun a b : EReal => a * b) (hX _ (Nat.mod_lt _ (by decide))) (block5 m c t p _))

/-- What a point leaves of its keys: the turned lanes of its rows. -/
theorem keysAt_apply (t : Fin cfg0.N) (p : Fin 512) (q : Fin 512) (r : Fin 8704) (hr : r.val = t.val * 512 + p.val) :
    (keysAt m c t (ix2 p q : S512x512.Idx) : EReal)
      = spin (wordOf (part t.val * 512 + p.val)) (fun k => colAt (argH m c) r (8192 + q.val / 128 * 128 + k)) (q.val % 128) := by
  have hq := q.isLt
  have hX : ∀ k : ℕ, k < 128 → wideK (iblk m c 1 t) p (q.val / 128 * 128 + k) = colAt (argH m c) r (8192 + q.val / 128 * 128 + k) := by
    intro k hk
    rw [← wideK_eq (iblk m c 1 t) p p (q.val / 128 * 128 + k) (⟨q.val / 128 * 128 + k, by omega⟩ : Fin 512) rfl rfl]
    exact (block1 m c t p _ r hr).trans (congrArg (colAt (argH m c) r) (Nat.add_assoc _ _ _).symm)
  unfold keysAt
  refine (turnK_apply _ _ _ _ p q).trans ?_
  unfold blockK formed
  refine Eq.trans ?_ (spin_of_tables (wordOf (part t.val * 512 + p.val)) (fun k => colAt (argH m c) r (8192 + q.val / 128 * 128 + k)) (q.val % 128) (Nat.mod_lt _ (by decide)))
  exact congrArg₂ (fun a b : EReal => a + b) (congrArg₂ (fun a b : EReal => a + b)
    (congrArg₂ (fun a b : EReal => a * b) (hX _ (Nat.mod_lt _ (by decide))) (block3 m c t p _))
    (congrArg₂ (fun a b : EReal => a * b) (hX _ (Nat.mod_lt _ (by decide))) (block4 m c t p _)))
    (congrArg₂ (fun a b : EReal => a * b) (hX _ (Nat.mod_lt _ (by decide))) (block5 m c t p _))

/-- … and of its values: its rows. -/
theorem valuesAt_apply (t : Fin cfg0.N) (p q : Fin 512) (r : Fin 8704) (hr : r.val = t.val * 512 + p.val) :
    (valuesAt m c t (ix2 p q : S512x512.Idx) : EReal) = colAt (argH m c) r (8704 + q.val) := by
  unfold valuesAt
  exact (copyV_apply _ p q).trans (block2 m c t p q r hr)

/-- The positions of the prompt's rows and of the sample's. -/
theorem word_prompt (t n p : ℕ) (ht : t = n / 512) (hn : n < 8192) (hp : p = n % 512) : wordOf (part t * 512 + p) = BitVec.ofNat 32 (n % 2048) := by
  unfold wordOf part
  rw [if_neg (by omega : ¬ t = 16), if_pos (by omega), show t % 4 * 512 + p = n % 2048 by omega]

theorem word_sample (t p : ℕ) (ht : t = 16) : wordOf (part t * 512 + p) = 2048#32 + BitVec.ofNat 32 (p / 128) := by
  unfold wordOf part
  rw [if_pos ht, if_neg (by omega), show 4 * 512 + p - 2048 = p by omega]

theorem apart6 : ∀ t t' : Fin cfg0.N, t.val ≠ 15 → t'.val ≠ 15 → win0_6.index t = win0_6.index t' → t = t' :=
  (by decide +kernel : ∀ t t' : Fin grid0.N, t.val ≠ 15 → t'.val ≠ 15 → win0_6.index t = win0_6.index t' → t = t')

/-- The points that write back array 0 of the prompt's write disjoint blocks. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' h h' hne => (cfg0.win 6).disjoint_blk fun e => hne (apart6 t t' (of_decide_eq_true ((back_6 t).symm.trans h)) (of_decide_eq_true ((back_6 t').symm.trans h')) e)

theorem apart7 : ∀ t t' : Fin cfg0.N, t.val ≠ 15 → t'.val ≠ 15 → win0_7.index t = win0_7.index t' → t = t' :=
  (by decide +kernel : ∀ t t' : Fin grid0.N, t.val ≠ 15 → t'.val ≠ 15 → win0_7.index t = win0_7.index t' → t = t')

/-- The points that write back array 1 of the prompt's write disjoint blocks. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' h h' hne => (cfg0.win 7).disjoint_blk fun e => hne (apart7 t t' (of_decide_eq_true ((back_7 t).symm.trans h)) (of_decide_eq_true ((back_7 t').symm.trans h')) e)

theorem apart8 : ∀ t t' : Fin cfg0.N, t.val ≠ 15 → t'.val ≠ 15 → win0_8.index t = win0_8.index t' → t = t' :=
  (by decide +kernel : ∀ t t' : Fin grid0.N, t.val ≠ 15 → t'.val ≠ 15 → win0_8.index t = win0_8.index t' → t = t')

/-- The points that write back array 2 of the prompt's write disjoint blocks. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' h h' hne => (cfg0.win 8).disjoint_blk fun e => hne (apart8 t t' (of_decide_eq_true ((back_8 t).symm.trans h)) (of_decide_eq_true ((back_8 t').symm.trans h')) e)

theorem disjoint9 : ∀ t t' : Fin cfg0.N, (cfg0.win 9).flush t = true → (cfg0.win 9).flush t' = true → t ≠ t' →
    Disjoint ((cfg0.win 9).blk t).view.set ((cfg0.win 9).blk t').view.set :=
  fun t t' h h' hne => absurd (Fin.ext ((of_decide_eq_true ((back_9 t).symm.trans h)).trans (of_decide_eq_true ((back_9 t').symm.trans h')).symm)) hne

theorem disjoint10 : ∀ t t' : Fin cfg0.N, (cfg0.win 10).flush t = true → (cfg0.win 10).flush t' = true → t ≠ t' →
    Disjoint ((cfg0.win 10).blk t).view.set ((cfg0.win 10).blk t').view.set :=
  fun t t' h h' hne => absurd (Fin.ext ((of_decide_eq_true ((back_10 t).symm.trans h)).trans (of_decide_eq_true ((back_10 t').symm.trans h')).symm)) hne

theorem disjoint11 : ∀ t t' : Fin cfg0.N, (cfg0.win 11).flush t = true → (cfg0.win 11).flush t' = true → t ≠ t' →
    Disjoint ((cfg0.win 11).blk t).view.set ((cfg0.win 11).blk t').view.set :=
  fun t t' h h' hne => absurd (Fin.ext ((of_decide_eq_true ((back_11 t).symm.trans h)).trans (of_decide_eq_true ((back_11 t').symm.trans h')).symm)) hne

theorem flushed6 (t : Fin cfg0.N) : (data m 0 c).flushed 6 t = (cfg0.win 6).cut (grid0.coords t) (queriesAt m c (held t)) := by
  show (cfg0.win 6).cut (grid0.coords t) ((data m 0 c).after 6 t) = _
  rw [after_6]

/-- The prompt's queries. -/
theorem queries_prompt (n : Fin 8192) (q : Fin 2048) (r : Fin 8704) (hr : r.val = n.val) :
    (data m 0 c).arrAt 6 cfg0.N (ix2 n q : S8192x2048.Idx) = spin (BitVec.ofNat 32 (n.val % 2048)) (fun k => colAt (argH m c) r (6144 + q.val / 128 * 128 + k)) (q.val % 128) := by
  have hN : cfg0.N = 17 := N_0
  have hn := n.isLt
  obtain ⟨t, ht, ht'⟩ : ∃ t : Fin cfg0.N, t.val ≠ 15 ∧ min t.val 15 = n.val / 512 := by
    by_cases h : n.val / 512 = 15
    · exact ⟨⟨16, by omega⟩, by show (16 : ℕ) ≠ 15; omega, by show min 16 15 = n.val / 512; omega⟩
    · exact ⟨⟨n.val / 512, by omega⟩, h, by show min (n.val / 512) 15 = n.val / 512; omega⟩
  have hh : (held t).val = n.val / 512 := ht'
  obtain ⟨p, hp⟩ : ∃ p : Fin 512, p.val = n.val % 512 := ⟨⟨n.val % 512, by omega⟩, rfl⟩
  have hb := congrFun ((data m 0 c).read_blk_arrAt_eq_flushed 6 disjoint6 cfg0.N t t.isLt ((back_6 t).trans (decide_eq_true ht))) (ix2 p q : S512x2048.Idx)
  rw [View.read_apply, flushed6] at hb
  refine Eq.trans (congrArg ((data m 0 c).arrAt 6 cfg0.N) ?_) (hb.trans ((queriesAt_apply m c (held t) p q r (by omega)).trans (congrArg (fun z => spin z (fun k => colAt (argH m c) r (6144 + q.val / 128 * 128 + k)) (q.val % 128)) (word_prompt _ n.val _ hh n.isLt hp))))
  refine Eq.trans (congrArg₂ ix2 (Fin.ext ?_) (Fin.ext ?_)) (eq_ix2 _).symm
  · show n.val = cc0_transform_6 (grid0.coords t) 0 * 512 + 1 * p.val
    rw [(index_out t).1.1]
    omega
  · show q.val = cc0_transform_6 (grid0.coords t) 1 * 2048 + 1 * q.val
    rw [(index_out t).1.2]
    omega

theorem equation_queries_prompt : (data m 0 c).arrAt 6 cfg0.N = Cert.Reference3Ideal.Read.val_main_v161 (F := Ideal) (argH m c) :=
  funext fun y => by
    rw [eq_ix2 (n0 := 8192) (n1 := 2048) y]
    exact (queries_prompt m c (y 0) (y 1) ⟨(y 0).val, lt_of_lt_of_le (y 0).isLt (by decide : 8192 ≤ 8704)⟩ rfl).trans (Cert.Reference3Ideal.Rope.queries_prompt_result (argH m c) (y 0) (y 1) _ rfl).symm

theorem flushed7 (t : Fin cfg0.N) : (data m 0 c).flushed 7 t = (cfg0.win 7).cut (grid0.coords t) (keysAt m c (held t)) := by
  show (cfg0.win 7).cut (grid0.coords t) ((data m 0 c).after 7 t) = _
  rw [after_7]

/-- The prompt's keys. -/
theorem keys_prompt (n : Fin 8192) (q : Fin 512) (r : Fin 8704) (hr : r.val = n.val) :
    (data m 0 c).arrAt 7 cfg0.N (ix2 n q : S8192x512.Idx) = spin (BitVec.ofNat 32 (n.val % 2048)) (fun k => colAt (argH m c) r (8192 + q.val / 128 * 128 + k)) (q.val % 128) := by
  have hN : cfg0.N = 17 := N_0
  have hn := n.isLt
  obtain ⟨t, ht, ht'⟩ : ∃ t : Fin cfg0.N, t.val ≠ 15 ∧ min t.val 15 = n.val / 512 := by
    by_cases h : n.val / 512 = 15
    · exact ⟨⟨16, by omega⟩, by show (16 : ℕ) ≠ 15; omega, by show min 16 15 = n.val / 512; omega⟩
    · exact ⟨⟨n.val / 512, by omega⟩, h, by show min (n.val / 512) 15 = n.val / 512; omega⟩
  have hh : (held t).val = n.val / 512 := ht'
  obtain ⟨p, hp⟩ : ∃ p : Fin 512, p.val = n.val % 512 := ⟨⟨n.val % 512, by omega⟩, rfl⟩
  have hb := congrFun ((data m 0 c).read_blk_arrAt_eq_flushed 7 disjoint7 cfg0.N t t.isLt ((back_7 t).trans (decide_eq_true ht))) (ix2 p q : S512x512.Idx)
  rw [View.read_apply, flushed7] at hb
  refine Eq.trans (congrArg ((data m 0 c).arrAt 7 cfg0.N) ?_) (hb.trans ((keysAt_apply m c (held t) p q r (by omega)).trans (congrArg (fun z => spin z (fun k => colAt (argH m c) r (8192 + q.val / 128 * 128 + k)) (q.val % 128)) (word_prompt _ n.val _ hh n.isLt hp))))
  refine Eq.trans (congrArg₂ ix2 (Fin.ext ?_) (Fin.ext ?_)) (eq_ix2 _).symm
  · show n.val = cc0_transform_7 (grid0.coords t) 0 * 512 + 1 * p.val
    rw [(index_out t).2.1.1]
    omega
  · show q.val = cc0_transform_7 (grid0.coords t) 1 * 512 + 1 * q.val
    rw [(index_out t).2.1.2]
    omega

theorem equation_keys_prompt : (data m 0 c).arrAt 7 cfg0.N = Cert.Reference3Ideal.Read.val_main_v162 (F := Ideal) (argH m c) :=
  funext fun y => by
    rw [eq_ix2 (n0 := 8192) (n1 := 512) y]
    exact (keys_prompt m c (y 0) (y 1) ⟨(y 0).val, lt_of_lt_of_le (y 0).isLt (by decide : 8192 ≤ 8704)⟩ rfl).trans (Cert.Reference3Ideal.Rope.keys_prompt_result (argH m c) (y 0) (y 1) _ rfl).symm

theorem flushed8 (t : Fin cfg0.N) : (data m 0 c).flushed 8 t = (cfg0.win 8).cut (grid0.coords t) (valuesAt m c (held t)) := by
  show (cfg0.win 8).cut (grid0.coords t) ((data m 0 c).after 8 t) = _
  rw [after_8]

/-- The prompt's values. -/
theorem values_prompt (n : Fin 8192) (q : Fin 512) (r : Fin 8704) (hr : r.val = n.val) :
    (data m 0 c).arrAt 8 cfg0.N (ix2 n q : S8192x512.Idx) = colAt (argH m c) r (8704 + q.val) := by
  have hN : cfg0.N = 17 := N_0
  have hn := n.isLt
  obtain ⟨t, ht, ht'⟩ : ∃ t : Fin cfg0.N, t.val ≠ 15 ∧ min t.val 15 = n.val / 512 := by
    by_cases h : n.val / 512 = 15
    · exact ⟨⟨16, by omega⟩, by show (16 : ℕ) ≠ 15; omega, by show min 16 15 = n.val / 512; omega⟩
    · exact ⟨⟨n.val / 512, by omega⟩, h, by show min (n.val / 512) 15 = n.val / 512; omega⟩
  have hh : (held t).val = n.val / 512 := ht'
  obtain ⟨p, hp⟩ : ∃ p : Fin 512, p.val = n.val % 512 := ⟨⟨n.val % 512, by omega⟩, rfl⟩
  have hb := congrFun ((data m 0 c).read_blk_arrAt_eq_flushed 8 disjoint8 cfg0.N t t.isLt ((back_8 t).trans (decide_eq_true ht))) (ix2 p q : S512x512.Idx)
  rw [View.read_apply, flushed8] at hb
  refine Eq.trans (congrArg ((data m 0 c).arrAt 8 cfg0.N) ?_) (hb.trans (valuesAt_apply m c (held t) p q r (by omega)))
  refine Eq.trans (congrArg₂ ix2 (Fin.ext ?_) (Fin.ext ?_)) (eq_ix2 _).symm
  · show n.val = cc0_transform_8 (grid0.coords t) 0 * 512 + 1 * p.val
    rw [(index_out t).2.2.1.1]
    omega
  · show q.val = cc0_transform_8 (grid0.coords t) 1 * 512 + 1 * q.val
    rw [(index_out t).2.2.1.2]
    omega

theorem equation_values_prompt : (data m 0 c).arrAt 8 cfg0.N = Cert.Reference3Ideal.Read.val_main_v163 (F := Ideal) (argH m c) :=
  funext fun y => by
    rw [eq_ix2 (n0 := 8192) (n1 := 512) y]
    exact (values_prompt m c (y 0) (y 1) ⟨(y 0).val, lt_of_lt_of_le (y 0).isLt (by decide : 8192 ≤ 8704)⟩ rfl).trans (Cert.Reference3Ideal.Rope.values_prompt_result (argH m c) (y 0) (y 1) _ rfl).symm

theorem flushed9 (t : Fin cfg0.N) : (data m 0 c).flushed 9 t = (cfg0.win 9).cut (grid0.coords t) (queriesAt m c t) := by
  show (cfg0.win 9).cut (grid0.coords t) ((data m 0 c).after 9 t) = _
  rw [after_9]

/-- The sample's queries. -/
theorem queries_sample (n : Fin 512) (q : Fin 2048) (r : Fin 8704) (hr : r.val = 8192 + n.val) :
    (data m 0 c).arrAt 9 cfg0.N (ix2 n q : S512x2048.Idx) = spin (2048#32 + BitVec.ofNat 32 (n.val / 128)) (fun k => colAt (argH m c) r (6144 + q.val / 128 * 128 + k)) (q.val % 128) := by
  have hN : cfg0.N = 17 := N_0
  obtain ⟨t, ht⟩ : ∃ t : Fin cfg0.N, t.val = 16 := ⟨⟨16, by omega⟩, rfl⟩
  have hb := congrFun ((data m 0 c).read_blk_arrAt_eq_flushed 9 disjoint9 cfg0.N t t.isLt ((back_9 t).trans (decide_eq_true ht))) (ix2 n q : S512x2048.Idx)
  rw [View.read_apply, flushed9] at hb
  refine Eq.trans (congrArg ((data m 0 c).arrAt 9 cfg0.N) ?_) (hb.trans ((queriesAt_apply m c t n q r (by omega)).trans (congrArg (fun z => spin z (fun k => colAt (argH m c) r (6144 + q.val / 128 * 128 + k)) (q.val % 128)) (word_sample _ n.val ht))))
  refine Eq.trans (congrArg₂ ix2 (Fin.ext ?_) (Fin.ext ?_)) (eq_ix2 _).symm
  · show n.val = cc0_transform_9 (grid0.coords t) 0 * 512 + 1 * n.val
    rw [(index_out t).2.2.2.1.1]
    omega
  · show q.val = cc0_transform_9 (grid0.coords t) 1 * 2048 + 1 * q.val
    rw [(index_out t).2.2.2.1.2]
    omega

theorem equation_queries_sample : (data m 0 c).arrAt 9 cfg0.N = Cert.Reference3Ideal.Read.val_main_v165 (F := Ideal) (argH m c) :=
  funext fun y => by
    rw [eq_ix2 (n0 := 512) (n1 := 2048) y]
    exact (queries_sample m c (y 0) (y 1) ⟨8192 + (y 0).val, Nat.add_lt_add_left (y 0).isLt 8192⟩ rfl).trans (Cert.Reference3Ideal.Rope.queries_sample_result (argH m c) (y 0) (y 1) _ rfl).symm

theorem flushed10 (t : Fin cfg0.N) : (data m 0 c).flushed 10 t = (cfg0.win 10).cut (grid0.coords t) (keysAt m c t) := by
  show (cfg0.win 10).cut (grid0.coords t) ((data m 0 c).after 10 t) = _
  rw [after_10]

/-- The sample's keys. -/
theorem keys_sample (n : Fin 512) (q : Fin 512) (r : Fin 8704) (hr : r.val = 8192 + n.val) :
    (data m 0 c).arrAt 10 cfg0.N (ix2 n q : S512x512.Idx) = spin (2048#32 + BitVec.ofNat 32 (n.val / 128)) (fun k => colAt (argH m c) r (8192 + q.val / 128 * 128 + k)) (q.val % 128) := by
  have hN : cfg0.N = 17 := N_0
  obtain ⟨t, ht⟩ : ∃ t : Fin cfg0.N, t.val = 16 := ⟨⟨16, by omega⟩, rfl⟩
  have hb := congrFun ((data m 0 c).read_blk_arrAt_eq_flushed 10 disjoint10 cfg0.N t t.isLt ((back_10 t).trans (decide_eq_true ht))) (ix2 n q : S512x512.Idx)
  rw [View.read_apply, flushed10] at hb
  refine Eq.trans (congrArg ((data m 0 c).arrAt 10 cfg0.N) ?_) (hb.trans ((keysAt_apply m c t n q r (by omega)).trans (congrArg (fun z => spin z (fun k => colAt (argH m c) r (8192 + q.val / 128 * 128 + k)) (q.val % 128)) (word_sample _ n.val ht))))
  refine Eq.trans (congrArg₂ ix2 (Fin.ext ?_) (Fin.ext ?_)) (eq_ix2 _).symm
  · show n.val = cc0_transform_10 (grid0.coords t) 0 * 512 + 1 * n.val
    rw [(index_out t).2.2.2.2.1.1]
    omega
  · show q.val = cc0_transform_10 (grid0.coords t) 1 * 512 + 1 * q.val
    rw [(index_out t).2.2.2.2.1.2]
    omega

theorem equation_keys_sample : (data m 0 c).arrAt 10 cfg0.N = Cert.Reference3Ideal.Read.val_main_v167 (F := Ideal) (argH m c) :=
  funext fun y => by
    rw [eq_ix2 (n0 := 512) (n1 := 512) y]
    exact (keys_sample m c (y 0) (y 1) ⟨8192 + (y 0).val, Nat.add_lt_add_left (y 0).isLt 8192⟩ rfl).trans (Cert.Reference3Ideal.Rope.keys_sample_result (argH m c) (y 0) (y 1) _ rfl).symm

theorem flushed11 (t : Fin cfg0.N) : (data m 0 c).flushed 11 t = (cfg0.win 11).cut (grid0.coords t) (valuesAt m c t) := by
  show (cfg0.win 11).cut (grid0.coords t) ((data m 0 c).after 11 t) = _
  rw [after_11]

/-- The sample's values. -/
theorem values_sample (n : Fin 512) (q : Fin 512) (r : Fin 8704) (hr : r.val = 8192 + n.val) :
    (data m 0 c).arrAt 11 cfg0.N (ix2 n q : S512x512.Idx) = colAt (argH m c) r (8704 + q.val) := by
  have hN : cfg0.N = 17 := N_0
  obtain ⟨t, ht⟩ : ∃ t : Fin cfg0.N, t.val = 16 := ⟨⟨16, by omega⟩, rfl⟩
  have hb := congrFun ((data m 0 c).read_blk_arrAt_eq_flushed 11 disjoint11 cfg0.N t t.isLt ((back_11 t).trans (decide_eq_true ht))) (ix2 n q : S512x512.Idx)
  rw [View.read_apply, flushed11] at hb
  refine Eq.trans (congrArg ((data m 0 c).arrAt 11 cfg0.N) ?_) (hb.trans (valuesAt_apply m c t n q r (by omega)))
  refine Eq.trans (congrArg₂ ix2 (Fin.ext ?_) (Fin.ext ?_)) (eq_ix2 _).symm
  · show n.val = cc0_transform_11 (grid0.coords t) 0 * 512 + 1 * n.val
    rw [(index_out t).2.2.2.2.2.1]
    omega
  · show q.val = cc0_transform_11 (grid0.coords t) 1 * 512 + 1 * q.val
    rw [(index_out t).2.2.2.2.2.2]
    omega

theorem equation_values_sample : (data m 0 c).arrAt 11 cfg0.N = Cert.Reference3Ideal.Read.val_main_v169 (F := Ideal) (argH m c) :=
  funext fun y => by
    rw [eq_ix2 (n0 := 512) (n1 := 512) y]
    exact (values_sample m c (y 0) (y 1) ⟨8192 + (y 0).val, Nat.add_lt_add_left (y 0).isLt 8192⟩ rfl).trans (Cert.Reference3Ideal.Rope.values_sample_result (argH m c) (y 0) (y 1) _ rfl).symm

/-- The kernel's run: its six arrays, and its argument as it was. -/
theorem run_results (ρ : Dev nD → PrngReg) : θ_run defs (onTc (τ := τ) (main (F := Ideal))) ⟨m, fun _ => 0, ρ⟩ fun r => ∀ c : Dev nD,
      r.2.mem ((c.tc : Thread nD τ).loc main_v28_0) = (data m 0 c).arrAt 6 cfg0.N
      ∧ r.2.mem ((c.tc : Thread nD τ).loc main_v28_1) = (data m 0 c).arrAt 7 cfg0.N
      ∧ r.2.mem ((c.tc : Thread nD τ).loc main_v28_2) = (data m 0 c).arrAt 8 cfg0.N
      ∧ r.2.mem ((c.tc : Thread nD τ).loc main_v28_3) = (data m 0 c).arrAt 9 cfg0.N
      ∧ r.2.mem ((c.tc : Thread nD τ).loc main_v28_4) = (data m 0 c).arrAt 10 cfg0.N
      ∧ r.2.mem ((c.tc : Thread nD τ).loc main_v28_5) = (data m 0 c).arrAt 11 cfg0.N
      ∧ r.2.mem ((c.tc : Thread nD τ).loc main_arg0) = m ((c.tc : Thread nD τ).loc main_arg0) :=
  (θ_run defs _ _).mono (fun _ h c => ⟨(h.1 c).1 6, (h.1 c).1 7, (h.1 c).1 8, (h.1 c).1 9, (h.1 c).1 10, (h.1 c).1 11, h.2 c⟩)
    (θ_run_and (run m ρ) (frame_of m ρ (data m) (arrays m) (run m ρ)))

end Cert.Kernel3Ideal.Rope
-- ==== Proof.ConvPrompt.lean ====
/-
  The prompt's short convolution: the kernel's two arrays are the reference's.

  A grid point computes 512 rows of one sequence and 512 columns. A row's first two taps come from the two rows before it:
  inside the tile from the rotated products, at the tile's top from the carried rows, which the point before left
  (`carried`) and which a sequence's first point clears.
-/
module

public import proofs.«01_k».proof.Proof.Gen.Kernel4Ideal.Value
public import proofs.«01_k».proof.Proof.Gen.Reference4Ideal.Read
public import Idealize.ShloMosaic.Lib.Tactic
public import Idealize.ShloMosaic.Lib.Pointwise
public import Idealize.ShloMosaic.Lib.IdealHost
public import Idealize.ShloMosaic.Lib.WritesUnit

@[expose] public section
set_option maxRecDepth 16384
noncomputable section

namespace Cert.ConvPrompt
open Idealize.ShloMosaic

/-- The gated three-tap sum. -/
def form (a w0 w1 w2 u0 u1 u2 : EReal) : EReal := a * (w0 * u0 + w1 * u1 + w2 * u2)

/-- A select on the comparison of two small numbers. -/
theorem select_small {α : Type} (p k : ℕ) (hp : p < 512) (hk : k < 512) (a b : α) :
    Scalar.select (IntOp.cmpi .eq (BitVec.ofNat 32 p) (BitVec.ofNat 32 k)) a b = if p = k then a else b := by
  rw [WordCmp.cmpi_eq_ofNat (by omega) (by omega)]
  by_cases h : p = k
  · simp only [h, if_true, decide_true]; rfl
  · simp only [h, if_false, decide_false]; rfl

end Cert.ConvPrompt

namespace Cert.Kernel4Ideal.Conv
open Cert.ConvPrompt Cert.Kernel4Ideal Cert.Kernel4Ideal.Gen Cert.Kernel4Ideal.Value Idealize.ShloMosaic Idealize.ShloMosaic.TcCoe Idealize.SL.Sem

section Block

/-- The tap `j` of a tile's column: the two carried rows first, then the products. -/
def tap (x1 x2 : S512x512.Idx → EReal) (s : S8x512.Idx → EReal) (j : ℕ) (q : Fin 512) : EReal :=
  if h : j < 2 then s (ix2 (⟨j, by omega⟩ : Fin 8) q)
  else if h' : j - 2 < 512 then x1 (ix2 (⟨j - 2, h'⟩ : Fin 512) q) * x2 (ix2 (⟨j - 2, h'⟩ : Fin 512) q) else 0

theorem tap_product (x1 x2 : S512x512.Idx → EReal) (s : S8x512.Idx → EReal) (j : ℕ) (q : Fin 512) (i : Fin 512) (h : j = i.val + 2) :
    tap x1 x2 s j q = x1 (ix2 i q) * x2 (ix2 i q) := by
  subst h
  unfold tap
  rw [dif_neg (by omega), dif_pos (by omega : i.val + 2 - 2 < 512)]
  rfl

/-- The product of row `510 + j` of a tile. -/
def last (x1 x2 : S512x512.Idx → EReal) (j : Fin 2) (q : Fin 512) : EReal :=
  x1 (ix2 (⟨510 + j.val, by omega⟩ : Fin 512) q) * x2 (ix2 (⟨510 + j.val, by omega⟩ : Fin 512) q)

/-- A store of rows 0 and 1, read back there. -/
theorem rows_written (v : View sig .tc .vmem S8x512 .f32) (f : v.ty.Contents (Elt Ideal)) (w : Vec Ideal S2x512 .f32) (L : List (View.Piece (Elt Ideal) S8x512 .f32)) (j : Fin 2) (q : Fin 512) :
    v.read (Elt Ideal) (v.writes (Elt Ideal) f (⟨Rect.unit ![0, 0] ![2, 512] inb_S8x512_S2x512_0_0, w⟩ :: L)) (ix2 (⟨j.val, by omega⟩ : Fin 8) q) = w (ix2 j q) :=
  View.read_writes_cons_unit_of_mem v f inb_S8x512_S2x512_0_0 w L _ (ix2 j q) rfl
    (Fin.forall_fin_two.mpr ⟨(Nat.zero_add _).symm, (Nat.zero_add _).symm⟩)

theorem pay_apply (x0 x1 x2 : Vec Ideal S512x512 .f32) (x3 : Vec Ideal S3x512 .f32) (s : Vec Ideal S8x512 .f32) (p q : Fin 512) :
    k0_pay1 (k0_pay6 x1 x2)
      (k0_pay7 x1 x2 (View.ld s (Rect.unit ![0, 0] ![1, 512] inb_S8x512_S1x512_0_0)) (View.ld s (Rect.unit ![1, 0] ![1, 512] inb_S8x512_S1x512_1_0))
        (View.ld x3 (Rect.unit ![0, 0] ![1, 512] inb_S3x512_S1x512_0_0)) (View.ld x3 (Rect.unit ![1, 0] ![1, 512] inb_S3x512_S1x512_1_0)))
      (k0_pay8 (View.ld x3 (Rect.unit ![2, 0] ![1, 512] inb_S3x512_S1x512_2_0))) x0 (ix2 p q)
    = form (x0 (ix2 p q)) (x3 (ix2 (0 : Fin 3) q)) (x3 (ix2 (1 : Fin 3) q)) (x3 (ix2 (2 : Fin 3) q)) (tap x1 x2 s p.val q) (tap x1 x2 s (p.val + 1) q) (tap x1 x2 s (p.val + 2) q) := by
  unfold k0_pay1 k0_pay7 k0_pay6 k0_pay8
  pointwise
  have e0 : ∀ a b : EReal, Scalar.select (IntOp.cmpi .eq (BitVec.ofNat 32 p.val) 0#32) a b = if p.val = 0 then a else b := fun a b => select_small p.val 0 p.isLt (by decide) a b
  have e1 : ∀ a b : EReal, Scalar.select (IntOp.cmpi .eq (BitVec.ofNat 32 p.val) 1#32) a b = if p.val = 1 then a else b := fun a b => select_small p.val 1 p.isLt (by decide) a b
  refine congrArg (fun z : EReal => x0 (ix2 p q) * z) (congrArg₂ (fun a b : EReal => a + b) (congrArg₂ (fun a b : EReal => a + b) (congrArg (fun z : EReal => x3 (ix2 (0 : Fin 3) q) * z) ((e0 _ _).trans ?_)) (congrArg (fun z : EReal => x3 (ix2 (1 : Fin 3) q) * z) ((e0 _ _).trans ?_))) (congrArg (fun z : EReal => x3 (ix2 (2 : Fin 3) q) * z) (tap_product x1 x2 s (p.val + 2) q p rfl).symm))
  · by_cases h0 : p.val = 0
    · refine (if_pos h0).trans ?_
      rw [h0]
      rfl
    · refine (if_neg h0).trans ((e1 _ _).trans ?_)
      by_cases h1 : p.val = 1
      · refine (if_pos h1).trans ?_
        rw [h1]
        rfl
      · exact (if_neg h1).trans (tap_product x1 x2 s p.val q ⟨(p.val + 512 - 2) % 512, Nat.mod_lt _ (by decide)⟩ (by show p.val = (p.val + 512 - 2) % 512 + 2; omega)).symm
  · by_cases h0 : p.val = 0
    · refine (if_pos h0).trans ?_
      rw [h0]
      rfl
    · exact (if_neg h0).trans (tap_product x1 x2 s (p.val + 1) q ⟨(p.val + 512 - 1) % 512, Nat.mod_lt _ (by decide)⟩ (by show p.val + 1 = (p.val + 512 - 1) % 512 + 2; omega)).symm

theorem zero_apply (j : Fin 8) (q : Fin 512) : k0_pay5 (F := Ideal) (ix2 j q) = (0 : EReal) := by
  unfold k0_pay5
  pointwise

theorem tail_apply (x1 x2 : Vec Ideal S512x512 .f32) (j : Fin 2) (q : Fin 512) :
    k0_pay4 (k0_pay6 x1 x2) (ix3 (0 : Fin 1) j q) = last x1 x2 j q := by
  unfold k0_pay4 k0_pay2 k0_pay6
  pointwise
  rfl

theorem kept_apply (x1 x2 : Vec Ideal S512x512 .f32) (j : Fin 2) (q : Fin 512) :
    k0_pay3 (k0_pay6 x1 x2) (ix2 j q) = last x1 x2 j q := by
  unfold k0_pay3 k0_pay2 k0_pay6
  pointwise
  rfl

/-- What a sequence's first point stores of the sums. -/
theorem sums_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : cond0_0 i)
    (x0 x1 x2 : Vec Ideal S512x512 .f32) (x3 : Vec Ideal S3x512 .f32) (p q : Fin 512) :
    out0_A_4 c i arg3 harg3 arg4 harg4 arg5 harg5 arg6 harg6 arg7 harg7 arg8 harg8 arg9 harg9 hc0 x0 x1 x2 x3 (ix2 p q)
    = form (x0 (ix2 p q)) (x3 (ix2 (0 : Fin 3) q)) (x3 (ix2 (1 : Fin 3) q)) (x3 (ix2 (2 : Fin 3) q)) (tap x1 x2 (k0_pay5 (F := Ideal)) p.val q) (tap x1 x2 (k0_pay5 (F := Ideal)) (p.val + 1) q) (tap x1 x2 (k0_pay5 (F := Ideal)) (p.val + 2) q) := by
  have hz : (![0, 0] : Fin 2 → Nat) = fun _ => 0 := by funext a; fin_cases a <;> rfl
  have hz3 : (![0, 0, 0] : Fin 3 → Nat) = fun _ => 0 := by funext a; fin_cases a <;> rfl
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  sl_unfold_words
  simp only [View.readAt_eq_ld, harg3.read_unread, harg4.read_unread, harg5.read_unread, harg6.read_unread, View.ld_unit_zero (S := S512x512) hz]
  rw [View.canon_unit_zero hz]
  rw [View.readCov_eq_canon_ld _ _ _ (View.cover_of_wholeMem _ (by sl_whole_mem)), View.readCov_eq_canon_ld _ _ _ (View.cover_of_wholeMem _ (by sl_whole_mem)), View.canon_unit_zero hz]
  exact pay_apply x0 x1 x2 x3 _ p q

/-- … and of the last two products. -/
theorem tails_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : cond0_0 i)
    (x0 x1 x2 : Vec Ideal S512x512 .f32) (x3 : Vec Ideal S3x512 .f32) (j : Fin 2) (q : Fin 512) :
    out0_A_5 c i arg3 harg3 arg4 harg4 arg5 harg5 arg6 harg6 arg7 harg7 arg8 harg8 arg9 harg9 hc0 x0 x1 x2 x3 (ix3 (0 : Fin 1) j q) = last x1 x2 j q := by
  have hz : (![0, 0] : Fin 2 → Nat) = fun _ => 0 := by funext a; fin_cases a <;> rfl
  have hz3 : (![0, 0, 0] : Fin 3 → Nat) = fun _ => 0 := by funext a; fin_cases a <;> rfl
  unfold out0_A_5
  rw [View.read_writes_eq_canon _ _ _ (cover0_A_5 c i arg3 harg3 arg4 harg4 arg5 harg5 arg6 harg6 arg7 harg7 arg8 harg8 arg9 harg9 hc0 x0 x1 x2 x3)]
  unfold kernelRun0_A
  dsimp only
  sl_unfold_words
  simp only [View.readAt_eq_ld, harg3.read_unread, harg4.read_unread, harg5.read_unread, harg6.read_unread, View.ld_unit_zero (S := S512x512) hz]
  rw [View.canon_unit_zero hz3]
  exact tail_apply x1 x2 j q

/-- … and what it leaves in the carried rows. -/
theorem keeps_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : cond0_0 i)
    (x0 x1 x2 : Vec Ideal S512x512 .f32) (x3 : Vec Ideal S3x512 .f32) (j : Fin 2) (q : Fin 512) :
    sout0_A_0 c i arg3 harg3 arg4 harg4 arg5 harg5 arg6 harg6 arg7 harg7 arg8 harg8 arg9 harg9 hc0 x0 x1 x2 x3 (ix2 (⟨j.val, by omega⟩ : Fin 8) q) = last x1 x2 j q := by
  have hz : (![0, 0] : Fin 2 → Nat) = fun _ => 0 := by funext a; fin_cases a <;> rfl
  have hz3 : (![0, 0, 0] : Fin 3 → Nat) = fun _ => 0 := by funext a; fin_cases a <;> rfl
  unfold sout0_A_0 kernelRun0_A
  dsimp only
  sl_unfold_words
  simp only [View.readAt_eq_ld, harg3.read_unread, harg4.read_unread, harg5.read_unread, harg6.read_unread, View.ld_unit_zero (S := S512x512) hz]
  exact (rows_written _ _ _ _ j q).trans (kept_apply x1 x2 j q)

/-- What a later point stores of the sums. -/
theorem sums_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : ¬cond0_0 i)
    (x0 x1 x2 : Vec Ideal S512x512 .f32) (x3 : Vec Ideal S3x512 .f32) (xs0 : Vec Ideal S8x512 .f32) (p q : Fin 512) :
    out0_B_4 c i arg3 harg3 arg4 harg4 arg5 harg5 arg6 harg6 arg7 harg7 arg8 harg8 arg9 harg9 hc0 x0 x1 x2 x3 xs0 (ix2 p q)
    = form (x0 (ix2 p q)) (x3 (ix2 (0 : Fin 3) q)) (x3 (ix2 (1 : Fin 3) q)) (x3 (ix2 (2 : Fin 3) q)) (tap x1 x2 xs0 p.val q) (tap x1 x2 xs0 (p.val + 1) q) (tap x1 x2 xs0 (p.val + 2) q) := by
  have hz : (![0, 0] : Fin 2 → Nat) = fun _ => 0 := by funext a; fin_cases a <;> rfl
  have hz3 : (![0, 0, 0] : Fin 3 → Nat) = fun _ => 0 := by funext a; fin_cases a <;> rfl
  unfold out0_B_4
  rw [View.read_writes_eq_canon _ _ _ (cover0_B_4 c i arg3 harg3 arg4 harg4 arg5 harg5 arg6 harg6 arg7 harg7 arg8 harg8 arg9 harg9 hc0 x0 x1 x2 x3 xs0)]
  unfold kernelRun0_B
  dsimp only
  sl_unfold_words
  simp only [View.readAt_eq_ld, harg3.read_unread, harg4.read_unread, harg5.read_unread, harg6.read_unread, harg9.read_unread, View.ld_unit_zero (S := S512x512) hz]
  rw [View.canon_unit_zero hz]
  exact pay_apply x0 x1 x2 x3 _ p q

/-- … and of the last two products. -/
theorem tails_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : ¬cond0_0 i)
    (x0 x1 x2 : Vec Ideal S512x512 .f32) (x3 : Vec Ideal S3x512 .f32) (xs0 : Vec Ideal S8x512 .f32) (j : Fin 2) (q : Fin 512) :
    out0_B_5 c i arg3 harg3 arg4 harg4 arg5 harg5 arg6 harg6 arg7 harg7 arg8 harg8 arg9 harg9 hc0 x0 x1 x2 x3 xs0 (ix3 (0 : Fin 1) j q) = last x1 x2 j q := by
  have hz : (![0, 0] : Fin 2 → Nat) = fun _ => 0 := by funext a; fin_cases a <;> rfl
  have hz3 : (![0, 0, 0] : Fin 3 → Nat) = fun _ => 0 := by funext a; fin_cases a <;> rfl
  unfold out0_B_5
  rw [View.read_writes_eq_canon _ _ _ (cover0_B_5 c i arg3 harg3 arg4 harg4 arg5 harg5 arg6 harg6 arg7 harg7 arg8 harg8 arg9 harg9 hc0 x0 x1 x2 x3 xs0)]
  unfold kernelRun0_B
  dsimp only
  sl_unfold_words
  simp only [View.readAt_eq_ld, harg3.read_unread, harg4.read_unread, harg5.read_unread, harg6.read_unread, harg9.read_unread, View.ld_unit_zero (S := S512x512) hz]
  rw [View.canon_unit_zero hz3]
  exact tail_apply x1 x2 j q

/-- … and what it leaves in the carried rows. -/
theorem keeps_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S3x512 .f32) (harg6 : arg6.IsWhole) (arg7 : Memref sig .tc .vmem S512x512 .bf16) (harg7 : arg7.IsWhole) (arg8 : Memref sig .tc .vmem S1x2x512 .f32) (harg8 : arg8.IsWhole) (arg9 : Memref sig .tc .vmem S8x512 .f32) (harg9 : arg9.IsWhole) (hc0 : ¬cond0_0 i)
    (x0 x1 x2 : Vec Ideal S512x512 .f32) (x3 : Vec Ideal S3x512 .f32) (xs0 : Vec Ideal S8x512 .f32) (j : Fin 2) (q : Fin 512) :
    sout0_B_0 c i arg3 harg3 arg4 harg4 arg5 harg5 arg6 harg6 arg7 harg7 arg8 harg8 arg9 harg9 hc0 x0 x1 x2 x3 xs0 (ix2 (⟨j.val, by omega⟩ : Fin 8) q) = last x1 x2 j q := by
  have hz : (![0, 0] : Fin 2 → Nat) = fun _ => 0 := by funext a; fin_cases a <;> rfl
  have hz3 : (![0, 0, 0] : Fin 3 → Nat) = fun _ => 0 := by funext a; fin_cases a <;> rfl
  unfold sout0_B_0 kernelRun0_B
  dsimp only
  sl_unfold_words
  simp only [View.readAt_eq_ld, harg3.read_unread, harg4.read_unread, harg5.read_unread, harg6.read_unread, harg9.read_unread, View.ld_unit_zero (S := S512x512) hz]
  exact (rows_written _ _ _ _ j q).trans (kept_apply x1 x2 j q)

end Block

variable (m : (ℓ : Loc nD τ sig) → Buf (Elt Ideal) ℓ) (c : Dev nD)

/-- The arguments, and the arrays as the kernel's windows see them. -/
abbrev argH : S8704x17408.Idx → EReal := m ((c : Thread nD τ).loc main_arg0)
abbrev argW : S3x2048.Idx → EReal := m ((c : Thread nD τ).loc main_arg1)
abbrev arr0 : S8704x17408.Idx → EReal := V m c (Pipeline.arrRef spec0 0)
abbrev arr1 : S8704x17408.Idx → EReal := V m c (Pipeline.arrRef spec0 1)
abbrev arr2 : S8704x17408.Idx → EReal := V m c (Pipeline.arrRef spec0 2)
abbrev arr3 : S3x2048.Idx → EReal := V m c (Pipeline.arrRef spec0 3)

/-- The tiles of the second and third column group a point takes. -/
abbrev tileB (t : Fin cfg0.N) : S512x512.Idx → EReal := iblk m c 1 t
abbrev tileC (t : Fin cfg0.N) : S512x512.Idx → EReal := iblk m c 2 t

theorem index0 : ∀ t : Fin cfg0.N,
    (cc0_transform_0 (grid0.coords t) 0 = t.val / 16 * 4 + t.val % 4 ∧ cc0_transform_0 (grid0.coords t) 1 = t.val / 4 % 4)
    ∧ (cc0_transform_1 (grid0.coords t) 0 = t.val / 16 * 4 + t.val % 4 ∧ cc0_transform_1 (grid0.coords t) 1 = 4 + t.val / 4 % 4)
    ∧ (cc0_transform_2 (grid0.coords t) 0 = t.val / 16 * 4 + t.val % 4 ∧ cc0_transform_2 (grid0.coords t) 1 = 8 + t.val / 4 % 4)
    ∧ (cc0_transform_3 (grid0.coords t) 0 = 0 ∧ cc0_transform_3 (grid0.coords t) 1 = t.val / 4 % 4)
    ∧ (cc0_transform_4 (grid0.coords t) 0 = t.val / 16 * 4 + t.val % 4 ∧ cc0_transform_4 (grid0.coords t) 1 = t.val / 4 % 4)
    ∧ (cc0_transform_5 (grid0.coords t) 0 = t.val / 16 ∧ cc0_transform_5 (grid0.coords t) 1 = 0 ∧ cc0_transform_5 (grid0.coords t) 2 = t.val / 4 % 4) := by
  decide +kernel

theorem lt64 (t : Fin cfg0.N) : t.val < 64 := lt_of_lt_of_eq t.isLt N_0

theorem iblk0 (t : Fin cfg0.N) (p q : Fin 512) (row : Fin 8192) (col : Fin 2048) (hr : row.val = (t.val / 16 * 4 + t.val % 4) * 512 + p.val) (hc : col.val = t.val / 4 % 4 * 512 + q.val) :
    iblk m c 0 t (ix2 p q : S512x512.Idx) = argH m c (ix2 (⟨row.val, by omega⟩ : Fin 8704) (⟨0 + col.val, by omega⟩ : Fin 17408)) := by
  unfold iblk
  rw [View.read_apply]
  refine Eq.trans (congrArg (arr0 m c) ((eq_ix2 _).trans (congrArg₂ ix2 (Fin.ext ?_) (Fin.ext ?_)))) (congrFun (V_main_arg0 m c) _)
  · show cc0_transform_0 (grid0.coords t) 0 * 512 + 1 * p.val = row.val
    rw [(index0 t).1.1]
    omega
  · show cc0_transform_0 (grid0.coords t) 1 * 512 + 1 * q.val = 0 + col.val
    rw [(index0 t).1.2]
    omega

theorem iblk1 (t : Fin cfg0.N) (p q : Fin 512) (row : Fin 8192) (col : Fin 2048) (hr : row.val = (t.val / 16 * 4 + t.val % 4) * 512 + p.val) (hc : col.val = t.val / 4 % 4 * 512 + q.val) :
    iblk m c 1 t (ix2 p q : S512x512.Idx) = argH m c (ix2 (⟨row.val, by omega⟩ : Fin 8704) (⟨2048 + col.val, by omega⟩ : Fin 17408)) := by
  unfold iblk
  rw [View.read_apply]
  refine Eq.trans (congrArg (arr1 m c) ((eq_ix2 _).trans (congrArg₂ ix2 (Fin.ext ?_) (Fin.ext ?_)))) (congrFun (V_main_arg0 m c) _)
  · show cc0_transform_1 (grid0.coords t) 0 * 512 + 1 * p.val = row.val
    rw [(index0 t).2.1.1]
    omega
  · show cc0_transform_1 (grid0.coords t) 1 * 512 + 1 * q.val = 2048 + col.val
    rw [(index0 t).2.1.2]
    omega

theorem iblk2 (t : Fin cfg0.N) (p q : Fin 512) (row : Fin 8192) (col : Fin 2048) (hr : row.val = (t.val / 16 * 4 + t.val % 4) * 512 + p.val) (hc : col.val = t.val / 4 % 4 * 512 + q.val) :
    iblk m c 2 t (ix2 p q : S512x512.Idx) = argH m c (ix2 (⟨row.val, by omega⟩ : Fin 8704) (⟨4096 + col.val, by omega⟩ : Fin 17408)) := by
  unfold iblk
  rw [View.read_apply]
  refine Eq.trans (congrArg (arr2 m c) ((eq_ix2 _).trans (congrArg₂ ix2 (Fin.ext ?_) (Fin.ext ?_)))) (congrFun (V_main_arg0 m c) _)
  · show cc0_transform_2 (grid0.coords t) 0 * 512 + 1 * p.val = row.val
    rw [(index0 t).2.2.1.1]
    omega
  · show cc0_transform_2 (grid0.coords t) 1 * 512 + 1 * q.val = 4096 + col.val
    rw [(index0 t).2.2.1.2]
    omega

theorem iblk3 (t : Fin cfg0.N) (r : Fin 3) (q : Fin 512) (col : Fin 2048) (hc : col.val = t.val / 4 % 4 * 512 + q.val) :
    iblk m c 3 t (ix2 r q : S3x512.Idx) = argW m c (ix2 r col) := by
  unfold iblk
  rw [View.read_apply]
  refine Eq.trans (congrArg (arr3 m c) ((eq_ix2 _).trans (congrArg₂ ix2 (Fin.ext ?_) (Fin.ext ?_)))) (congrFun (V_main_arg1 m c) _)
  · show cc0_transform_3 (grid0.coords t) 0 * 3 + 1 * r.val = r.val
    rw [(index0 t).2.2.2.1.1]
    omega
  · show cc0_transform_3 (grid0.coords t) 1 * 512 + 1 * q.val = col.val
    rw [(index0 t).2.2.2.1.2]
    omega

/-- What a point leaves in the carried rows: its last two products. -/
theorem carried (t : Fin cfg0.N) (j : Fin 2) (q : Fin 512) :
    (outsAt0 m c t.val t.isLt).2.2 (ix2 (⟨j.val, by omega⟩ : Fin 8) q)
      = last (tileB m c t) (tileC m c t) j q := by
  by_cases h0 : t.val % 4 = 0
  · have e : (outsAt0 m c t.val t.isLt).2.2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) := by
      rw [outsAt0_A m c t h0]
    rw [e]
    exact keeps_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) j q
  · have e : (outsAt0 m c t.val t.isLt).2.2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 := by
      rw [outsAt0_B m c t h0]
    rw [e]
    exact keeps_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 j q

/-- What a point writes back of the last two products. -/
theorem tails (t : Fin cfg0.N) (j : Fin 2) (q : Fin 512) :
    (outsAt0 m c t.val t.isLt).2.1 (ix3 (0 : Fin 1) j q)
      = last (tileB m c t) (tileC m c t) j q := by
  by_cases h0 : t.val % 4 = 0
  · have e : (outsAt0 m c t.val t.isLt).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) := by
      rw [outsAt0_A m c t h0]
    rw [e]
    exact tails_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) j q
  · have e : (outsAt0 m c t.val t.isLt).2.1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 := by
      rw [outsAt0_B m c t h0]
    rw [e]
    exact tails_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 j q

end Cert.Kernel4Ideal.Conv

namespace Cert.ConvPrompt
open Idealize.ShloMosaic Cert.Kernel4Ideal

/-- The tap `j` of a sequence's column, of the arguments: two zero rows first, then the products. -/
def tapOf (h : S8704x17408.Idx → EReal) (b : Fin 4) (j : ℕ) (col : Fin 2048) : EReal :=
  if j < 2 then 0
  else if h' : j - 2 < 2048 then
    h (ix2 (⟨b.val * 2048 + (j - 2), by omega⟩ : Fin 8704) (⟨2048 + col.val, by omega⟩ : Fin 17408))
      * h (ix2 (⟨b.val * 2048 + (j - 2), by omega⟩ : Fin 8704) (⟨4096 + col.val, by omega⟩ : Fin 17408))
  else 0

theorem tapOf_zero (h : S8704x17408.Idx → EReal) (b : Fin 4) (j : ℕ) (col : Fin 2048) (hj : j < 2) : tapOf h b j col = 0 := if_pos hj

theorem tapOf_product (h : S8704x17408.Idx → EReal) (b : Fin 4) (j : ℕ) (col : Fin 2048) (row : Fin 8192) (hj : 2 ≤ j) (hs : j - 2 < 2048) (hr : row.val = b.val * 2048 + (j - 2)) :
    tapOf h b j col = h (ix2 (⟨row.val, by omega⟩ : Fin 8704) (⟨2048 + col.val, by omega⟩ : Fin 17408)) * h (ix2 (⟨row.val, by omega⟩ : Fin 8704) (⟨4096 + col.val, by omega⟩ : Fin 17408)) := by
  unfold tapOf
  rw [if_neg (by omega), dif_pos hs]
  exact congrArg₂ (fun a b : EReal => a * b) (congrArg h (congrArg₂ ix2 (Fin.ext hr.symm) rfl)) (congrArg h (congrArg₂ ix2 (Fin.ext hr.symm) rfl))

end Cert.ConvPrompt

namespace Cert.Kernel4Ideal.Conv
open Cert.ConvPrompt Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (c : Dev nD)

/-- A product of a tile, as a tap of the arguments. -/
theorem product_eq (t : Fin cfg0.N) (p q : Fin 512) (b : Fin 4) (j : ℕ) (col : Fin 2048) (hb : b.val = t.val / 16) (hj : j = t.val % 4 * 512 + p.val + 2) (hc : col.val = t.val / 4 % 4 * 512 + q.val) :
    tileB m c t (ix2 p q) * tileC m c t (ix2 p q) = tapOf (argH m c) b j col := by
  have ht := lt64 t
  obtain ⟨row, hr⟩ : ∃ row : Fin 8192, row.val = (t.val / 16 * 4 + t.val % 4) * 512 + p.val := ⟨⟨(t.val / 16 * 4 + t.val % 4) * 512 + p.val, by omega⟩, rfl⟩
  refine (congrArg₂ (fun a b : EReal => a * b) (iblk1 m c t p q row col hr hc) (iblk2 m c t p q row col hr hc)).trans ?_
  exact (tapOf_product (argH m c) b j col row (by omega) (by omega) (by omega)).symm

/-- What a point writes back of the sums. -/
theorem sums (t : Fin cfg0.N) (p q : Fin 512) (b : Fin 4) (s : ℕ) (row : Fin 8192) (col : Fin 2048) (hb : b.val = t.val / 16) (hs : s = t.val % 4 * 512 + p.val) (hr : row.val = b.val * 2048 + s) (hc : col.val = t.val / 4 % 4 * 512 + q.val) :
    (outsAt0 m c t.val t.isLt).1 (ix2 p q)
      = form (argH m c (ix2 (⟨row.val, by omega⟩ : Fin 8704) (⟨col.val, by omega⟩ : Fin 17408))) (argW m c (ix2 (0 : Fin 3) col)) (argW m c (ix2 (1 : Fin 3) col)) (argW m c (ix2 (2 : Fin 3) col))
        (tapOf (argH m c) b s col) (tapOf (argH m c) b (s + 1) col) (tapOf (argH m c) b (s + 2) col) := by
  have ht := lt64 t
  have key : ∀ st : Vec Ideal S8x512 .f32, (∀ j : Fin 2, (st (ix2 (⟨j.val, by omega⟩ : Fin 8) q) : EReal) = tapOf (argH m c) b (t.val % 4 * 512 + j.val) col) →
      ∀ j : ℕ, j < 514 → tap (tileB m c t) (tileC m c t) st j q = tapOf (argH m c) b (t.val % 4 * 512 + j) col := by
    intro st h j hj
    by_cases h2 : j < 2
    · unfold tap
      rw [dif_pos h2]
      exact h ⟨j, h2⟩
    · rw [tap_product _ _ _ j q ⟨j - 2, by omega⟩ (by show j = j - 2 + 2; omega)]
      exact product_eq m c t _ q b _ col hb (by show t.val % 4 * 512 + j = t.val % 4 * 512 + (j - 2) + 2; omega) hc
  have e0 : iblk m c 0 t (ix2 p q : S512x512.Idx) = argH m c (ix2 (⟨row.val, by omega⟩ : Fin 8704) (⟨col.val, by omega⟩ : Fin 17408)) :=
    (iblk0 m c t p q row col (by omega) hc).trans (congrArg (argH m c) (congrArg₂ ix2 rfl (Fin.ext (Nat.zero_add _))))
  by_cases h0 : t.val % 4 = 0
  · have e : (outsAt0 m c t.val t.isLt).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) := by
      rw [outsAt0_A m c t h0]
    rw [e]
    refine (sums_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) p q).trans ?_
    have kz := key (k0_pay5 (F := Ideal)) fun j => (zero_apply _ q).trans (tapOf_zero _ _ _ _ (by omega)).symm
    rw [kz p.val (by omega), kz (p.val + 1) (by omega), kz (p.val + 2) (by omega), e0, iblk3 m c t 0 q col hc, iblk3 m c t 1 q col hc, iblk3 m c t 2 q col hc, ← Nat.add_assoc, ← Nat.add_assoc, ← hs]
  · have e : (outsAt0 m c t.val t.isLt).1 = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 := by
      rw [outsAt0_B m c t h0]
    rw [e]
    refine (sums_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 p q).trans ?_
    have kz := key (outsAt0 m c (t.val - 1) (Nat.lt_of_le_of_lt (Nat.sub_le _ _) t.isLt)).2.2 fun j =>
      (carried m c ⟨t.val - 1, Nat.lt_of_le_of_lt (Nat.sub_le _ _) t.isLt⟩ j q).trans
        (product_eq m c ⟨t.val - 1, Nat.lt_of_le_of_lt (Nat.sub_le _ _) t.isLt⟩ _ q b _ col (by show b.val = (t.val - 1) / 16; omega)
          (by show t.val % 4 * 512 + j.val = (t.val - 1) % 4 * 512 + (510 + j.val) + 2; omega) (by show col.val = (t.val - 1) / 4 % 4 * 512 + q.val; omega))
    rw [kz p.val (by omega), kz (p.val + 1) (by omega), kz (p.val + 2) (by omega), e0, iblk3 m c t 0 q col hc, iblk3 m c t 1 q col hc, iblk3 m c t 2 q col hc, ← Nat.add_assoc, ← Nat.add_assoc, ← hs]

/-- The kernel's first array. -/
theorem array_conv (row : Fin 8192) (col : Fin 2048) :
    (dats m 0 c).arrAt 4 cfg0.N (ix2 row col : S8192x2048.Idx)
      = form (argH m c (ix2 (⟨row.val, by omega⟩ : Fin 8704) (⟨col.val, by omega⟩ : Fin 17408))) (argW m c (ix2 (0 : Fin 3) col)) (argW m c (ix2 (1 : Fin 3) col)) (argW m c (ix2 (2 : Fin 3) col))
        (tapOf (argH m c) ⟨row.val / 2048, by omega⟩ (row.val % 2048) col) (tapOf (argH m c) ⟨row.val / 2048, by omega⟩ (row.val % 2048 + 1) col) (tapOf (argH m c) ⟨row.val / 2048, by omega⟩ (row.val % 2048 + 2) col) := by
  have hN : cfg0.N = 64 := N_0
  obtain ⟨t, ht⟩ : ∃ t : Fin cfg0.N, t.val = row.val / 2048 * 16 + col.val / 512 * 4 + row.val % 2048 / 512 := ⟨⟨row.val / 2048 * 16 + col.val / 512 * 4 + row.val % 2048 / 512, by omega⟩, rfl⟩
  obtain ⟨p, hp⟩ : ∃ p : Fin 512, p.val = row.val % 512 := ⟨⟨row.val % 512, by omega⟩, rfl⟩
  obtain ⟨q, hq⟩ : ∃ q : Fin 512, q.val = col.val % 512 := ⟨⟨col.val % 512, by omega⟩, rfl⟩
  have t1 : t.val / 16 = row.val / 2048 := by omega
  have t2 : t.val / 4 % 4 = col.val / 512 := by omega
  have t3 : t.val % 4 = row.val % 2048 / 512 := by omega
  have hb := congrFun (blocks4 m c t (flush0_4 t)) (ix2 p q : S512x512.Idx)
  rw [View.read_apply, flushed4] at hb
  refine Eq.trans (congrArg ((dats m 0 c).arrAt 4 cfg0.N) ?_) (hb.trans (sums m c t p q ⟨row.val / 2048, by omega⟩ (row.val % 2048) row col t1.symm (by omega) (by show row.val = row.val / 2048 * 2048 + row.val % 2048; omega) (by omega)))
  refine Eq.trans (congrArg₂ ix2 (Fin.ext ?_) (Fin.ext ?_)) (eq_ix2 _).symm
  · show row.val = cc0_transform_4 (grid0.coords t) 0 * 512 + 1 * p.val
    rw [(index0 t).2.2.2.2.1.1]
    omega
  · show col.val = cc0_transform_4 (grid0.coords t) 1 * 512 + 1 * q.val
    rw [(index0 t).2.2.2.2.1.2]
    omega

theorem idx_inj5 : ∀ t t' : Fin cfg0.N, t.val % 4 = 3 → t'.val % 4 = 3 → win0_5.index t = win0_5.index t' → t = t' :=
  (by decide +kernel : ∀ t t' : Fin grid0.N, t.val % 4 = 3 → t'.val % 4 = 3 → win0_5.index t = win0_5.index t' → t = t')

/-- The points that write back the last two products write disjoint blocks. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' h h' hne => (cfg0.win 5).disjoint_blk fun e => hne (idx_inj5 t t' ((flush0_5 t).mp h) ((flush0_5 t').mp h') e)

/-- The kernel's second array: each sequence's last two products. -/
theorem array_tail (b : Fin 4) (j : Fin 2) (col : Fin 2048) :
    (dats m 0 c).arrAt 5 cfg0.N (ix3 b j col : S4x2x2048.Idx) = tapOf (argH m c) b (2048 + j.val) col := by
  have hN : cfg0.N = 64 := N_0
  obtain ⟨t, ht⟩ : ∃ t : Fin cfg0.N, t.val = b.val * 16 + col.val / 512 * 4 + 3 := ⟨⟨b.val * 16 + col.val / 512 * 4 + 3, by omega⟩, rfl⟩
  obtain ⟨q, hq⟩ : ∃ q : Fin 512, q.val = col.val % 512 := ⟨⟨col.val % 512, by omega⟩, rfl⟩
  have t1 : t.val / 16 = b.val := by omega
  have t2 : t.val / 4 % 4 = col.val / 512 := by omega
  have t3 : t.val % 4 = 3 := by omega
  have hb := congrFun ((dats m 0 c).read_blk_arrAt_eq_flushed 5 disjoint5 cfg0.N t t.isLt ((flush0_5 t).mpr t3)) (ix3 (0 : Fin 1) j q : S1x2x512.Idx)
  rw [View.read_apply, flushed5] at hb
  refine Eq.trans (congrArg ((dats m 0 c).arrAt 5 cfg0.N) ?_) (hb.trans ((tails m c t j q).trans (product_eq m c t _ q b _ col t1.symm (by show 2048 + j.val = t.val % 4 * 512 + (510 + j.val) + 2; omega) (by omega))))
  refine Eq.trans ?_ (eq_ix3 _).symm
  have h0 : b.val = cc0_transform_5 (grid0.coords t) 0 * 1 + 1 * (0 : Fin 1).val := by rw [(index0 t).2.2.2.2.2.1]; show b.val = t.val / 16 * 1 + 1 * 0; omega
  have h1 : j.val = cc0_transform_5 (grid0.coords t) 1 * 2 + 1 * j.val := by rw [(index0 t).2.2.2.2.2.2.1]; omega
  have h2 : col.val = cc0_transform_5 (grid0.coords t) 2 * 512 + 1 * q.val := by rw [(index0 t).2.2.2.2.2.2.2]; omega
  exact (congrArg (fun d : Fin 2048 => ix3 b j d) (Fin.ext h2)).trans (congrArg₂ (fun (a : Fin 4) (d : Fin 2) => ix3 a d _) (Fin.ext h0) (Fin.ext h1))

end Cert.Kernel4Ideal.Conv

namespace Cert.Reference4Ideal.Conv
open Cert.ConvPrompt Cert.Reference4Ideal Cert.Reference4Ideal.Gen Cert.Reference4Ideal.Read Idealize.ShloMosaic Idealize.ShloMosaic.TcCoe Idealize.SL.Sem

variable (h : S8704x17408.Idx → EReal) (w : S3x2048.Idx → EReal)

theorem row_apply (b : Fin 4) (i : Fin 2048) (col : Fin 17408) (row : Fin 8192) (hr : row.val = b.val * 2048 + i.val) : val_main_v1 (F := Ideal) h (ix3 b i col) = h (ix2 (⟨row.val, by omega⟩ : Fin 8704) col) := by
  rw [val_main_v1_apply, val_main_v0_apply]
  refine congrArg h ((eq_ix2 _).trans (congrArg₂ ix2 (Fin.ext ?_) (Fin.ext ?_)))
  · show ((b.val * 2048 + i.val) * 17408 + col.val) / 17408 = row.val
    omega
  · show ((b.val * 2048 + i.val) * 17408 + col.val) % 17408 = col.val
    omega

theorem product_apply (b : Fin 4) (i : Fin 2048) (col : Fin 2048) (row : Fin 8192) (hr : row.val = b.val * 2048 + i.val) : val_main_v10 (F := Ideal) h (ix3 b i col)
    = h (ix2 (⟨row.val, by omega⟩ : Fin 8704) (⟨2048 + col.val, by omega⟩ : Fin 17408)) * h (ix2 (⟨row.val, by omega⟩ : Fin 8704) (⟨4096 + col.val, by omega⟩ : Fin 17408)) := by
  rw [val_main_v10_apply, val_main_v3_apply, val_main_v4_apply]
  exact congrArg₂ (fun a b : EReal => a * b) (Eq.trans (congrArg (val_main_v1 (F := Ideal) h) (eq_ix3 _)) (row_apply h b i _ row hr)) (Eq.trans (congrArg (val_main_v1 (F := Ideal) h) (eq_ix3 _)) (row_apply h b i _ row hr))

theorem stacked_apply (b : Fin 4) (j : Fin 2050) (col : Fin 2048) : val_main_v12 (F := Ideal) h (ix3 b j col) = tapOf h b j.val col := by
  unfold val_main_v12
  pointwise
  split
  next h2 =>
    rw [tapOf_zero _ _ _ _ h2]
    try rw [val_main_v11_apply, val_main_cst_apply]
    try exact Ideal.ofBits_zero_f32
  next h2 =>
    have hj := j.isLt
    rw [tapOf_product h b j.val col ⟨b.val * 2048 + (j.val - 2), by omega⟩ (by omega) (by omega) rfl]
    exact product_apply h b _ col _ rfl

theorem weight0_apply (b : Fin 4) (i : Fin 2048) (col : Fin 2048) : val_main_v17 (F := Ideal) w (ix3 b i col) = w (ix2 (0 : Fin 3) col) := by
  rw [val_main_v17_apply, val_main_v16_apply, val_main_v14_apply, val_main_v13_apply]
  exact congrArg w ((eq_ix2 _).trans (congrArg₂ ix2 (Fin.ext rfl) (Fin.ext (Nat.mod_eq_of_lt col.isLt))))

theorem weight1_apply (b : Fin 4) (i : Fin 2048) (col : Fin 2048) : val_main_v25 (F := Ideal) w (ix3 b i col) = w (ix2 (1 : Fin 3) col) := by
  rw [val_main_v25_apply, val_main_v24_apply, val_main_v22_apply, val_main_v21_apply]
  exact congrArg w ((eq_ix2 _).trans (congrArg₂ ix2 (Fin.ext rfl) (Fin.ext (Nat.mod_eq_of_lt col.isLt))))

theorem weight2_apply (b : Fin 4) (i : Fin 2048) (col : Fin 2048) : val_main_v32 (F := Ideal) w (ix3 b i col) = w (ix2 (2 : Fin 3) col) := by
  rw [val_main_v32_apply, val_main_v31_apply, val_main_v29_apply, val_main_v28_apply]
  exact congrArg w ((eq_ix2 _).trans (congrArg₂ ix2 (Fin.ext rfl) (Fin.ext (Nat.mod_eq_of_lt col.isLt))))

/-- The reference's gated sums, by sequence and position. -/
theorem sum_apply (b : Fin 4) (i : Fin 2048) (col : Fin 2048) (row : Fin 8192) (hr : row.val = b.val * 2048 + i.val) : val_main_v36 (F := Ideal) h w (ix3 b i col)
    = form (h (ix2 (⟨row.val, by omega⟩ : Fin 8704) (⟨col.val, by omega⟩ : Fin 17408))) (w (ix2 (0 : Fin 3) col)) (w (ix2 (1 : Fin 3) col)) (w (ix2 (2 : Fin 3) col))
      (tapOf h b i.val col) (tapOf h b (i.val + 1) col) (tapOf h b (i.val + 2) col) := by
  have e0 : val_main_v15 (F := Ideal) h (ix3 b i col) = tapOf h b i.val col := by
    rw [val_main_v15_apply]
    exact (congrArg (val_main_v12 (F := Ideal) h) (eq_ix3 _)).trans (stacked_apply h b ⟨i.val, by omega⟩ col)
  have e1 : val_main_v23 (F := Ideal) h (ix3 b i col) = tapOf h b (i.val + 1) col := by
    rw [val_main_v23_apply, Nat.add_comm i.val 1]
    exact (congrArg (val_main_v12 (F := Ideal) h) (eq_ix3 _)).trans (stacked_apply h b ⟨1 + i.val, by omega⟩ col)
  have e2 : val_main_v30 (F := Ideal) h (ix3 b i col) = tapOf h b (i.val + 2) col := by
    rw [val_main_v30_apply, Nat.add_comm i.val 2]
    exact (congrArg (val_main_v12 (F := Ideal) h) (eq_ix3 _)).trans (stacked_apply h b ⟨2 + i.val, by omega⟩ col)
  have e3 : val_main_v2 (F := Ideal) h (ix3 b i col) = h (ix2 (⟨row.val, by omega⟩ : Fin 8704) (⟨col.val, by omega⟩ : Fin 17408)) := by
    rw [val_main_v2_apply]
    exact (congrArg (val_main_v1 (F := Ideal) h) (eq_ix3 _)).trans (row_apply h b i _ row hr)
  have e4 : val_main_v19 (F := Ideal) (ix3 b i col) = (0 : EReal) := by
    rw [val_main_v19_apply, val_main_cst_0_apply]
    exact Ideal.ofBits_zero_f32
  rw [val_main_v36_apply, val_main_v34_apply, val_main_v27_apply, val_main_v20_apply, val_main_v18_apply, val_main_v26_apply, val_main_v33_apply, e0, e1, e2, e3, e4, weight0_apply, weight1_apply, weight2_apply]
  show (_ : EReal) * (0 + _ + _ + _) = _
  rw [zero_add]
  rfl

/-- The reference's first array. -/
theorem conv_apply (row : Fin 8192) (col : Fin 2048) : val_main_v38 (F := Ideal) h w (ix2 row col)
    = form (h (ix2 (⟨row.val, by omega⟩ : Fin 8704) (⟨col.val, by omega⟩ : Fin 17408))) (w (ix2 (0 : Fin 3) col)) (w (ix2 (1 : Fin 3) col)) (w (ix2 (2 : Fin 3) col))
      (tapOf h ⟨row.val / 2048, by omega⟩ (row.val % 2048) col) (tapOf h ⟨row.val / 2048, by omega⟩ (row.val % 2048 + 1) col) (tapOf h ⟨row.val / 2048, by omega⟩ (row.val % 2048 + 2) col) := by
  rw [val_main_v38_apply, val_main_v37_apply]
  have e : idx_main_v37 (ix2 row col) = ix3 (⟨row.val / 2048, by omega⟩ : Fin 4) (⟨row.val % 2048, Nat.mod_lt _ (by decide)⟩ : Fin 2048) col := by
    have h0 : (row.val * 2048 + col.val) / 4194304 = row.val / 2048 := by omega
    have h1 : (row.val * 2048 + col.val) / 2048 % 2048 = row.val % 2048 := by omega
    have h2 : (row.val * 2048 + col.val) % 2048 = col.val := by omega
    refine (eq_ix3 _).trans ?_
    exact (congrArg₂ (fun (a : Fin 4) (d : Fin 2048) => ix3 a d _) (Fin.ext h0) (Fin.ext h1)).trans (congrArg (fun d : Fin 2048 => ix3 _ _ d) (Fin.ext h2))
  rw [e]
  exact sum_apply h w _ _ col row (by show row.val = row.val / 2048 * 2048 + row.val % 2048; omega)

/-- The reference's second array. -/
theorem tail_apply (b : Fin 4) (j : Fin 2) (col : Fin 2048) : val_main_v35 (F := Ideal) h (ix3 b j col) = tapOf h b (2048 + j.val) col := by
  rw [val_main_v35_apply]
  exact (congrArg (val_main_v12 (F := Ideal) h) (eq_ix3 _)).trans (stacked_apply h b ⟨2048 + j.val, by omega⟩ col)

end Cert.Reference4Ideal.Conv

namespace Cert.ConvPrompt
open Idealize.ShloMosaic Idealize.ShloMosaic.TcCoe Idealize.SL.Sem

variable (m : (ℓ : Loc Kernel4Ideal.nD Kernel4Ideal.τ Kernel4Ideal.sig) → Buf (Elt Ideal) ℓ) (c : Dev Kernel4Ideal.nD)

/-- The kernel's first array is the reference's first array of the same arguments. -/
theorem equation : (Kernel4Ideal.Gen.dats m 0 c).arrAt 4 Kernel4Ideal.cfg0.N
    = Reference4Ideal.Read.val_main_v38 (F := Ideal) (Kernel4Ideal.Conv.argH m c) (Kernel4Ideal.Conv.argW m c) := by
  funext y
  rw [show y = ix2 (y 0 : Fin 8192) (y 1 : Fin 2048) from eq_ix2 y]
  exact (Kernel4Ideal.Conv.array_conv m c _ _).trans (Reference4Ideal.Conv.conv_apply _ _ _ _).symm

/-- The kernel's second array is the reference's second array of the same arguments. -/
theorem equation_tail : (Kernel4Ideal.Gen.dats m 0 c).arrAt 5 Kernel4Ideal.cfg0.N
    = Reference4Ideal.Read.val_main_v35 (F := Ideal) (Kernel4Ideal.Conv.argH m c) := by
  funext y
  rw [show y = ix3 (y 0 : Fin 4) (y 1 : Fin 2) (y 2 : Fin 2048) from eq_ix3 y]
  exact (Kernel4Ideal.Conv.array_tail m c _ _ _).trans (Reference4Ideal.Conv.tail_apply _ _ _ _).symm

end Cert.ConvPrompt
end
-- ==== Proof.ConvSample.lean ====
/-
  The sample's short convolution: the kernel's two arrays are the reference's.

  The kernel keeps the sample's rows step by step; a point computes 512 columns of all four steps. Step `s` of sequence `b`
  takes the products at steps `s - 2`, `s - 1` and `s`, of which the first two steps' come from the carried state (`tap`).
-/
module

public import proofs.«01_k».proof.Proof.Gen.Kernel5Ideal.Value
public import proofs.«01_k».proof.Proof.Gen.Reference5Ideal.Read
public import Idealize.ShloMosaic.Lib.Tactic
public import Idealize.ShloMosaic.Lib.Pointwise
public import Idealize.ShloMosaic.Lib.IdealHost

@[expose] public section
set_option maxRecDepth 16384
noncomputable section

namespace Cert.ConvSample
open Idealize.ShloMosaic

/-- The gated three-tap sum. -/
def form (a w0 w1 w2 u0 u1 u2 : EReal) : EReal := a * (w0 * u0 + w1 * u1 + w2 * u2)

end Cert.ConvSample

namespace Cert.Kernel5Ideal.Conv
open Cert.ConvSample Cert.Kernel5Ideal Cert.Kernel5Ideal.Gen Cert.Kernel5Ideal.Value Idealize.ShloMosaic Idealize.ShloMosaic.TcCoe Idealize.SL.Sem

section Block
variable (x0 x1 x2 : S512x512.Idx → EReal) (x3 : S2x128x512.Idx → EReal) (x4 : S3x512.Idx → EReal)

/-- The tap `j` of a block's column: the carried rows first, then the products. -/
def tap (j : ℕ) (b : Fin 128) (q : Fin 512) : EReal :=
  if h : j < 2 then x3 (ix3 (⟨j, h⟩ : Fin 2) b q)
  else if h' : j - 2 < 4 then x1 (ix2 (⟨(j - 2) * 128 + b.val, by omega⟩ : Fin 512) q) * x2 (ix2 (⟨(j - 2) * 128 + b.val, by omega⟩ : Fin 512) q) else 0

theorem tap_state (j : ℕ) (h : j < 2) (b : Fin 128) (q : Fin 512) : tap x1 x2 x3 j b q = x3 (ix3 (⟨j, h⟩ : Fin 2) b q) := dif_pos h

theorem tap_product (s : ℕ) (hs : s < 4) (b : Fin 128) (q : Fin 512) (i : Fin 512) (hi : i.val = s * 128 + b.val) :
    tap x1 x2 x3 (s + 2) b q = x1 (ix2 i q) * x2 (ix2 i q) := by
  obtain ⟨i, hlt⟩ := i
  obtain rfl : i = s * 128 + b.val := hi
  unfold tap
  rw [dif_neg (by omega : ¬s + 2 < 2), dif_pos (by omega : s + 2 - 2 < 4)]
  rfl

/-- One entry of the block: the gate times the three taps. -/
def entry (y : S512x512.Idx) : EReal :=
  form (x0 y) (x4 (ix2 (0 : Fin 3) (y 1 : Fin 512))) (x4 (ix2 (1 : Fin 3) (y 1 : Fin 512))) (x4 (ix2 (2 : Fin 3) (y 1 : Fin 512)))
    (tap x1 x2 x3 ((y 0 : Fin 512).val / 128) ⟨(y 0 : Fin 512).val % 128, Nat.mod_lt _ (by decide)⟩ (y 1))
    (tap x1 x2 x3 ((y 0 : Fin 512).val / 128 + 1) ⟨(y 0 : Fin 512).val % 128, Nat.mod_lt _ (by decide)⟩ (y 1))
    (tap x1 x2 x3 ((y 0 : Fin 512).val / 128 + 2) ⟨(y 0 : Fin 512).val % 128, Nat.mod_lt _ (by decide)⟩ (y 1))

theorem entry_at (s : ℕ) (hs : s < 4) (p : Fin 128) (q : Fin 512) (y : S512x512.Idx) (h0 : (y 0 : Fin 512).val = s * 128 + p.val) (h1 : (y 1 : Fin 512) = q) :
    entry x0 x1 x2 x3 x4 y = form (x0 y) (x4 (ix2 (0 : Fin 3) q)) (x4 (ix2 (1 : Fin 3) q)) (x4 (ix2 (2 : Fin 3) q))
      (tap x1 x2 x3 s p q) (tap x1 x2 x3 (s + 1) p q) (tap x1 x2 x3 (s + 2) p q) := by
  have e : (y 0 : Fin 512).val / 128 = s := by omega
  have e' : (⟨(y 0 : Fin 512).val % 128, Nat.mod_lt _ (by decide)⟩ : Fin 128) = p := Fin.ext (by show (y 0 : Fin 512).val % 128 = p.val; omega)
  unfold entry
  rw [e, e', h1]

theorem step0 (x0 x1 x2 : Vec Ideal S512x512 .f32) (x3 : Vec Ideal S2x128x512 .f32) (x4 : Vec Ideal S3x512 .f32) (p : Fin 128) (q : Fin 512) :
    (k0_pay12 (View.ld x4 r0_0) (View.ld x4 r0_1) (View.ld x4 r0_2) (View.ld x1 r0_3) (View.ld x2 r0_3) (View.ld x3 r0_4) (View.ld x3 r0_5) (View.ld x0 r0_6)) (ix2 p q : S128x512.Idx) = entry x0 x1 x2 x3 x4 (r0_6.idx (ix2 p q : S128x512.Idx)) := by
  rw [entry_at x0 x1 x2 x3 x4 0 (by decide) p q _ (by show 0 + 1 * p.val = _; omega) (Fin.ext (by show 0 + 1 * q.val = _; omega))]
  unfold k0_pay12 k0_pay8 k0_pay7 k0_pay6
  pointwise
  rw [tap_state x1 x2 x3 0 (by decide), tap_state x1 x2 x3 1 (by decide), show tap x1 x2 x3 2 p q = _ from tap_product x1 x2 x3 0 (by decide) p q ⟨p.val, by omega⟩ (by show p.val = 0 * 128 + p.val; omega)]
  rfl

theorem step1 (x0 x1 x2 : Vec Ideal S512x512 .f32) (x3 : Vec Ideal S2x128x512 .f32) (x4 : Vec Ideal S3x512 .f32) (p : Fin 128) (q : Fin 512) :
    (k0_pay1 (k0_pay13 (View.ld x4 r0_0) (View.ld x4 r0_1) (View.ld x4 r0_2) (View.ld x1 r0_3) (View.ld x2 r0_3) (View.ld x3 r0_5) (View.ld x0 r0_7))) (ix2 p q : S128x512.Idx) = entry x0 x1 x2 x3 x4 (r0_7.idx (ix2 p q : S128x512.Idx)) := by
  rw [entry_at x0 x1 x2 x3 x4 1 (by decide) p q _ (by show 128 + 1 * p.val = _; omega) (Fin.ext (by show 0 + 1 * q.val = _; omega))]
  unfold k0_pay1 k0_pay13 k0_pay9 k0_pay8 k0_pay7 k0_pay6
  pointwise
  rw [tap_state x1 x2 x3 1 (by decide), show tap x1 x2 x3 2 p q = _ from tap_product x1 x2 x3 0 (by decide) p q ⟨p.val, by omega⟩ (by show p.val = 0 * 128 + p.val; omega), show tap x1 x2 x3 3 p q = _ from tap_product x1 x2 x3 1 (by decide) p q ⟨128 + p.val, by omega⟩ (by show 128 + p.val = 1 * 128 + p.val; omega)]
  rfl

theorem step2 (x0 x1 x2 : Vec Ideal S512x512 .f32) (x3 : Vec Ideal S2x128x512 .f32) (x4 : Vec Ideal S3x512 .f32) (p : Fin 128) (q : Fin 512) :
    (k0_pay2 (View.ld x4 r0_0) (View.ld x4 r0_1) (View.ld x4 r0_2) (k0_pay8 (View.ld x1 r0_3) (View.ld x2 r0_3)) (k0_pay9 (View.ld x1 r0_3) (View.ld x2 r0_3)) (k0_pay10 (View.ld x1 r0_3) (View.ld x2 r0_3)) (View.ld x0 r0_8)) (ix2 p q : S128x512.Idx) = entry x0 x1 x2 x3 x4 (r0_8.idx (ix2 p q : S128x512.Idx)) := by
  rw [entry_at x0 x1 x2 x3 x4 2 (by decide) p q _ (by show 256 + 1 * p.val = _; omega) (Fin.ext (by show 0 + 1 * q.val = _; omega))]
  unfold k0_pay2 k0_pay10 k0_pay9 k0_pay8 k0_pay6
  pointwise
  rw [show tap x1 x2 x3 2 p q = _ from tap_product x1 x2 x3 0 (by decide) p q ⟨p.val, by omega⟩ (by show p.val = 0 * 128 + p.val; omega), show tap x1 x2 x3 3 p q = _ from tap_product x1 x2 x3 1 (by decide) p q ⟨128 + p.val, by omega⟩ (by show 128 + p.val = 1 * 128 + p.val; omega), show tap x1 x2 x3 4 p q = _ from tap_product x1 x2 x3 2 (by decide) p q ⟨256 + p.val, by omega⟩ (by show 256 + p.val = 2 * 128 + p.val; omega)]
  rfl

theorem step3 (x0 x1 x2 : Vec Ideal S512x512 .f32) (x3 : Vec Ideal S2x128x512 .f32) (x4 : Vec Ideal S3x512 .f32) (p : Fin 128) (q : Fin 512) :
    (k0_pay3 (View.ld x4 r0_0) (View.ld x4 r0_1) (View.ld x4 r0_2) (k0_pay9 (View.ld x1 r0_3) (View.ld x2 r0_3)) (k0_pay10 (View.ld x1 r0_3) (View.ld x2 r0_3)) (k0_pay11 (View.ld x1 r0_3) (View.ld x2 r0_3)) (View.ld x0 r0_9)) (ix2 p q : S128x512.Idx) = entry x0 x1 x2 x3 x4 (r0_9.idx (ix2 p q : S128x512.Idx)) := by
  rw [entry_at x0 x1 x2 x3 x4 3 (by decide) p q _ (by show 384 + 1 * p.val = _; omega) (Fin.ext (by show 0 + 1 * q.val = _; omega))]
  unfold k0_pay3 k0_pay11 k0_pay10 k0_pay9 k0_pay6
  pointwise
  rw [show tap x1 x2 x3 3 p q = _ from tap_product x1 x2 x3 1 (by decide) p q ⟨128 + p.val, by omega⟩ (by show 128 + p.val = 1 * 128 + p.val; omega), show tap x1 x2 x3 4 p q = _ from tap_product x1 x2 x3 2 (by decide) p q ⟨256 + p.val, by omega⟩ (by show 256 + p.val = 2 * 128 + p.val; omega), show tap x1 x2 x3 5 p q = _ from tap_product x1 x2 x3 3 (by decide) p q ⟨384 + p.val, by omega⟩ (by show 384 + p.val = 3 * 128 + p.val; omega)]
  rfl

/-- The first array's block. -/
theorem block_conv (x0 x1 x2 : Vec Ideal S512x512 .f32) (x3 : Vec Ideal S2x128x512 .f32) (x4 : Vec Ideal S3x512 .f32) (y : S512x512.Idx) :
    out0_5 x0 x1 x2 x3 x4 y = entry x0 x1 x2 x3 x4 y := by
  unfold_out out0_5
  refine View.canon_apply_of_pieces (Val := Elt Ideal) (e := .bf16) (entry x0 x1 x2 x3 x4) _ ?_ y (cover0_5 _ _ _ _ y)
  intro pc hpc
  rcases List.mem_cons.mp hpc with rfl | hpc
  · exact fun x => (congrArg _ (eq_ix2 x)).trans ((step3 x0 x1 x2 x3 x4 _ _).trans (congrArg (fun z => entry x0 x1 x2 x3 x4 (r0_9.idx z)) (eq_ix2 x).symm))
  rcases List.mem_cons.mp hpc with rfl | hpc
  · exact fun x => (congrArg _ (eq_ix2 x)).trans ((step2 x0 x1 x2 x3 x4 _ _).trans (congrArg (fun z => entry x0 x1 x2 x3 x4 (r0_8.idx z)) (eq_ix2 x).symm))
  rcases List.mem_cons.mp hpc with rfl | hpc
  · exact fun x => (congrArg _ (eq_ix2 x)).trans ((step1 x0 x1 x2 x3 x4 _ _).trans (congrArg (fun z => entry x0 x1 x2 x3 x4 (r0_7.idx z)) (eq_ix2 x).symm))
  rcases List.mem_cons.mp hpc with rfl | hpc
  · exact fun x => (congrArg _ (eq_ix2 x)).trans ((step0 x0 x1 x2 x3 x4 _ _).trans (congrArg (fun z => entry x0 x1 x2 x3 x4 (r0_6.idx z)) (eq_ix2 x).symm))
  nomatch hpc

/-- The second array's block: the last two steps' products. -/
theorem block_tail (x0 x1 x2 : Vec Ideal S512x512 .f32) (x3 : Vec Ideal S2x128x512 .f32) (x4 : Vec Ideal S3x512 .f32) (j : Fin 2) (b : Fin 128) (q : Fin 512) :
    out0_6 x0 x1 x2 x3 x4 (ix3 j b q : S2x128x512.Idx) = x1 (ix2 (⟨(j.val + 2) * 128 + b.val, by omega⟩ : Fin 512) q) * x2 (ix2 (⟨(j.val + 2) * 128 + b.val, by omega⟩ : Fin 512) q) := by
  have hz : (![0, 0] : Fin 2 → Nat) = fun _ => 0 := by funext a; fin_cases a <;> rfl
  unfold_out out0_6
  refine (canon6_eq _ _ _).trans ?_
  rw [View.ld_unit_zero (S := S512x512) hz, View.ld_unit_zero (S := S512x512) hz]
  refine congrArg₂ (fun a b : EReal => a * b) (congrArg x1 ((eq_ix2 _).trans (congrArg₂ ix2 (Fin.ext ?_) rfl))) (congrArg x2 ((eq_ix2 _).trans (congrArg₂ ix2 (Fin.ext ?_) rfl)))
  all_goals show j.val * 128 + b.val + 256 = (j.val + 2) * 128 + b.val; omega

end Block

variable (m : (ℓ : Loc nD τ sig) → Buf (Elt Ideal) ℓ) (c : Dev nD)

/-- The arguments, and the carried rows as the kernel's window sees them. -/
abbrev argH : S8704x17408.Idx → EReal := m ((c : Thread nD τ).loc main_arg0)
abbrev argS : S128x2x2048.Idx → EReal := m ((c : Thread nD τ).loc main_arg1)
abbrev argW : S3x2048.Idx → EReal := m ((c : Thread nD τ).loc main_arg2)
abbrev arr0 : S8704x17408.Idx → EReal := V m c (Pipeline.arrRef spec0 0)
abbrev arr1 : S8704x17408.Idx → EReal := V m c (Pipeline.arrRef spec0 1)
abbrev arr2 : S8704x17408.Idx → EReal := V m c (Pipeline.arrRef spec0 2)
abbrev arr3 : S2x128x2048.Idx → EReal := V m c (Pipeline.arrRef spec0 3)
abbrev arr4 : S3x2048.Idx → EReal := V m c (Pipeline.arrRef spec0 4)

theorem arr3_apply (j : Fin 2) (b : Fin 128) (q : Fin 2048) : arr3 m c (ix3 j b q) = argS m c (ix3 b j q) := by
  unfold arr3
  change V m c main_v0 _ = _
  unfold V hostOps0
  after_results
  pointwise

theorem index0 : ∀ t : Fin cfg0.N,
    (cc0_transform_0 (grid0.coords t) 0 = 16 ∧ cc0_transform_0 (grid0.coords t) 1 = t.val)
    ∧ (cc0_transform_1 (grid0.coords t) 0 = 16 ∧ cc0_transform_1 (grid0.coords t) 1 = 4 + t.val)
    ∧ (cc0_transform_2 (grid0.coords t) 0 = 16 ∧ cc0_transform_2 (grid0.coords t) 1 = 8 + t.val)
    ∧ (cc0_transform_3 (grid0.coords t) 0 = 0 ∧ cc0_transform_3 (grid0.coords t) 1 = 0 ∧ cc0_transform_3 (grid0.coords t) 2 = t.val)
    ∧ (cc0_transform_4 (grid0.coords t) 0 = 0 ∧ cc0_transform_4 (grid0.coords t) 1 = t.val)
    ∧ (cc0_transform_5 (grid0.coords t) 0 = 0 ∧ cc0_transform_5 (grid0.coords t) 1 = t.val)
    ∧ (cc0_transform_6 (grid0.coords t) 0 = 0 ∧ cc0_transform_6 (grid0.coords t) 1 = 0 ∧ cc0_transform_6 (grid0.coords t) 2 = t.val) := by
  decide +kernel

theorem lt4 (t : Fin cfg0.N) : t.val < 4 := lt_of_lt_of_eq t.isLt N_0

theorem iblk0 (t : Fin cfg0.N) (p q : Fin 512) (col : Fin 2048) (hc : col.val = t.val * 512 + q.val) :
    iblk m c 0 t (ix2 p q : S512x512.Idx) = argH m c (ix2 (⟨8192 + p.val, by omega⟩ : Fin 8704) (⟨0 + col.val, by omega⟩ : Fin 17408)) := by
  unfold iblk
  rw [View.read_apply]
  refine Eq.trans (congrArg (arr0 m c) ((eq_ix2 _).trans (congrArg₂ ix2 (Fin.ext ?_) (Fin.ext ?_)))) (congrFun (V_main_arg0 m c) _)
  · show cc0_transform_0 (grid0.coords t) 0 * 512 + 1 * p.val = 8192 + p.val
    rw [(index0 t).1.1]
    omega
  · show cc0_transform_0 (grid0.coords t) 1 * 512 + 1 * q.val = 0 + col.val
    rw [(index0 t).1.2]
    omega

theorem iblk1 (t : Fin cfg0.N) (p q : Fin 512) (col : Fin 2048) (hc : col.val = t.val * 512 + q.val) :
    iblk m c 1 t (ix2 p q : S512x512.Idx) = argH m c (ix2 (⟨8192 + p.val, by omega⟩ : Fin 8704) (⟨2048 + col.val, by omega⟩ : Fin 17408)) := by
  unfold iblk
  rw [View.read_apply]
  refine Eq.trans (congrArg (arr1 m c) ((eq_ix2 _).trans (congrArg₂ ix2 (Fin.ext ?_) (Fin.ext ?_)))) (congrFun (V_main_arg0 m c) _)
  · show cc0_transform_1 (grid0.coords t) 0 * 512 + 1 * p.val = 8192 + p.val
    rw [(index0 t).2.1.1]
    omega
  · show cc0_transform_1 (grid0.coords t) 1 * 512 + 1 * q.val = 2048 + col.val
    rw [(index0 t).2.1.2]
    omega

theorem iblk2 (t : Fin cfg0.N) (p q : Fin 512) (col : Fin 2048) (hc : col.val = t.val * 512 + q.val) :
    iblk m c 2 t (ix2 p q : S512x512.Idx) = argH m c (ix2 (⟨8192 + p.val, by omega⟩ : Fin 8704) (⟨4096 + col.val, by omega⟩ : Fin 17408)) := by
  unfold iblk
  rw [View.read_apply]
  refine Eq.trans (congrArg (arr2 m c) ((eq_ix2 _).trans (congrArg₂ ix2 (Fin.ext ?_) (Fin.ext ?_)))) (congrFun (V_main_arg0 m c) _)
  · show cc0_transform_2 (grid0.coords t) 0 * 512 + 1 * p.val = 8192 + p.val
    rw [(index0 t).2.2.1.1]
    omega
  · show cc0_transform_2 (grid0.coords t) 1 * 512 + 1 * q.val = 4096 + col.val
    rw [(index0 t).2.2.1.2]
    omega

theorem iblk3 (t : Fin cfg0.N) (j : Fin 2) (b : Fin 128) (q : Fin 512) (col : Fin 2048) (hc : col.val = t.val * 512 + q.val) :
    iblk m c 3 t (ix3 j b q : S2x128x512.Idx) = argS m c (ix3 b j col) := by
  unfold iblk
  rw [View.read_apply]
  refine Eq.trans (congrArg (arr3 m c) ?_) (arr3_apply m c j b col)
  refine (eq_ix3 _).trans ?_
  have h0 : cc0_transform_3 (grid0.coords t) 0 * 2 + 1 * j.val = j.val := by rw [(index0 t).2.2.2.1.1]; omega
  have h1 : cc0_transform_3 (grid0.coords t) 1 * 128 + 1 * b.val = b.val := by rw [(index0 t).2.2.2.1.2.1]; omega
  have h2 : cc0_transform_3 (grid0.coords t) 2 * 512 + 1 * q.val = col.val := by rw [(index0 t).2.2.2.1.2.2]; omega
  exact (congrArg₂ (fun (a : Fin 2) (d : Fin 128) => ix3 a d _) (Fin.ext h0) (Fin.ext h1)).trans (congrArg (fun d : Fin 2048 => ix3 j b d) (Fin.ext h2))

theorem iblk4 (t : Fin cfg0.N) (r : Fin 3) (q : Fin 512) (col : Fin 2048) (hc : col.val = t.val * 512 + q.val) :
    iblk m c 4 t (ix2 r q : S3x512.Idx) = argW m c (ix2 r col) := by
  unfold iblk
  rw [View.read_apply]
  refine Eq.trans (congrArg (arr4 m c) ((eq_ix2 _).trans (congrArg₂ ix2 (Fin.ext ?_) (Fin.ext ?_)))) (congrFun (V_main_arg2 m c) _)
  · show cc0_transform_4 (grid0.coords t) 0 * 3 + 1 * r.val = r.val
    rw [(index0 t).2.2.2.2.1.1]
    omega
  · show cc0_transform_4 (grid0.coords t) 1 * 512 + 1 * q.val = col.val
    rw [(index0 t).2.2.2.2.1.2]
    omega

end Cert.Kernel5Ideal.Conv

namespace Cert.ConvSample
open Idealize.ShloMosaic Cert.Kernel5Ideal

/-- The tap `j` of a sequence's column, of the arguments: the carried rows first, then the products. -/
def tapOf (h : S8704x17408.Idx → EReal) (s : S128x2x2048.Idx → EReal) (j : ℕ) (b : Fin 128) (col : Fin 2048) : EReal :=
  if hj : j < 2 then s (ix3 b (⟨j, hj⟩ : Fin 2) col)
  else if h' : j - 2 < 4 then
    h (ix2 (⟨8192 + ((j - 2) * 128 + b.val), by omega⟩ : Fin 8704) (⟨2048 + col.val, by omega⟩ : Fin 17408))
      * h (ix2 (⟨8192 + ((j - 2) * 128 + b.val), by omega⟩ : Fin 8704) (⟨4096 + col.val, by omega⟩ : Fin 17408))
  else 0

end Cert.ConvSample

namespace Cert.Kernel5Ideal.Conv
open Cert.ConvSample Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ) (c : Dev nD)

theorem tap_eq (t : Fin cfg0.N) (j : ℕ) (b : Fin 128) (q : Fin 512) (col : Fin 2048) (hc : col.val = t.val * 512 + q.val) :
    tap (iblk m c 1 t) (iblk m c 2 t) (iblk m c 3 t) j b q = tapOf (argH m c) (argS m c) j b col := by
  unfold tap tapOf
  split
  · exact iblk3 m c t _ b q col hc
  · split
    · exact congrArg₂ (fun a b : EReal => a * b) (iblk1 m c t _ q col hc) (iblk2 m c t _ q col hc)
    · rfl

/-- The kernel's first array. -/
theorem array_conv (r : Fin 512) (col : Fin 2048) :
    (dats m 0 c).arrAt 5 cfg0.N (ix2 r col : S512x2048.Idx)
      = form (argH m c (ix2 (⟨8192 + r.val, by omega⟩ : Fin 8704) (⟨col.val, by omega⟩ : Fin 17408))) (argW m c (ix2 (0 : Fin 3) col)) (argW m c (ix2 (1 : Fin 3) col)) (argW m c (ix2 (2 : Fin 3) col))
        (tapOf (argH m c) (argS m c) (r.val / 128) ⟨r.val % 128, Nat.mod_lt _ (by decide)⟩ col)
        (tapOf (argH m c) (argS m c) (r.val / 128 + 1) ⟨r.val % 128, Nat.mod_lt _ (by decide)⟩ col)
        (tapOf (argH m c) (argS m c) (r.val / 128 + 2) ⟨r.val % 128, Nat.mod_lt _ (by decide)⟩ col) := by
  have hN : cfg0.N = 4 := N_0
  obtain ⟨t, ht⟩ : ∃ t : Fin cfg0.N, t.val = col.val / 512 := ⟨⟨col.val / 512, by omega⟩, rfl⟩
  obtain ⟨q, hq⟩ : ∃ q : Fin 512, q.val = col.val % 512 := ⟨⟨col.val % 512, by omega⟩, rfl⟩
  have hc : col.val = t.val * 512 + q.val := by omega
  have hb := congrFun (blocks5 m c t (flush0_5 t)) (ix2 r q : S512x512.Idx)
  rw [View.read_apply, flushed5] at hb
  refine Eq.trans (congrArg ((dats m 0 c).arrAt 5 cfg0.N) ?_) (hb.trans ((block_conv _ _ _ _ _ _).trans ?_))
  · refine Eq.trans (congrArg₂ ix2 (Fin.ext ?_) (Fin.ext ?_)) (eq_ix2 _).symm
    · show r.val = cc0_transform_5 (grid0.coords t) 0 * 512 + 1 * r.val
      rw [(index0 t).2.2.2.2.2.1.1]
      omega
    · show col.val = cc0_transform_5 (grid0.coords t) 1 * 512 + 1 * q.val
      rw [(index0 t).2.2.2.2.2.1.2]
      omega
  · unfold entry
    show form _ (iblk m c 4 t (ix2 (0 : Fin 3) q : S3x512.Idx)) (iblk m c 4 t (ix2 (1 : Fin 3) q : S3x512.Idx)) (iblk m c 4 t (ix2 (2 : Fin 3) q : S3x512.Idx))
      (tap (iblk m c 1 t) (iblk m c 2 t) (iblk m c 3 t) (r.val / 128) ⟨r.val % 128, _⟩ q) (tap (iblk m c 1 t) (iblk m c 2 t) (iblk m c 3 t) (r.val / 128 + 1) ⟨r.val % 128, _⟩ q) (tap (iblk m c 1 t) (iblk m c 2 t) (iblk m c 3 t) (r.val / 128 + 2) ⟨r.val % 128, _⟩ q) = _
    rw [tap_eq m c t _ _ q col hc, tap_eq m c t _ _ q col hc, tap_eq m c t _ _ q col hc, iblk4 m c t 0 q col hc, iblk4 m c t 1 q col hc, iblk4 m c t 2 q col hc]
    refine congrArg (fun a => form a _ _ _ _ _ _) ((iblk0 m c t r q col hc).trans (congrArg (argH m c) (congrArg₂ ix2 rfl (Fin.ext ?_))))
    show 0 + col.val = col.val
    omega

/-- The kernel's second array: the last two steps' products. -/
theorem array_tail (j : Fin 2) (b : Fin 128) (col : Fin 2048) :
    (dats m 0 c).arrAt 6 cfg0.N (ix3 j b col : S2x128x2048.Idx)
      = argH m c (ix2 (⟨8192 + ((j.val + 2) * 128 + b.val), by omega⟩ : Fin 8704) (⟨2048 + col.val, by omega⟩ : Fin 17408))
        * argH m c (ix2 (⟨8192 + ((j.val + 2) * 128 + b.val), by omega⟩ : Fin 8704) (⟨4096 + col.val, by omega⟩ : Fin 17408)) := by
  have hN : cfg0.N = 4 := N_0
  obtain ⟨t, ht⟩ : ∃ t : Fin cfg0.N, t.val = col.val / 512 := ⟨⟨col.val / 512, by omega⟩, rfl⟩
  obtain ⟨q, hq⟩ : ∃ q : Fin 512, q.val = col.val % 512 := ⟨⟨col.val % 512, by omega⟩, rfl⟩
  have hc : col.val = t.val * 512 + q.val := by omega
  have hb := congrFun (blocks6 m c t (flush0_6 t)) (ix3 j b q : S2x128x512.Idx)
  rw [View.read_apply, flushed6] at hb
  refine Eq.trans (congrArg ((dats m 0 c).arrAt 6 cfg0.N) ?_) (hb.trans ((block_tail _ _ _ _ _ j b q).trans ?_))
  · refine Eq.trans ?_ (eq_ix3 _).symm
    have h0 : j.val = cc0_transform_6 (grid0.coords t) 0 * 2 + 1 * j.val := by rw [(index0 t).2.2.2.2.2.2.1]; omega
    have h1 : b.val = cc0_transform_6 (grid0.coords t) 1 * 128 + 1 * b.val := by rw [(index0 t).2.2.2.2.2.2.2.1]; omega
    have h2 : col.val = cc0_transform_6 (grid0.coords t) 2 * 512 + 1 * q.val := by rw [(index0 t).2.2.2.2.2.2.2.2]; omega
    exact (congrArg (fun d : Fin 2048 => ix3 j b d) (Fin.ext h2)).trans (congrArg₂ (fun (a : Fin 2) (d : Fin 128) => ix3 a d _) (Fin.ext h0) (Fin.ext h1))
  · exact congrArg₂ (fun a b : EReal => a * b) (iblk1 m c t _ q col hc) (iblk2 m c t _ q col hc)

end Cert.Kernel5Ideal.Conv

namespace Cert.Reference5Ideal.Conv
open Cert.ConvSample Cert.Reference5Ideal Cert.Reference5Ideal.Gen Cert.Reference5Ideal.Read Idealize.ShloMosaic Idealize.ShloMosaic.TcCoe Idealize.SL.Sem

variable (h : S8704x17408.Idx → EReal) (s : S128x2x2048.Idx → EReal) (w : S3x2048.Idx → EReal)

theorem row_apply (b : Fin 128) (i : Fin 4) (col : Fin 17408) : val_main_v2 (F := Ideal) h (ix3 b i col) = h (ix2 (⟨8192 + (i.val * 128 + b.val), by omega⟩ : Fin 8704) col) := by
  rw [val_main_v2_apply, val_main_v1_apply, val_main_v0_apply]
  refine congrArg h ((eq_ix2 _).trans (congrArg₂ ix2 (Fin.ext ?_) (Fin.ext ?_)))
  · show 8192 + ((i.val * 128 + b.val) * 17408 + col.val) / 17408 = 8192 + (i.val * 128 + b.val)
    omega
  · show ((i.val * 128 + b.val) * 17408 + col.val) % 17408 = col.val
    omega

theorem product_apply (b : Fin 128) (i : Fin 4) (col : Fin 2048) : val_main_v11 (F := Ideal) h (ix3 b i col)
    = h (ix2 (⟨8192 + (i.val * 128 + b.val), by omega⟩ : Fin 8704) (⟨2048 + col.val, by omega⟩ : Fin 17408)) * h (ix2 (⟨8192 + (i.val * 128 + b.val), by omega⟩ : Fin 8704) (⟨4096 + col.val, by omega⟩ : Fin 17408)) := by
  rw [val_main_v11_apply, val_main_v4_apply, val_main_v5_apply]
  refine congrArg₂ (fun a b : EReal => a * b) (Eq.trans (congrArg (val_main_v2 (F := Ideal) h) (eq_ix3 _)) (row_apply h b i _)) (Eq.trans (congrArg (val_main_v2 (F := Ideal) h) (eq_ix3 _)) (row_apply h b i _))

theorem stacked_apply (b : Fin 128) (j : Fin 6) (col : Fin 2048) : val_main_v12 (F := Ideal) h s (ix3 b j col) = tapOf h s j.val b col := by
  unfold val_main_v12 tapOf
  pointwise
  split
  · rfl
  · rw [dif_pos (by omega)]
    exact product_apply h b _ col

theorem weight0_apply (b : Fin 128) (i : Fin 4) (col : Fin 2048) : val_main_v17 (F := Ideal) w (ix3 b i col) = w (ix2 (0 : Fin 3) col) := by
  rw [val_main_v17_apply, val_main_v16_apply, val_main_v14_apply, val_main_v13_apply]
  exact congrArg w ((eq_ix2 _).trans (congrArg₂ ix2 (Fin.ext rfl) (Fin.ext (Nat.mod_eq_of_lt col.isLt))))

theorem weight1_apply (b : Fin 128) (i : Fin 4) (col : Fin 2048) : val_main_v25 (F := Ideal) w (ix3 b i col) = w (ix2 (1 : Fin 3) col) := by
  rw [val_main_v25_apply, val_main_v24_apply, val_main_v22_apply, val_main_v21_apply]
  exact congrArg w ((eq_ix2 _).trans (congrArg₂ ix2 (Fin.ext rfl) (Fin.ext (Nat.mod_eq_of_lt col.isLt))))

theorem weight2_apply (b : Fin 128) (i : Fin 4) (col : Fin 2048) : val_main_v32 (F := Ideal) w (ix3 b i col) = w (ix2 (2 : Fin 3) col) := by
  rw [val_main_v32_apply, val_main_v31_apply, val_main_v29_apply, val_main_v28_apply]
  exact congrArg w ((eq_ix2 _).trans (congrArg₂ ix2 (Fin.ext rfl) (Fin.ext (Nat.mod_eq_of_lt col.isLt))))

/-- The reference's gated sums, by sequence and step. -/
theorem sum_apply (b : Fin 128) (i : Fin 4) (col : Fin 2048) : val_main_v36 (F := Ideal) h s w (ix3 b i col)
    = form (h (ix2 (⟨8192 + (i.val * 128 + b.val), by omega⟩ : Fin 8704) (⟨col.val, by omega⟩ : Fin 17408))) (w (ix2 (0 : Fin 3) col)) (w (ix2 (1 : Fin 3) col)) (w (ix2 (2 : Fin 3) col))
      (tapOf h s i.val b col) (tapOf h s (i.val + 1) b col) (tapOf h s (i.val + 2) b col) := by
  have e0 : val_main_v15 (F := Ideal) h s (ix3 b i col) = tapOf h s i.val b col := by
    rw [val_main_v15_apply]
    exact (congrArg (val_main_v12 (F := Ideal) h s) (eq_ix3 _)).trans (stacked_apply h s b ⟨i.val, by omega⟩ col)
  have e1 : val_main_v23 (F := Ideal) h s (ix3 b i col) = tapOf h s (i.val + 1) b col := by
    rw [val_main_v23_apply, Nat.add_comm i.val 1]
    exact (congrArg (val_main_v12 (F := Ideal) h s) (eq_ix3 _)).trans (stacked_apply h s b ⟨1 + i.val, by omega⟩ col)
  have e2 : val_main_v30 (F := Ideal) h s (ix3 b i col) = tapOf h s (i.val + 2) b col := by
    rw [val_main_v30_apply, Nat.add_comm i.val 2]
    exact (congrArg (val_main_v12 (F := Ideal) h s) (eq_ix3 _)).trans (stacked_apply h s b ⟨2 + i.val, by omega⟩ col)
  have e3 : val_main_v3 (F := Ideal) h (ix3 b i col) = h (ix2 (⟨8192 + (i.val * 128 + b.val), by omega⟩ : Fin 8704) (⟨col.val, by omega⟩ : Fin 17408)) := by
    rw [val_main_v3_apply]
    exact (congrArg (val_main_v2 (F := Ideal) h) (eq_ix3 _)).trans (row_apply h b i _)
  have e4 : val_main_v19 (F := Ideal) (ix3 b i col) = (0 : EReal) := by
    rw [val_main_v19_apply, val_main_cst_apply]
    exact Ideal.ofBits_zero_f32
  rw [val_main_v36_apply, val_main_v34_apply, val_main_v27_apply, val_main_v20_apply, val_main_v18_apply, val_main_v26_apply, val_main_v33_apply, e0, e1, e2, e3, e4, weight0_apply, weight1_apply, weight2_apply]
  show (_ : EReal) * (0 + _ + _ + _) = _
  rw [zero_add]
  rfl

/-- The reference's first array. -/
theorem conv_apply (r : Fin 512) (col : Fin 2048) : val_main_v39 (F := Ideal) h s w (ix2 r col)
    = form (h (ix2 (⟨8192 + r.val, by omega⟩ : Fin 8704) (⟨col.val, by omega⟩ : Fin 17408))) (w (ix2 (0 : Fin 3) col)) (w (ix2 (1 : Fin 3) col)) (w (ix2 (2 : Fin 3) col))
      (tapOf h s (r.val / 128) ⟨r.val % 128, Nat.mod_lt _ (by decide)⟩ col) (tapOf h s (r.val / 128 + 1) ⟨r.val % 128, Nat.mod_lt _ (by decide)⟩ col) (tapOf h s (r.val / 128 + 2) ⟨r.val % 128, Nat.mod_lt _ (by decide)⟩ col) := by
  rw [val_main_v39_apply, val_main_v38_apply, val_main_v37_apply]
  have e : idx_main_v37 (idx_main_v38 (ix2 r col)) = ix3 (⟨r.val % 128, Nat.mod_lt _ (by decide)⟩ : Fin 128) (⟨r.val / 128, by omega⟩ : Fin 4) col := by
    have h0 : (r.val * 2048 + col.val) / 2048 % 128 = r.val % 128 := by omega
    have h1 : (r.val * 2048 + col.val) / 262144 = r.val / 128 := by omega
    have h2 : (r.val * 2048 + col.val) % 2048 = col.val := by omega
    refine (eq_ix3 _).trans ?_
    exact (congrArg₂ (fun (a : Fin 128) (d : Fin 4) => ix3 a d _) (Fin.ext h0) (Fin.ext h1)).trans (congrArg (fun d : Fin 2048 => ix3 _ _ d) (Fin.ext h2))
  rw [e]
  refine (sum_apply h s w _ _ col).trans (congrArg (fun a => form a _ _ _ _ _ _) (congrArg h (congrArg₂ ix2 (Fin.ext ?_) rfl)))
  show 8192 + (r.val / 128 * 128 + r.val % 128) = 8192 + r.val
  omega

/-- The reference's second array. -/
theorem tail_apply (j : Fin 2) (b : Fin 128) (col : Fin 2048) : val_main_v40 (F := Ideal) h s (ix3 j b col)
    = h (ix2 (⟨8192 + ((j.val + 2) * 128 + b.val), by omega⟩ : Fin 8704) (⟨2048 + col.val, by omega⟩ : Fin 17408)) * h (ix2 (⟨8192 + ((j.val + 2) * 128 + b.val), by omega⟩ : Fin 8704) (⟨4096 + col.val, by omega⟩ : Fin 17408)) := by
  rw [val_main_v40_apply, val_main_v35_apply]
  refine (congrArg (val_main_v12 (F := Ideal) h s) (eq_ix3 _)).trans ((stacked_apply h s b ⟨4 + j.val, by omega⟩ col).trans ?_)
  unfold tapOf
  rw [dif_neg (by show ¬4 + j.val < 2; omega), dif_pos (by show 4 + j.val - 2 < 4; omega)]
  refine congrArg₂ (fun a b : EReal => a * b) (congrArg h (congrArg₂ ix2 (Fin.ext ?_) rfl)) (congrArg h (congrArg₂ ix2 (Fin.ext ?_) rfl))
  all_goals show 8192 + ((4 + j.val - 2) * 128 + b.val) = 8192 + ((j.val + 2) * 128 + b.val); omega

end Cert.Reference5Ideal.Conv

namespace Cert.ConvSample
open Idealize.ShloMosaic Idealize.ShloMosaic.TcCoe Idealize.SL.Sem

variable (m : (ℓ : Loc Kernel5Ideal.nD Kernel5Ideal.τ Kernel5Ideal.sig) → Buf (Elt Ideal) ℓ) (c : Dev Kernel5Ideal.nD)

/-- The kernel's first array is the reference's first array of the same arguments. -/
theorem equation : (Kernel5Ideal.Gen.dats m 0 c).arrAt 5 Kernel5Ideal.cfg0.N
    = Reference5Ideal.Read.val_main_v39 (F := Ideal) (Kernel5Ideal.Conv.argH m c) (Kernel5Ideal.Conv.argS m c) (Kernel5Ideal.Conv.argW m c) := by
  funext y
  rw [show y = ix2 (y 0 : Fin 512) (y 1 : Fin 2048) from eq_ix2 y]
  exact (Kernel5Ideal.Conv.array_conv m c _ _).trans (Reference5Ideal.Conv.conv_apply _ _ _ _ _).symm

/-- The kernel's second array is the reference's second array of the same arguments. -/
theorem equation_tail : (Kernel5Ideal.Gen.dats m 0 c).arrAt 6 Kernel5Ideal.cfg0.N
    = Reference5Ideal.Read.val_main_v40 (F := Ideal) (Kernel5Ideal.Conv.argH m c) (Kernel5Ideal.Conv.argS m c) := by
  funext y
  rw [show y = ix3 (y 0 : Fin 2) (y 1 : Fin 128) (y 2 : Fin 2048) from eq_ix3 y]
  exact (Kernel5Ideal.Conv.array_tail m c _ _ _).trans (Reference5Ideal.Conv.tail_apply _ _ _ _ _).symm

end Cert.ConvSample
end
-- ==== Proof.OutProj.lean ====
/-
  The output projection: the kernel's array is the reference's.

  Every grid point multiplies a block of 256 rows of the merged activations by a block of 1024 columns of the
  weight, which a scratch array holds, cast once per column block (`scratch_eq`), and adds the scaled residual, which
  the first 32 row blocks read from the prompt's activations and the last two from the samples'.
-/
module

public import proofs.«01_k».proof.Proof.Gen.Kernel6Ideal.Value
public import proofs.«01_k».proof.Proof.Gen.Reference6Ideal.Read
public import Idealize.ShloMosaic.Lib.Tactic
public import Idealize.ShloMosaic.Lib.Pointwise

@[expose] public section
set_option maxRecDepth 16384
noncomputable section
namespace Cert.Kernel6Ideal.OutProj
open Cert.Kernel6Ideal Cert.Kernel6Ideal.Gen Cert.Kernel6Ideal.Value Idealize.ShloMosaic Idealize.ShloMosaic.TcCoe Idealize.SL.Sem

section Body
variable {F : FTy → Type} [FloatOps F]
variable (c : Dev nD) (i : grid0.Coords) (arg2 : Memref sig .tc .vmem S256x4096 .bf16) (harg2 : arg2.IsWhole) (arg3 : Memref sig .tc .vmem S4096x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4096x1024 .bf16) (harg7 : arg7.IsWhole)

/-- The scratch at the first point of a column block: the weight block, cast. -/
theorem cast_eq (hc0 : cond0_0 i) (hc1 : cond0_1 i) (hc2 : ¬cond0_2 i) (x0 : Vec F S256x4096 .bf16) (x1 : Vec F S4096x1024 .f32) (x2 : Vec F S256x1024 .f32) (x3 : Vec F S256x1024 .f32) :
    sout0_A_0 c i arg2 harg2 arg3 harg3 arg4 harg4 arg5 harg5 arg6 harg6 arg7 harg7 hc0 hc1 hc2 x0 x1 x2 x3 = k0_pay1 x1 := by
  have hz : (![0, 0] : Fin 2 → Nat) = fun _ => 0 := by funext a; fin_cases a <;> rfl
  unfold sout0_A_0
  rw [View.read_writes_eq_canon _ _ _ (scover0_A_0 c i arg2 harg2 arg3 harg3 arg4 harg4 arg5 harg5 arg6 harg6 arg7 harg7 hc0 hc1 hc2 x0 x1 x2 x3)]
  unfold kernelRun0_A
  dsimp only
  sl_unfold_words
  simp only [View.readAt_eq_ld, harg2.read_unread, harg3.read_unread, harg4.read_unread, harg5.read_unread, harg7.read_unread, View.ld_unit_zero (S := S4096x1024) hz, View.ld_unit_zero (S := S256x4096) hz, View.ld_unit_zero (S := S256x1024) hz]
  rw [View.canon_unit_zero hz]

/-- What the first point of a column block stores. -/
theorem stores_A (hc0 : cond0_0 i) (hc1 : cond0_1 i) (hc2 : ¬cond0_2 i) (x0 : Vec F S256x4096 .bf16) (x1 : Vec F S4096x1024 .f32) (x2 : Vec F S256x1024 .f32) (x3 : Vec F S256x1024 .f32) :
    out0_A_4 c i arg2 harg2 arg3 harg3 arg4 harg4 arg5 harg5 arg6 harg6 arg7 harg7 hc0 hc1 hc2 x0 x1 x2 x3 = k0_pay3 x0 (k0_pay1 x1) x2 := by
  have hz : (![0, 0] : Fin 2 → Nat) = fun _ => 0 := by funext a; fin_cases a <;> rfl
  unfold out0_A_4
  rw [View.read_writes_eq_canon _ _ _ (cover0_A_4 c i arg2 harg2 arg3 harg3 arg4 harg4 arg5 harg5 arg6 harg6 arg7 harg7 hc0 hc1 hc2 x0 x1 x2 x3)]
  unfold kernelRun0_A
  dsimp only
  sl_unfold_words
  simp only [View.readAt_eq_ld, harg2.read_unread, harg3.read_unread, harg4.read_unread, harg5.read_unread, harg7.read_unread, View.ld_unit_zero (S := S4096x1024) hz, View.ld_unit_zero (S := S256x4096) hz, View.ld_unit_zero (S := S256x1024) hz]
  rw [View.canon_unit_zero hz]
  rw [View.readCov_unit_zero _ hz]

/-- What a later point over the prompt stores. -/
theorem stores_B (hc0 : ¬cond0_0 i) (hc1 : cond0_1 i) (hc2 : ¬cond0_2 i) (x0 : Vec F S256x4096 .bf16) (x1 : Vec F S4096x1024 .f32) (x2 : Vec F S256x1024 .f32) (x3 : Vec F S256x1024 .f32) (xs0 : Vec F S4096x1024 .bf16) :
    out0_B_4 c i arg2 harg2 arg3 harg3 arg4 harg4 arg5 harg5 arg6 harg6 arg7 harg7 hc0 hc1 hc2 x0 x1 x2 x3 xs0 = k0_pay3 x0 xs0 x2 := by
  have hz : (![0, 0] : Fin 2 → Nat) = fun _ => 0 := by funext a; fin_cases a <;> rfl
  unfold out0_B_4
  rw [View.read_writes_eq_canon _ _ _ (cover0_B_4 c i arg2 harg2 arg3 harg3 arg4 harg4 arg5 harg5 arg6 harg6 arg7 harg7 hc0 hc1 hc2 x0 x1 x2 x3 xs0)]
  unfold kernelRun0_B
  dsimp only
  sl_unfold_words
  simp only [View.readAt_eq_ld, harg2.read_unread, harg3.read_unread, harg4.read_unread, harg5.read_unread, harg7.read_unread, View.ld_unit_zero (S := S4096x1024) hz, View.ld_unit_zero (S := S256x4096) hz, View.ld_unit_zero (S := S256x1024) hz]
  rw [View.canon_unit_zero hz]

/-- What a point over the samples stores. -/
theorem stores_C (hc0 : ¬cond0_0 i) (hc1 : ¬cond0_1 i) (hc2 : cond0_2 i) (x0 : Vec F S256x4096 .bf16) (x1 : Vec F S4096x1024 .f32) (x2 : Vec F S256x1024 .f32) (x3 : Vec F S256x1024 .f32) (xs0 : Vec F S4096x1024 .bf16) :
    out0_C_4 c i arg2 harg2 arg3 harg3 arg4 harg4 arg5 harg5 arg6 harg6 arg7 harg7 hc0 hc1 hc2 x0 x1 x2 x3 xs0 = k0_pay4 x0 xs0 x3 := by
  have hz : (![0, 0] : Fin 2 → Nat) = fun _ => 0 := by funext a; fin_cases a <;> rfl
  unfold out0_C_4
  rw [View.read_writes_eq_canon _ _ _ (cover0_C_4 c i arg2 harg2 arg3 harg3 arg4 harg4 arg5 harg5 arg6 harg6 arg7 harg7 hc0 hc1 hc2 x0 x1 x2 x3 xs0)]
  unfold kernelRun0_C
  dsimp only
  sl_unfold_words
  simp only [View.readAt_eq_ld, harg2.read_unread, harg3.read_unread, harg4.read_unread, harg5.read_unread, harg7.read_unread, View.ld_unit_zero (S := S4096x1024) hz, View.ld_unit_zero (S := S256x4096) hz, View.ld_unit_zero (S := S256x1024) hz]
  rw [View.canon_unit_zero hz]

end Body

variable (m : (ℓ : Loc nD τ sig) → Buf (Elt Ideal) ℓ) (c : Dev nD)

/-- The arrays as the kernel's windows see them. -/
abbrev arrM : S8704x4096.Idx → EReal := V m c (Pipeline.arrRef spec0 0)
abbrev arrW : S4096x4096.Idx → EReal := V m c (Pipeline.arrRef spec0 1)
abbrev arrP : S8192x4096.Idx → EReal := V m c (Pipeline.arrRef spec0 2)
abbrev arrS : S512x4096.Idx → EReal := V m c (Pipeline.arrRef spec0 3)

/-- The arguments. -/
abbrev argM : S8704x4096.Idx → EReal := m ((c : Thread nD τ).loc main_arg0)
abbrev argW : S4096x4096.Idx → EReal := m ((c : Thread nD τ).loc main_arg1)
abbrev argP : S4x2048x4096.Idx → EReal := m ((c : Thread nD τ).loc main_arg2)
abbrev argS : S128x4x4096.Idx → EReal := m ((c : Thread nD τ).loc main_arg3)

theorem index0 : ∀ t : Fin cfg0.N, (cc0_transform_0 (grid0.coords t) 0 = t.val % 34 ∧ cc0_transform_0 (grid0.coords t) 1 = 0)
    ∧ (cc0_transform_1 (grid0.coords t) 0 = 0 ∧ cc0_transform_1 (grid0.coords t) 1 = t.val / 34)
    ∧ (t.val % 34 ≤ 31 → cc0_transform_2 (grid0.coords t) 0 = t.val % 34) ∧ cc0_transform_2 (grid0.coords t) 1 = t.val / 34
    ∧ (32 ≤ t.val % 34 → cc0_transform_3 (grid0.coords t) 0 = t.val % 34 - 32) ∧ cc0_transform_3 (grid0.coords t) 1 = t.val / 34 := by
  decide +kernel

/-- The rows a point loads. -/
theorem iblk0 (t : Fin cfg0.N) (p : Fin 256) (k : Fin 4096) :
    iblk m c 0 t (ix2 p k : S256x4096.Idx) = arrM m c (ix2 (⟨t.val % 34 * 256 + p.val, by omega⟩ : Fin 8704) k) := by
  unfold iblk
  rw [View.read_apply]
  refine congrArg (arrM m c) ((eq_ix2 _).trans (congrArg₂ ix2 (Fin.ext ?_) (Fin.ext ?_)))
  · show cc0_transform_0 (grid0.coords t) 0 * 256 + 1 * p.val = _
    rw [(index0 t).1.1, one_mul]
  · show cc0_transform_0 (grid0.coords t) 1 * 4096 + 1 * k.val = _
    rw [(index0 t).1.2, one_mul, Nat.zero_mul, Nat.zero_add]

/-- The columns a point loads. -/
theorem iblk1 (t : Fin cfg0.N) (k : Fin 4096) (q : Fin 1024) :
    iblk m c 1 t (ix2 k q : S4096x1024.Idx) = arrW m c (ix2 k (⟨t.val / 34 * 1024 + q.val, by have := t.isLt; have : cfg0.N = 136 := N_0; omega⟩ : Fin 4096)) := by
  unfold iblk
  rw [View.read_apply]
  refine congrArg (arrW m c) ((eq_ix2 _).trans (congrArg₂ ix2 (Fin.ext ?_) (Fin.ext ?_)))
  · show cc0_transform_1 (grid0.coords t) 0 * 4096 + 1 * k.val = _
    rw [(index0 t).2.1.1, one_mul, Nat.zero_mul, Nat.zero_add]
  · show cc0_transform_1 (grid0.coords t) 1 * 1024 + 1 * q.val = _
    rw [(index0 t).2.1.2, one_mul]

/-- The prompt's residual a point over the prompt loads. -/
theorem iblk2 (t : Fin cfg0.N) (h : t.val % 34 ≤ 31) (p : Fin 256) (q : Fin 1024) :
    iblk m c 2 t (ix2 p q : S256x1024.Idx) = arrP m c (ix2 (⟨t.val % 34 * 256 + p.val, by omega⟩ : Fin 8192) (⟨t.val / 34 * 1024 + q.val, by have := t.isLt; have : cfg0.N = 136 := N_0; omega⟩ : Fin 4096)) := by
  unfold iblk
  rw [View.read_apply]
  refine congrArg (arrP m c) ((eq_ix2 _).trans (congrArg₂ ix2 (Fin.ext ?_) (Fin.ext ?_)))
  · show cc0_transform_2 (grid0.coords t) 0 * 256 + 1 * p.val = _
    rw [(index0 t).2.2.1 h, one_mul]
  · show cc0_transform_2 (grid0.coords t) 1 * 1024 + 1 * q.val = _
    rw [(index0 t).2.2.2.1, one_mul]

/-- The samples' residual a point over the samples loads. -/
theorem iblk3 (t : Fin cfg0.N) (h : 32 ≤ t.val % 34) (p : Fin 256) (q : Fin 1024) :
    iblk m c 3 t (ix2 p q : S256x1024.Idx) = arrS m c (ix2 (⟨(t.val % 34 - 32) * 256 + p.val, by omega⟩ : Fin 512) (⟨t.val / 34 * 1024 + q.val, by have := t.isLt; have : cfg0.N = 136 := N_0; omega⟩ : Fin 4096)) := by
  unfold iblk
  rw [View.read_apply]
  refine congrArg (arrS m c) ((eq_ix2 _).trans (congrArg₂ ix2 (Fin.ext ?_) (Fin.ext ?_)))
  · show cc0_transform_3 (grid0.coords t) 0 * 256 + 1 * p.val = _
    rw [(index0 t).2.2.2.2.1 h, one_mul]
  · show cc0_transform_3 (grid0.coords t) 1 * 1024 + 1 * q.val = _
    rw [(index0 t).2.2.2.2.2, one_mul]

/-- A point's blocks. -/
abbrev xm (t : Fin cfg0.N) : Vec Ideal S256x4096 .bf16 := iblk m c 0 t
abbrev xw (t : Fin cfg0.N) : Vec Ideal S4096x1024 .f32 := iblk m c 1 t
abbrev xp (t : Fin cfg0.N) : Vec Ideal S256x1024 .f32 := iblk m c 2 t
abbrev xs (t : Fin cfg0.N) : Vec Ideal S256x1024 .f32 := iblk m c 3 t

/-- Points of one run of 34 have the same columns. -/
theorem xw_eq (t t' : Fin cfg0.N) (h : t.val / 34 = t'.val / 34) : xw m c t = xw m c t' := by
  funext y
  rw [show y = ix2 (y 0 : Fin 4096) (y 1 : Fin 1024) from eq_ix2 y]
  refine (iblk1 m c t _ _).trans (Eq.trans ?_ (iblk1 m c t' _ _).symm)
  refine congrArg (arrW m c) (congrArg₂ ix2 rfl (Fin.ext ?_))
  show t.val / 34 * 1024 + (y 1).val = t'.val / 34 * 1024 + (y 1).val
  rw [h]

/-- The scratch after every point: its columns, cast. -/
theorem scratch_eq : ∀ (n : ℕ) (hn : n < cfg0.N), (outsAt0 m c n hn).2 = k0_pay1 (xw m c ⟨n, hn⟩) := by
  intro n
  induction n with
  | zero =>
    intro hn
    rw [outsAt0_A m c ⟨0, hn⟩ (Nat.zero_mod _) (by show 0 % 34 ≤ 31; omega) (by show ¬32 ≤ 0 % 34; omega)]
    dsimp only
    rw [cast_eq]
  | succ n ih =>
    intro hn
    by_cases h0 : (n + 1) % 34 = 0
    · rw [outsAt0_A m c ⟨n + 1, hn⟩ h0 (by show (n + 1) % 34 ≤ 31; omega) (by show ¬32 ≤ (n + 1) % 34; omega)]
      dsimp only
      rw [cast_eq]
    · have e := ih (by omega)
      rw [xw_eq m c ⟨n, by omega⟩ ⟨n + 1, hn⟩ (by show n / 34 = (n + 1) / 34; omega)] at e
      by_cases h1 : (n + 1) % 34 ≤ 31
      · rw [outsAt0_B m c ⟨n + 1, hn⟩ h0 h1 (by show ¬32 ≤ (n + 1) % 34; omega)]
        exact e
      · rw [outsAt0_C m c ⟨n + 1, hn⟩ h0 h1 (by show 32 ≤ (n + 1) % 34; omega)]
        exact e

/-- What every point over the prompt stores. -/
theorem stored_prompt (t : Fin cfg0.N) (h : t.val % 34 ≤ 31) : (outsAt0 m c t.val t.isLt).1 = k0_pay3 (xm m c t) (k0_pay1 (xw m c t)) (xp m c t) := by
  by_cases h0 : t.val % 34 = 0
  · rw [outsAt0_A m c t h0 h (by omega)]
    dsimp only
    rw [stores_A]
  · rw [outsAt0_B m c t h0 h (by omega)]
    dsimp only
    rw [stores_B, scratch_eq m c (t.val - 1) (Nat.lt_of_le_of_lt (Nat.sub_le _ _) t.isLt)]
    rw [xw_eq m c ⟨t.val - 1, Nat.lt_of_le_of_lt (Nat.sub_le _ _) t.isLt⟩ t (by show (t.val - 1) / 34 = t.val / 34; omega)]

/-- What every point over the samples stores. -/
theorem stored_sample (t : Fin cfg0.N) (h : 32 ≤ t.val % 34) : (outsAt0 m c t.val t.isLt).1 = k0_pay4 (xm m c t) (k0_pay1 (xw m c t)) (xs m c t) := by
  rw [outsAt0_C m c t (by omega) (by omega) h]
  dsimp only
  rw [stores_C, scratch_eq m c (t.val - 1) (Nat.lt_of_le_of_lt (Nat.sub_le _ _) t.isLt)]
  rw [xw_eq m c ⟨t.val - 1, Nat.lt_of_le_of_lt (Nat.sub_le _ _) t.isLt⟩ t (by show (t.val - 1) / 34 = t.val / 34; omega)]

/-- The residual's factor. -/
abbrev alpha : EReal := FloatOps.ofBits (F := Ideal) .f32 0x3F9837F0#32

/-- One entry of a block: the scaled residual and the sum of products. -/
theorem block_apply (x : Vec Ideal S256x4096 .bf16) (w : Vec Ideal S4096x1024 .f32) (z : Vec Ideal S256x1024 .f32) (p : Fin 256) (q : Fin 1024) :
    k0_pay3 x (k0_pay1 w) z (ix2 p q : S256x1024.Idx) = alpha * z (ix2 p q : S256x1024.Idx) + ∑ k : Fin 4096, x (ix2 p k : S256x4096.Idx) * w (ix2 k q : S4096x1024.Idx) := by
  unfold k0_pay3 k0_pay2 k0_pay1
  pointwise

theorem block_apply' (x : Vec Ideal S256x4096 .bf16) (w : Vec Ideal S4096x1024 .f32) (z : Vec Ideal S256x1024 .f32) (p : Fin 256) (q : Fin 1024) :
    k0_pay4 x (k0_pay1 w) z (ix2 p q : S256x1024.Idx) = alpha * z (ix2 p q : S256x1024.Idx) + ∑ k : Fin 4096, x (ix2 p k : S256x4096.Idx) * w (ix2 k q : S4096x1024.Idx) := by
  unfold k0_pay4 k0_pay2 k0_pay1
  pointwise

/-- The kernel's array at the end, at the index a point's block covers. -/
theorem array_at (r : Fin 8704) (q : Fin 4096) (ht : q.val / 1024 * 34 + r.val / 256 < cfg0.N) :
    G4 m c (ix2 r q : S8704x4096.Idx)
      = (outsAt0 m c (q.val / 1024 * 34 + r.val / 256) ht).1 (ix2 (⟨r.val % 256, Nat.mod_lt _ (by decide)⟩ : Fin 256) (⟨q.val % 1024, Nat.mod_lt _ (by decide)⟩ : Fin 1024)) := by
  have hN : cfg0.N = 136 := N_0
  have hp : pt4Of (ix2 r q : S8704x4096.Idx) = q.val / 1024 * 34 + r.val / 256 := by
    show 1 * (r.val / 256 - 0) + 34 * (q.val / 1024 - 0) = _
    omega
  have hl : loc4Of (ix2 r q : S8704x4096.Idx) = ix2 (⟨r.val % 256, Nat.mod_lt _ (by decide)⟩ : Fin 256) (⟨q.val % 1024, Nat.mod_lt _ (by decide)⟩ : Fin 1024) := eq_ix2 _
  rw [outsAt0_sweep]
  unfold G4
  rw [dif_pos (by rw [hp]; exact ht), hl, fold0_congr m c _ _ _ (by omega) hp]

/-- The staged arrays are the arguments. -/
theorem arrM_apply (y : S8704x4096.Idx) : arrM m c y = argM m c y := by
  unfold arrM
  change V m c main_v3 _ = _
  unfold V hostOps0
  after_results
  rfl

theorem arrW_apply (y : S4096x4096.Idx) : arrW m c y = argW m c y := congrFun (V_main_arg1 m c) y

theorem arrP_apply (r : Fin 8192) (q : Fin 4096) :
    arrP m c (ix2 r q) = argP m c (ix3 (⟨r.val / 2048, by omega⟩ : Fin 4) (⟨r.val % 2048, by omega⟩ : Fin 2048) q) := by
  unfold arrP
  change V m c main_v0 _ = _
  unfold V hostOps0
  after_results
  refine shapeCast_apply _ _ _ _ ?_
  refine (Shape.rowMajor_val_three _).trans (Eq.trans ?_ (Shape.rowMajor_val_two _).symm)
  show (r.val / 2048 * 2048 + r.val % 2048) * 4096 + q.val = r.val * 4096 + q.val
  omega

/-- The samples' activations, step by step. -/
theorem swap_apply (u : S128x4x4096.Idx → EReal) (s : Fin 4) (b : Fin 128) (k : Fin 4096) :
    transpose S4x128x4096 [1, 0, 2] u transposes_S128x4x4096_S4x128x4096_1_0_2 (ix3 s b k) = u (ix3 b s k) := by
  pointwise

theorem arrS_apply (r : Fin 512) (q : Fin 4096) :
    arrS m c (ix2 r q) = argS m c (ix3 (⟨r.val % 128, by omega⟩ : Fin 128) (⟨r.val / 128, by omega⟩ : Fin 4) q) := by
  unfold arrS
  change V m c main_v2 _ = _
  unfold V hostOps0
  after_results
  refine (shapeCast_apply _ _ _ (ix3 (⟨r.val / 128, by omega⟩ : Fin 4) (⟨r.val % 128, by omega⟩ : Fin 128) q) ?_).trans ?_
  · refine (Shape.rowMajor_val_three _).trans (Eq.trans ?_ (Shape.rowMajor_val_two _).symm)
    show (r.val / 128 * 128 + r.val % 128) * 4096 + q.val = r.val * 4096 + q.val
    omega
  · exact swap_apply _ _ _ _

/-- The rows and columns of a point's product, of the arguments. -/
theorem product_eq (r : Fin 8704) (q : Fin 4096) (ht : q.val / 1024 * 34 + r.val / 256 < cfg0.N) (k : Fin 4096) :
    xm m c ⟨_, ht⟩ (ix2 (⟨r.val % 256, Nat.mod_lt _ (by decide)⟩ : Fin 256) k : S256x4096.Idx) * xw m c ⟨_, ht⟩ (ix2 k (⟨q.val % 1024, Nat.mod_lt _ (by decide)⟩ : Fin 1024) : S4096x1024.Idx)
      = argM m c (ix2 r k) * argW m c (ix2 k q) := by
  refine congrArg₂ (fun a b : EReal => a * b) ((iblk0 m c _ _ _).trans ((arrM_apply m c _).trans (congrArg (argM m c) (congrArg₂ ix2 (Fin.ext ?_) rfl))))
    ((iblk1 m c _ _ _).trans ((arrW_apply m c _).trans (congrArg (argW m c) (congrArg₂ ix2 rfl (Fin.ext ?_)))))
  · show (q.val / 1024 * 34 + r.val / 256) % 34 * 256 + r.val % 256 = r.val
    omega
  · show (q.val / 1024 * 34 + r.val / 256) / 34 * 1024 + q.val % 1024 = q.val
    omega

/-- The kernel's array at a row of the prompt, of the arguments. -/
theorem array_prompt (r : Fin 8704) (h : r.val < 8192) (q : Fin 4096) :
    G4 m c (ix2 r q : S8704x4096.Idx)
      = alpha * argP m c (ix3 (⟨r.val / 2048, by omega⟩ : Fin 4) (⟨r.val % 2048, by omega⟩ : Fin 2048) q) + ∑ k : Fin 4096, argM m c (ix2 r k) * argW m c (ix2 k q) := by
  have hN : cfg0.N = 136 := N_0
  have ht : q.val / 1024 * 34 + r.val / 256 < cfg0.N := by omega
  have h31 : (q.val / 1024 * 34 + r.val / 256) % 34 ≤ 31 := by omega
  refine (array_at m c r q ht).trans ((congrFun (stored_prompt m c ⟨_, ht⟩ h31) _).trans ((block_apply _ _ _ _ _).trans ?_))
  refine congrArg₂ (fun a b : EReal => alpha * a + b) ?_ (Finset.sum_congr rfl fun k _ => product_eq m c r q ht k)
  refine (iblk2 m c ⟨_, ht⟩ h31 _ _).trans ((arrP_apply m c _ _).trans (congrArg (argP m c) ?_))
  refine congr (congrArg₂ ix3 (Fin.ext ?_) (Fin.ext ?_)) (Fin.ext ?_)
  · show ((q.val / 1024 * 34 + r.val / 256) % 34 * 256 + r.val % 256) / 2048 = r.val / 2048
    omega
  · show ((q.val / 1024 * 34 + r.val / 256) % 34 * 256 + r.val % 256) % 2048 = r.val % 2048
    omega
  · show (q.val / 1024 * 34 + r.val / 256) / 34 * 1024 + q.val % 1024 = q.val
    omega

/-- The kernel's array at a row of the samples, of the arguments. -/
theorem array_sample (r : Fin 8704) (h : ¬r.val < 8192) (q : Fin 4096) :
    G4 m c (ix2 r q : S8704x4096.Idx)
      = alpha * argS m c (ix3 (⟨(r.val - 8192) % 128, by omega⟩ : Fin 128) (⟨(r.val - 8192) / 128, by omega⟩ : Fin 4) q) + ∑ k : Fin 4096, argM m c (ix2 r k) * argW m c (ix2 k q) := by
  have hN : cfg0.N = 136 := N_0
  have ht : q.val / 1024 * 34 + r.val / 256 < cfg0.N := by omega
  have h32 : 32 ≤ (q.val / 1024 * 34 + r.val / 256) % 34 := by omega
  refine (array_at m c r q ht).trans ((congrFun (stored_sample m c ⟨_, ht⟩ h32) _).trans ((block_apply' _ _ _ _ _).trans ?_))
  refine congrArg₂ (fun a b : EReal => alpha * a + b) ?_ (Finset.sum_congr rfl fun k _ => product_eq m c r q ht k)
  refine (iblk3 m c ⟨_, ht⟩ h32 _ _).trans ((arrS_apply m c _ _).trans (congrArg (argS m c) ?_))
  refine congr (congrArg₂ ix3 (Fin.ext ?_) (Fin.ext ?_)) (Fin.ext ?_)
  · show (((q.val / 1024 * 34 + r.val / 256) % 34 - 32) * 256 + r.val % 256) % 128 = (r.val - 8192) % 128
    omega
  · show (((q.val / 1024 * 34 + r.val / 256) % 34 - 32) * 256 + r.val % 256) / 128 = (r.val - 8192) / 128
    omega
  · show (q.val / 1024 * 34 + r.val / 256) / 34 * 1024 + q.val % 1024 = q.val
    omega

end Cert.Kernel6Ideal.OutProj

namespace Cert.Reference6Ideal.OutProj
open Cert.Reference6Ideal Cert.Reference6Ideal.Gen Cert.Reference6Ideal.Read Idealize.ShloMosaic Idealize.ShloMosaic.TcCoe Idealize.SL.Sem

variable (y : S8704x4096.Idx → EReal) (w : S4096x4096.Idx → EReal) (x : S4x2048x4096.Idx → EReal) (z : S128x4x4096.Idx → EReal)

/-- The reference at a row of the prompt. -/
theorem prompt_apply (r : Fin 8704) (h : r.val < 8192) (q : Fin 4096) :
    val_main_v16 (F := Ideal) y w x z (ix2 r q)
      = FloatOps.ofBits (F := Ideal) .f32 0x3F9837F0#32 * x (ix3 (⟨r.val / 2048, by omega⟩ : Fin 4) (⟨r.val % 2048, by omega⟩ : Fin 2048) q) + ∑ k : Fin 4096, y (ix2 r k) * w (ix2 k q) := by
  unfold val_main_v16
  pointwise
  rw [dif_pos h, val_main_v10_apply, val_main_v9_apply, val_main_v8_apply, val_main_v7_apply, val_main_cst_apply, val_main_v2_apply]
  refine congrArg₂ (fun (a : S4x2048x4096.Idx) (b : EReal) => FloatOps.ofBits (F := Ideal) .f32 0x3F9837F0#32 * x a + b) ?_ (Finset.sum_congr rfl fun k _ => ?_)
  · refine (eq_ix3 _).trans (congr (congrArg₂ ix3 (Fin.ext ?_) (Fin.ext ?_)) (Fin.ext ?_))
    · show (r.val * 4096 + q.val) / 8388608 = r.val / 2048
      omega
    · show (r.val * 4096 + q.val) / 4096 % 2048 = r.val % 2048
      omega
    · show (r.val * 4096 + q.val) % 4096 = q.val
      omega
  · rw [val_main_v1_apply, val_main_v0_apply]
    refine congrArg₂ (fun a b => y a * w b) ?_ ?_
    · refine (eq_ix2 _).trans (congrArg₂ ix2 (Fin.ext ?_) (Fin.ext ?_))
      · show (((r.val * 4096 + q.val) / 8388608 * 2048 + (r.val * 4096 + q.val) / 4096 % 2048) * 4096 + k.val) / 4096 = r.val
        omega
      · show (((r.val * 4096 + q.val) / 8388608 * 2048 + (r.val * 4096 + q.val) / 4096 % 2048) * 4096 + k.val) % 4096 = k.val
        omega
    · refine (eq_ix2 _).trans (congrArg₂ ix2 rfl (Fin.ext ?_))
      show (r.val * 4096 + q.val) % 4096 = q.val
      omega

/-- The reference at a row of the samples. -/
theorem sample_apply (r : Fin 8704) (h : ¬r.val < 8192) (q : Fin 4096) :
    val_main_v16 (F := Ideal) y w x z (ix2 r q)
      = FloatOps.ofBits (F := Ideal) .f32 0x3F9837F0#32 * z (ix3 (⟨(r.val - 8192) % 128, by omega⟩ : Fin 128) (⟨(r.val - 8192) / 128, by omega⟩ : Fin 4) q) + ∑ k : Fin 4096, y (ix2 r k) * w (ix2 k q) := by
  unfold val_main_v16
  pointwise
  rw [dif_neg h, val_main_v15_apply, val_main_v14_apply, val_main_v13_apply, val_main_v12_apply, val_main_v11_apply, val_main_cst_0_apply, val_main_v6_apply]
  refine congrArg₂ (fun (a : S128x4x4096.Idx) (b : EReal) => FloatOps.ofBits (F := Ideal) .f32 0x3F9837F0#32 * z a + b) ?_ (Finset.sum_congr rfl fun k _ => ?_)
  · refine (eq_ix3 _).trans (congr (congrArg₂ ix3 (Fin.ext ?_) (Fin.ext ?_)) (Fin.ext ?_))
    · show ((r.val - 8192) * 4096 + q.val) / 4096 % 128 = (r.val - 8192) % 128
      omega
    · show ((r.val - 8192) * 4096 + q.val) / 524288 = (r.val - 8192) / 128
      omega
    · show ((r.val - 8192) * 4096 + q.val) % 4096 = q.val
      omega
  · rw [val_main_v5_apply, val_main_v4_apply, val_main_v3_apply]
    refine congrArg₂ (fun a b => y a * w b) ?_ ?_
    · refine (eq_ix2 _).trans (congrArg₂ ix2 (Fin.ext ?_) (Fin.ext ?_))
      · show 8192 + ((((r.val - 8192) * 4096 + q.val) / 524288 * 128 + ((r.val - 8192) * 4096 + q.val) / 4096 % 128) * 4096 + k.val) / 4096 = r.val
        omega
      · show ((((r.val - 8192) * 4096 + q.val) / 524288 * 128 + ((r.val - 8192) * 4096 + q.val) / 4096 % 128) * 4096 + k.val) % 4096 = k.val
        omega
    · refine (eq_ix2 _).trans (congrArg₂ ix2 rfl (Fin.ext ?_))
      show ((r.val - 8192) * 4096 + q.val) % 4096 = q.val
      omega

end Cert.Reference6Ideal.OutProj

namespace Cert.OutProj
open Idealize.ShloMosaic Idealize.ShloMosaic.TcCoe Idealize.SL.Sem

/-- The kernel's array is the reference's array of the same arguments. -/
theorem equation (m : (ℓ : Loc Kernel6Ideal.nD Kernel6Ideal.τ Kernel6Ideal.sig) → Buf (Elt Ideal) ℓ) (c : Dev Kernel6Ideal.nD) :
    Kernel6Ideal.Value.G4 m c = Reference6Ideal.Read.val_main_v16 (F := Ideal) (Kernel6Ideal.OutProj.argM m c) (Kernel6Ideal.OutProj.argW m c) (Kernel6Ideal.OutProj.argP m c) (Kernel6Ideal.OutProj.argS m c) := by
  funext y
  rw [show y = ix2 (y 0 : Fin 8704) (y 1 : Fin 4096) from eq_ix2 y]
  by_cases h : (y 0 : Fin 8704).val < 8192
  · exact (Kernel6Ideal.OutProj.array_prompt m c _ h _).trans (Reference6Ideal.OutProj.prompt_apply _ _ _ _ _ h _).symm
  · exact (Kernel6Ideal.OutProj.array_sample m c _ h _).trans (Reference6Ideal.OutProj.sample_apply _ _ _ _ _ h _).symm

end Cert.OutProj
end
-- ==== Proof.Merge.lean ====
/-
  The merge of the two branches: the kernel's array is the reference's.

  Every grid point multiplies 256 rows of the convolution's and of the attention's activations by 1024 columns of the
  two branch weights, which two scratch arrays hold, cast once per column block (`scratch_eq`), and adds the products
  weighted by the logistic function of the two gates. The first 32 row blocks read the prompt's activations, the last
  two the samples'.
-/
module

public import proofs.«01_k».proof.Proof.Gen.Kernel7Ideal.Value
public import proofs.«01_k».proof.Proof.Gen.Reference7Ideal.Read
public import Idealize.ShloMosaic.Lib.Tactic
public import Idealize.ShloMosaic.Lib.Pointwise
public import Idealize.ShloMosaic.Lib.IdealHost

@[expose] public section
set_option maxRecDepth 16384
noncomputable section

namespace Cert.Merge
open Idealize.ShloMosaic

/-- The logistic function, as the quotient both programs compute. -/
def sg (x : EReal) : EReal := Ideal.div (1) (1 + Ideal.exp (-x))

end Cert.Merge

namespace Cert.Kernel7Ideal.Merge
open Cert.Merge Cert.Kernel7Ideal Cert.Kernel7Ideal.Gen Cert.Kernel7Ideal.Value Idealize.ShloMosaic Idealize.ShloMosaic.TcCoe Idealize.SL.Sem

section Body
variable {F : FTy → Type} [FloatOps F]
variable (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S2048x1024 .f32) (harg6 : arg6.IsWhole) (arg7 : Memref sig .tc .vmem S2048x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S2048x1024 .bf16) (harg12 : arg12.IsWhole)

/-- The scratch of the conv branch's weight at the first point of a column block. -/
theorem cast_conv (hc0 : cond0_0 i) (hc1 : cond0_1 i) (hc2 : ¬cond0_2 i) (x0 : Vec F S256x2048 .bf16) (x1 : Vec F S256x2048 .bf16) (x2 : Vec F S256x2048 .bf16) (x3 : Vec F S256x2048 .bf16) (x4 : Vec F S2048x1024 .f32) (x5 : Vec F S2048x1024 .f32) (x6 : Vec F S256x1024 .f32) (x7 : Vec F S256x1024 .f32) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = k0_pay1 x4 := by
  have hz : (![0, 0] : Fin 2 → Nat) = fun _ => 0 := by funext a; fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread, View.ld_unit_zero (S := S2048x1024) hz, View.ld_unit_zero (S := S256x2048) hz, View.ld_unit_zero (S := S256x1024) hz]
  rw [View.canon_unit_zero hz]

/-- The scratch of the attn branch's weight at the first point of a column block. -/
theorem cast_attn (hc0 : cond0_0 i) (hc1 : cond0_1 i) (hc2 : ¬cond0_2 i) (x0 : Vec F S256x2048 .bf16) (x1 : Vec F S256x2048 .bf16) (x2 : Vec F S256x2048 .bf16) (x3 : Vec F S256x2048 .bf16) (x4 : Vec F S2048x1024 .f32) (x5 : Vec F S2048x1024 .f32) (x6 : Vec F S256x1024 .f32) (x7 : Vec F S256x1024 .f32) :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = k0_pay2 x5 := by
  have hz : (![0, 0] : Fin 2 → Nat) = fun _ => 0 := by funext a; fin_cases a <;> rfl
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread, View.ld_unit_zero (S := S2048x1024) hz, View.ld_unit_zero (S := S256x2048) hz, View.ld_unit_zero (S := S256x1024) hz]
  rw [View.canon_unit_zero hz]

/-- What the first point of a column block stores. -/
theorem stores_A (hc0 : cond0_0 i) (hc1 : cond0_1 i) (hc2 : ¬cond0_2 i) (x0 : Vec F S256x2048 .bf16) (x1 : Vec F S256x2048 .bf16) (x2 : Vec F S256x2048 .bf16) (x3 : Vec F S256x2048 .bf16) (x4 : Vec F S2048x1024 .f32) (x5 : Vec F S2048x1024 .f32) (x6 : Vec F S256x1024 .f32) (x7 : Vec F S256x1024 .f32) :
    out0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 = k0_pay3 x0 (k0_pay1 x4) x2 (k0_pay2 x5) x6 x7 := by
  have hz : (![0, 0] : Fin 2 → Nat) = fun _ => 0 := by funext a; fin_cases a <;> rfl
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread, View.ld_unit_zero (S := S2048x1024) hz, View.ld_unit_zero (S := S256x2048) hz, View.ld_unit_zero (S := S256x1024) hz]
  rw [View.canon_unit_zero hz]
  rw [View.readCov_unit_zero _ hz, View.readCov_unit_zero _ hz]

/-- What a later point over the prompt stores. -/
theorem stores_B (hc0 : ¬cond0_0 i) (hc1 : cond0_1 i) (hc2 : ¬cond0_2 i) (x0 : Vec F S256x2048 .bf16) (x1 : Vec F S256x2048 .bf16) (x2 : Vec F S256x2048 .bf16) (x3 : Vec F S256x2048 .bf16) (x4 : Vec F S2048x1024 .f32) (x5 : Vec F S2048x1024 .f32) (x6 : Vec F S256x1024 .f32) (x7 : Vec F S256x1024 .f32) (xs0 : Vec F S2048x1024 .bf16) (xs1 : Vec F S2048x1024 .bf16) :
    out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 = k0_pay3 x0 xs0 x2 xs1 x6 x7 := by
  have hz : (![0, 0] : Fin 2 → Nat) = fun _ => 0 := by funext a; fin_cases a <;> rfl
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread, View.ld_unit_zero (S := S2048x1024) hz, View.ld_unit_zero (S := S256x2048) hz, View.ld_unit_zero (S := S256x1024) hz]
  rw [View.canon_unit_zero hz]

/-- What a point over the samples stores. -/
theorem stores_C (hc0 : ¬cond0_0 i) (hc1 : ¬cond0_1 i) (hc2 : cond0_2 i) (x0 : Vec F S256x2048 .bf16) (x1 : Vec F S256x2048 .bf16) (x2 : Vec F S256x2048 .bf16) (x3 : Vec F S256x2048 .bf16) (x4 : Vec F S2048x1024 .f32) (x5 : Vec F S2048x1024 .f32) (x6 : Vec F S256x1024 .f32) (x7 : Vec F S256x1024 .f32) (xs0 : Vec F S2048x1024 .bf16) (xs1 : Vec F S2048x1024 .bf16) :
    out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1 = k0_pay4 x1 xs0 x3 xs1 x6 x7 := by
  have hz : (![0, 0] : Fin 2 → Nat) = fun _ => 0 := by funext a; fin_cases a <;> rfl
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1)]
  unfold kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread, View.ld_unit_zero (S := S2048x1024) hz, View.ld_unit_zero (S := S256x2048) hz, View.ld_unit_zero (S := S256x1024) hz]
  rw [View.canon_unit_zero hz]

end Body

variable (m : (ℓ : Loc nD τ sig) → Buf (Elt Ideal) ℓ) (c : Dev nD)

/-- The arrays as the kernel's windows see them. -/
abbrev arrCP : S8192x2048.Idx → EReal := V m c (Pipeline.arrRef spec0 0)
abbrev arrCS : S512x2048.Idx → EReal := V m c (Pipeline.arrRef spec0 1)
abbrev arrAP : S8192x2048.Idx → EReal := V m c (Pipeline.arrRef spec0 2)
abbrev arrAS : S512x2048.Idx → EReal := V m c (Pipeline.arrRef spec0 3)
abbrev arrWC : S2048x4096.Idx → EReal := V m c (Pipeline.arrRef spec0 4)
abbrev arrWA : S2048x4096.Idx → EReal := V m c (Pipeline.arrRef spec0 5)
abbrev arrH : S8704x17408.Idx → EReal := V m c (Pipeline.arrRef spec0 6)
abbrev arrH' : S8704x17408.Idx → EReal := V m c (Pipeline.arrRef spec0 7)

/-- The arguments. -/
abbrev argCP : S8192x2048.Idx → EReal := m ((c : Thread nD τ).loc main_arg0)
abbrev argCS : S512x2048.Idx → EReal := m ((c : Thread nD τ).loc main_arg1)
abbrev argAP : S8192x2048.Idx → EReal := m ((c : Thread nD τ).loc main_arg2)
abbrev argAS : S512x2048.Idx → EReal := m ((c : Thread nD τ).loc main_arg3)
abbrev argWC : S2048x4096.Idx → EReal := m ((c : Thread nD τ).loc main_arg4)
abbrev argWA : S2048x4096.Idx → EReal := m ((c : Thread nD τ).loc main_arg5)
abbrev argH : S8704x17408.Idx → EReal := m ((c : Thread nD τ).loc main_arg6)

theorem arrCP_apply (y : S8192x2048.Idx) : arrCP m c y = argCP m c y := by
  unfold arrCP
  change V m c main_v0 _ = _
  unfold V hostOps0
  after_results
  rfl

theorem arrCS_apply (y : S512x2048.Idx) : arrCS m c y = argCS m c y := by
  unfold arrCS
  change V m c main_v1 _ = _
  unfold V hostOps0
  after_results
  rfl

theorem arrAP_apply (y : S8192x2048.Idx) : arrAP m c y = argAP m c y := by
  unfold arrAP
  change V m c main_v2 _ = _
  unfold V hostOps0
  after_results
  rfl

theorem arrAS_apply (y : S512x2048.Idx) : arrAS m c y = argAS m c y := by
  unfold arrAS
  change V m c main_v3 _ = _
  unfold V hostOps0
  after_results
  rfl

theorem arrWC_apply (y : S2048x4096.Idx) : arrWC m c y = argWC m c y := congrFun (V_main_arg4 m c) y
theorem arrWA_apply (y : S2048x4096.Idx) : arrWA m c y = argWA m c y := congrFun (V_main_arg5 m c) y
theorem arrH_apply (y : S8704x17408.Idx) : arrH m c y = argH m c y := congrFun (V_main_arg6 m c) y
theorem arrH'_apply (y : S8704x17408.Idx) : arrH' m c y = argH m c y := congrFun (V_main_arg6 m c) y

theorem index0 : ∀ t : Fin cfg0.N,
    ((t.val % 34 ≤ 31 → cc0_transform_0 (grid0.coords t) 0 = t.val % 34) ∧ cc0_transform_0 (grid0.coords t) 1 = 0)
    ∧ ((32 ≤ t.val % 34 → cc0_transform_1 (grid0.coords t) 0 = t.val % 34 - 32) ∧ cc0_transform_1 (grid0.coords t) 1 = 0)
    ∧ ((t.val % 34 ≤ 31 → cc0_transform_2 (grid0.coords t) 0 = t.val % 34) ∧ cc0_transform_2 (grid0.coords t) 1 = 0)
    ∧ ((32 ≤ t.val % 34 → cc0_transform_3 (grid0.coords t) 0 = t.val % 34 - 32) ∧ cc0_transform_3 (grid0.coords t) 1 = 0)
    ∧ (cc0_transform_4 (grid0.coords t) 0 = 0 ∧ cc0_transform_4 (grid0.coords t) 1 = t.val / 34)
    ∧ (cc0_transform_5 (grid0.coords t) 0 = 0 ∧ cc0_transform_5 (grid0.coords t) 1 = t.val / 34)
    ∧ (cc0_transform_6 (grid0.coords t) 0 = t.val % 34 ∧ cc0_transform_6 (grid0.coords t) 1 = 9 + t.val / 34)
    ∧ (cc0_transform_7 (grid0.coords t) 0 = t.val % 34 ∧ cc0_transform_7 (grid0.coords t) 1 = 13 + t.val / 34) := by
  decide +kernel

/-- The convolution's rows a point over the prompt loads. -/
theorem iblk0 (t : Fin cfg0.N) (h : t.val % 34 ≤ 31) (p : Fin 256) (k : Fin 2048) :
    iblk m c 0 t (ix2 p k : S256x2048.Idx) = arrCP m c (ix2 (⟨t.val % 34 * 256 + p.val, by omega⟩ : Fin 8192) k) := by
  unfold iblk
  rw [View.read_apply]
  refine congrArg (arrCP m c) ((eq_ix2 _).trans (congrArg₂ ix2 (Fin.ext ?_) (Fin.ext ?_)))
  · show cc0_transform_0 (grid0.coords t) 0 * 256 + 1 * p.val = _
    rw [(index0 t).1.1 h, one_mul]
  · show cc0_transform_0 (grid0.coords t) 1 * 2048 + 1 * k.val = _
    rw [(index0 t).1.2, one_mul, Nat.zero_mul, Nat.zero_add]

/-- The convolution's rows a point over the samples loads. -/
theorem iblk1 (t : Fin cfg0.N) (h : 32 ≤ t.val % 34) (p : Fin 256) (k : Fin 2048) :
    iblk m c 1 t (ix2 p k : S256x2048.Idx) = arrCS m c (ix2 (⟨(t.val % 34 - 32) * 256 + p.val, by omega⟩ : Fin 512) k) := by
  unfold iblk
  rw [View.read_apply]
  refine congrArg (arrCS m c) ((eq_ix2 _).trans (congrArg₂ ix2 (Fin.ext ?_) (Fin.ext ?_)))
  · show cc0_transform_1 (grid0.coords t) 0 * 256 + 1 * p.val = _
    rw [(index0 t).2.1.1 h, one_mul]
  · show cc0_transform_1 (grid0.coords t) 1 * 2048 + 1 * k.val = _
    rw [(index0 t).2.1.2, one_mul, Nat.zero_mul, Nat.zero_add]

/-- The attention's rows a point over the prompt loads. -/
theorem iblk2 (t : Fin cfg0.N) (h : t.val % 34 ≤ 31) (p : Fin 256) (k : Fin 2048) :
    iblk m c 2 t (ix2 p k : S256x2048.Idx) = arrAP m c (ix2 (⟨t.val % 34 * 256 + p.val, by omega⟩ : Fin 8192) k) := by
  unfold iblk
  rw [View.read_apply]
  refine congrArg (arrAP m c) ((eq_ix2 _).trans (congrArg₂ ix2 (Fin.ext ?_) (Fin.ext ?_)))
  · show cc0_transform_2 (grid0.coords t) 0 * 256 + 1 * p.val = _
    rw [(index0 t).2.2.1.1 h, one_mul]
  · show cc0_transform_2 (grid0.coords t) 1 * 2048 + 1 * k.val = _
    rw [(index0 t).2.2.1.2, one_mul, Nat.zero_mul, Nat.zero_add]

/-- The attention's rows a point over the samples loads. -/
theorem iblk3 (t : Fin cfg0.N) (h : 32 ≤ t.val % 34) (p : Fin 256) (k : Fin 2048) :
    iblk m c 3 t (ix2 p k : S256x2048.Idx) = arrAS m c (ix2 (⟨(t.val % 34 - 32) * 256 + p.val, by omega⟩ : Fin 512) k) := by
  unfold iblk
  rw [View.read_apply]
  refine congrArg (arrAS m c) ((eq_ix2 _).trans (congrArg₂ ix2 (Fin.ext ?_) (Fin.ext ?_)))
  · show cc0_transform_3 (grid0.coords t) 0 * 256 + 1 * p.val = _
    rw [(index0 t).2.2.2.1.1 h, one_mul]
  · show cc0_transform_3 (grid0.coords t) 1 * 2048 + 1 * k.val = _
    rw [(index0 t).2.2.2.1.2, one_mul, Nat.zero_mul, Nat.zero_add]

/-- The columns of the convolution's weight a point loads. -/
theorem iblk4 (t : Fin cfg0.N) (k : Fin 2048) (q : Fin 1024) :
    iblk m c 4 t (ix2 k q : S2048x1024.Idx) = arrWC m c (ix2 k (⟨t.val / 34 * 1024 + q.val, by have := t.isLt; have : cfg0.N = 136 := N_0; omega⟩ : Fin 4096)) := by
  unfold iblk
  rw [View.read_apply]
  refine congrArg (arrWC m c) ((eq_ix2 _).trans (congrArg₂ ix2 (Fin.ext ?_) (Fin.ext ?_)))
  · show cc0_transform_4 (grid0.coords t) 0 * 2048 + 1 * k.val = _
    rw [(index0 t).2.2.2.2.1.1, one_mul, Nat.zero_mul, Nat.zero_add]
  · show cc0_transform_4 (grid0.coords t) 1 * 1024 + 1 * q.val = _
    rw [(index0 t).2.2.2.2.1.2, one_mul]

/-- The columns of the attention's weight a point loads. -/
theorem iblk5 (t : Fin cfg0.N) (k : Fin 2048) (q : Fin 1024) :
    iblk m c 5 t (ix2 k q : S2048x1024.Idx) = arrWA m c (ix2 k (⟨t.val / 34 * 1024 + q.val, by have := t.isLt; have : cfg0.N = 136 := N_0; omega⟩ : Fin 4096)) := by
  unfold iblk
  rw [View.read_apply]
  refine congrArg (arrWA m c) ((eq_ix2 _).trans (congrArg₂ ix2 (Fin.ext ?_) (Fin.ext ?_)))
  · show cc0_transform_5 (grid0.coords t) 0 * 2048 + 1 * k.val = _
    rw [(index0 t).2.2.2.2.2.1.1, one_mul, Nat.zero_mul, Nat.zero_add]
  · show cc0_transform_5 (grid0.coords t) 1 * 1024 + 1 * q.val = _
    rw [(index0 t).2.2.2.2.2.1.2, one_mul]

/-- The convolution's gates a point loads. -/
theorem iblk6 (t : Fin cfg0.N) (p : Fin 256) (q : Fin 1024) :
    iblk m c 6 t (ix2 p q : S256x1024.Idx) = arrH m c (ix2 (⟨t.val % 34 * 256 + p.val, by omega⟩ : Fin 8704) (⟨(9 + t.val / 34) * 1024 + q.val, by have := t.isLt; have : cfg0.N = 136 := N_0; omega⟩ : Fin 17408)) := by
  unfold iblk
  rw [View.read_apply]
  refine congrArg (arrH m c) ((eq_ix2 _).trans (congrArg₂ ix2 (Fin.ext ?_) (Fin.ext ?_)))
  · show cc0_transform_6 (grid0.coords t) 0 * 256 + 1 * p.val = _
    rw [(index0 t).2.2.2.2.2.2.1.1, one_mul]
  · show cc0_transform_6 (grid0.coords t) 1 * 1024 + 1 * q.val = _
    rw [(index0 t).2.2.2.2.2.2.1.2, one_mul]

/-- The attention's gates a point loads. -/
theorem iblk7 (t : Fin cfg0.N) (p : Fin 256) (q : Fin 1024) :
    iblk m c 7 t (ix2 p q : S256x1024.Idx) = arrH' m c (ix2 (⟨t.val % 34 * 256 + p.val, by omega⟩ : Fin 8704) (⟨(13 + t.val / 34) * 1024 + q.val, by have := t.isLt; have : cfg0.N = 136 := N_0; omega⟩ : Fin 17408)) := by
  unfold iblk
  rw [View.read_apply]
  refine congrArg (arrH' m c) ((eq_ix2 _).trans (congrArg₂ ix2 (Fin.ext ?_) (Fin.ext ?_)))
  · show cc0_transform_7 (grid0.coords t) 0 * 256 + 1 * p.val = _
    rw [(index0 t).2.2.2.2.2.2.2.1, one_mul]
  · show cc0_transform_7 (grid0.coords t) 1 * 1024 + 1 * q.val = _
    rw [(index0 t).2.2.2.2.2.2.2.2, one_mul]

/-- A point's blocks. -/
abbrev x0 (t : Fin cfg0.N) : Vec Ideal S256x2048 .bf16 := iblk m c 0 t
abbrev x1 (t : Fin cfg0.N) : Vec Ideal S256x2048 .bf16 := iblk m c 1 t
abbrev x2 (t : Fin cfg0.N) : Vec Ideal S256x2048 .bf16 := iblk m c 2 t
abbrev x3 (t : Fin cfg0.N) : Vec Ideal S256x2048 .bf16 := iblk m c 3 t
abbrev x4 (t : Fin cfg0.N) : Vec Ideal S2048x1024 .f32 := iblk m c 4 t
abbrev x5 (t : Fin cfg0.N) : Vec Ideal S2048x1024 .f32 := iblk m c 5 t
abbrev x6 (t : Fin cfg0.N) : Vec Ideal S256x1024 .f32 := iblk m c 6 t
abbrev x7 (t : Fin cfg0.N) : Vec Ideal S256x1024 .f32 := iblk m c 7 t

/-- Points of one run of 34 have the same columns. -/
theorem x4_eq (t t' : Fin cfg0.N) (h : t.val / 34 = t'.val / 34) : x4 m c t = x4 m c t' := by
  funext y
  rw [show y = ix2 (y 0 : Fin 2048) (y 1 : Fin 1024) from eq_ix2 y]
  refine (iblk4 m c t _ _).trans (Eq.trans ?_ (iblk4 m c t' _ _).symm)
  refine congrArg (arrWC m c) (congrArg₂ ix2 rfl (Fin.ext ?_))
  show t.val / 34 * 1024 + (y 1).val = t'.val / 34 * 1024 + (y 1).val
  rw [h]

/-- Points of one run of 34 have the same columns. -/
theorem x5_eq (t t' : Fin cfg0.N) (h : t.val / 34 = t'.val / 34) : x5 m c t = x5 m c t' := by
  funext y
  rw [show y = ix2 (y 0 : Fin 2048) (y 1 : Fin 1024) from eq_ix2 y]
  refine (iblk5 m c t _ _).trans (Eq.trans ?_ (iblk5 m c t' _ _).symm)
  refine congrArg (arrWA m c) (congrArg₂ ix2 rfl (Fin.ext ?_))
  show t.val / 34 * 1024 + (y 1).val = t'.val / 34 * 1024 + (y 1).val
  rw [h]

/-- The scratch after every point: its columns of the two weights, cast. -/
theorem scratch_eq : ∀ (n : ℕ) (hn : n < cfg0.N), (outsAt0 m c n hn).2 = (k0_pay1 (x4 m c ⟨n, hn⟩), k0_pay2 (x5 m c ⟨n, hn⟩)) := by
  intro n
  induction n with
  | zero =>
    intro hn
    rw [outsAt0_A m c ⟨0, hn⟩ (Nat.zero_mod _) (by show 0 % 34 ≤ 31; omega) (by show ¬32 ≤ 0 % 34; omega)]
    dsimp only
    rw [cast_conv, cast_attn]
  | succ n ih =>
    intro hn
    by_cases h0 : (n + 1) % 34 = 0
    · rw [outsAt0_A m c ⟨n + 1, hn⟩ h0 (by show (n + 1) % 34 ≤ 31; omega) (by show ¬32 ≤ (n + 1) % 34; omega)]
      dsimp only
      rw [cast_conv, cast_attn]
    · have e := ih (by omega)
      rw [x4_eq m c ⟨n, by omega⟩ ⟨n + 1, hn⟩ (by show n / 34 = (n + 1) / 34; omega), x5_eq m c ⟨n, by omega⟩ ⟨n + 1, hn⟩ (by show n / 34 = (n + 1) / 34; omega)] at e
      by_cases h1 : (n + 1) % 34 ≤ 31
      · rw [outsAt0_B m c ⟨n + 1, hn⟩ h0 h1 (by show ¬32 ≤ (n + 1) % 34; omega)]
        exact e
      · rw [outsAt0_C m c ⟨n + 1, hn⟩ h0 h1 (by show 32 ≤ (n + 1) % 34; omega)]
        exact e

/-- What every point over the prompt stores. -/
theorem stored_prompt (t : Fin cfg0.N) (h : t.val % 34 ≤ 31) :
    (outsAt0 m c t.val t.isLt).1 = k0_pay3 (x0 m c t) (k0_pay1 (x4 m c t)) (x2 m c t) (k0_pay2 (x5 m c t)) (x6 m c t) (x7 m c t) := by
  by_cases h0 : t.val % 34 = 0
  · rw [outsAt0_A m c t h0 h (by omega)]
    dsimp only
    rw [stores_A]
  · rw [outsAt0_B m c t h0 h (by omega)]
    dsimp only
    rw [stores_B, scratch_eq m c (t.val - 1) (Nat.lt_of_le_of_lt (Nat.sub_le _ _) t.isLt)]
    rw [x4_eq m c ⟨t.val - 1, Nat.lt_of_le_of_lt (Nat.sub_le _ _) t.isLt⟩ t (by show (t.val - 1) / 34 = t.val / 34; omega),
      x5_eq m c ⟨t.val - 1, Nat.lt_of_le_of_lt (Nat.sub_le _ _) t.isLt⟩ t (by show (t.val - 1) / 34 = t.val / 34; omega)]

/-- What every point over the samples stores. -/
theorem stored_sample (t : Fin cfg0.N) (h : 32 ≤ t.val % 34) :
    (outsAt0 m c t.val t.isLt).1 = k0_pay4 (x1 m c t) (k0_pay1 (x4 m c t)) (x3 m c t) (k0_pay2 (x5 m c t)) (x6 m c t) (x7 m c t) := by
  rw [outsAt0_C m c t (by omega) (by omega) h]
  dsimp only
  rw [stores_C, scratch_eq m c (t.val - 1) (Nat.lt_of_le_of_lt (Nat.sub_le _ _) t.isLt)]
  rw [x4_eq m c ⟨t.val - 1, Nat.lt_of_le_of_lt (Nat.sub_le _ _) t.isLt⟩ t (by show (t.val - 1) / 34 = t.val / 34; omega),
    x5_eq m c ⟨t.val - 1, Nat.lt_of_le_of_lt (Nat.sub_le _ _) t.isLt⟩ t (by show (t.val - 1) / 34 = t.val / 34; omega)]

theorem sg_zero_sub (x : EReal) : Ideal.div (1) (1 + Ideal.exp (0 - x)) = sg x := by
  rw [sub_eq_add_neg, zero_add]
  rfl

/-- One entry of a block: the two sums of products, each times its gate. -/
theorem block_prompt (a : Vec Ideal S256x2048 .bf16) (w : Vec Ideal S2048x1024 .f32) (b : Vec Ideal S256x2048 .bf16) (v : Vec Ideal S2048x1024 .f32) (g h : Vec Ideal S256x1024 .f32) (p : Fin 256) (q : Fin 1024) :
    k0_pay3 a (k0_pay1 w) b (k0_pay2 v) g h (ix2 p q : S256x1024.Idx)
      = sg (g (ix2 p q : S256x1024.Idx)) * ∑ k : Fin 2048, a (ix2 p k : S256x2048.Idx) * w (ix2 k q : S2048x1024.Idx)
        + sg (h (ix2 p q : S256x1024.Idx)) * ∑ k : Fin 2048, b (ix2 p k : S256x2048.Idx) * v (ix2 k q : S2048x1024.Idx) := by
  unfold k0_pay3 k0_pay1 k0_pay2
  pointwise
  rw [← sg_zero_sub, ← sg_zero_sub]

/-- One entry of a block: the two sums of products, each times its gate. -/
theorem block_sample (a : Vec Ideal S256x2048 .bf16) (w : Vec Ideal S2048x1024 .f32) (b : Vec Ideal S256x2048 .bf16) (v : Vec Ideal S2048x1024 .f32) (g h : Vec Ideal S256x1024 .f32) (p : Fin 256) (q : Fin 1024) :
    k0_pay4 a (k0_pay1 w) b (k0_pay2 v) g h (ix2 p q : S256x1024.Idx)
      = sg (g (ix2 p q : S256x1024.Idx)) * ∑ k : Fin 2048, a (ix2 p k : S256x2048.Idx) * w (ix2 k q : S2048x1024.Idx)
        + sg (h (ix2 p q : S256x1024.Idx)) * ∑ k : Fin 2048, b (ix2 p k : S256x2048.Idx) * v (ix2 k q : S2048x1024.Idx) := by
  unfold k0_pay4 k0_pay1 k0_pay2
  pointwise
  rw [← sg_zero_sub, ← sg_zero_sub]

/-- The kernel's array at the end, at the index a point's block covers. -/
theorem array_at (r : Fin 8704) (q : Fin 4096) (ht : q.val / 1024 * 34 + r.val / 256 < cfg0.N) :
    G8 m c (ix2 r q : S8704x4096.Idx)
      = (outsAt0 m c (q.val / 1024 * 34 + r.val / 256) ht).1 (ix2 (⟨r.val % 256, Nat.mod_lt _ (by decide)⟩ : Fin 256) (⟨q.val % 1024, Nat.mod_lt _ (by decide)⟩ : Fin 1024)) := by
  have hN : cfg0.N = 136 := N_0
  have hp : pt8Of (ix2 r q : S8704x4096.Idx) = q.val / 1024 * 34 + r.val / 256 := by
    show 1 * (r.val / 256 - 0) + 34 * (q.val / 1024 - 0) = _
    omega
  have hl : loc8Of (ix2 r q : S8704x4096.Idx) = ix2 (⟨r.val % 256, Nat.mod_lt _ (by decide)⟩ : Fin 256) (⟨q.val % 1024, Nat.mod_lt _ (by decide)⟩ : Fin 1024) := eq_ix2 _
  rw [outsAt0_sweep]
  unfold G8
  rw [dif_pos (by rw [hp]; exact ht), hl, fold0_congr m c _ _ _ (by omega) hp]

section Point
variable (r : Fin 8704) (q : Fin 4096) (ht : q.val / 1024 * 34 + r.val / 256 < cfg0.N)

/-- The row and the column inside a point's block. -/
abbrev pr : Fin 256 := ⟨r.val % 256, Nat.mod_lt _ (by decide)⟩
abbrev qc : Fin 1024 := ⟨q.val % 1024, Nat.mod_lt _ (by decide)⟩

theorem gate_conv : x6 m c ⟨_, ht⟩ (ix2 (pr r) (qc q) : S256x1024.Idx) = argH m c (ix2 r (⟨9216 + q.val, by omega⟩ : Fin 17408)) := by
  refine (iblk6 m c _ _ _).trans ((arrH_apply m c _).trans (congrArg (argH m c) (congrArg₂ ix2 (Fin.ext ?_) (Fin.ext ?_))))
  · show (q.val / 1024 * 34 + r.val / 256) % 34 * 256 + r.val % 256 = r.val
    omega
  · show (9 + (q.val / 1024 * 34 + r.val / 256) / 34) * 1024 + q.val % 1024 = 9216 + q.val
    omega

theorem gate_attn : x7 m c ⟨_, ht⟩ (ix2 (pr r) (qc q) : S256x1024.Idx) = argH m c (ix2 r (⟨13312 + q.val, by omega⟩ : Fin 17408)) := by
  refine (iblk7 m c _ _ _).trans ((arrH'_apply m c _).trans (congrArg (argH m c) (congrArg₂ ix2 (Fin.ext ?_) (Fin.ext ?_))))
  · show (q.val / 1024 * 34 + r.val / 256) % 34 * 256 + r.val % 256 = r.val
    omega
  · show (13 + (q.val / 1024 * 34 + r.val / 256) / 34) * 1024 + q.val % 1024 = 13312 + q.val
    omega

theorem weight_conv (k : Fin 2048) : x4 m c ⟨_, ht⟩ (ix2 k (qc q) : S2048x1024.Idx) = argWC m c (ix2 k q) := by
  refine (iblk4 m c _ _ _).trans ((arrWC_apply m c _).trans (congrArg (argWC m c) (congrArg₂ ix2 rfl (Fin.ext ?_))))
  show (q.val / 1024 * 34 + r.val / 256) / 34 * 1024 + q.val % 1024 = q.val
  omega

theorem weight_attn (k : Fin 2048) : x5 m c ⟨_, ht⟩ (ix2 k (qc q) : S2048x1024.Idx) = argWA m c (ix2 k q) := by
  refine (iblk5 m c _ _ _).trans ((arrWA_apply m c _).trans (congrArg (argWA m c) (congrArg₂ ix2 rfl (Fin.ext ?_))))
  show (q.val / 1024 * 34 + r.val / 256) / 34 * 1024 + q.val % 1024 = q.val
  omega

theorem rows_conv_prompt (h : r.val < 8192) (k : Fin 2048) : x0 m c ⟨_, ht⟩ (ix2 (pr r) k : S256x2048.Idx) = argCP m c (ix2 (⟨r.val, by omega⟩ : Fin 8192) k) := by
  refine (iblk0 m c _ (by show (q.val / 1024 * 34 + r.val / 256) % 34 ≤ 31; omega) _ _).trans ((arrCP_apply m c _).trans (congrArg (argCP m c) (congrArg₂ ix2 (Fin.ext ?_) rfl)))
  show (q.val / 1024 * 34 + r.val / 256) % 34 * 256 + r.val % 256 = r.val
  omega

theorem rows_attn_prompt (h : r.val < 8192) (k : Fin 2048) : x2 m c ⟨_, ht⟩ (ix2 (pr r) k : S256x2048.Idx) = argAP m c (ix2 (⟨r.val, by omega⟩ : Fin 8192) k) := by
  refine (iblk2 m c _ (by show (q.val / 1024 * 34 + r.val / 256) % 34 ≤ 31; omega) _ _).trans ((arrAP_apply m c _).trans (congrArg (argAP m c) (congrArg₂ ix2 (Fin.ext ?_) rfl)))
  show (q.val / 1024 * 34 + r.val / 256) % 34 * 256 + r.val % 256 = r.val
  omega

theorem rows_conv_sample (h : ¬r.val < 8192) (k : Fin 2048) : x1 m c ⟨_, ht⟩ (ix2 (pr r) k : S256x2048.Idx) = argCS m c (ix2 (⟨r.val - 8192, by omega⟩ : Fin 512) k) := by
  refine (iblk1 m c _ (by show 32 ≤ (q.val / 1024 * 34 + r.val / 256) % 34; omega) _ _).trans ((arrCS_apply m c _).trans (congrArg (argCS m c) (congrArg₂ ix2 (Fin.ext ?_) rfl)))
  show ((q.val / 1024 * 34 + r.val / 256) % 34 - 32) * 256 + r.val % 256 = r.val - 8192
  omega

theorem rows_attn_sample (h : ¬r.val < 8192) (k : Fin 2048) : x3 m c ⟨_, ht⟩ (ix2 (pr r) k : S256x2048.Idx) = argAS m c (ix2 (⟨r.val - 8192, by omega⟩ : Fin 512) k) := by
  refine (iblk3 m c _ (by show 32 ≤ (q.val / 1024 * 34 + r.val / 256) % 34; omega) _ _).trans ((arrAS_apply m c _).trans (congrArg (argAS m c) (congrArg₂ ix2 (Fin.ext ?_) rfl)))
  show ((q.val / 1024 * 34 + r.val / 256) % 34 - 32) * 256 + r.val % 256 = r.val - 8192
  omega

end Point

/-- The kernel's array at a row of the prompt, of the arguments. -/
theorem array_prompt (r : Fin 8704) (h : r.val < 8192) (q : Fin 4096) :
    G8 m c (ix2 r q : S8704x4096.Idx)
      = sg (argH m c (ix2 r (⟨9216 + q.val, by omega⟩ : Fin 17408))) * (∑ k : Fin 2048, argCP m c (ix2 (⟨r.val, by omega⟩ : Fin 8192) k) * argWC m c (ix2 k q))
        + sg (argH m c (ix2 r (⟨13312 + q.val, by omega⟩ : Fin 17408))) * (∑ k : Fin 2048, argAP m c (ix2 (⟨r.val, by omega⟩ : Fin 8192) k) * argWA m c (ix2 k q)) := by
  have hN : cfg0.N = 136 := N_0
  have ht : q.val / 1024 * 34 + r.val / 256 < cfg0.N := by omega
  have hh : (q.val / 1024 * 34 + r.val / 256) % 34 ≤ 31 := by omega
  refine (array_at m c r q ht).trans ((congrFun (stored_prompt m c ⟨_, ht⟩ hh) _).trans ((block_prompt _ _ _ _ _ _ _ _).trans ?_))
  refine congrArg₂ (fun a b : EReal => a + b) (congrArg₂ (fun a b : EReal => sg a * b) (gate_conv m c r q ht) (Finset.sum_congr rfl fun k _ => ?_))
    (congrArg₂ (fun a b : EReal => sg a * b) (gate_attn m c r q ht) (Finset.sum_congr rfl fun k _ => ?_))
  · exact congrArg₂ (fun a b : EReal => a * b) (rows_conv_prompt m c r q ht h k) (weight_conv m c r q ht k)
  · exact congrArg₂ (fun a b : EReal => a * b) (rows_attn_prompt m c r q ht h k) (weight_attn m c r q ht k)

/-- The kernel's array at a row of the sample, of the arguments. -/
theorem array_sample (r : Fin 8704) (h : ¬r.val < 8192) (q : Fin 4096) :
    G8 m c (ix2 r q : S8704x4096.Idx)
      = sg (argH m c (ix2 r (⟨9216 + q.val, by omega⟩ : Fin 17408))) * (∑ k : Fin 2048, argCS m c (ix2 (⟨r.val - 8192, by omega⟩ : Fin 512) k) * argWC m c (ix2 k q))
        + sg (argH m c (ix2 r (⟨13312 + q.val, by omega⟩ : Fin 17408))) * (∑ k : Fin 2048, argAS m c (ix2 (⟨r.val - 8192, by omega⟩ : Fin 512) k) * argWA m c (ix2 k q)) := by
  have hN : cfg0.N = 136 := N_0
  have ht : q.val / 1024 * 34 + r.val / 256 < cfg0.N := by omega
  have hh : 32 ≤ (q.val / 1024 * 34 + r.val / 256) % 34 := by omega
  refine (array_at m c r q ht).trans ((congrFun (stored_sample m c ⟨_, ht⟩ hh) _).trans ((block_sample _ _ _ _ _ _ _ _).trans ?_))
  refine congrArg₂ (fun a b : EReal => a + b) (congrArg₂ (fun a b : EReal => sg a * b) (gate_conv m c r q ht) (Finset.sum_congr rfl fun k _ => ?_))
    (congrArg₂ (fun a b : EReal => sg a * b) (gate_attn m c r q ht) (Finset.sum_congr rfl fun k _ => ?_))
  · exact congrArg₂ (fun a b : EReal => a * b) (rows_conv_sample m c r q ht h k) (weight_conv m c r q ht k)
  · exact congrArg₂ (fun a b : EReal => a * b) (rows_attn_sample m c r q ht h k) (weight_attn m c r q ht k)

end Cert.Kernel7Ideal.Merge

namespace Cert.Reference7Ideal.Merge
open Cert.Merge Cert.Reference7Ideal Cert.Reference7Ideal.Gen Cert.Reference7Ideal.Read Idealize.ShloMosaic Idealize.ShloMosaic.TcCoe Idealize.SL.Sem

variable (cp : S8192x2048.Idx → EReal) (cs : S512x2048.Idx → EReal) (ap : S8192x2048.Idx → EReal) (aS : S512x2048.Idx → EReal) (wc wa : S2048x4096.Idx → EReal) (g : S8704x17408.Idx → EReal)

theorem sg_host (x : Ideal .f32) :
    FloatOps.hostDivf (F := Ideal) (FloatOps.ofBits .f32 0x3F800000#32) (FloatOps.addf (FloatOps.ofBits .f32 0x3F800000#32) (FloatOps.hostUnary HostUnaryOp.exp (FloatOps.hostNegf x))) = sg x := by
  change Ideal.div (Ideal.ofBits .f32 0x3F800000#32) (Ideal.ofBits .f32 0x3F800000#32 + Ideal.exp (-x)) = _
  rw [Ideal.ofBits_one_f32]
  rfl

/-- The reference at a row of the prompt. -/
theorem prompt_apply (r : Fin 8704) (h : r.val < 8192) (q : Fin 4096) :
    val_main_v53 (F := Ideal) cp cs ap aS wc wa g (ix2 r q)
      = sg (g (ix2 r (⟨9216 + q.val, by omega⟩ : Fin 17408))) * (∑ k : Fin 2048, cp (ix2 (⟨r.val, by omega⟩ : Fin 8192) k) * wc (ix2 k q))
        + sg (g (ix2 r (⟨13312 + q.val, by omega⟩ : Fin 17408))) * (∑ k : Fin 2048, ap (ix2 (⟨r.val, by omega⟩ : Fin 8192) k) * wa (ix2 k q)) := by
  unfold val_main_v53 val_main_v52
  pointwise
  rw [dif_pos h, val_main_v25_apply, val_main_v17_apply, val_main_v16_apply, val_main_v15_apply, val_main_cst_0_apply, val_main_v14_apply, val_main_v13_apply, val_main_cst_apply, val_main_v12_apply, val_main_v11_apply, val_main_v7_apply, val_main_v0_apply, val_main_v9_apply, val_main_v24_apply, val_main_v23_apply, val_main_v22_apply, val_main_cst_2_apply, val_main_v21_apply, val_main_v20_apply, val_main_cst_1_apply, val_main_v19_apply, val_main_v18_apply, val_main_v8_apply, val_main_v0_apply, val_main_v10_apply, sg_host, sg_host]
  refine congrArg₂ (fun a b : EReal => a + b) (congrArg₂ (fun (a : S8704x17408.Idx) (b : EReal) => sg (g a) * b) ?_ (Finset.sum_congr rfl fun k _ => congrArg₂ (fun a b => cp a * wc b) ?_ ?_))
    (congrArg₂ (fun (a : S8704x17408.Idx) (b : EReal) => sg (g a) * b) ?_ (Finset.sum_congr rfl fun k _ => congrArg₂ (fun a b => ap a * wa b) ?_ ?_))
  · refine (eq_ix2 _).trans (congrArg₂ ix2 (Fin.ext ?_) (Fin.ext ?_))
    · show r.val = r.val
      omega
    · rfl
  · exact eq_ix2 _
  · exact eq_ix2 _
  · refine (eq_ix2 _).trans (congrArg₂ ix2 (Fin.ext ?_) (Fin.ext ?_))
    · show r.val = r.val
      omega
    · rfl
  · exact eq_ix2 _
  · exact eq_ix2 _

/-- The reference at a row of the sample. -/
theorem sample_apply (r : Fin 8704) (h : ¬r.val < 8192) (q : Fin 4096) :
    val_main_v53 (F := Ideal) cp cs ap aS wc wa g (ix2 r q)
      = sg (g (ix2 r (⟨9216 + q.val, by omega⟩ : Fin 17408))) * (∑ k : Fin 2048, cs (ix2 (⟨r.val - 8192, by omega⟩ : Fin 512) k) * wc (ix2 k q))
        + sg (g (ix2 r (⟨13312 + q.val, by omega⟩ : Fin 17408))) * (∑ k : Fin 2048, aS (ix2 (⟨r.val - 8192, by omega⟩ : Fin 512) k) * wa (ix2 k q)) := by
  unfold val_main_v53 val_main_v52
  pointwise
  rw [dif_neg h, val_main_v51_apply, val_main_v43_apply, val_main_v42_apply, val_main_v41_apply, val_main_cst_4_apply, val_main_v40_apply, val_main_v39_apply, val_main_cst_3_apply, val_main_v38_apply, val_main_v37_apply, val_main_v33_apply, val_main_v26_apply, val_main_v35_apply, val_main_v50_apply, val_main_v49_apply, val_main_v48_apply, val_main_cst_6_apply, val_main_v47_apply, val_main_v46_apply, val_main_cst_5_apply, val_main_v45_apply, val_main_v44_apply, val_main_v34_apply, val_main_v26_apply, val_main_v36_apply, sg_host, sg_host]
  refine congrArg₂ (fun a b : EReal => a + b) (congrArg₂ (fun (a : S8704x17408.Idx) (b : EReal) => sg (g a) * b) ?_ (Finset.sum_congr rfl fun k _ => congrArg₂ (fun a b => cs a * wc b) ?_ ?_))
    (congrArg₂ (fun (a : S8704x17408.Idx) (b : EReal) => sg (g a) * b) ?_ (Finset.sum_congr rfl fun k _ => congrArg₂ (fun a b => aS a * wa b) ?_ ?_))
  · refine (eq_ix2 _).trans (congrArg₂ ix2 (Fin.ext ?_) (Fin.ext ?_))
    · show 8192 + (r.val - 8192) = r.val
      omega
    · rfl
  · exact eq_ix2 _
  · exact eq_ix2 _
  · refine (eq_ix2 _).trans (congrArg₂ ix2 (Fin.ext ?_) (Fin.ext ?_))
    · show 8192 + (r.val - 8192) = r.val
      omega
    · rfl
  · exact eq_ix2 _
  · exact eq_ix2 _

end Cert.Reference7Ideal.Merge

namespace Cert.Merge
open Idealize.ShloMosaic Idealize.ShloMosaic.TcCoe Idealize.SL.Sem

/-- The kernel's array is the reference's array of the same arguments. -/
theorem equation (m : (ℓ : Loc Kernel7Ideal.nD Kernel7Ideal.τ Kernel7Ideal.sig) → Buf (Elt Ideal) ℓ) (c : Dev Kernel7Ideal.nD) :
    Kernel7Ideal.Value.G8 m c = Reference7Ideal.Read.val_main_v53 (F := Ideal) (Kernel7Ideal.Merge.argCP m c) (Kernel7Ideal.Merge.argCS m c) (Kernel7Ideal.Merge.argAP m c) (Kernel7Ideal.Merge.argAS m c)
      (Kernel7Ideal.Merge.argWC m c) (Kernel7Ideal.Merge.argWA m c) (Kernel7Ideal.Merge.argH m c) := by
  funext y
  rw [show y = ix2 (y 0 : Fin 8704) (y 1 : Fin 4096) from eq_ix2 y]
  by_cases h : (y 0 : Fin 8704).val < 8192
  · exact (Kernel7Ideal.Merge.array_prompt m c _ h _).trans (Reference7Ideal.Merge.prompt_apply _ _ _ _ _ _ _ _ h _).symm
  · exact (Kernel7Ideal.Merge.array_sample m c _ h _).trans (Reference7Ideal.Merge.sample_apply _ _ _ _ _ _ _ _ h _).symm

end Cert.Merge
end
-- ==== Proof.Frames.lean ====
/-
  The references' runs as frames: each is a list of host operations and declares no semaphore.
-/
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Defs
public import Idealize.ShloMosaic.Lib.Quiescent

@[expose] public section

noncomputable section

namespace Cert.Attn

open Idealize.ShloMosaic Idealize.SL.Sem

/-- The reference's run leaves its three arguments and every semaphore counter as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-- The run of the input projection reference leaves its arguments and every semaphore counter as they were. -/
theorem frame_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The run of the rotation reference leaves its arguments and every semaphore counter as they were. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- The run of the prompt convolution reference leaves its arguments and every semaphore counter as they were. -/
theorem frame_reference4 : Cert.quiescent_Reference4Ideal (hReference4Ideal := Cert.Reference4Ideal.Gen.facts) := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The run of the sample convolution reference leaves its arguments and every semaphore counter as they were. -/
theorem frame_reference5 : Cert.quiescent_Reference5Ideal (hReference5Ideal := Cert.Reference5Ideal.Gen.facts) := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- The run of the output projection reference leaves its arguments and every semaphore counter as they were. -/
theorem frame_reference6 : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The run of the merge reference leaves its arguments and every semaphore counter as they were. -/
theorem frame_reference7 : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩)
    (Cert.Reference7Ideal.Value.run (F := Ideal) m ρ)

end Cert.Attn

end
-- ==== Proof.Body.lean ====
/-
  One grid point's results as functions of what it loads.

  A point loads 256 rows of four query heads (`x`), and the three scratch arrays: the eight block means of the
  keys (`km`), the eight key blocks (`kb`) and the eight value blocks, transposed (`vt`). Here its stores are named
  by those loads: the running maximum, sum and weighted sum before the loop (`start`), what one trip makes of them
  (`trip_eq`), and the four stored slices of the quotient (`out_B_eq`, `out_A_eq`).
-/
module

public import proofs.«01_k».proof.Proof.Gen.KernelIdeal.Value
public import Idealize.ShloMosaic.Lib.Tactic
public import Idealize.ShloMosaic.Lib.Pointwise

@[expose] public section
set_option maxRecDepth 16384
noncomputable section
namespace Cert.KernelIdeal.Attn
open Cert.KernelIdeal Cert.KernelIdeal.Gen Idealize.ShloMosaic Idealize.ShloMosaic.TcCoe Idealize.SL.Sem

variable {F : FTy → Type} [FloatOps F]

/-- The rows of the first query head of the group. -/
abbrev q0 (x : Vec F S256x512 .f32) : Vec F S256x128 .f32 := View.ld x (Rect.unit (s := S256x512) ![0, 0] S256x128.size inb_S256x512_S256x128_0_0)
/-- The rows of the second. -/
abbrev q1 (x : Vec F S256x512 .f32) : Vec F S256x128 .f32 := View.ld x (Rect.unit (s := S256x512) ![0, 128] S256x128.size inb_S256x512_S256x128_0_128)
/-- The rows of the third. -/
abbrev q2 (x : Vec F S256x512 .f32) : Vec F S256x128 .f32 := View.ld x (Rect.unit (s := S256x512) ![0, 256] S256x128.size inb_S256x512_S256x128_0_256)
/-- The rows of the fourth. -/
abbrev q3 (x : Vec F S256x512 .f32) : Vec F S256x128 .f32 := View.ld x (Rect.unit (s := S256x512) ![0, 384] S256x128.size inb_S256x512_S256x128_0_384)

/-- The block number of a row of the gate. -/
abbrev blks : IVec S8x1024 32 := iota .tc S8x1024 32 [0] iota_S8x1024_d0_w32
/-- The four heads' queries, one below the other. -/
def qcat (x : Vec F S256x512 .f32) : FVec F S1024x128 .f32 := k0_pay40 (q0 x) (q1 x) (q2 x) (q3 x)
/-- The gate: block means against queries, −∞ where the block is not wholly past. -/
def gate (i : grid0.Coords) (x : Vec F S256x512 .f32) (km : Vec F S8x128 .f32) : FVec F S8x1024 .f32 := k0_pay42 i (q0 x) (q1 x) (q2 x) (q3 x) km
/-- One where a query takes a block, else zero. -/
def flags (i : grid0.Coords) (x : Vec F S256x512 .f32) (km : Vec F S8x128 .f32) : FVec F S8x1024 .f32 :=
  k0_pay51 blks (k0_pay41 i) (gate i x km)
    (k0_pay47 blks (gate i x km) (k0_pay43 i (q0 x) (q1 x) (q2 x) (q3 x) km) (k0_pay45 i (q0 x) (q1 x) (q2 x) (q3 x) km) (k0_pay46 i (q0 x) (q1 x) (q2 x) (q3 x) km))
    (k0_pay49 (gate i x km)) (k0_pay50 blks (gate i x km))
/-- The point's own key block. -/
abbrev ownK (i : grid0.Coords) (kb : Vec F S8x256x128 .bf16) : Vec F S1x256x128 .bf16 := View.ld kb (Rect.unit (s := S8x256x128) (k0_off1 i) S1x256x128.size (k0_off1_inb i))
/-- The point's own value block, transposed. -/
abbrev ownV (i : grid0.Coords) (vt : Vec F S8x128x256 .bf16) : Vec F S1x128x256 .bf16 := View.ld vt (Rect.unit (s := S8x128x256) (k0_off2 i) S1x128x256.size (k0_off2_inb i))

/-- Maximum, sum and weighted sum after the point's own block. -/
def start (i : grid0.Coords) (x : Vec F S256x512 .f32) (kb : Vec F S8x256x128 .bf16) (vt : Vec F S8x128x256 .bf16) :
    FVec F S1x1024 .f32 × FVec F S1x1024 .f32 × FVec F S128x1024 .f32 :=
  (k0_pay54 (qcat x) (ownK i kb), k0_pay56 (qcat x) (ownK i kb),
    k0_pay1 (k0_pay57 (ownV i vt)) (k0_pay58 (qcat x) (ownK i kb)) (constant S128x1024 .f32 0x00000000#32))

/-- The loop over the past blocks makes as many trips as there are past blocks. -/
theorem trips1 (i : grid0.Coords) : (k0_t1_loop i).trips = (i 2).val := by
  have h : ∀ n : Fin 8, (Scf.Loop.mk (0#32) (Scalar.addi (0#32) (Scalar.muli (Scalar.divsi (Scalar.subi (BitVec.ofNat 32 n.val) 0#32) 1#32) 1#32)) 1#32 : Scf.Loop 32).trips = n.val := by
    decide +kernel
  exact h (i 2)

/-- The loop's remainder makes none. -/
theorem trips2 (i : grid0.Coords) : (k0_t2_loop i).trips = 0 := by
  have h : ∀ n : Fin 8, (Scf.Loop.mk (Scalar.addi (0#32) (Scalar.muli (Scalar.divsi (Scalar.subi (BitVec.ofNat 32 n.val) 0#32) 1#32) 1#32)) (Scalar.addi (0#32) (Scalar.subi (BitVec.ofNat 32 n.val) 0#32)) 1#32 : Scf.Loop 32).trips = 0 := by
    decide +kernel
  exact h (i 2)

variable (c : Dev nD) (i : grid0.Coords) (arg3 : Memref sig .tc .vmem S256x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S256x512 .bf16) (harg6 : arg6.IsWhole) (arg7 : Memref sig .tc .vmem S8x128 .f32) (harg7 : arg7.IsWhole) (arg8 : Memref sig .tc .vmem S8x256x128 .bf16) (harg8 : arg8.IsWhole) (arg9 : Memref sig .tc .vmem S8x128x256 .bf16) (harg9 : arg9.IsWhole)

/-- A trip's new maximum, sum and weighted sum, from the block it loads. -/
theorem trip_eq (v14 : IVec S8x1024 32) (v113 : FVec F S8x1024 .f32) (v116 : FVec F S1024x128 .bf16)
    (X8 : BufTy.Contents (Elt F) arg8.view.ty) (X9 : BufTy.Contents (Elt F) arg9.view.ty) (k : Fin (k0_t1_loop i).trips)
    (acc : FVec F S1x1024 .f32 × FVec F S1x1024 .f32 × FVec F S128x1024 .f32) :
    tripR_k0_t1 Variants.none c none i arg3 harg3 arg4 harg4 arg5 harg5 arg6 harg6 arg7 harg7 arg8 harg8 arg9 harg9 v14 v113 v116 X8 X9 k acc
      = (k0_pay4 i v14 v113 v116 k acc.1 (View.ld (arg8.view.read (Elt F) X8) (Rect.unit (s := S8x256x128) (k0_off3 i k) S1x256x128.size (k0_off3_inb i k))),
         k0_pay7 i v14 v113 v116 k acc.1 acc.2.1 (View.ld (arg8.view.read (Elt F) X8) (Rect.unit (s := S8x256x128) (k0_off3 i k) S1x256x128.size (k0_off3_inb i k))),
         k0_pay8 i v14 v113 v116 k acc.1 acc.2.2 (View.ld (arg8.view.read (Elt F) X8) (Rect.unit (s := S8x256x128) (k0_off3 i k) S1x256x128.size (k0_off3_inb i k)))
           (View.ld (arg9.view.read (Elt F) X9) (Rect.unit (s := S8x128x256) (k0_off4 i k) S1x128x256.size (k0_off4_inb i k)))) := by
  unfold tripR_k0_t1 trip_k0_t1
  dsimp only
  simp only [View.readAt_eq_ld]

/-- Maximum, sum and weighted sum before trip `n`, the scratch arrays being `kb` and `vt`. -/
def carried (x : Vec F S256x512 .f32) (km : Vec F S8x128 .f32) (kb : Vec F S8x256x128 .bf16) (vt : Vec F S8x128x256 .bf16) (n : ℕ) :
    FVec F S1x1024 .f32 × FVec F S1x1024 .f32 × FVec F S128x1024 .f32 :=
  st_k0_t1 Variants.none c none i arg3 harg3 arg4 harg4 arg5 harg5 arg6 harg6 arg7 harg7 arg8 harg8 arg9 harg9 blks (flags i x km) (k0_pay52 (qcat x))
    (harg8.unread kb) (harg9.unread vt) (start i x kb vt) n

/-- The loop's remainder, which makes no trip, changes nothing. -/
theorem rest_eq (x : Vec F S256x512 .f32) (km : Vec F S8x128 .f32) (kb : Vec F S8x256x128 .bf16) (vt : Vec F S8x128x256 .bf16) :
    st_k0_t2 Variants.none c none i arg3 harg3 arg4 harg4 arg5 harg5 arg6 harg6 arg7 harg7 arg8 harg8 arg9 harg9 (BitVec.ofNat 32 (i 2).val) blks (flags i x km) (k0_pay52 (qcat x))
      (harg8.unread kb) (harg9.unread vt) (carried c i arg3 harg3 arg4 harg4 arg5 harg5 arg6 harg6 arg7 harg7 arg8 harg8 arg9 harg9 x km kb vt (k0_t1_loop i).trips) (k0_t2_loop i).trips
      = carried c i arg3 harg3 arg4 harg4 arg5 harg5 arg6 harg6 arg7 harg7 arg8 harg8 arg9 harg9 x km kb vt (k0_t1_loop i).trips := by
  rw [trips2, st_k0_t2_zero]

set_option maxHeartbeats 1000000 in
/-- At a point after the first of its run of eight: the four slices of the quotient after the loop. -/
theorem out_B_eq (hc0 : ¬cond0_0 i)
    (x0 : Vec F S256x512 .f32) (x1 : Vec F S2048x128 .f32) (x2 : Vec F S2048x128 .f32) (xs0 : Vec F S8x128 .f32) (xs1 : Vec F S8x256x128 .bf16) (xs2 : Vec F S8x128x256 .bf16)
    (L : FVec F S1x1024 .f32 × FVec F S1x1024 .f32 × FVec F S128x1024 .f32)
    (hL : L = carried c i arg3 harg3 arg4 harg4 arg5 harg5 arg6 harg6 arg7 harg7 arg8 harg8 arg9 harg9 x0 xs0 xs1 xs2 (k0_t1_loop i).trips) :
    out0_B_3 c i arg3 harg3 arg4 harg4 arg5 harg5 arg6 harg6 arg7 harg7 arg8 harg8 arg9 harg9 hc0 x0 x1 x2 xs0 xs1 xs2
      = View.canon (Val := Elt F) [⟨Rect.unit (s := S256x512) ![0, 384] S256x128.size inb_S256x512_S256x128_0_384, k0_pay20 L.2.1 L.2.2⟩,
          ⟨Rect.unit (s := S256x512) ![0, 256] S256x128.size inb_S256x512_S256x128_0_256, k0_pay19 L.2.1 L.2.2⟩,
          ⟨Rect.unit (s := S256x512) ![0, 128] S256x128.size inb_S256x512_S256x128_0_128, k0_pay18 L.2.1 L.2.2⟩,
          ⟨Rect.unit (s := S256x512) ![0, 0] S256x128.size inb_S256x512_S256x128_0_0, k0_pay17 L.2.1 L.2.2⟩] := by
  have hz : (![0, 0] : Fin 2 → Nat) = fun _ => 0 := by funext a; fin_cases a <;> rfl
  unfold out0_B_3
  rw [View.read_writes_eq_canon _ _ _ (cover0_B_3 c i arg3 harg3 arg4 harg4 arg5 harg5 arg6 harg6 arg7 harg7 arg8 harg8 arg9 harg9 hc0 x0 x1 x2 xs0 xs1 xs2)]
  unfold kernelRun0_B
  dsimp only
  sl_unfold_words
  simp only [View.readAt_eq_ld, harg3.read_unread, harg7.read_unread, harg8.read_unread, harg9.read_unread, View.ld_unit_zero (S := S8x128) hz]
  rw [hL, ← rest_eq]
  rfl

/-- The block means the first point of a run leaves. -/
theorem means_eq (hc0 : cond0_0 i) (x0 : Vec F S256x512 .f32) (x1 : Vec F S2048x128 .f32) (x2 : Vec F S2048x128 .f32) :
    sout0_A_0 c i arg3 harg3 arg4 harg4 arg5 harg5 arg6 harg6 arg7 harg7 arg8 harg8 arg9 harg9 hc0 x0 x1 x2 = k0_pay22 x1 := by
  have hz : (![0, 0] : Fin 2 → Nat) = fun _ => 0 := by funext a; fin_cases a <;> rfl
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  simp only [View.readAt_eq_ld, harg4.read_unread, View.ld_unit_zero (S := S2048x128) hz]
  rw [View.canon_unit_zero hz]

/-- The keys as eight blocks of 256 rows. -/
def keysOf (x1 : Vec Ideal S2048x128 .f32) : Vec Ideal S8x256x128 .bf16 := fun y =>
  x1 (ix2 (⟨(y 0).val * 256 + (y 1).val, by have h0 : (y 0).val < 8 := (y 0).isLt; have h1 : (y 1).val < 256 := (y 1).isLt; omega⟩ : Fin 2048) (y 2 : Fin 128))

/-- The values as eight blocks of 256 rows, each block transposed. -/
def valuesOf (x2 : Vec Ideal S2048x128 .f32) : Vec Ideal S8x128x256 .bf16 := fun y =>
  x2 (ix2 (⟨(y 0).val * 256 + (y 2).val, by have h0 : (y 0).val < 8 := (y 0).isLt; have h1 : (y 2).val < 256 := (y 2).isLt; omega⟩ : Fin 2048) (y 1 : Fin 128))

/-- Block `n` of the keys at row `b`. -/
theorem keysOf_slab (x1 : Vec Ideal S2048x128 .f32) (n : ℕ) (inb) (a : Fin 1) (b : Fin 256) (d : Fin 128) (h : n * 256 + b.val < 2048) :
    keysOf x1 ((Rect.unit (s := S8x256x128) ![n, 0, 0] ![1, 256, 128] inb).emb (ix3 a b d)) = x1 (ix2 ⟨n * 256 + b.val, h⟩ d) := by
  refine congrArg x1 (congrArg₂ ix2 (Fin.ext ?_) (Fin.ext ?_))
  · show (n + 1 * a.val) * 256 + (0 + 1 * b.val) = _
    have := a.isLt
    show _ = n * 256 + b.val
    omega
  · show 0 + 1 * d.val = d.val
    omega

/-- Block `n` of the values at row `b`. -/
theorem valuesOf_slab (x2 : Vec Ideal S2048x128 .f32) (n : ℕ) (inb) (a : Fin 1) (d : Fin 128) (b : Fin 256) (h : n * 256 + b.val < 2048) :
    valuesOf x2 ((Rect.unit (s := S8x128x256) ![n, 0, 0] ![1, 128, 256] inb).emb (ix3 a d b)) = x2 (ix2 ⟨n * 256 + b.val, h⟩ d) := by
  refine congrArg x2 (congrArg₂ ix2 (Fin.ext ?_) (Fin.ext ?_))
  · show (n + 1 * a.val) * 256 + (0 + 1 * b.val) = _
    have := a.isLt
    show _ = n * 256 + b.val
    omega
  · show 0 + 1 * d.val = d.val
    omega

/-- The key scratch the first point of a run leaves: the keys, block by block. -/
theorem keys_eq (hc0 : cond0_0 i) (x0 : Vec Ideal S256x512 .f32) (x1 : Vec Ideal S2048x128 .f32) (x2 : Vec Ideal S2048x128 .f32) :
    sout0_A_1 c i arg3 harg3 arg4 harg4 arg5 harg5 arg6 harg6 arg7 harg7 arg8 harg8 arg9 harg9 hc0 x0 x1 x2 = keysOf x1 := by
  have hz : (![0, 0] : Fin 2 → Nat) = fun _ => 0 := by funext a; fin_cases a <;> rfl
  have hc := scover0_A_1 c i arg3 harg3 arg4 harg4 arg5 harg5 arg6 harg6 arg7 harg7 arg8 harg8 arg9 harg9 hc0 x0 x1 x2
  unfold sout0_A_1
  rw [View.read_writes_eq_canon _ _ _ hc]
  unfold kernelRun0_A at hc ⊢
  dsimp only at hc ⊢
  funext y
  refine View.canon_apply_of_pieces (keysOf x1) _ ?_ y (hc y)
  sl_unfold_words
  simp only [View.readAt_eq_ld, harg4.read_unread, View.ld_unit_zero (S := S2048x128) hz]
  simp only [List.forall_mem_cons, List.not_mem_nil, false_imp_iff, implies_true, and_true]
  refine ⟨?_, ?_, ?_, ?_, ?_, ?_, ?_, ?_⟩ <;>
  · intro j
    idx_vars j
    unfold_payloads
    pointwise
    have hb := j1.isLt
    first
      | exact (keysOf_slab x1 7 _ j0 j1 j2 (by omega)).symm
      | exact (keysOf_slab x1 6 _ j0 j1 j2 (by omega)).symm
      | exact (keysOf_slab x1 5 _ j0 j1 j2 (by omega)).symm
      | exact (keysOf_slab x1 4 _ j0 j1 j2 (by omega)).symm
      | exact (keysOf_slab x1 3 _ j0 j1 j2 (by omega)).symm
      | exact (keysOf_slab x1 2 _ j0 j1 j2 (by omega)).symm
      | exact (keysOf_slab x1 1 _ j0 j1 j2 (by omega)).symm
      | (refine Eq.trans ?_ (keysOf_slab x1 0 _ j0 j1 j2 (by omega)).symm
         exact congrArg x1 (congrArg₂ ix2 (Fin.ext (by simp)) rfl))

/-- The value scratch the first point of a run leaves: the values, each block transposed. -/
theorem values_eq (hc0 : cond0_0 i) (x0 : Vec Ideal S256x512 .f32) (x1 : Vec Ideal S2048x128 .f32) (x2 : Vec Ideal S2048x128 .f32) :
    sout0_A_2 c i arg3 harg3 arg4 harg4 arg5 harg5 arg6 harg6 arg7 harg7 arg8 harg8 arg9 harg9 hc0 x0 x1 x2 = valuesOf x2 := by
  have hc := scover0_A_2 c i arg3 harg3 arg4 harg4 arg5 harg5 arg6 harg6 arg7 harg7 arg8 harg8 arg9 harg9 hc0 x0 x1 x2
  unfold sout0_A_2
  rw [View.read_writes_eq_canon _ _ _ hc]
  unfold kernelRun0_A at hc ⊢
  dsimp only at hc ⊢
  funext y
  refine View.canon_apply_of_pieces (valuesOf x2) _ ?_ y (hc y)
  sl_unfold_words
  simp only [View.readAt_eq_ld, harg5.read_unread]
  simp only [List.forall_mem_cons, List.not_mem_nil, false_imp_iff, implies_true, and_true]
  refine ⟨?_, ?_, ?_, ?_, ?_, ?_, ?_, ?_⟩ <;>
  · intro j
    idx_vars j
    unfold_payloads
    pointwise
    have hb := j2.isLt
    first
      | exact (valuesOf_slab x2 7 _ j0 j1 j2 (by omega)).symm
      | exact (valuesOf_slab x2 6 _ j0 j1 j2 (by omega)).symm
      | exact (valuesOf_slab x2 5 _ j0 j1 j2 (by omega)).symm
      | exact (valuesOf_slab x2 4 _ j0 j1 j2 (by omega)).symm
      | exact (valuesOf_slab x2 3 _ j0 j1 j2 (by omega)).symm
      | exact (valuesOf_slab x2 2 _ j0 j1 j2 (by omega)).symm
      | exact (valuesOf_slab x2 1 _ j0 j1 j2 (by omega)).symm
      | (refine Eq.trans ?_ (valuesOf_slab x2 0 _ j0 j1 j2 (by omega)).symm
         exact congrArg x2 (congrArg₂ ix2 (Fin.ext (by simp)) rfl))

/-- At the first point of a run: the quotient of what the own block gives, the scratch just filled. -/
theorem out_A_eq (hc0 : cond0_0 i)
    (x0 : Vec Ideal S256x512 .f32) (x1 : Vec Ideal S2048x128 .f32) (x2 : Vec Ideal S2048x128 .f32)
    (L : FVec Ideal S1x1024 .f32 × FVec Ideal S1x1024 .f32 × FVec Ideal S128x1024 .f32)
    (hL : L = start i x0 (keysOf x1) (valuesOf x2)) :
    out0_A_3 c i arg3 harg3 arg4 harg4 arg5 harg5 arg6 harg6 arg7 harg7 arg8 harg8 arg9 harg9 hc0 x0 x1 x2
      = View.canon (Val := Elt Ideal) [⟨Rect.unit (s := S256x512) ![0, 384] S256x128.size inb_S256x512_S256x128_0_384, k0_pay20 L.2.1 L.2.2⟩,
          ⟨Rect.unit (s := S256x512) ![0, 256] S256x128.size inb_S256x512_S256x128_0_256, k0_pay19 L.2.1 L.2.2⟩,
          ⟨Rect.unit (s := S256x512) ![0, 128] S256x128.size inb_S256x512_S256x128_0_128, k0_pay18 L.2.1 L.2.2⟩,
          ⟨Rect.unit (s := S256x512) ![0, 0] S256x128.size inb_S256x512_S256x128_0_0, k0_pay17 L.2.1 L.2.2⟩] := by
  have hz : (![0, 0] : Fin 2 → Nat) = fun _ => 0 := by funext a; fin_cases a <;> rfl
  have h0 : (k0_t1_loop i).trips = 0 := by
    have h : ∀ n : Fin 8, ((Scalar.cmpi .ne (Scalar.extui (Scalar.cmpi .eq (BitVec.ofNat 32 n.val) 0#32)) 0#32) = 1#1) → n.val = 0 := by decide +kernel
    rw [trips1]; exact h (i 2) hc0
  have h2 := trips2 i
  have hk := keys_eq c i arg3 harg3 arg4 harg4 arg5 harg5 arg6 harg6 arg7 harg7 arg8 harg8 arg9 harg9 hc0 x0 x1 x2
  have hv := values_eq c i arg3 harg3 arg4 harg4 arg5 harg5 arg6 harg6 arg7 harg7 arg8 harg8 arg9 harg9 hc0 x0 x1 x2
  unfold sout0_A_1 at hk
  unfold sout0_A_2 at hv
  rw [View.read_writes_eq_canon _ _ _ (scover0_A_1 c i arg3 harg3 arg4 harg4 arg5 harg5 arg6 harg6 arg7 harg7 arg8 harg8 arg9 harg9 hc0 x0 x1 x2)] at hk
  rw [View.read_writes_eq_canon _ _ _ (scover0_A_2 c i arg3 harg3 arg4 harg4 arg5 harg5 arg6 harg6 arg7 harg7 arg8 harg8 arg9 harg9 hc0 x0 x1 x2)] at hv
  unfold kernelRun0_A at hk hv
  dsimp only at hk hv
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  change (Scf.trips _ _ _) = 0 at h0
  change (Scf.trips _ _ _) = 0 at h2
  simp only [h0, h2, st_k0_t1_zero, st_k0_t2_zero]
  revert hk hv
  sl_unfold_words
  simp only [View.readAt_eq_ld, View.read_writes_junk_eq_canon, harg3.read_unread, harg4.read_unread, harg5.read_unread, View.ld_unit_zero (S := S2048x128) hz]
  intro hk hv
  rw [hk, hv, hL]
  rfl
end Cert.KernelIdeal.Attn
end
-- ==== Proof.Rank.lean ====
/-
  The k greatest of a list of eight values, and the rank of a value.

  A stable sort under "strictly greater" puts a value at the position that is its rank: the number of values
  that are greater, or equal and earlier in the list. So the first three positions of the sort are exactly the
  values of rank below three. This is the step from `lax.top_k` to counting.
-/
module

public import Idealize.ShloMosaic.Lib.SortFacts
public import Mathlib.Data.EReal.Basic
public import Mathlib.Data.Fintype.Card
public import Mathlib.Algebra.BigOperators.Group.Finset.Basic

@[expose] public section

noncomputable section

namespace Cert.Attn

open Idealize.ShloMosaic

/-- `m` comes before `n` in the order of the sort: its value is greater, or the values are equal and `m` is the
earlier index. -/
def Before {N : ℕ} (g : Fin N → EReal) (m n : Fin N) : Prop := g n < g m ∨ (g m = g n ∧ m < n)

instance {N : ℕ} (g : Fin N → EReal) (m n : Fin N) : Decidable (Before g m n) := Classical.propDecidable _

theorem Before.asymm {N : ℕ} {g : Fin N → EReal} {m n : Fin N} (h : Before g m n) : ¬Before g n m := by
  rcases h with h | ⟨h, h'⟩
  · rintro (k | ⟨k, -⟩)
    · exact lt_asymm h k
    · exact absurd h (by rw [k]; exact lt_irrefl _)
  · rintro (k | ⟨-, k⟩)
    · exact absurd k (by rw [h]; exact lt_irrefl _)
    · exact lt_asymm h' k

theorem not_before_self {N : ℕ} (g : Fin N → EReal) (n : Fin N) : ¬Before g n n := fun h => h.asymm h

/-- Inserting an index that is earlier than all of a list ordered by `Before` keeps the list ordered. -/
theorem pairwise_insert {N : ℕ} (g : Fin N → EReal) (B : Fin N → Fin N → Bool) (hB : ∀ a b, B a b = true ↔ g b < g a)
    (a : Fin N) (l : List (Fin N)) (ha : ∀ b ∈ l, a < b) (hl : l.Pairwise (Before g)) :
    (insertBefore B a l).Pairwise (Before g) := by
  induction l with
  | nil => unfold insertBefore; exact List.pairwise_singleton _ _
  | cons b l ih =>
    have hab : a < b := ha b List.mem_cons_self
    obtain ⟨hbl, hl'⟩ := List.pairwise_cons.mp hl
    unfold insertBefore
    split
    · rename_i hba
      refine List.pairwise_cons.mpr ⟨fun c hc => ?_, ih (fun c hc => ha c (List.mem_cons_of_mem _ hc)) hl'⟩
      rcases List.mem_cons.mp ((perm_insertBefore B a l).mem_iff.mp hc) with rfl | hc
      · exact Or.inl ((hB _ _).mp hba)
      · exact hbl c hc
    · rename_i hba
      have hba' : g b ≤ g a := not_lt.mp fun h => hba ((hB b a).mpr h)
      refine List.pairwise_cons.mpr ⟨fun c hc => ?_, hl⟩
      have hac : a < c := ha c hc
      rcases List.mem_cons.mp hc with rfl | hc'
      · rcases lt_or_eq_of_le hba' with h | h
        · exact Or.inl h
        · exact Or.inr ⟨h.symm, hab⟩
      · have hcb : g c ≤ g b := by
          rcases hbl c hc' with h | ⟨h, -⟩
          · exact h.le
          · exact h.ge
        rcases lt_or_eq_of_le (hcb.trans hba') with h | h
        · exact Or.inl h
        · exact Or.inr ⟨h.symm, hac⟩

/-- The stable sort of a list of increasing indices is ordered by `Before`. -/
theorem pairwise_sort {N : ℕ} (g : Fin N → EReal) (B : Fin N → Fin N → Bool) (hB : ∀ a b, B a b = true ↔ g b < g a)
    (l : List (Fin N)) (hl : l.Pairwise (· < ·)) : (stableSort B l).Pairwise (Before g) := by
  induction l with
  | nil => exact List.Pairwise.nil
  | cons a l ih =>
    obtain ⟨ha, hl'⟩ := List.pairwise_cons.mp hl
    unfold stableSort
    exact pairwise_insert g B hB a _ (fun b hb => ha b ((perm_stableSort B l).mem_iff.mp hb)) (ih hl')

/-- The index at an earlier position of the sort comes before the index at a later one. -/
theorem sortedFrom_before {N : ℕ} (g : Fin N → EReal) (B : Fin N → Fin N → Bool) (hB : ∀ a b, B a b = true ↔ g b < g a)
    (i j : Fin N) (hij : i < j) : Before g (sortedFrom B i) (sortedFrom B j) := by
  have hp : ∀ a b : Fin (sortPositions N B).length, a < b →
      Before g ((sortPositions N B).get a) ((sortPositions N B).get b) :=
    List.pairwise_iff_get.mp (pairwise_sort g B hB (List.finRange N) (List.pairwise_lt_finRange N))
  unfold sortedFrom
  exact hp _ _ (by simp only [Fin.lt_def, Fin.val_cast]; exact hij)

/-- The rank of an index: how many indices come before it. -/
def rank {N : ℕ} (g : Fin N → EReal) (n : Fin N) : ℕ := (Finset.univ.filter fun m => Before g m n).card

/-- The index at position `i` of the sort has rank `i`. -/
theorem rank_sortedFrom {N : ℕ} (g : Fin N → EReal) (B : Fin N → Fin N → Bool) (hB : ∀ a b, B a b = true ↔ g b < g a)
    (i : Fin N) : rank g (sortedFrom B i) = i.val := by
  unfold rank
  have h : (Finset.univ.filter fun m => Before g m (sortedFrom B i))
      = (Finset.univ.filter fun j : Fin N => j < i).image (sortedFrom B) := by
    ext m
    simp only [Finset.mem_filter, Finset.mem_univ, true_and, Finset.mem_image]
    constructor
    · intro hm
      obtain ⟨j, rfl⟩ := sortedFrom_surjective B m
      refine ⟨j, ?_, rfl⟩
      by_contra hji
      rcases lt_or_eq_of_le (not_lt.mp hji) with h | h
      · exact hm.asymm (sortedFrom_before g B hB i j h)
      · exact not_before_self g _ (h ▸ hm)
    · rintro ⟨j, hj, rfl⟩
      exact sortedFrom_before g B hB j i hj
  rw [h, Finset.card_image_of_injective _ (sortedFrom_injective B)]
  rw [Finset.filter_gt_eq_Iio, Fin.card_Iio]

/-- A sum over the first `k` positions of the sort, of the indices below a bound `o`, is the sum over the indices of
rank below `k` that lie below the bound. -/
theorem sum_topk {M : Type} [AddCommMonoid M] {N : ℕ} (k : ℕ) (hk : k ≤ N) (g : Fin N → EReal)
    (B : Fin N → Fin N → Bool) (hB : ∀ a b, B a b = true ↔ g b < g a) (P : Fin N → Prop) [DecidablePred P] (H : Fin N → M) :
    (∑ i : Fin k, if P (sortedFrom B (i.castLE hk)) then H (sortedFrom B (i.castLE hk)) else 0)
      = ∑ n : Fin N, if rank g n < k ∧ P n then H n else 0 := by
  have h : (∑ i : Fin k, if P (sortedFrom B (i.castLE hk)) then H (sortedFrom B (i.castLE hk)) else 0)
      = ∑ n ∈ (Finset.univ.image fun i : Fin k => sortedFrom B (i.castLE hk)), if P n then H n else 0 := by
    rw [Finset.sum_image]
    intro a _ b _ hab
    exact Fin.castLE_injective hk (sortedFrom_injective B hab)
  have hset : (Finset.univ.image fun i : Fin k => sortedFrom B (i.castLE hk))
      = Finset.univ.filter fun n : Fin N => rank g n < k := by
    ext n
    simp only [Finset.mem_image, Finset.mem_univ, true_and, Finset.mem_filter]
    constructor
    · rintro ⟨i, rfl⟩
      rw [rank_sortedFrom g B hB]
      exact i.isLt
    · intro hn
      obtain ⟨j, rfl⟩ := sortedFrom_surjective B n
      rw [rank_sortedFrom g B hB] at hn
      exact ⟨⟨j.val, hn⟩, rfl⟩
  rw [h, hset, Finset.sum_filter]
  refine Finset.sum_congr rfl fun n _ => ?_
  by_cases h1 : rank g n < k <;> by_cases h2 : P n <;> simp [h1, h2]

end Cert.Attn

end
-- ==== Proof.Softmax.lean ====
/-
  A softmax-weighted sum taken in one pass over blocks of scores, with a running maximum, is the weighted sum of the
  softmax taken over all the scores at once.

  A score is a real number, or `⊥` where the entry is masked out. `w s m` is the weight `exp (s - m)`, a real
  number (zero for a masked entry).
-/
module

public import Idealize.ShloMosaic.PureOps.Ideal

@[expose] public section

noncomputable section

namespace Cert.Attn

open Idealize.ShloMosaic

/-- A masked score: a real number or `⊥`. -/
def Masked (s : EReal) : Prop := s ≠ ⊤

/-- The weight of a score `s` against the maximum `m`, as a real number. -/
def w (s : EReal) (m : ℝ) : ℝ := if s = ⊥ then 0 else Real.exp (s.toReal - m)

theorem w_nonneg (s : EReal) (m : ℝ) : 0 ≤ w s m := by
  unfold w; split
  · exact le_rfl
  · exact (Real.exp_pos _).le

theorem w_pos {s : EReal} (hs : s ≠ ⊥) (m : ℝ) : 0 < w s m := by
  unfold w; rw [if_neg hs]; exact Real.exp_pos _

@[simp] theorem w_bot (m : ℝ) : w ⊥ m = 0 := if_pos rfl

/-- The exponential of a masked score less a real maximum is its weight. -/
theorem exp_sub {s : EReal} (hs : Masked s) (m : ℝ) : Ideal.exp (s - (m : EReal)) = (w s m : EReal) := by
  induction s with
  | bot => rw [w_bot, EReal.bot_sub, Ideal.exp_bot, EReal.coe_zero]
  | top => exact absurd rfl hs
  | coe r =>
    unfold w
    rw [if_neg (EReal.coe_ne_bot r), ← EReal.coe_sub, Ideal.exp_coe, EReal.toReal_coe]

/-- Changing the maximum scales every weight by the same factor. -/
theorem w_shift (s : EReal) (m m' : ℝ) : Real.exp (m - m') * w s m = w s m' := by
  unfold w; split
  · rw [mul_zero]
  · rw [← Real.exp_add]; congr 1; ring

/-- Multiplication by a nonnegative real number distributes over a finite sum of extended reals. -/
theorem coe_mul_sum {ι : Type*} (S : Finset ι) (f : ι → EReal) {r : ℝ} (hr : 0 ≤ r) :
    (r : EReal) * ∑ i ∈ S, f i = ∑ i ∈ S, (r : EReal) * f i := by
  classical
  induction S using Finset.induction_on with
  | empty => rw [Finset.sum_empty, Finset.sum_empty, mul_zero]
  | insert a S ha ih =>
    rw [Finset.sum_insert ha, Finset.sum_insert ha,
      EReal.left_distrib_of_nonneg_of_ne_top (EReal.coe_nonneg.mpr hr) (EReal.coe_ne_top r), ih]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

variable {J : Type} [Fintype J]

/-- The weights of one block summed. -/
def L (s : J → EReal) (m : ℝ) : ℝ := ∑ j, w (s j) m

/-- The values of one block weighted and summed. -/
def A (s v : J → EReal) (m : ℝ) : EReal := ∑ j, (w (s j) m : EReal) * v j

theorem L_nonneg (s : J → EReal) (m : ℝ) : 0 ≤ L s m := Finset.sum_nonneg fun j _ => w_nonneg _ _

theorem L_pos (s : J → EReal) (m : ℝ) (j : J) (hj : s j ≠ ⊥) : 0 < L s m :=
  Finset.sum_pos' (fun j _ => w_nonneg _ _) ⟨j, Finset.mem_univ _, w_pos hj m⟩

theorem L_shift (s : J → EReal) (m m' : ℝ) : Real.exp (m - m') * L s m = L s m' := by
  unfold L; rw [Finset.mul_sum]; exact Finset.sum_congr rfl fun j _ => w_shift _ _ _

theorem A_shift (s v : J → EReal) (m m' : ℝ) : ((Real.exp (m - m') : ℝ) : EReal) * A s v m = A s v m' := by
  unfold A
  rw [coe_mul_sum _ _ (Real.exp_pos _).le]
  refine Finset.sum_congr rfl fun j _ => ?_
  rw [← mul_assoc, ← EReal.coe_mul, w_shift]

/-- The maximum of masked scores is no `⊤`. -/
theorem fold_max_masked (s : J → EReal) (hs : ∀ j, Masked (s j)) : Masked (Finset.univ.fold max ⊥ s) := by
  classical
  have h : ∀ S : Finset J, Masked (S.fold max ⊥ s) := by
    intro S
    induction S using Finset.induction_on with
    | empty => rw [Finset.fold_empty]; exact bot_ne_top
    | insert a S ha ih =>
      rw [Finset.fold_insert ha]
      rcases max_choice (s a) (S.fold max ⊥ s) with h | h <;> rw [h]
      · exact hs a
      · exact ih
  exact h _

theorem le_fold_max (s : J → EReal) (j : J) : s j ≤ Finset.univ.fold max ⊥ s :=
  (Finset.le_fold_max (s j)).mpr (Or.inr ⟨j, Finset.mem_univ _, le_rfl⟩)

/-- One block: the running maximum, the sum of the weights, the weighted sum of the values. -/
structure Run where
  m : EReal
  l : EReal
  a : EReal

/-- What the first block gives. -/
def first (s v : J → EReal) : Run where
  m := Finset.univ.fold max ⊥ s
  l := ∑ j, Ideal.exp (s j - Finset.univ.fold max ⊥ s)
  a := ∑ j, v j * Ideal.exp (s j - Finset.univ.fold max ⊥ s)

/-- What one more block does to the running values. -/
def next (s v : J → EReal) (r : Run) : Run where
  m := max r.m (Finset.univ.fold max ⊥ s)
  l := Ideal.exp (r.m - max r.m (Finset.univ.fold max ⊥ s)) * r.l
    + ∑ j, Ideal.exp (s j - max r.m (Finset.univ.fold max ⊥ s))
  a := Ideal.exp (r.m - max r.m (Finset.univ.fold max ⊥ s)) * r.a
    + ∑ j, v j * Ideal.exp (s j - max r.m (Finset.univ.fold max ⊥ s))

/-- The running values after the blocks `0 … n - 1` that follow the first one. -/
def after (s₀ v₀ : J → EReal) (s v : ℕ → J → EReal) : ℕ → Run
  | 0 => first s₀ v₀
  | n + 1 => next (s n) (v n) (after s₀ v₀ s v n)

theorem sum_exp (s : J → EReal) (hs : ∀ j, Masked (s j)) (m : ℝ) :
    (∑ j, Ideal.exp (s j - (m : EReal))) = (L s m : EReal) := by
  unfold L; rw [coe_sum]; exact Finset.sum_congr rfl fun j _ => exp_sub (hs j) m

theorem sum_val (s v : J → EReal) (hs : ∀ j, Masked (s j)) (m : ℝ) :
    (∑ j, v j * Ideal.exp (s j - (m : EReal))) = A s v m := by
  unfold A; refine Finset.sum_congr rfl fun j _ => ?_
  rw [exp_sub (hs j) m, mul_comm]

/-- The invariant of the pass: the maximum is a real number, and the two sums are the sums of the weights against
that number. -/
theorem after_eq (s₀ v₀ : J → EReal) (s v : ℕ → J → EReal) (h₀ : ∀ j, Masked (s₀ j)) (hne : ∃ j, s₀ j ≠ ⊥) (n : ℕ)
    (hs : ∀ k < n, ∀ j, Masked (s k j)) :
    ∃ m : ℝ, (after s₀ v₀ s v n).m = m
      ∧ (after s₀ v₀ s v n).l = ((L s₀ m + ∑ k ∈ Finset.range n, L (s k) m : ℝ) : EReal)
      ∧ (after s₀ v₀ s v n).a = A s₀ v₀ m + ∑ k ∈ Finset.range n, A (s k) (v k) m := by
  induction n with
  | zero =>
    obtain ⟨j, hj⟩ := hne
    have hb : Finset.univ.fold max ⊥ s₀ ≠ ⊥ := fun h => hj (le_bot_iff.mp (h ▸ le_fold_max s₀ j))
    have ht : Finset.univ.fold max ⊥ s₀ ≠ ⊤ := fold_max_masked s₀ h₀
    refine ⟨(Finset.univ.fold max ⊥ s₀).toReal, (EReal.coe_toReal ht hb).symm, ?_, ?_⟩
    · rw [Finset.range_zero, Finset.sum_empty, add_zero, ← sum_exp s₀ h₀, EReal.coe_toReal ht hb]; rfl
    · rw [Finset.range_zero, Finset.sum_empty, add_zero, ← sum_val s₀ v₀ h₀, EReal.coe_toReal ht hb]; rfl
  | succ n ih =>
    obtain ⟨m, hm, hl, ha⟩ := ih fun k hk => hs k (Nat.lt_succ_of_lt hk)
    have hsn := hs n (Nat.lt_succ_self n)
    have hb : max (m : EReal) (Finset.univ.fold max ⊥ (s n)) ≠ ⊥ := fun h =>
      EReal.coe_ne_bot m (le_bot_iff.mp (h ▸ le_max_left _ _))
    have ht : max (m : EReal) (Finset.univ.fold max ⊥ (s n)) ≠ ⊤ := by
      rcases max_choice (m : EReal) (Finset.univ.fold max ⊥ (s n)) with h | h <;> rw [h]
      · exact EReal.coe_ne_top m
      · exact fold_max_masked (s n) hsn
    obtain ⟨m', hm'⟩ : ∃ m' : ℝ, max (m : EReal) (Finset.univ.fold max ⊥ (s n)) = m' :=
      ⟨_, (EReal.coe_toReal ht hb).symm⟩
    refine ⟨m', ?_, ?_, ?_⟩
    · show max (after s₀ v₀ s v n).m _ = _
      rw [hm, hm']
    · show Ideal.exp ((after s₀ v₀ s v n).m - max (after s₀ v₀ s v n).m _) * (after s₀ v₀ s v n).l + _ = _
      rw [hm, hm', hl, sum_exp _ hsn, ← EReal.coe_sub, Ideal.exp_coe, ← EReal.coe_mul, ← EReal.coe_add]
      congr 1
      rw [mul_add, L_shift, Finset.mul_sum, Finset.sum_range_succ, add_assoc]
      congr 2
      exact Finset.sum_congr rfl fun k _ => L_shift _ _ _
    · show Ideal.exp ((after s₀ v₀ s v n).m - max (after s₀ v₀ s v n).m _) * (after s₀ v₀ s v n).a + _ = _
      rw [hm, hm', ha, sum_val _ _ hsn, ← EReal.coe_sub, Ideal.exp_coe,
        EReal.left_distrib_of_nonneg_of_ne_top (EReal.coe_nonneg.mpr (Real.exp_pos _).le) (EReal.coe_ne_top _),
        A_shift, coe_mul_sum _ _ (Real.exp_pos _).le, Finset.sum_range_succ, add_assoc]
      congr 2
      exact Finset.sum_congr rfl fun k _ => A_shift _ _ _ _

/-- Division by a positive real number is multiplication by its inverse. -/
theorem div_pos_real (x : EReal) {l : ℝ} (hl : 0 < l) : Ideal.div x (l : EReal) = ((l⁻¹ : ℝ) : EReal) * x := by
  unfold Ideal.div
  rw [if_neg (by exact_mod_cast hl.ne'), ← EReal.coe_inv, mul_comm]

/-- The weighted sum of one block, each weight divided by `d`. -/
def N (s v : J → EReal) (m d : ℝ) : EReal := ∑ j, ((w (s j) m / d : ℝ) : EReal) * v j

theorem inv_mul_A (s v : J → EReal) (m : ℝ) {d : ℝ} (hd : 0 < d) : ((d⁻¹ : ℝ) : EReal) * A s v m = N s v m d := by
  unfold A N
  rw [coe_mul_sum _ _ (inv_pos.mpr hd).le]
  refine Finset.sum_congr rfl fun j _ => ?_
  rw [← mul_assoc, ← EReal.coe_mul, inv_mul_eq_div]

/-- The normalised weights do not depend on the maximum. -/
theorem N_shift (s v : J → EReal) (m m' d : ℝ) : N s v m' (Real.exp (m - m') * d) = N s v m d := by
  unfold N
  refine Finset.sum_congr rfl fun j _ => ?_
  rw [← w_shift (s j) m m', mul_div_mul_left _ _ (Real.exp_pos _).ne']

/-- What the pass returns: the values of the first block and of the blocks after it, each weighted by its weight over
the sum of all the weights. The weights may be taken against any real number. -/
theorem after_div (s₀ v₀ : J → EReal) (s v : ℕ → J → EReal) (h₀ : ∀ j, Masked (s₀ j)) (hne : ∃ j, s₀ j ≠ ⊥) (n : ℕ)
    (hs : ∀ k < n, ∀ j, Masked (s k j)) (M : ℝ) :
    Ideal.div (after s₀ v₀ s v n).a (after s₀ v₀ s v n).l
      = N s₀ v₀ M (L s₀ M + ∑ k ∈ Finset.range n, L (s k) M)
        + ∑ k ∈ Finset.range n, N (s k) (v k) M (L s₀ M + ∑ k ∈ Finset.range n, L (s k) M) := by
  obtain ⟨m, -, hl, ha⟩ := after_eq s₀ v₀ s v h₀ hne n hs
  obtain ⟨j, hj⟩ := hne
  have hd : 0 < L s₀ m + ∑ k ∈ Finset.range n, L (s k) m :=
    add_pos_of_pos_of_nonneg (L_pos s₀ m j hj) (Finset.sum_nonneg fun k _ => L_nonneg _ _)
  have hD : L s₀ M + ∑ k ∈ Finset.range n, L (s k) M
      = Real.exp (m - M) * (L s₀ m + ∑ k ∈ Finset.range n, L (s k) m) := by
    rw [mul_add, L_shift, Finset.mul_sum]
    congr 1
    exact (Finset.sum_congr rfl fun k _ => L_shift _ _ _).symm
  rw [hl, ha, div_pos_real _ hd,
    EReal.left_distrib_of_nonneg_of_ne_top (EReal.coe_nonneg.mpr (inv_pos.mpr hd).le) (EReal.coe_ne_top _),
    inv_mul_A _ _ _ hd, coe_mul_sum _ _ (inv_pos.mpr hd).le, hD, N_shift]
  congr 1
  refine Finset.sum_congr rfl fun k _ => ?_
  rw [inv_mul_A _ _ _ hd, N_shift]

/-- The softmax over all scores at once, used as weights: the maximum subtracted, the exponentials divided by their
sum. -/
theorem softmax_sum (s v : J → EReal) (hs : ∀ j, Masked (s j)) (hne : ∃ j, s j ≠ ⊥) (M : ℝ) :
    (∑ j, Ideal.div (Ideal.exp (s j - Finset.univ.fold max ⊥ s)) (∑ k, Ideal.exp (s k - Finset.univ.fold max ⊥ s)) * v j)
      = N s v M (L s M) := by
  obtain ⟨j, hj⟩ := hne
  have hb : Finset.univ.fold max ⊥ s ≠ ⊥ := fun h => hj (le_bot_iff.mp (h ▸ le_fold_max s j))
  have ht : Finset.univ.fold max ⊥ s ≠ ⊤ := fold_max_masked s hs
  obtain ⟨m, hm⟩ : ∃ m : ℝ, Finset.univ.fold max ⊥ s = m := ⟨_, (EReal.coe_toReal ht hb).symm⟩
  rw [hm, sum_exp s hs, ← L_shift s m M, N_shift]
  unfold N
  refine Finset.sum_congr rfl fun j' _ => ?_
  rw [exp_sub (hs j'), div_pos_real _ (L_pos s m j hj), ← EReal.coe_mul, inv_mul_eq_div]

end Cert.Attn

end
-- ==== Proof.Cells.lean ====
/-
  The values of one grid point at an index, over the extended reals.

  Column `j` of 1024 is row `j mod 256` of the point's 256 queries in head `j / 256` of the four.
-/
module

public import proofs.«01_k».proof.Proof.Body
public import proofs.«01_k».proof.Proof.Rank
public import proofs.«01_k».proof.Proof.Softmax
public import Idealize.ShloMosaic.Lib.WordCmp

@[expose] public section
set_option maxRecDepth 16384
noncomputable section
namespace Cert.KernelIdeal.Attn
open Cert.KernelIdeal Cert.KernelIdeal.Gen Idealize.ShloMosaic Idealize.ShloMosaic.TcCoe Idealize.SL.Sem

/-- The query of column `j`: row `j mod 256`, head `j / 256`. -/
def qv (x : Vec Ideal S256x512 .f32) (j : Fin 1024) (d : Fin 128) : EReal :=
  x (ix2 (⟨j.val % 256, by omega⟩ : Fin 256) (⟨j.val / 256 * 128 + d.val, by omega⟩ : Fin 512))

/-- The scale of the scores, 128 to the power −1/2 as a float word. -/
abbrev sc : EReal := FloatOps.ofBits (F := Ideal) .f32 0x3DB504F3#32

/-- The scores of a key block against column `j`. -/
def score (B : Vec Ideal S1x256x128 .bf16) (x : Vec Ideal S256x512 .f32) (j : Fin 1024) (r : Fin 256) : EReal :=
  ∑ d : Fin 128, B (ix3 0 r d) * (qv x j d * sc)

theorem ninf : Ideal.ofBits FTy.f32 4286578688#32 = ⊥ := by simp [Ideal.ofBits, Ideal.ieee]

theorem select_bool {α : Type} (p : Bool) (a b : α) : Scalar.select (BitVec.ofBool p) a b = if p = true then a else b := by
  cases p <;> rfl

/-- A one-bit word as a word of 32 bits. -/
theorem word_bool (p : Bool) : BitVec.setWidth 32 (BitVec.ofBool p) = BitVec.ofNat 32 p.toNat := by cases p <;> rfl

/-- A slice of 128 columns at column `o`, at an index. -/
theorem cut (x : Vec Ideal S256x512 .f32) (o : ℕ) (inb) (a : Fin 256) (d : Fin 128) (a' : Fin 256) (e : Fin 512) (ha : a'.val = a.val) (he : e.val = o + d.val) :
    View.ld x (Rect.unit (s := S256x512) ![0, o] S256x128.size inb) (ix2 a d) = x (ix2 a' e) := by
  refine congrArg x ((eq_ix2 _).trans (congrArg₂ ix2 (Fin.ext ?_) (Fin.ext ?_)))
  · show 0 + 1 * a.val = a'.val
    omega
  · show o + 1 * d.val = e.val
    omega

theorem qcat_apply (x : Vec Ideal S256x512 .f32) (j : Fin 1024) (d : Fin 128) : qcat x (ix2 j d) = qv x j d := by
  unfold qcat qv
  unfold_payloads
  pointwise
  have hj := j.isLt
  have hd := d.isLt
  split_ifs
  all_goals first
    | exact cut x 0 _ _ _ _ _ (by show j.val % 256 = j.val; omega) (by show j.val / 256 * 128 + d.val = 0 + d.val; omega)
    | exact cut x 128 _ _ _ _ _ (by show j.val % 256 = j.val - 256; omega) (by show j.val / 256 * 128 + d.val = 128 + d.val; omega)
    | exact cut x 256 _ _ _ _ _ (by show j.val % 256 = j.val - 256 - 256; omega) (by show j.val / 256 * 128 + d.val = 256 + d.val; omega)
    | exact cut x 384 _ _ _ _ _ (by show j.val % 256 = j.val - 256 - 256 - 256; omega) (by show j.val / 256 * 128 + d.val = 384 + d.val; omega)

theorem gate_apply (i : grid0.Coords) (x : Vec Ideal S256x512 .f32) (km : Vec Ideal S8x128 .f32) (n : Fin 8) (j : Fin 1024) :
    gate i x km (ix2 n j) = if n.val < (i 2).val then ∑ d : Fin 128, km (ix2 n d) * qv x j d else ⊥ := by
  unfold gate k0_pay42
  rw [show k0_pay40 (q0 x) (q1 x) (q2 x) (q3 x) = qcat x from rfl]
  unfold k0_pay41
  pointwise
  have hn := n.isLt
  have hi : (i 2).val < 8 := (i 2).isLt
  rw [WordCmp.cmpi_slt_ofNat (by omega) (by omega), select_bool, ninf]
  simp only [decide_eq_true_eq, qcat_apply]

theorem score_apply (B : Vec Ideal S1x256x128 .bf16) (x : Vec Ideal S256x512 .f32) (j : Fin 1024) (r : Fin 256) :
    k0_pay2 (k0_pay52 (qcat x)) B (ix2 r j) = score B x j r := by
  unfold k0_pay2 k0_pay52 score
  pointwise
  simp only [qcat_apply]

theorem rank_eq (g : Fin 8 → EReal) (n : Fin 8) :
    Cert.Attn.rank g n = ∑ m : Fin 8, (decide (g n < g m) || (decide (g m = g n) && decide (m.val < n.val))).toNat := by
  unfold Cert.Attn.rank
  rw [Finset.card_filter]
  refine Finset.sum_congr rfl fun m _ => ?_
  unfold Cert.Attn.Before
  by_cases h1 : g n < g m
  · simp [h1]
  · by_cases h2 : g m = g n
    · by_cases h3 : m < n
      · have h3' : m.val < n.val := h3
        simp [h2, h3]
      · have h3' : ¬ m.val < n.val := h3
        simp [h2, h3]
    · have h2' : ¬ g n = g m := fun h => h2 h.symm
      simp [h1, h2, h2']

/-- Eight bits added up as words and compared with three. -/
theorem few (b : Fin 8 → Bool) :
    IntOp.cmpi .slt (IntOp.addi (IntOp.addi (IntOp.addi (IntOp.addi (IntOp.addi (IntOp.addi (IntOp.addi (IntOp.addi 0#32
      (BitVec.setWidth 32 (BitVec.ofBool (b 0)))) (BitVec.setWidth 32 (BitVec.ofBool (b 1)))) (BitVec.setWidth 32 (BitVec.ofBool (b 2))))
      (BitVec.setWidth 32 (BitVec.ofBool (b 3)))) (BitVec.setWidth 32 (BitVec.ofBool (b 4)))) (BitVec.setWidth 32 (BitVec.ofBool (b 5))))
      (BitVec.setWidth 32 (BitVec.ofBool (b 6)))) (BitVec.setWidth 32 (BitVec.ofBool (b 7)))) 3#32
      = BitVec.ofBool (decide (∑ m : Fin 8, (b m).toNat < 3)) := by
  rw [Fin.sum_univ_eight]
  generalize b 0 = b0; generalize b 1 = b1; generalize b 2 = b2; generalize b 3 = b3
  generalize b 4 = b4; generalize b 5 = b5; generalize b 6 = b6; generalize b 7 = b7
  revert b0 b1 b2 b3 b4 b5 b6 b7
  decide

theorem bits_or (p q r : Bool) :
    IntOp.ori (BitVec.ofBool p) (IntOp.andi (BitVec.ofBool q) (BitVec.ofBool r)) = BitVec.ofBool (p || (q && r)) := by
  cases p <;> cases q <;> cases r <;> rfl

theorem bits_and (p q : Bool) : IntOp.andi (BitVec.ofBool p) (BitVec.ofBool q) = BitVec.ofBool (p && q) := by
  cases p <;> cases q <;> rfl

theorem flags_apply (i : grid0.Coords) (x : Vec Ideal S256x512 .f32) (km : Vec Ideal S8x128 .f32) (n : Fin 8) (j : Fin 1024) :
    flags i x km (ix2 n j) = if Cert.Attn.rank (fun a => gate i x km (ix2 a j)) n < 3 ∧ n.val < (i 2).val then 1 else 0 := by
  unfold flags k0_pay43 k0_pay45 k0_pay46 k0_pay44
  rw [show k0_pay42 i (q0 x) (q1 x) (q2 x) (q3 x) km = gate i x km from rfl]
  generalize gate i x km = G
  unfold_payloads
  pointwise
  have hn := n.isLt
  have hi : (i 2).val < 8 := (i 2).isLt
  have hg : ∀ m : Nat, m < 8 → IntOp.cmpi .sgt (BitVec.ofNat 32 n.val) (BitVec.ofNat 32 m) = BitVec.ofBool (decide (m < n.val)) :=
    fun m hm => WordCmp.cmpi_sgt_ofNat (by omega) (by omega)
  have hg0 := hg 0 (by decide); have hg1 := hg 1 (by decide); have hg2 := hg 2 (by decide); have hg3 := hg 3 (by decide)
  have hg4 := hg 4 (by decide); have hg5 := hg 5 (by decide); have hg6 := hg 6 (by decide); have hg7 := hg 7 (by decide)
  rw [WordCmp.cmpi_slt_ofNat (a := n.val) (by omega) (by omega), hg0, hg1, hg2, hg3, hg4, hg5, hg6, hg7]
  simp only [bits_or]
  rw [rank_eq]
  refine (congrArg (fun w => Scalar.select (IntOp.andi w _) _ _)
    (few fun m => decide (G (ix2 n j) < G (ix2 m j)) || (decide (G (ix2 m j) = G (ix2 n j)) && decide (m.val < n.val)))).trans ?_
  rw [bits_and, select_bool]
  simp only [Bool.and_eq_true, decide_eq_true_eq]

end Cert.KernelIdeal.Attn
end
-- ==== Proof.Trip.lean ====
/-
  The own block and one trip of the loop at a column, over the extended reals.
-/
module

public import proofs.«01_k».proof.Proof.Cells

@[expose] public section
set_option maxRecDepth 16384
noncomputable section
namespace Cert.KernelIdeal.Attn
open Cert.KernelIdeal Cert.KernelIdeal.Gen Idealize.ShloMosaic Idealize.ShloMosaic.TcCoe Idealize.SL.Sem

/-- The own block's scores: the causal ones, else −∞. -/
def ownScore (B : Vec Ideal S1x256x128 .bf16) (x : Vec Ideal S256x512 .f32) (j : Fin 1024) (r : Fin 256) : EReal :=
  if r.val ≤ j.val % 256 then score B x j r else ⊥

theorem and_255 (j : ℕ) (h : j < 2 ^ 32) : IntOp.andi (BitVec.ofNat 32 j) 255#32 = BitVec.ofNat 32 (j % 256) := by
  apply BitVec.eq_of_toNat_eq
  have h2 : j % 256 < 2 ^ 32 := by omega
  show (BitVec.ofNat 32 j &&& 255#32).toNat = _
  rw [BitVec.toNat_and, BitVec.toNat_ofNat, BitVec.toNat_ofNat, BitVec.toNat_ofNat, Nat.mod_eq_of_lt h, Nat.mod_eq_of_lt h2]
  exact Nat.and_two_pow_sub_one_eq_mod j 8

theorem pay53_apply (B : Vec Ideal S1x256x128 .bf16) (x : Vec Ideal S256x512 .f32) (j : Fin 1024) (r : Fin 256) :
    k0_pay53 (qcat x) B (ix2 r j) = ownScore B x j r := by
  unfold ownScore
  rw [← score_apply]
  unfold k0_pay53 k0_pay2
  pointwise
  have hj := j.isLt
  have hr := r.isLt
  rw [and_255 j.val (by omega), WordCmp.cmpi_sle_ofNat (by omega) (by omega), select_bool, ninf]
  simp only [decide_eq_true_eq]

theorem pay54_apply (B : Vec Ideal S1x256x128 .bf16) (x : Vec Ideal S256x512 .f32) (j : Fin 1024) (v : Fin 256 → EReal) :
    k0_pay54 (qcat x) B (ix2 0 j) = (Cert.Attn.first (ownScore B x j) v).m := by
  unfold k0_pay54 Cert.Attn.first
  pointwise
  simp only [pay53_apply, ninf]

theorem pay55_apply (B : Vec Ideal S1x256x128 .bf16) (x : Vec Ideal S256x512 .f32) (j : Fin 1024) (r : Fin 256) :
    k0_pay55 (qcat x) B (ix2 r j) = Ideal.exp (ownScore B x j r - Finset.univ.fold max ⊥ (ownScore B x j)) := by
  unfold k0_pay55
  pointwise
  simp only [pay53_apply, pay54_apply _ _ _ (fun _ => 0)]
  rfl

theorem pay56_apply (B : Vec Ideal S1x256x128 .bf16) (x : Vec Ideal S256x512 .f32) (j : Fin 1024) (v : Fin 256 → EReal) :
    k0_pay56 (qcat x) B (ix2 0 j) = (Cert.Attn.first (ownScore B x j) v).l := by
  unfold k0_pay56 Cert.Attn.first
  pointwise
  simp only [pay55_apply]

theorem pay1_apply (B : Vec Ideal S1x256x128 .bf16) (V : Vec Ideal S1x128x256 .bf16) (x : Vec Ideal S256x512 .f32) (j : Fin 1024) (d : Fin 128) :
    k0_pay1 (k0_pay57 V) (k0_pay58 (qcat x) B) (constant S128x1024 .f32 0x00000000#32) (ix2 d j)
      = (Cert.Attn.first (ownScore B x j) (fun r => V (ix3 0 d r))).a := by
  unfold k0_pay1 k0_pay57 k0_pay58 Cert.Attn.first
  pointwise
  simp only [pay55_apply]

/-- Block `k`'s flag of column `j`. -/
theorem pay3_apply (i : grid0.Coords) (f : FVec Ideal S8x1024 .f32) (k : Fin (k0_t1_loop i).trips) (n : Fin 8) (hn : n.val = k.val) (j : Fin 1024) (P : Prop) [Decidable P]
    (hf : f (ix2 n j) = if P then 1 else 0) : k0_pay3 i blks f k (ix2 0 j) = BitVec.ofBool (decide P) := by
  unfold k0_pay3 blks
  unfold_payloads
  pointwise
  refine congrArg BitVec.ofBool (decide_eq_decide.mpr ?_)
  have hk : k.val < 8 := hn ▸ n.isLt
  have hiv : Scf.iv 0#32 1#32 k.val = BitVec.ofNat 32 k.val := by simp [Scf.iv]
  have he : ∀ y : Fin 8, Scalar.select (IntOp.cmpi .eq (BitVec.ofNat 32 y.val) (BitVec.ofNat 32 k.val)) (f (ix2 y j)) 0
      = if y.val = k.val then f (ix2 y j) else 0 := by
    intro y
    have := y.isLt
    rw [WordCmp.cmpi_eq_ofNat (by omega) (by omega), select_bool]
    simp only [decide_eq_true_eq]
  rw [hiv, ninf, Finset.lt_fold_max]
  simp only [he]
  constructor
  · rintro (h | ⟨y, -, h⟩)
    · exact absurd h (by simp)
    · split_ifs at h with hy
      · rw [show y = n from Fin.ext (hy.trans hn.symm), hf] at h
        by_contra hP
        simp [hP] at h
      · exact absurd h (lt_irrefl _)
  · intro hP
    refine Or.inr ⟨n, Finset.mem_univ _, ?_⟩
    rw [if_pos hn, hf, if_pos hP]
    exact zero_lt_one

/-- A taken block's scores, else −∞. -/
def blockScore (P : Prop) [Decidable P] (B : Vec Ideal S1x256x128 .bf16) (x : Vec Ideal S256x512 .f32) (j : Fin 1024) (r : Fin 256) : EReal :=
  if P then score B x j r else ⊥

section Trip
variable (i : grid0.Coords) (f : FVec Ideal S8x1024 .f32) (k : Fin (k0_t1_loop i).trips) (j : Fin 1024) (P : Prop) [Decidable P]
  (hP : k0_pay3 i blks f k (ix2 0 j) = BitVec.ofBool (decide P)) (B : Vec Ideal S1x256x128 .bf16) (x : Vec Ideal S256x512 .f32)
  (m l : FVec Ideal S1x1024 .f32) (a : FVec Ideal S128x1024 .f32) (V : Vec Ideal S1x128x256 .bf16)
include hP

theorem pay4_apply : k0_pay4 i blks f (k0_pay52 (qcat x)) k m B (ix2 0 j)
    = max (m (ix2 0 j)) (Finset.univ.fold max ⊥ (blockScore P B x j)) := by
  unfold k0_pay4
  pointwise
  simp only [score_apply, ninf]
  rw [hP, select_bool]
  unfold blockScore
  by_cases h : P
  · simp only [h, decide_true, if_true]
    try rfl
  · have h0 : Finset.univ.fold max ⊥ (fun _ : Fin 256 => (⊥ : EReal)) = ⊥ := by
      rw [eq_bot_iff, Finset.fold_max_le]; simp
    simp [h, h0]

theorem pay5_apply (r : Fin 256) : k0_pay5 i blks f (k0_pay52 (qcat x)) k m B (ix2 r j)
    = Ideal.exp (blockScore P B x j r - max (m (ix2 0 j)) (Finset.univ.fold max ⊥ (blockScore P B x j))) := by
  unfold k0_pay5
  pointwise
  simp only [score_apply, pay4_apply i f k j P hP]
  rw [hP, select_bool]
  by_cases h : P
  · simp only [h, decide_true, if_true]
    unfold blockScore
    simp only [if_true]
    try rfl
  · simp only [h, decide_false, if_false, Bool.false_eq_true]
    unfold blockScore
    simp only [if_false, sub_eq_add_neg, EReal.bot_add, Ideal.exp_bot]
    try rfl

theorem pay6_apply : k0_pay6 i blks f (k0_pay52 (qcat x)) k m B (ix2 0 j)
    = Ideal.exp (m (ix2 0 j) - max (m (ix2 0 j)) (Finset.univ.fold max ⊥ (blockScore P B x j))) := by
  unfold k0_pay6
  pointwise
  simp only [pay4_apply i f k j P hP]

theorem pay7_apply : k0_pay7 i blks f (k0_pay52 (qcat x)) k m l B (ix2 0 j)
    = Ideal.exp (m (ix2 0 j) - max (m (ix2 0 j)) (Finset.univ.fold max ⊥ (blockScore P B x j))) * l (ix2 0 j)
      + ∑ r, Ideal.exp (blockScore P B x j r - max (m (ix2 0 j)) (Finset.univ.fold max ⊥ (blockScore P B x j))) := by
  unfold k0_pay7
  pointwise
  simp only [pay6_apply i f k j P hP, pay5_apply i f k j P hP]

theorem pay8_apply (d : Fin 128) : k0_pay8 i blks f (k0_pay52 (qcat x)) k m a B V (ix2 d j)
    = Ideal.exp (m (ix2 0 j) - max (m (ix2 0 j)) (Finset.univ.fold max ⊥ (blockScore P B x j))) * a (ix2 d j)
      + ∑ r, V (ix3 0 d r) * Ideal.exp (blockScore P B x j r - max (m (ix2 0 j)) (Finset.univ.fold max ⊥ (blockScore P B x j))) := by
  unfold k0_pay8
  pointwise
  simp only [pay6_apply i f k j P hP, pay5_apply i f k j P hP]

end Trip

/-- The quotient a column ends with, at row `p` of the transposed block. -/
theorem pay16_apply (l : FVec Ideal S1x1024 .f32) (a : FVec Ideal S128x1024 .f32) (j : Fin 1024) (d : Fin 128) :
    k0_pay16 l a (ix2 j d) = Ideal.div (a (ix2 d j)) (l (ix2 0 j)) := by
  unfold k0_pay16
  pointwise

end Cert.KernelIdeal.Attn
end
-- ==== Proof.Column.lean ====
/-
  What the loop carries at a column, and what one grid point leaves in the output block.
-/
module

public import proofs.«01_k».proof.Proof.Trip

@[expose] public section
set_option maxRecDepth 16384
noncomputable section
namespace Cert.KernelIdeal.Attn
open Cert.KernelIdeal Cert.KernelIdeal.Gen Idealize.ShloMosaic Idealize.ShloMosaic.TcCoe Idealize.SL.Sem

/-- Block `n` of eight. -/
def blk (n : ℕ) : Fin 8 := ⟨n % 8, Nat.mod_lt _ (by decide)⟩
/-- Block `n` of the keys. -/
def kslab (kb : Vec Ideal S8x256x128 .bf16) (n : ℕ) : Vec Ideal S1x256x128 .bf16 := fun y => kb (ix3 (blk n) (y 1 : Fin 256) (y 2 : Fin 128))
/-- Block `n` of the transposed values. -/
def vslab (vt : Vec Ideal S8x128x256 .bf16) (n : ℕ) : Vec Ideal S1x128x256 .bf16 := fun y => vt (ix3 (blk n) (y 1 : Fin 128) (y 2 : Fin 256))

theorem ld_kslab (kb : Vec Ideal S8x256x128 .bf16) (o : Fin 3 → ℕ) (n : ℕ) (hn : n < 8) (ho : o = ![n, 0, 0]) (inb) :
    View.ld kb (Rect.unit (s := S8x256x128) o S1x256x128.size inb) = kslab kb n := by
  subst ho
  funext y
  refine congrArg kb ((eq_ix3 _).trans ?_)
  have h0 : (y 0).val < 1 := (y 0).isLt
  refine congr (congr (congrArg ix3 (Fin.ext ?_)) (Fin.ext ?_)) (Fin.ext ?_)
  · show n + 1 * (y 0).val = n % 8
    omega
  · show 0 + 1 * (y 1).val = (y 1).val
    omega
  · show 0 + 1 * (y 2).val = (y 2).val
    omega

theorem ld_vslab (vt : Vec Ideal S8x128x256 .bf16) (o : Fin 3 → ℕ) (n : ℕ) (hn : n < 8) (ho : o = ![n, 0, 0]) (inb) :
    View.ld vt (Rect.unit (s := S8x128x256) o S1x128x256.size inb) = vslab vt n := by
  subst ho
  funext y
  refine congrArg vt ((eq_ix3 _).trans ?_)
  have h0 : (y 0).val < 1 := (y 0).isLt
  refine congr (congr (congrArg ix3 (Fin.ext ?_)) (Fin.ext ?_)) (Fin.ext ?_)
  · show n + 1 * (y 0).val = n % 8
    omega
  · show 0 + 1 * (y 1).val = (y 1).val
    omega
  · show 0 + 1 * (y 2).val = (y 2).val
    omega

theorem off_word : ∀ n : Fin 8, (Scalar.indexCast (BitVec.ofNat 32 n.val) : Index).toNat = n.val ∧ (Scalar.indexCast (Scf.iv 0#32 1#32 n.val) : Index).toNat = n.val := by
  decide +kernel

theorem ownK_eq (i : grid0.Coords) (kb : Vec Ideal S8x256x128 .bf16) : ownK i kb = kslab kb (i 2).val :=
  ld_kslab kb _ _ (i 2).isLt (congrArg (fun n : ℕ => ![n, 0, 0]) (off_word (i 2)).1) _

theorem ownV_eq (i : grid0.Coords) (vt : Vec Ideal S8x128x256 .bf16) : ownV i vt = vslab vt (i 2).val :=
  ld_vslab vt _ _ (i 2).isLt (congrArg (fun n : ℕ => ![n, 0, 0]) (off_word (i 2)).1) _

/-- Whether column `j` takes block `n`: fewer than three blocks come before it. -/
def Takes (i : grid0.Coords) (x : Vec Ideal S256x512 .f32) (km : Vec Ideal S8x128 .f32) (j : Fin 1024) (n : ℕ) : Prop :=
  Cert.Attn.rank (fun a => gate i x km (ix2 a j)) (blk n) < 3

instance (i : grid0.Coords) (x : Vec Ideal S256x512 .f32) (km : Vec Ideal S8x128 .f32) (j : Fin 1024) (n : ℕ) : Decidable (Takes i x km j n) :=
  inferInstanceAs (Decidable (_ < _))

/-- Maximum, sum and weighted sum of column `j` at entry `d` before trip `n`. -/
def column (i : grid0.Coords) (x : Vec Ideal S256x512 .f32) (km : Vec Ideal S8x128 .f32) (kb : Vec Ideal S8x256x128 .bf16) (vt : Vec Ideal S8x128x256 .bf16)
    (j : Fin 1024) (d : Fin 128) (n : ℕ) : Cert.Attn.Run :=
  Cert.Attn.after (ownScore (kslab kb (i 2).val) x j) (fun r => vslab vt (i 2).val (ix3 0 d r))
    (fun n => blockScore (Takes i x km j n) (kslab kb n) x j) (fun n r => vslab vt n (ix3 0 d r)) n

/-- Column `j`, entry `d`, of what is carried. -/
def Holds (L : FVec Ideal S1x1024 .f32 × FVec Ideal S1x1024 .f32 × FVec Ideal S128x1024 .f32) (j : Fin 1024) (d : Fin 128) (r : Cert.Attn.Run) : Prop :=
  L.1 (ix2 0 j) = r.m ∧ L.2.1 (ix2 0 j) = r.l ∧ L.2.2 (ix2 d j) = r.a

theorem start_holds (i : grid0.Coords) (x : Vec Ideal S256x512 .f32) (km : Vec Ideal S8x128 .f32) (kb : Vec Ideal S8x256x128 .bf16) (vt : Vec Ideal S8x128x256 .bf16)
    (j : Fin 1024) (d : Fin 128) : Holds (start i x kb vt) j d (column i x km kb vt j d 0) := by
  unfold start column Holds
  rw [ownK_eq, ownV_eq]
  simp only [Cert.Attn.after]
  refine ⟨?_, ?_, ?_⟩
  · exact pay54_apply _ _ _ _
  · exact pay56_apply _ _ _ _
  · exact pay1_apply _ _ _ _ _

theorem flag_bit (i : grid0.Coords) (x : Vec Ideal S256x512 .f32) (km : Vec Ideal S8x128 .f32) (k : Fin (k0_t1_loop i).trips) (j : Fin 1024) :
    k0_pay3 i blks (flags i x km) k (ix2 0 j) = BitVec.ofBool (decide (Takes i x km j k.val)) := by
  have hk : k.val < (i 2).val := trips1 i ▸ k.isLt
  have hi : (i 2).val < 8 := (i 2).isLt
  have hb : (blk k.val).val = k.val := Nat.mod_eq_of_lt (by omega)
  refine pay3_apply i _ k (blk k.val) hb j (Takes i x km j k.val) ?_
  rw [flags_apply]
  refine if_congr ?_ rfl rfl
  exact ⟨fun h => h.1, fun h => ⟨h, by rw [hb]; exact hk⟩⟩

variable (c : Dev nD) (i : grid0.Coords) (arg3 : Memref sig .tc .vmem S256x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S256x512 .bf16) (harg6 : arg6.IsWhole) (arg7 : Memref sig .tc .vmem S8x128 .f32) (harg7 : arg7.IsWhole) (arg8 : Memref sig .tc .vmem S8x256x128 .bf16) (harg8 : arg8.IsWhole) (arg9 : Memref sig .tc .vmem S8x128x256 .bf16) (harg9 : arg9.IsWhole)

/-- The loop carries, at every column and entry, the running softmax over the blocks seen. -/
theorem carried_holds (x : Vec Ideal S256x512 .f32) (km : Vec Ideal S8x128 .f32) (kb : Vec Ideal S8x256x128 .bf16) (vt : Vec Ideal S8x128x256 .bf16) (j : Fin 1024) (d : Fin 128)
    (n : ℕ) (hn : n ≤ (k0_t1_loop i).trips) :
    Holds (carried c i arg3 harg3 arg4 harg4 arg5 harg5 arg6 harg6 arg7 harg7 arg8 harg8 arg9 harg9 x km kb vt n) j d (column i x km kb vt j d n) := by
  induction n with
  | zero =>
    unfold carried
    rw [st_k0_t1_zero]
    exact start_holds i x km kb vt j d
  | succ n ih =>
    obtain ⟨h1, h2, h3⟩ := ih (by omega)
    have hk : n < (i 2).val := by have := trips1 i; omega
    have hi : (i 2).val < 8 := (i 2).isLt
    unfold carried at h1 h2 h3 ⊢
    have hs := st_k0_t1_succ Variants.none c none i arg3 harg3 arg4 harg4 arg5 harg5 arg6 harg6 arg7 harg7 arg8 harg8 arg9 harg9 blks (flags i x km) (k0_pay52 (qcat x))
      (harg8.unread kb) (harg9.unread vt) (start i x kb vt) (⟨n, hn⟩ : Fin (k0_t1_loop i).trips)
    rw [hs, trip_eq]
    generalize st_k0_t1 Variants.none c none i arg3 harg3 arg4 harg4 arg5 harg5 arg6 harg6 arg7 harg7 arg8 harg8 arg9 harg9 blks (flags i x km) (k0_pay52 (qcat x))
      (harg8.unread kb) (harg9.unread vt) (start i x kb vt) n = L at h1 h2 h3 ⊢
    have hb := flag_bit i x km (⟨n, hn⟩ : Fin (k0_t1_loop i).trips) j
    rw [harg8.read_unread, harg9.read_unread,
      ld_kslab kb (k0_off3 i ⟨n, hn⟩) n (by omega) (congrArg (fun n : ℕ => ![n, 0, 0]) (off_word (⟨n, by omega⟩ : Fin 8)).2) _,
      ld_vslab vt (k0_off4 i ⟨n, hn⟩) n (by omega) (congrArg (fun n : ℕ => ![n, 0, 0]) (off_word (⟨n, by omega⟩ : Fin 8)).2) _]
    refine ⟨?_, ?_, ?_⟩
    · refine (pay4_apply i _ _ j _ hb _ _ _).trans ?_
      rw [h1]
      rfl
    · refine (pay7_apply i _ _ j _ hb _ _ _ _).trans ?_
      rw [h1, h2]
      rfl
    · refine (pay8_apply i _ _ j _ hb _ _ _ _ _ _).trans ?_
      rw [h1, h3]
      rfl

/-- What a column's running softmax gives at the end: the weighted sum over the sum of the weights. -/
def cell (i : grid0.Coords) (x : Vec Ideal S256x512 .f32) (km : Vec Ideal S8x128 .f32) (kb : Vec Ideal S8x256x128 .bf16) (vt : Vec Ideal S8x128x256 .bf16)
    (p : Fin 256) (e : Fin 512) : EReal :=
  Ideal.div (column i x km kb vt ⟨e.val / 128 * 256 + p.val, by omega⟩ ⟨e.val % 128, by omega⟩ (i 2).val).a
    (column i x km kb vt ⟨e.val / 128 * 256 + p.val, by omega⟩ ⟨e.val % 128, by omega⟩ (i 2).val).l

/-- Head `h`'s slice of the quotient is its part of the block. -/
theorem piece (L : FVec Ideal S1x1024 .f32 × FVec Ideal S1x1024 .f32 × FVec Ideal S128x1024 .f32) (G : Fin 256 → Fin 512 → EReal)
    (hL : ∀ (p : Fin 256) (e : Fin 512), Ideal.div (L.2.2 (ix2 (⟨e.val % 128, by omega⟩ : Fin 128) (⟨e.val / 128 * 256 + p.val, by omega⟩ : Fin 1024)))
      (L.2.1 (ix2 0 (⟨e.val / 128 * 256 + p.val, by omega⟩ : Fin 1024))) = G p e)
    (h : Fin 4) (p : Fin 256) (d : Fin 128) (z : EReal) (hz : z = k0_pay16 L.2.1 L.2.2 (ix2 (⟨h.val * 256 + p.val, by omega⟩ : Fin 1024) d)) (inb) :
    z = G ((Rect.unit (s := S256x512) ![0, h.val * 128] S256x128.size inb).emb (ix2 p d) 0 : Fin 256) ((Rect.unit (s := S256x512) ![0, h.val * 128] S256x128.size inb).emb (ix2 p d) 1 : Fin 512) := by
  rw [hz, pay16_apply]
  have e0 : ((Rect.unit (s := S256x512) ![0, h.val * 128] S256x128.size inb).emb (ix2 p d) 0 : Fin 256) = p := Fin.ext (by show 0 + 1 * p.val = p.val; omega)
  have e1 : ((Rect.unit (s := S256x512) ![0, h.val * 128] S256x128.size inb).emb (ix2 p d) 1 : Fin 512) = (⟨h.val * 128 + d.val, by omega⟩ : Fin 512) :=
    Fin.ext (by show h.val * 128 + 1 * d.val = h.val * 128 + d.val; omega)
  refine Eq.trans ?_ (congrArg₂ G e0 e1).symm
  refine Eq.trans ?_ (hL _ _)
  have a1 : (h.val * 128 + d.val) % 128 = d.val := by omega
  have a2 : (h.val * 128 + d.val) / 128 = h.val := by omega
  simp only [a1, a2]

/-- The block the four stores leave, at row `p` and column `e`. -/
theorem stores_apply (L : FVec Ideal S1x1024 .f32 × FVec Ideal S1x1024 .f32 × FVec Ideal S128x1024 .f32) (G : Fin 256 → Fin 512 → EReal)
    (hL : ∀ (p : Fin 256) (e : Fin 512), Ideal.div (L.2.2 (ix2 (⟨e.val % 128, by omega⟩ : Fin 128) (⟨e.val / 128 * 256 + p.val, by omega⟩ : Fin 1024)))
      (L.2.1 (ix2 0 (⟨e.val / 128 * 256 + p.val, by omega⟩ : Fin 1024))) = G p e) (p : Fin 256) (e : Fin 512) :
    View.canon (Val := Elt Ideal) (s := S256x512) (e := .bf16) [⟨Rect.unit (s := S256x512) ![0, 384] S256x128.size inb_S256x512_S256x128_0_384, k0_pay20 L.2.1 L.2.2⟩,
          ⟨Rect.unit (s := S256x512) ![0, 256] S256x128.size inb_S256x512_S256x128_0_256, k0_pay19 L.2.1 L.2.2⟩,
          ⟨Rect.unit (s := S256x512) ![0, 128] S256x128.size inb_S256x512_S256x128_0_128, k0_pay18 L.2.1 L.2.2⟩,
          ⟨Rect.unit (s := S256x512) ![0, 0] S256x128.size inb_S256x512_S256x128_0_0, k0_pay17 L.2.1 L.2.2⟩] (ix2 p e) = (G p e : Elt Ideal .bf16) := by
  refine View.canon_apply_of_pieces (Val := Elt Ideal) (S := S256x512) (e := .bf16) (fun y => G (y 0 : Fin 256) (y 1 : Fin 512)) _ ?_ (ix2 p e) ?_
  · simp only [List.forall_mem_cons, List.not_mem_nil, false_imp_iff, implies_true, and_true]
    refine ⟨?_, ?_, ?_, ?_⟩ <;> intro y <;> idx_vars y
    · exact piece L G hL 3 y0 y1 _ (by unfold k0_pay20; pointwise) _
    · exact piece L G hL 2 y0 y1 _ (by unfold k0_pay19; pointwise) _
    · exact piece L G hL 1 y0 y1 _ (by unfold k0_pay18; pointwise) _
    · exact piece L G hL 0 y0 y1 _ (by unfold k0_pay17; pointwise) _
  · have hp := p.isLt
    have he := e.isLt
    have key : ∀ (o : ℕ) (inb), o ≤ e.val → e.val < o + 128 → (ix2 p e : S256x512.Idx) ∈ (Rect.unit (s := S256x512) ![0, o] S256x128.size inb).set := by
      intro o inb h1 h2
      refine (Rect.unit (s := S256x512) ![0, o] S256x128.size inb).mem_set.mpr fun a => ?_
      fin_cases a
      · exact ⟨p.val, hp, by show p.val = 0 + 1 * p.val; omega⟩
      · exact ⟨e.val - o, by show e.val - o < 128; omega, by show e.val = o + 1 * (e.val - o); omega⟩
    simp only [List.exists_mem_cons_iff, List.not_mem_nil, false_and, exists_false, or_false]
    by_cases h3 : 384 ≤ e.val
    · exact Or.inl (key 384 _ h3 (by omega))
    by_cases h2 : 256 ≤ e.val
    · exact Or.inr (Or.inl (key 256 _ h2 (by omega)))
    by_cases h1 : 128 ≤ e.val
    · exact Or.inr (Or.inr (Or.inl (key 128 _ h1 (by omega))))
    · exact Or.inr (Or.inr (Or.inr (key 0 _ (by omega) (by omega))))

end Cert.KernelIdeal.Attn
end
-- ==== Proof.Grid.lean ====
/-
  The kernel's array at the end: every grid point's block is `cell` of its own input blocks.
-/
module

public import proofs.«01_k».proof.Proof.Column

@[expose] public section
set_option maxRecDepth 16384
noncomputable section
namespace Cert.KernelIdeal.Attn
open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The arrays the region stages, before the kernel runs. -/
abbrev arrQ : S8192x2048.Idx → EReal := V m c (Pipeline.arrRef spec0 0)
abbrev arrK : S8192x512.Idx → EReal := V m c (Pipeline.arrRef spec0 1)
abbrev arrV : S8192x512.Idx → EReal := V m c (Pipeline.arrRef spec0 2)

/-- The arguments. -/
abbrev argQ : S4x2048x16x128.Idx → EReal := m ((c : Thread nD τ).loc main_arg0)
abbrev argK : S4x2048x4x128.Idx → EReal := m ((c : Thread nD τ).loc main_arg1)
abbrev argV : S4x2048x4x128.Idx → EReal := m ((c : Thread nD τ).loc main_arg2)

theorem coords_val : ∀ t : Fin cfg0.N, (grid0.coords t 0).val = t.val / 32 ∧ (grid0.coords t 1).val = t.val / 8 % 4 ∧ (grid0.coords t 2).val = t.val % 8 := by
  decide +kernel

theorem arrQ_apply (b : Fin 4) (t : Fin 2048) (h : Fin 16) (d : Fin 128) (y : S8192x2048.Idx) (h0 : (y 0).val = b.val * 2048 + t.val) (h1 : (y 1).val = h.val * 128 + d.val) :
    arrQ m c y = argQ m c (ix4 b t h d) := by
  unfold arrQ
  change V m c main_v0 _ = _
  unfold V hostOps0
  after_results
  refine shapeCast_apply _ _ y (ix4 b t h d) ?_
  refine (Shape.rowMajor_val_four _).trans (Eq.trans ?_ (Shape.rowMajor_val_two _).symm)
  show ((b.val * 2048 + t.val) * 16 + h.val) * 128 + d.val = (y 0).val * 2048 + (y 1).val
  rw [h0, h1]
  omega

theorem arrK_apply (b : Fin 4) (t : Fin 2048) (h : Fin 4) (d : Fin 128) (y : S8192x512.Idx) (h0 : (y 0).val = b.val * 2048 + t.val) (h1 : (y 1).val = h.val * 128 + d.val) :
    arrK m c y = argK m c (ix4 b t h d) := by
  unfold arrK
  change V m c main_v1 _ = _
  unfold V hostOps0
  after_results
  refine shapeCast_apply _ _ y (ix4 b t h d) ?_
  refine (Shape.rowMajor_val_four _).trans (Eq.trans ?_ (Shape.rowMajor_val_two _).symm)
  show ((b.val * 2048 + t.val) * 4 + h.val) * 128 + d.val = (y 0).val * 512 + (y 1).val
  rw [h0, h1]
  omega

theorem arrV_apply (b : Fin 4) (t : Fin 2048) (h : Fin 4) (d : Fin 128) (y : S8192x512.Idx) (h0 : (y 0).val = b.val * 2048 + t.val) (h1 : (y 1).val = h.val * 128 + d.val) :
    arrV m c y = argV m c (ix4 b t h d) := by
  unfold arrV
  change V m c main_v2 _ = _
  unfold V hostOps0
  after_results
  refine shapeCast_apply _ _ y (ix4 b t h d) ?_
  refine (Shape.rowMajor_val_four _).trans (Eq.trans ?_ (Shape.rowMajor_val_two _).symm)
  show ((b.val * 2048 + t.val) * 4 + h.val) * 128 + d.val = (y 0).val * 512 + (y 1).val
  rw [h0, h1]
  omega

theorem index0 : ∀ t : Fin cfg0.N, (cc0_transform_0 (grid0.coords t) 0 = t.val / 32 * 8 + t.val % 8 ∧ cc0_transform_0 (grid0.coords t) 1 = t.val / 8 % 4)
    ∧ (cc0_transform_1 (grid0.coords t) 0 = t.val / 32 ∧ cc0_transform_1 (grid0.coords t) 1 = t.val / 8 % 4)
    ∧ (cc0_transform_2 (grid0.coords t) 0 = t.val / 32 ∧ cc0_transform_2 (grid0.coords t) 1 = t.val / 8 % 4)
    ∧ (cc0_transform_3 (grid0.coords t) 0 = t.val / 32 * 8 + t.val % 8 ∧ cc0_transform_3 (grid0.coords t) 1 = t.val / 8 % 4) := by
  decide +kernel

theorem iblk0 (t : Fin cfg0.N) (p : Fin 256) (e : Fin 512) :
    iblk m c 0 t (ix2 p e : S256x512.Idx) = arrQ m c (ix2 (⟨(t.val / 32 * 8 + t.val % 8) * 256 + p.val, by have := t.isLt; have : cfg0.N = 128 := N_0; omega⟩ : Fin 8192) (⟨t.val / 8 % 4 * 512 + e.val, by omega⟩ : Fin 2048)) := by
  unfold iblk
  rw [View.read_apply]
  refine congrArg (arrQ m c) ((eq_ix2 _).trans (congrArg₂ ix2 (Fin.ext ?_) (Fin.ext ?_)))
  · show cc0_transform_0 (grid0.coords t) 0 * 256 + 1 * p.val = _
    rw [(index0 t).1.1, one_mul]
  · show cc0_transform_0 (grid0.coords t) 1 * 512 + 1 * e.val = _
    rw [(index0 t).1.2, one_mul]

theorem iblk1 (t : Fin cfg0.N) (r : Fin 2048) (d : Fin 128) :
    iblk m c 1 t (ix2 r d : S2048x128.Idx) = arrK m c (ix2 (⟨t.val / 32 * 2048 + r.val, by have := t.isLt; have : cfg0.N = 128 := N_0; omega⟩ : Fin 8192) (⟨t.val / 8 % 4 * 128 + d.val, by omega⟩ : Fin 512)) := by
  unfold iblk
  rw [View.read_apply]
  refine congrArg (arrK m c) ((eq_ix2 _).trans (congrArg₂ ix2 (Fin.ext ?_) (Fin.ext ?_)))
  · show cc0_transform_1 (grid0.coords t) 0 * 2048 + 1 * r.val = _
    rw [(index0 t).2.1.1, one_mul]
  · show cc0_transform_1 (grid0.coords t) 1 * 128 + 1 * d.val = _
    rw [(index0 t).2.1.2, one_mul]

theorem iblk2 (t : Fin cfg0.N) (r : Fin 2048) (d : Fin 128) :
    iblk m c 2 t (ix2 r d : S2048x128.Idx) = arrV m c (ix2 (⟨t.val / 32 * 2048 + r.val, by have := t.isLt; have : cfg0.N = 128 := N_0; omega⟩ : Fin 8192) (⟨t.val / 8 % 4 * 128 + d.val, by omega⟩ : Fin 512)) := by
  unfold iblk
  rw [View.read_apply]
  refine congrArg (arrV m c) ((eq_ix2 _).trans (congrArg₂ ix2 (Fin.ext ?_) (Fin.ext ?_)))
  · show cc0_transform_2 (grid0.coords t) 0 * 2048 + 1 * r.val = _
    rw [(index0 t).2.2.1.1, one_mul]
  · show cc0_transform_2 (grid0.coords t) 1 * 128 + 1 * d.val = _
    rw [(index0 t).2.2.1.2, one_mul]

/-- A point's keys and values. -/
abbrev xq (t : Fin cfg0.N) : Vec Ideal S256x512 .f32 := iblk m c 0 t
abbrev xk (t : Fin cfg0.N) : Vec Ideal S2048x128 .f32 := iblk m c 1 t
abbrev xv (t : Fin cfg0.N) : Vec Ideal S2048x128 .f32 := iblk m c 2 t

/-- Points of one run of eight have the same keys and values. -/
theorem xk_eq (t t' : Fin cfg0.N) (h : t.val / 8 = t'.val / 8) : xk m c t = xk m c t' ∧ xv m c t = xv m c t' := by
  have h1 : t.val / 32 = t'.val / 32 := by omega
  constructor
  · funext y
    rw [show y = ix2 (y 0 : Fin 2048) (y 1 : Fin 128) from eq_ix2 y]
    refine (iblk1 m c t _ _).trans (Eq.trans ?_ (iblk1 m c t' _ _).symm)
    refine congrArg (arrK m c) (congrArg₂ ix2 (Fin.ext ?_) (Fin.ext ?_))
    · show t.val / 32 * 2048 + (y 0).val = t'.val / 32 * 2048 + (y 0).val
      rw [h1]
    · show t.val / 8 % 4 * 128 + (y 1).val = t'.val / 8 % 4 * 128 + (y 1).val
      rw [h]
  · funext y
    rw [show y = ix2 (y 0 : Fin 2048) (y 1 : Fin 128) from eq_ix2 y]
    refine (iblk2 m c t _ _).trans (Eq.trans ?_ (iblk2 m c t' _ _).symm)
    refine congrArg (arrV m c) (congrArg₂ ix2 (Fin.ext ?_) (Fin.ext ?_))
    · show t.val / 32 * 2048 + (y 0).val = t'.val / 32 * 2048 + (y 0).val
      rw [h1]
    · show t.val / 8 % 4 * 128 + (y 1).val = t'.val / 8 % 4 * 128 + (y 1).val
      rw [h]

/-- The scratch after every point: the block means, the key blocks and the transposed value blocks of its keys and values. -/
theorem scratch_eq : ∀ (n : ℕ) (hn : n < cfg0.N), (outsAt0 m c n hn).2 = (k0_pay22 (xk m c ⟨n, hn⟩), keysOf (xk m c ⟨n, hn⟩), valuesOf (xv m c ⟨n, hn⟩)) := by
  intro n
  induction n with
  | zero =>
    intro hn
    rw [outsAt0_A m c ⟨0, hn⟩ (Nat.zero_mod _)]
    dsimp only
    rw [means_eq, keys_eq, values_eq]
  | succ n ih =>
    intro hn
    by_cases h0 : (n + 1) % 8 = 0
    · rw [outsAt0_A m c ⟨n + 1, hn⟩ h0]
      dsimp only
      rw [means_eq, keys_eq, values_eq]
    · rw [outsAt0_B m c ⟨n + 1, hn⟩ h0]
      have e := ih (by omega)
      have x := xk_eq m c ⟨n, by omega⟩ ⟨n + 1, hn⟩ (by show n / 8 = (n + 1) / 8; omega)
      rw [x.1, x.2] at e
      exact e

/-- What a point writes back, at row `p` and column `e` of its block. -/
theorem flushed_apply (t : Fin cfg0.N) (p : Fin 256) (e : Fin 512) :
    (dats m 0 c).flushed 3 t (ix2 p e : S256x512.Idx)
      = cell (grid0.coords t) (xq m c t) (k0_pay22 (xk m c t)) (keysOf (xk m c t)) (valuesOf (xv m c t)) p e := by
  by_cases h0 : t.val % 8 = 0
  · rw [flushed3_A m c t h0]
    rw [out_A_eq _ _ _ _ _ _ _ _ _ _ _ _ _ _ _ _ _ _ _ _ _ rfl]
    have hc : (grid0.coords t 2).val = 0 := (coords_val t).2.2.trans h0
    refine stores_apply _ _ (fun p e => ?_) p e
    unfold cell
    rw [hc]
    have hh := start_holds (grid0.coords t) (xq m c t) (k0_pay22 (xk m c t)) (keysOf (xk m c t)) (valuesOf (xv m c t)) ⟨e.val / 128 * 256 + p.val, by omega⟩ ⟨e.val % 128, by omega⟩
    rw [← hh.2.1, ← hh.2.2]
  · rw [flushed3_B m c t h0]
    have e0 := scratch_eq m c (t.val - 1) (Nat.lt_of_le_of_lt (Nat.sub_le _ _) t.isLt)
    have x := xk_eq m c ⟨t.val - 1, Nat.lt_of_le_of_lt (Nat.sub_le _ _) t.isLt⟩ t (by show (t.val - 1) / 8 = t.val / 8; omega)
    rw [x.1, x.2] at e0
    rw [e0]
    dsimp only
    rw [out_B_eq _ _ _ _ _ _ _ _ _ _ _ _ _ _ _ _ _ _ _ _ _ _ _ _ rfl]
    refine stores_apply _ _ (fun p e => ?_) p e
    unfold cell
    have hh := carried_holds c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
      (xq m c t) (k0_pay22 (xk m c t)) (keysOf (xk m c t)) (valuesOf (xv m c t)) ⟨e.val / 128 * 256 + p.val, by omega⟩ ⟨e.val % 128, by omega⟩ _ le_rfl
    rw [trips1] at hh
    rw [← hh.2.1, ← hh.2.2, trips1]

/-- The kernel's array at the end, at the index a point's block covers. -/
theorem array_apply (t : Fin cfg0.N) (p : Fin 256) (e : Fin 512) (y : S8192x2048.Idx) (h0 : (y 0).val = (t.val / 32 * 8 + t.val % 8) * 256 + p.val) (h1 : (y 1).val = t.val / 8 % 4 * 512 + e.val) :
    (dats m 0 c).arrAt 3 cfg0.N y
      = cell (grid0.coords t) (xq m c t) (k0_pay22 (xk m c t)) (keysOf (xk m c t)) (valuesOf (xv m c t)) p e := by
  have hb := congrFun (blocks3 m c t (flush0_3 t)) (ix2 p e : S256x512.Idx)
  rw [View.read_apply] at hb
  refine Eq.trans (congrArg ((dats m 0 c).arrAt 3 cfg0.N) ?_) (hb.trans (flushed_apply m c t p e))
  refine ((eq_ix2 y).trans (congrArg₂ ix2 (Fin.ext ?_) (Fin.ext ?_))).trans (eq_ix2 _).symm
  · refine h0.trans ?_
    show _ = cc0_transform_3 (grid0.coords t) 0 * 256 + 1 * p.val
    rw [(index0 t).2.2.2.1, one_mul]
  · refine h1.trans ?_
    show _ = cc0_transform_3 (grid0.coords t) 1 * 512 + 1 * e.val
    rw [(index0 t).2.2.2.2, one_mul]

end Cert.KernelIdeal.Attn
end
-- ==== Proof.RefGate.lean ====
/-
  The reference's gate and the blocks it takes, at an index.
-/
module

public import proofs.«01_k».proof.Proof.Gen.ReferenceIdeal.Read
public import proofs.«01_k».proof.Proof.Rank
public import proofs.«01_k».proof.Proof.Softmax
public import Idealize.ShloMosaic.Lib.Pointwise
public import Idealize.ShloMosaic.Lib.WordCmp

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem

variable (q : S4x2048x16x128.Idx → EReal) (k v : S4x2048x4x128.Idx → EReal)

theorem own_apply (t : Fin 2048) : val_main_v15 (F := Ideal) (ix1 t) = BitVec.ofNat 32 (t.val / 256) := by
  unfold val_main_v15 val_main_call0_v13 val_main_call0_v12 val_main_call0_c_0 val_main_call0_v11 val_main_call0_v10 val_main_call0_v9 val_main_call0_c val_main_call0_v8 val_main_call0_v7
    val_main_call0_v6 val_main_call0_v5 val_main_call0_v4 val_main_call0_v3 val_main_call0_v2 val_main_call0_v1 val_main_call0_v0 val_main_c val_main_v8
  pointwise
  revert t
  decide +kernel

theorem kblock_apply (b : Fin 4) (h : Fin 4) (n : Fin 8) (r : Fin 256) (d : Fin 128) :
    val_main_v1 (F := Ideal) k (ix5 b h n r d) = k (ix4 b ⟨n.val * 256 + r.val, by omega⟩ h d) := by
  unfold val_main_v1 val_main_v0
  pointwise

theorem vblock_apply (b : Fin 4) (h : Fin 4) (n : Fin 8) (r : Fin 256) (d : Fin 128) :
    val_main_v3 (F := Ideal) k (ix5 b h n r d) = k (ix4 b ⟨n.val * 256 + r.val, by omega⟩ h d) := by
  unfold val_main_v3 val_main_v2
  pointwise

/-- The gate of position `t`, head `g` of group `h`, against block `n`. -/
def gateOf (b : Fin 4) (t : Fin 2048) (h : Fin 4) (g : Fin 4) (n : Fin 8) : EReal :=
  if n.val < t.val / 256 then
    ∑ d : Fin 128, Ideal.div (∑ r : Fin 256, k (ix4 b ⟨n.val * 256 + r.val, by omega⟩ h d)) (FloatOps.ofBits (F := Ideal) .f32 0x43800000#32) * q (ix4 b t ⟨h.val * 4 + g.val, by omega⟩ d)
  else ⊥

theorem gate_apply (b : Fin 4) (t : Fin 2048) (h : Fin 4) (g : Fin 4) (n : Fin 8) :
    val_main_v24 (F := Ideal) q k (ix5 b t h g n) = gateOf q k b t h g n := by
  unfold val_main_v24 val_main_call1_v1 val_main_call1_v2 val_main_call1_v0 val_main_cst_1 val_main_v23 val_main_v22 val_main_v21 val_main_v20 val_main_v19 val_main_v18 val_main_v13
    val_main_v17 val_main_v16 val_main_v7 val_main_v6 val_main_v5 val_main_v4 val_main_cst val_main_cst_0
  pointwise
  simp only [kblock_apply, own_apply]
  have hn := n.isLt
  have ht := t.isLt
  rw [WordCmp.cmpi_slt_ofNat (by omega) (by omega)]
  unfold gateOf
  by_cases hc : n.val < t.val / 256
  · simp only [hc, decide_true, if_true]
    rfl
  · simp only [hc, decide_false, if_false]
    refine Eq.trans (b := Ideal.ofBits FTy.f32 4286578688#32) rfl ?_
    simp [Ideal.ofBits, Ideal.ieee]

/-- Position `s` of the three blocks taken. -/
def slot (b : Fin 4) (t : Fin 2048) (h : Fin 4) (g : Fin 4) (s : Fin 3) : Fin 8 :=
  sortedFrom (fun a c => decide (gateOf q k b t h g c < gateOf q k b t h g a)) (s.castLE (by decide))

theorem indices_apply (b : Fin 4) (t : Fin 2048) (h : Fin 4) (g : Fin 4) (s : Fin 3) :
    val_main_indices (F := Ideal) q k (ix5 b t h g s) = BitVec.ofNat 32 (slot q k b t h g s).val := by
  unfold val_main_indices Host.topK Host.sort2
  pointwise
  have al : ∀ n : Fin 8, (ix5 b t h g (⟨s.val, by omega⟩ : Fin 8) : S4x2048x4x4x8.Idx).along 4 n = ix5 b t h g n := by
    intro n
    funext a
    fin_cases a <;> rfl
  have hB : (fun k_1 k' : Fin 8 =>
      FloatOps.cmpfTotal (F := Ideal) (φ := .f32) .gt (val_main_v24 (F := Ideal) q k ((ix5 b t h g (⟨s.val, by omega⟩ : Fin 8) : S4x2048x4x4x8.Idx).along 4 k_1))
          (val_main_v24 (F := Ideal) q k ((ix5 b t h g (⟨s.val, by omega⟩ : Fin 8) : S4x2048x4x4x8.Idx).along 4 k')) == 1#1)
      = fun a c => decide (gateOf q k b t h g c < gateOf q k b t h g a) := by
    funext a c
    rw [al, al, gate_apply, gate_apply, Ideal.cmpfTotal_def]
    show (BitVec.ofBool (decide (gateOf q k b t h g c < gateOf q k b t h g a)) == 1#1) = _
    cases decide (gateOf q k b t h g c < gateOf q k b t h g a) <;> rfl
  rw [hB, al]
  rfl

/-- The gather's operand index where the index vector is `(a, b, c)`. -/
theorem operand_eq (idx : IVec S4x2048x4x4x4x3 32) (b : Fin 4) (t : Fin 2048) (h : Fin 4) (g : Fin 4) (s : Fin 4) (r : Fin 256) (d : Fin 128) (n : Fin 8)
    (h0 : idx (ix6 b t h g s 0) = BitVec.ofNat 32 b.val) (h1 : idx (ix6 b t h g s 1) = BitVec.ofNat 32 h.val) (h2 : idx (ix6 b t h g s 2) = BitVec.ofNat 32 n.val) :
    gather_S4x4x8x256x128_S4x2048x4x4x4x3_S4x2048x4x4x4x256x128_56_012_n_n_012_5_111256128.operandIdx (ix7 b t h g s r d) idx = ix5 b h n r d := by
  have sm : ∀ n : Fin 8, min (BitVec.ofNat 32 n.val).toInt.toNat 7 = n.val := by decide
  have sm4 : ∀ n : Fin 4, min (BitVec.ofNat 32 n.val).toInt.toNat 3 = n.val := by decide
  have e : ∀ c : Fin 3, gather_S4x4x8x256x128_S4x2048x4x4x4x3_S4x2048x4x4x4x256x128_56_012_n_n_012_5_111256128.siIdx (ix7 b t h g s r d) c = ix6 b t h g s c := by
    intro c
    funext a
    fin_cases a <;> rfl
  funext a
  fin_cases a
  · refine Fin.ext ?_
    refine Eq.trans (congrArg (fun w => min (BitVec.toInt (idx w)).toNat 3 + 0 + 0) (e 0)) ?_
    rw [h0]
    exact sm4 b
  · refine Fin.ext ?_
    refine Eq.trans (congrArg (fun w => min (BitVec.toInt (idx w)).toNat 3 + 0 + 0) (e 1)) ?_
    rw [h1]
    exact sm4 h
  · refine Fin.ext ?_
    refine Eq.trans (congrArg (fun w => min (BitVec.toInt (idx w)).toNat 7 + 0 + 0) (e 2)) ?_
    rw [h2]
    exact sm n
  · refine Fin.ext ?_
    show 0 + 0 + r.val = r.val
    omega
  · refine Fin.ext ?_
    show 0 + 0 + d.val = d.val
    omega

/-- The block slot `s` of four reads: the three taken, then the own one. -/
def pick (b : Fin 4) (t : Fin 2048) (h : Fin 4) (g : Fin 4) (s : Fin 4) : Fin 8 :=
  if hs : s.val < 3 then slot q k b t h g ⟨s.val, hs⟩ else ⟨t.val / 256, by omega⟩

theorem pick_word (b : Fin 4) (t : Fin 2048) (h : Fin 4) (g : Fin 4) (s : Fin 4) :
    val_main_v32 (F := Ideal) q k (ix5 b t h g s) = BitVec.ofNat 32 (pick q k b t h g s).val := by
  unfold val_main_v32 val_main_v31 val_main_v30 val_main_c_2 val_main_v29 val_main_v28
  pointwise
  simp only [indices_apply, own_apply]
  unfold pick
  split_ifs with hs
  · exact (by decide : ∀ n : Fin 8, IntOp.minsi (BitVec.ofNat 32 n.val) 7#32 = BitVec.ofNat 32 n.val) _
  · rfl

theorem vec_k0 (b : Fin 4) (t : Fin 2048) (h : Fin 4) (g : Fin 4) (s : Fin 4) :
    val_main_v53 (F := Ideal) q k (ix6 b t h g s 0) = BitVec.ofNat 32 b.val := by
  unfold val_main_v53
  pointwise
  unfold val_main_v50 val_main_v48 val_main_v37 val_main_v36 val_main_v35 val_main_v34 val_main_v33 val_main_c_3 val_main_c_4 val_main_v10 val_main_v9
  pointwise
  revert b
  decide

theorem vec_k1 (b : Fin 4) (t : Fin 2048) (h : Fin 4) (g : Fin 4) (s : Fin 4) :
    val_main_v53 (F := Ideal) q k (ix6 b t h g s 1) = BitVec.ofNat 32 h.val := by
  unfold val_main_v53
  pointwise
  unfold val_main_v51 val_main_v49 val_main_v42 val_main_v41 val_main_v40 val_main_v39 val_main_v38 val_main_c_5 val_main_c_6 val_main_v12 val_main_v11
  pointwise
  revert h
  decide

theorem vec_k2 (b : Fin 4) (t : Fin 2048) (h : Fin 4) (g : Fin 4) (s : Fin 4) :
    val_main_v53 (F := Ideal) q k (ix6 b t h g s 2) = BitVec.ofNat 32 (pick q k b t h g s).val := by
  unfold val_main_v53
  pointwise
  unfold val_main_v52 val_main_v47 val_main_v46 val_main_v45 val_main_v44 val_main_v43 val_main_c_7 val_main_c_8
  pointwise
  simp only [pick_word]
  generalize pick q k b t h g s = n
  revert n
  decide

theorem vec_v0 (b : Fin 4) (t : Fin 2048) (h : Fin 4) (g : Fin 4) (s : Fin 4) :
    val_main_v75 (F := Ideal) q k (ix6 b t h g s 0) = BitVec.ofNat 32 b.val := by
  unfold val_main_v75
  pointwise
  unfold val_main_v72 val_main_v70 val_main_v59 val_main_v58 val_main_v57 val_main_v56 val_main_v55 val_main_c_9 val_main_c_10 val_main_v10 val_main_v9
  pointwise
  revert b
  decide

theorem vec_v1 (b : Fin 4) (t : Fin 2048) (h : Fin 4) (g : Fin 4) (s : Fin 4) :
    val_main_v75 (F := Ideal) q k (ix6 b t h g s 1) = BitVec.ofNat 32 h.val := by
  unfold val_main_v75
  pointwise
  unfold val_main_v73 val_main_v71 val_main_v64 val_main_v63 val_main_v62 val_main_v61 val_main_v60 val_main_c_11 val_main_c_12 val_main_v12 val_main_v11
  pointwise
  revert h
  decide

theorem vec_v2 (b : Fin 4) (t : Fin 2048) (h : Fin 4) (g : Fin 4) (s : Fin 4) :
    val_main_v75 (F := Ideal) q k (ix6 b t h g s 2) = BitVec.ofNat 32 (pick q k b t h g s).val := by
  unfold val_main_v75
  pointwise
  unfold val_main_v74 val_main_v69 val_main_v68 val_main_v67 val_main_v66 val_main_v65 val_main_c_13 val_main_c_14
  pointwise
  simp only [pick_word]
  generalize pick q k b t h g s = n
  revert n
  decide

/-- The key block a slot reads. -/
theorem read_k (b : Fin 4) (t : Fin 2048) (h : Fin 4) (g : Fin 4) (s : Fin 4) (r : Fin 256) (d : Fin 128) :
    val_main_v54 (F := Ideal) q k (ix7 b t h g s r d) = k (ix4 b ⟨(pick q k b t h g s).val * 256 + r.val, by omega⟩ h d) := by
  unfold val_main_v54 Host.gather
  rw [operand_eq _ b t h g s r d _ (vec_k0 q k b t h g s) (vec_k1 q k b t h g s) (vec_k2 q k b t h g s)]
  exact kblock_apply k b h _ r d

/-- The value block a slot reads. -/
theorem read_v (b : Fin 4) (t : Fin 2048) (h : Fin 4) (g : Fin 4) (s : Fin 4) (r : Fin 256) (d : Fin 128) :
    val_main_v76 (F := Ideal) q k v (ix7 b t h g s r d) = v (ix4 b ⟨(pick q k b t h g s).val * 256 + r.val, by omega⟩ h d) := by
  unfold val_main_v76 Host.gather
  rw [operand_eq _ b t h g s r d _ (vec_v0 q k b t h g s) (vec_v1 q k b t h g s) (vec_v2 q k b t h g s)]
  exact vblock_apply v b h _ r d

/-- Which scores a slot keeps: a taken block's where the block is wholly past, the own block's where they are causal. -/
def Keeps (b : Fin 4) (t : Fin 2048) (h : Fin 4) (g : Fin 4) (s : Fin 4) (r : Fin 256) : Prop :=
  if s.val < 3 then (pick q k b t h g s).val < t.val / 256 else r.val ≤ t.val % 256

instance (b : Fin 4) (t : Fin 2048) (h : Fin 4) (g : Fin 4) (s : Fin 4) (r : Fin 256) : Decidable (Keeps q k b t h g s r) := by
  unfold Keeps; infer_instance

theorem mask (b : Fin 4) (t : Fin 2048) (h : Fin 4) (g : Fin 4) (s : Fin 4) (r : Fin 256) :
    val_main_v94 (F := Ideal) q k (ix6 b t h g s r) = BitVec.ofBool (decide (Keeps q k b t h g s r)) := by
  have ht := t.isLt
  have hr := r.isLt
  unfold val_main_v94
  pointwise
  by_cases hs : s.val < 3
  · rw [dif_pos hs]
    unfold val_main_v91 val_main_v90 val_main_v27 val_main_v26 val_main_v25
    pointwise
    simp only [indices_apply, own_apply]
    have hl := (slot q k b t h g ⟨s.val, hs⟩).isLt
    rw [WordCmp.cmpi_slt_ofNat (by omega) (by omega)]
    refine congrArg BitVec.ofBool (decide_eq_decide.mpr ?_)
    unfold Keeps pick
    rw [if_pos hs, dif_pos hs]
  · rw [dif_neg hs]
    unfold val_main_v93 val_main_v92 val_main_v89 val_main_v88 val_main_v87 val_main_v86 val_main_v85 val_main_v84 val_main_v83 val_main_v82 val_main_v81 val_main_c_16 val_main_v80 val_main_v14 val_main_v8
    pointwise
    simp only [own_apply]
    have e : IntOp.addi (IntOp.muli (BitVec.ofNat 32 (t.val / 256)) 256#32) (BitVec.ofNat 32 r.val)
        = BitVec.ofNat 32 (t.val / 256 * 256 + r.val) := by
      show BitVec.ofNat 32 (t.val / 256) * 256#32 + BitVec.ofNat 32 r.val = _
      rw [BitVec.ofNat_add, BitVec.ofNat_mul]
    rw [e, WordCmp.cmpi_sle_ofNat (by omega) (by omega)]
    refine congrArg BitVec.ofBool (decide_eq_decide.mpr ?_)
    unfold Keeps
    rw [if_neg hs]
    omega

end Cert.ReferenceIdeal.Attn
end
-- ==== Proof.RefSoft.lean ====
/-
  The reference's result at an index: the softmax over the scores of the four slots, used as weights of the values.
-/
module

public import proofs.«01_k».proof.Proof.RefGate

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem

variable (q : S4x2048x16x128.Idx → EReal) (k v : S4x2048x4x128.Idx → EReal)

/-- The score of a query against row `r` of the block slot `s` reads, `⊥` where the mask drops it. -/
def refScore (b : Fin 4) (t : Fin 2048) (h : Fin 4) (g : Fin 4) (s : Fin 4) (r : Fin 256) : EReal :=
  if Keeps q k b t h g s r then
    (∑ d : Fin 128, q (ix4 b t ⟨h.val * 4 + g.val, by omega⟩ d)
      * k (ix4 b ⟨(pick q k b t h g s).val * 256 + r.val, by omega⟩ h d)) * FloatOps.ofBits (F := Ideal) .f32 0x3DB504F3#32
  else ⊥

/-- The scores of all four slots in one row of 1024. -/
def row (b : Fin 4) (t : Fin 2048) (h : Fin 4) (g : Fin 4) (j : Fin 1024) : EReal :=
  refScore q k b t h g ⟨j.val / 256, by omega⟩ ⟨j.val % 256, by omega⟩

theorem minus_inf : (FloatOps.ofBits (F := Ideal) .f32 0xFF800000#32 : EReal) = ⊥ := by
  show Ideal.ofBits .f32 0xFF800000#32 = ⊥
  simp [Ideal.ofBits, Ideal.ieee]

theorem score_apply (b : Fin 4) (t : Fin 2048) (h : Fin 4) (g : Fin 4) (s : Fin 4) (r : Fin 256) :
    val_main_v95 (F := Ideal) q k (ix6 b t h g s r) = refScore q k b t h g s r := by
  unfold val_main_v95 val_main_v79 val_main_v78 val_main_v77 val_main_call2_v1 val_main_call2_v0 val_main_cst_17 val_main_cst_15 val_main_v7
  pointwise
  simp only [mask, read_k]
  unfold refScore
  by_cases hk : Keeps q k b t h g s r
  · rw [decide_eq_true hk, if_pos hk]
    rfl
  · rw [decide_eq_false hk, if_neg hk]
    exact minus_inf

theorem row_apply (b : Fin 4) (t : Fin 2048) (h : Fin 4) (g : Fin 4) (j : Fin 1024) :
    val_main_v96 (F := Ideal) q k (ix5 b t h g j) = row q k b t h g j := by
  unfold val_main_v96
  pointwise
  exact score_apply q k b t h g _ _

theorem exp_sub_at {s : Shape} (x y : FVec Ideal s .f32) (i : s.Idx) : Host.exp (subf x y) i = Ideal.exp (x i - y i) := by
  rfl

theorem max_at {s : Shape} (x y : FVec Ideal s .f32) (i : s.Idx) : maximumf x y i = max (x i) (y i) := by
  rfl

theorem fold_eq (n : ℕ) (R : Fin n → EReal) :
    Finset.fold (FloatOps.maximumf (F := Ideal) (φ := .f32)) ⊥ R Finset.univ = Finset.fold max ⊥ R Finset.univ := by
  rfl

/-- The maximum over the last axis, from minus infinity. -/
theorem max_fold (X : S4x2048x4x4x1024.Idx → EReal) (b : Fin 4) (t : Fin 2048) (h : Fin 4) (g : Fin 4) :
    Host.reduce (FloatOps.maximumf (F := Ideal) (φ := .f32)) X (val_main_cst_18 (F := Ideal))
        reducesTo_S4x2048x4x4x1024_S4x2048x4x4_d4 h_S_ (ix4 b t h g)
      = Finset.univ.fold max ⊥ (fun j : Fin 1024 => X (ix5 b t h g j)) := by
  have H : S4x2048x4x4x1024.Reduces [4] S4x2048x4x4 := by decide
  have e0 : (val_main_cst_18 (F := Ideal)) (Shape.Idx.first h_S_) = (⊥ : EReal) := minus_inf
  refine (Host.reduce_eq_fold_single _ _ _ _ H _ _).trans ?_
  refine Eq.trans ?_ (fold_eq 1024 _)
  rw [e0]
  have e : X ∘ H.lift (ix4 b t h g) = fun j : Fin 1024 => X (ix5 b t h g j) := funext fun x => congrArg X (funext fun a => Fin.ext (by match a with | ⟨0, _⟩ => rfl | ⟨1, _⟩ => rfl | ⟨2, _⟩ => rfl | ⟨3, _⟩ => rfl | ⟨4, _⟩ => rfl))
  exact congrArg (fun f : Fin 1024 → EReal => Finset.fold (FloatOps.maximumf (F := Ideal) (φ := .f32)) ⊥ f Finset.univ) e

theorem max_apply (b : Fin 4) (t : Fin 2048) (h : Fin 4) (g : Fin 4) :
    val_main_v99 (F := Ideal) q k (ix4 b t h g) = Finset.univ.fold max ⊥ (row q k b t h g) := by
  have e : val_main_v99 (F := Ideal) q k (ix4 b t h g)
      = max (FloatOps.ofBits (F := Ideal) .f32 0xFF800000#32) (val_main_v97 (F := Ideal) q k (ix4 b t h g)) := by
    unfold val_main_v99
    exact max_at (val_main_v98 (F := Ideal)) (val_main_v97 (F := Ideal) q k) (ix4 b t h g)
  rw [e, minus_inf, max_eq_right bot_le]
  have e1 : (fun j : Fin 1024 => val_main_v96 (F := Ideal) q k (ix5 b t h g j)) = row q k b t h g :=
    funext fun j => row_apply q k b t h g j
  have e2 : val_main_v97 (F := Ideal) q k (ix4 b t h g)
      = Finset.univ.fold max ⊥ (fun j : Fin 1024 => val_main_v96 (F := Ideal) q k (ix5 b t h g j)) := by
    unfold val_main_v97
    exact max_fold (val_main_v96 (F := Ideal) q k) b t h g
  rw [e2, e1]

theorem exp_apply (b : Fin 4) (t : Fin 2048) (h : Fin 4) (g : Fin 4) (j : Fin 1024) :
    val_main_v103 (F := Ideal) q k (ix5 b t h g j)
      = Ideal.exp (row q k b t h g j - Finset.univ.fold max ⊥ (row q k b t h g)) := by
  have e : val_main_v101 (F := Ideal) q k (ix5 b t h g j) = val_main_v99 (F := Ideal) q k (ix4 b t h g) := by
    rw [val_main_v101_apply, val_main_v100_apply]
    exact congrArg (val_main_v99 (F := Ideal) q k)
      (funext fun a => Fin.ext (by match a with | ⟨0, _⟩ => rfl | ⟨1, _⟩ => rfl | ⟨2, _⟩ => rfl | ⟨3, _⟩ => rfl))
  have e' : val_main_v103 (F := Ideal) q k (ix5 b t h g j)
      = Ideal.exp (val_main_v96 (F := Ideal) q k (ix5 b t h g j) - val_main_v101 (F := Ideal) q k (ix5 b t h g j)) := by
    unfold val_main_v103 val_main_v102
    exact exp_sub_at (val_main_v96 (F := Ideal) q k) (val_main_v101 (F := Ideal) q k) (ix5 b t h g j)
  rw [e', e, row_apply, max_apply]

theorem weight_apply (b : Fin 4) (t : Fin 2048) (h : Fin 4) (g : Fin 4) (j : Fin 1024) :
    val_main_v107 (F := Ideal) q k (ix5 b t h g j)
      = Ideal.div (Ideal.exp (row q k b t h g j - Finset.univ.fold max ⊥ (row q k b t h g)))
          (∑ i, Ideal.exp (row q k b t h g i - Finset.univ.fold max ⊥ (row q k b t h g))) := by
  have e : val_main_v106 (F := Ideal) q k (ix5 b t h g j) = val_main_v104 (F := Ideal) q k (ix4 b t h g) := by
    rw [val_main_v106_apply, val_main_v105_apply]
    exact congrArg (val_main_v104 (F := Ideal) q k)
      (funext fun a => Fin.ext (by match a with | ⟨0, _⟩ => rfl | ⟨1, _⟩ => rfl | ⟨2, _⟩ => rfl | ⟨3, _⟩ => rfl))
  have z : (FloatOps.ofBits (F := Ideal) .f32 0x00000000#32 : EReal) = 0 := by
    show Ideal.ofBits .f32 0x00000000#32 = 0
    simp [Ideal.ofBits, Ideal.ieee]
  have e' : val_main_v107 (F := Ideal) q k (ix5 b t h g j)
      = Ideal.div (val_main_v103 (F := Ideal) q k (ix5 b t h g j)) (val_main_v106 (F := Ideal) q k (ix5 b t h g j)) := by
    unfold val_main_v107
    generalize val_main_v103 (F := Ideal) q k = x
    generalize val_main_v106 (F := Ideal) q k = y
    rfl
  have e0 : (val_main_cst_20 (F := Ideal)) (Shape.Idx.first h_S_) = (0 : EReal) := z
  rw [e', e, exp_apply, val_main_v104_apply, e0, zero_add]
  refine congrArg (Ideal.div _) (Finset.sum_congr rfl fun i _ => ?_)
  rw [← exp_apply]
  exact congrArg (val_main_v103 (F := Ideal) q k)
    (funext fun a => Fin.ext (by match a with | ⟨0, _⟩ => rfl | ⟨1, _⟩ => rfl | ⟨2, _⟩ => rfl | ⟨3, _⟩ => rfl | ⟨4, _⟩ => rfl))

theorem sum_apply (b : Fin 4) (t : Fin 2048) (h : Fin 4) (g : Fin 4) (d : Fin 128) :
    val_main_v109 (F := Ideal) q k v (ix5 b t h g d)
      = ∑ r : Fin 256, ∑ s : Fin 4, val_main_v107 (F := Ideal) q k (ix5 b t h g ⟨s.val * 256 + r.val, by omega⟩)
          * v (ix4 b ⟨(pick q k b t h g s).val * 256 + r.val, by omega⟩ h d) := by
  unfold val_main_v109 val_main_v108
  pointwise
  simp only [read_v]

theorem result_apply (y : S8192x2048.Idx) (b : Fin 4) (t : Fin 2048) (h : Fin 4) (g : Fin 4) (d : Fin 128)
    (h0 : (y 0).val = b.val * 2048 + t.val) (h1 : (y 1).val = (h.val * 4 + g.val) * 128 + d.val) :
    val_main_v111 (F := Ideal) q k v y = val_main_v109 (F := Ideal) q k v (ix5 b t h g d) := by
  unfold val_main_v111 val_main_v110
  show shapeCast _ (val_main_v109 (F := Ideal) q k v) shapeCasts_S4x2048x4x4x128_S8192x2048 y = _
  refine shapeCast_apply _ _ y (ix5 b t h g d) ?_
  rw [Shape.rowMajor_val_five, Shape.rowMajor_val_two]
  show (((b.val * 2048 + t.val) * 4 + h.val) * 4 + g.val) * 128 + d.val = (y 0).val * 2048 + (y 1).val
  omega

end Cert.ReferenceIdeal.Attn
end
-- ==== Proof.RefBlocks.lean ====
/-
  The reference's result block by block: the own block under the causal mask, and those blocks before it whose gate is
  among the three largest, each value weighted by its weight over the sum of all the weights.
-/
module

public import proofs.«01_k».proof.Proof.RefSoft

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Idealize.SL.Sem
open Cert.Attn

variable (q : S4x2048x16x128.Idx → EReal) (k v : S4x2048x4x128.Idx → EReal)

/-- The scaled score of a query against row `r` of block `n`. -/
def S (b : Fin 4) (t : Fin 2048) (h : Fin 4) (g : Fin 4) (n : Fin 8) (r : Fin 256) : EReal :=
  (∑ d : Fin 128, q (ix4 b t ⟨h.val * 4 + g.val, by omega⟩ d) * k (ix4 b ⟨n.val * 256 + r.val, by omega⟩ h d))
    * FloatOps.ofBits (F := Ideal) .f32 0x3DB504F3#32

/-- Column `d` of the values of block `n`. -/
def V (b : Fin 4) (h : Fin 4) (d : Fin 128) (n : Fin 8) (r : Fin 256) : EReal := v (ix4 b ⟨n.val * 256 + r.val, by omega⟩ h d)

/-- The query's own block. -/
def own (t : Fin 2048) : Fin 8 := ⟨t.val / 256, by omega⟩

/-- The block of a number. -/
def blk (n : ℕ) : Fin 8 := ⟨n % 8, Nat.mod_lt _ (by decide)⟩

/-- The own block's scores under the causal mask. -/
def ownS (b : Fin 4) (t : Fin 2048) (h : Fin 4) (g : Fin 4) (r : Fin 256) : EReal :=
  if r.val ≤ t.val % 256 then S q k b t h g (own t) r else ⊥

/-- A block's scores where its gate is among the three largest, `⊥` otherwise. -/
def blockS (b : Fin 4) (t : Fin 2048) (h : Fin 4) (g : Fin 4) (n : ℕ) (r : Fin 256) : EReal :=
  if rank (gateOf q k b t h g) (blk n) < 3 then S q k b t h g (blk n) r else ⊥

theorem sum_rows {M : Type} [AddCommMonoid M] (f : Fin 1024 → M) :
    ∑ j, f j = ∑ s : Fin 4, ∑ r : Fin 256, f ⟨s.val * 256 + r.val, by omega⟩ := by
  rw [← Fintype.sum_prod_type' (f := fun (s : Fin 4) (r : Fin 256) => f ⟨s.val * 256 + r.val, by omega⟩)]
  refine (Fintype.sum_equiv (finProdFinEquiv (m := 4) (n := 256)) _ f fun x => ?_).symm
  refine congrArg f (Fin.ext ?_)
  show x.1.val * 256 + x.2.val = x.2.val + 256 * x.1.val
  omega

theorem slot_of (s : Fin 4) (r : Fin 256) (hh : (s.val * 256 + r.val) / 256 < 4) : (⟨(s.val * 256 + r.val) / 256, hh⟩ : Fin 4) = s :=
  Fin.ext (by show (s.val * 256 + r.val) / 256 = s.val; omega)

theorem row_of (s : Fin 4) (r : Fin 256) (hh : (s.val * 256 + r.val) % 256 < 256) : (⟨(s.val * 256 + r.val) % 256, hh⟩ : Fin 256) = r :=
  Fin.ext (by show (s.val * 256 + r.val) % 256 = r.val; omega)

theorem row_at (b : Fin 4) (t : Fin 2048) (h : Fin 4) (g : Fin 4) (s : Fin 4) (r : Fin 256) :
    row q k b t h g ⟨s.val * 256 + r.val, by omega⟩ = refScore q k b t h g s r :=
  congrArg₂ (refScore q k b t h g) (slot_of s r _) (row_of s r _)

theorem sum_before {M : Type} [AddCommMonoid M] (f : Fin 8 → M) (w : ℕ) (hw : w ≤ 8) :
    (∑ n : Fin 8, if n.val < w then f n else 0) = ∑ n ∈ Finset.range w, f (blk n) := by
  have e : (∑ n : Fin 8, if n.val < w then f n else 0) = ∑ n ∈ Finset.range 8, if n < w then f (blk n) else 0 := by
    rw [Finset.sum_range]
    refine Finset.sum_congr rfl fun n _ => ?_
    have hb : blk n.val = n := Fin.ext (Nat.mod_eq_of_lt n.isLt)
    rw [hb]
  rw [e, ← Finset.sum_filter]
  refine Finset.sum_congr ?_ fun _ _ => rfl
  ext n
  simp only [Finset.mem_filter, Finset.mem_range]
  omega

/-- A sum over the slots is the sum over the blocks before the own one that are taken, and the own block's term. -/
theorem sum_slots {M : Type} [AddCommMonoid M] (b : Fin 4) (t : Fin 2048) (h : Fin 4) (g : Fin 4) (H : Fin 8 → M) (G : M) :
    (∑ s : Fin 4, if s.val < 3 then (if (pick q k b t h g s).val < t.val / 256 then H (pick q k b t h g s) else 0) else G)
      = G + ∑ n ∈ Finset.range (t.val / 256), if rank (gateOf q k b t h g) (blk n) < 3 then H (blk n) else 0 := by
  rw [Fin.sum_univ_castSucc, add_comm]
  have e3 : ¬ (Fin.last 3).val < 3 := by decide
  rw [if_neg e3]
  refine congrArg (G + ·) ?_
  have e : ∀ s : Fin 3, (if s.castSucc.val < 3 then (if (pick q k b t h g s.castSucc).val < t.val / 256 then H (pick q k b t h g s.castSucc) else 0) else G)
      = if (slot q k b t h g s).val < t.val / 256 then H (slot q k b t h g s) else 0 := by
    intro s
    have hs : s.castSucc.val < 3 := s.isLt
    have hp : pick q k b t h g s.castSucc = slot q k b t h g s := by
      unfold pick; rw [dif_pos hs]; rfl
    rw [if_pos hs, hp]
  rw [Finset.sum_congr rfl fun s _ => e s]
  unfold slot
  rw [sum_topk 3 (by decide) (gateOf q k b t h g) _ (fun a c => by simp) (fun n : Fin 8 => n.val < t.val / 256) H]
  rw [← sum_before (fun n => if rank (gateOf q k b t h g) n < 3 then H n else 0) _ (by omega)]
  refine Finset.sum_congr rfl fun n _ => ?_
  by_cases h1 : n.val < t.val / 256 <;> by_cases h2 : rank (gateOf q k b t h g) n < 3 <;> simp [h1, h2]

theorem L_bot (M : ℝ) : L (fun _ : Fin 256 => (⊥ : EReal)) M = 0 := by simp [L]

theorem N_bot (x : Fin 256 → EReal) (M D : ℝ) : N (fun _ : Fin 256 => (⊥ : EReal)) x M D = 0 := by simp [N]

theorem refScore_eq (b : Fin 4) (t : Fin 2048) (h : Fin 4) (g : Fin 4) (s : Fin 4) :
    refScore q k b t h g s = if s.val < 3 then (if (pick q k b t h g s).val < t.val / 256 then S q k b t h g (pick q k b t h g s) else fun _ => ⊥)
      else ownS q k b t h g := by
  funext r
  unfold refScore Keeps
  by_cases hs : s.val < 3
  · simp only [hs, if_true]
    split_ifs <;> rfl
  · have hp : pick q k b t h g s = own t := by unfold pick; rw [dif_neg hs]; rfl
    simp only [hs, if_false, hp]
    rfl

/-- The weights of all the slots together. -/
theorem L_row (b : Fin 4) (t : Fin 2048) (h : Fin 4) (g : Fin 4) (M : ℝ) :
    L (row q k b t h g) M = L (ownS q k b t h g) M + ∑ n ∈ Finset.range (t.val / 256), L (blockS q k b t h g n) M := by
  have e1 : L (row q k b t h g) M = ∑ s : Fin 4, L (refScore q k b t h g s) M := by
    unfold L
    rw [sum_rows]
    refine Finset.sum_congr rfl fun s _ => Finset.sum_congr rfl fun r _ => ?_
    rw [row_at]
  rw [e1]
  have e2 : ∀ s : Fin 4, L (refScore q k b t h g s) M
      = if s.val < 3 then (if (pick q k b t h g s).val < t.val / 256 then L (S q k b t h g (pick q k b t h g s)) M else 0)
        else L (ownS q k b t h g) M := by
    intro s
    rw [refScore_eq]
    split_ifs <;> first | rfl | exact L_bot M
  rw [Finset.sum_congr rfl fun s _ => e2 s, sum_slots q k b t h g (fun n => L (S q k b t h g n) M)]
  refine congrArg (_ + ·) (Finset.sum_congr rfl fun n _ => ?_)
  have e3 : blockS q k b t h g n = if rank (gateOf q k b t h g) (blk n) < 3 then S q k b t h g (blk n) else fun _ => ⊥ := by
    funext r; unfold blockS; split_ifs <;> rfl
  rw [e3]
  split_ifs <;> first | rfl | exact (L_bot M).symm

/-- The weighted values of all the slots together. -/
theorem N_row (b : Fin 4) (t : Fin 2048) (h : Fin 4) (g : Fin 4) (d : Fin 128) (M D : ℝ) :
    (∑ s : Fin 4, N (refScore q k b t h g s) (V v b h d (pick q k b t h g s)) M D)
      = N (ownS q k b t h g) (V v b h d (own t)) M D
        + ∑ n ∈ Finset.range (t.val / 256), N (blockS q k b t h g n) (V v b h d (blk n)) M D := by
  have e2 : ∀ s : Fin 4, N (refScore q k b t h g s) (V v b h d (pick q k b t h g s)) M D
      = if s.val < 3 then (if (pick q k b t h g s).val < t.val / 256 then N (S q k b t h g (pick q k b t h g s)) (V v b h d (pick q k b t h g s)) M D else 0)
        else N (ownS q k b t h g) (V v b h d (own t)) M D := by
    intro s
    rw [refScore_eq]
    by_cases hs : s.val < 3
    · simp only [hs, if_true]
      split_ifs <;> first | rfl | exact N_bot _ M D
    · have hp : pick q k b t h g s = own t := by unfold pick; rw [dif_neg hs]; rfl
      simp only [hs, if_false, hp]
  rw [Finset.sum_congr rfl fun s _ => e2 s, sum_slots q k b t h g (fun n => N (S q k b t h g n) (V v b h d n) M D)]
  refine congrArg (_ + ·) (Finset.sum_congr rfl fun n _ => ?_)
  have e3 : blockS q k b t h g n = if rank (gateOf q k b t h g) (blk n) < 3 then S q k b t h g (blk n) else fun _ => ⊥ := by
    funext r; unfold blockS; split_ifs <;> rfl
  rw [e3]
  split_ifs <;> first | rfl | exact (N_bot _ M D).symm

/-- The reference's result, where the scores are real numbers. -/
theorem ref_value (hS : ∀ b t h g n r, S q k b t h g n r ≠ ⊤ ∧ S q k b t h g n r ≠ ⊥)
    (y : S8192x2048.Idx) (b : Fin 4) (t : Fin 2048) (h : Fin 4) (g : Fin 4) (d : Fin 128)
    (h0 : (y 0).val = b.val * 2048 + t.val) (h1 : (y 1).val = (h.val * 4 + g.val) * 128 + d.val) (M D : ℝ)
    (hD : D = L (ownS q k b t h g) M + ∑ n ∈ Finset.range (t.val / 256), L (blockS q k b t h g n) M) :
    val_main_v111 (F := Ideal) q k v y
      = N (ownS q k b t h g) (V v b h d (own t)) M D
        + ∑ n ∈ Finset.range (t.val / 256), N (blockS q k b t h g n) (V v b h d (blk n)) M D := by
  rw [result_apply q k v y b t h g d h0 h1, sum_apply, Finset.sum_comm]
  let W : Fin 1024 → EReal := fun j =>
    V v b h d (pick q k b t h g ⟨j.val / 256, by omega⟩) ⟨j.val % 256, Nat.mod_lt _ (by decide)⟩
  have masked : ∀ s r, Masked (refScore q k b t h g s r) := by
    intro s r
    unfold refScore
    split_ifs
    · exact (hS b t h g (pick q k b t h g s) r).1
    · exact bot_ne_top
  have ne : ∃ j, row q k b t h g j ≠ ⊥ := by
    refine ⟨⟨3 * 256, by decide⟩, ?_⟩
    have e : row q k b t h g ⟨3 * 256, by decide⟩ = refScore q k b t h g 3 0 := rfl
    rw [e, refScore_eq]
    have h3 : ¬ (3 : Fin 4).val < 3 := by decide
    rw [if_neg h3]
    unfold ownS
    rw [if_pos (show (0 : Fin 256).val ≤ t.val % 256 from Nat.zero_le _)]
    exact (hS b t h g _ _).2
  have key := softmax_sum (row q k b t h g) W (fun j => masked _ _) ne M
  rw [sum_rows] at key
  have e1 : ∀ (s : Fin 4) (r : Fin 256), W ⟨s.val * 256 + r.val, by omega⟩ = V v b h d (pick q k b t h g s) r := by
    intro s r
    show V v b h d (pick q k b t h g ⟨(s.val * 256 + r.val) / 256, _⟩) ⟨(s.val * 256 + r.val) % 256, _⟩ = _
    rw [slot_of s r, row_of s r]
  have e2 : ∀ (s : Fin 4) (r : Fin 256), row q k b t h g ⟨s.val * 256 + r.val, by omega⟩ = refScore q k b t h g s r := by
    intro s r
    exact row_at q k b t h g s r
  have e3 : N (row q k b t h g) W M (L (row q k b t h g) M)
      = ∑ s : Fin 4, N (refScore q k b t h g s) (V v b h d (pick q k b t h g s)) M (L (row q k b t h g) M) := by
    unfold N
    rw [sum_rows]
    refine Finset.sum_congr rfl fun s _ => Finset.sum_congr rfl fun r _ => ?_
    rw [e1, e2]
  refine Eq.trans (Finset.sum_congr rfl fun s _ => Finset.sum_congr rfl fun r _ => ?_) (key.trans (e3.trans ?_))
  · rw [weight_apply, e1]
    rfl
  · rw [N_row, L_row, ← hD]

end Cert.ReferenceIdeal.Attn
end
-- ==== Proof.Equation.lean ====
/-
  The equation: where the queries and keys are real numbers, the kernel's array is the reference's result.
-/
module

public import proofs.«01_k».proof.Proof.Grid
public import proofs.«01_k».proof.Proof.RefBlocks

@[expose] public section
set_option maxRecDepth 16384
noncomputable section
namespace Cert.Attn
open Idealize.ShloMosaic Idealize.ShloMosaic.TcCoe Idealize.SL.Sem

/-- A real number among the extended ones. -/
def Real' (x : EReal) : Prop := x ≠ ⊤ ∧ x ≠ ⊥

theorem sc_real : Real' (FloatOps.ofBits (F := Ideal) .f32 0x3DB504F3#32) := by
  show Real' (Ideal.ofBits .f32 0x3DB504F3#32)
  unfold Real'
  constructor <;> simp [Ideal.ofBits, Ideal.ieee, -EReal.coe_mul]

/-- Scaling the query before the product or the product afterwards: the same over real numbers. -/
theorem scale_sum {n : ℕ} (a b : Fin n → EReal) (s : EReal) (ha : ∀ i, Real' (a i)) (hb : ∀ i, Real' (b i)) (hs : Real' s) :
    (∑ i, a i * (b i * s)) = (∑ i, b i * a i) * s ∧ Real' ((∑ i, b i * a i) * s) := by
  have ea : ∀ i, a i = ((a i).toReal : EReal) := fun i => (EReal.coe_toReal (ha i).1 (ha i).2).symm
  have eb : ∀ i, b i = ((b i).toReal : EReal) := fun i => (EReal.coe_toReal (hb i).1 (hb i).2).symm
  have es : s = (s.toReal : EReal) := (EReal.coe_toReal hs.1 hs.2).symm
  have e1 : (∑ i, b i * a i) * s = (((∑ i, (b i).toReal * (a i).toReal) * s.toReal : ℝ) : EReal) := by
    rw [EReal.coe_mul, coe_sum, ← es]
    refine congrArg (· * s) (Finset.sum_congr rfl fun i _ => ?_)
    rw [EReal.coe_mul, ← ea, ← eb]
  refine ⟨?_, by rw [e1]; exact ⟨EReal.coe_ne_top _, EReal.coe_ne_bot _⟩⟩
  rw [e1, Finset.sum_mul, coe_sum]
  refine Finset.sum_congr rfl fun i _ => ?_
  rw [show (b i).toReal * (a i).toReal * s.toReal = (a i).toReal * ((b i).toReal * s.toReal) by ring, EReal.coe_mul, EReal.coe_mul, ← ea, ← eb, ← es]

end Cert.Attn

namespace Cert.KernelIdeal.Attn
open Cert.KernelIdeal Cert.KernelIdeal.Gen Cert.KernelIdeal.Value Idealize.ShloMosaic Idealize.ShloMosaic.TcCoe Idealize.SL.Sem
open Cert.Attn
open Cert.ReferenceIdeal.Attn (S V own ownS blockS gateOf)

variable (m : (ℓ : Loc nD τ sig) → Buf (Elt Ideal) ℓ) (c : Dev nD)
variable (b : Fin 4) (t : Fin 2048) (h : Fin 4) (g : Fin 4) (d : Fin 128)

/-- The grid point of a batch, a key head and the block of a position. -/
def pt : Fin cfg0.N := ⟨b.val * 32 + h.val * 8 + t.val / 256, by have : cfg0.N = 128 := N_0; omega⟩

theorem pt_own : (grid0.coords (pt b t h) 2).val = t.val / 256 := by
  rw [(coords_val _).2.2]
  show (b.val * 32 + h.val * 8 + t.val / 256) % 8 = _
  omega

/-- The column of a position and a head of the group. -/
def col : Fin 1024 := ⟨(g.val * 128 + d.val) / 128 * 256 + t.val % 256, by omega⟩

theorem query_at (d' : Fin 128) : qv (xq m c (pt b t h)) (col t g d) d' = argQ m c (ix4 b t ⟨h.val * 4 + g.val, by omega⟩ d') := by
  unfold qv
  refine (iblk0 m c _ _ _).trans (arrQ_apply m c b t ⟨h.val * 4 + g.val, by omega⟩ d' _ ?_ ?_)
  · show ((b.val * 32 + h.val * 8 + t.val / 256) / 32 * 8 + (b.val * 32 + h.val * 8 + t.val / 256) % 8) * 256
      + ((g.val * 128 + d.val) / 128 * 256 + t.val % 256) % 256 = b.val * 2048 + t.val
    omega
  · show (b.val * 32 + h.val * 8 + t.val / 256) / 8 % 4 * 512 + (((g.val * 128 + d.val) / 128 * 256 + t.val % 256) / 256 * 128 + d'.val)
      = (h.val * 4 + g.val) * 128 + d'.val
    omega

theorem key_at (r : Fin 2048) (d' : Fin 128) : xk m c (pt b t h) (ix2 r d') = argK m c (ix4 b r h d') := by
  refine (iblk1 m c _ _ _).trans (arrK_apply m c b r h d' _ ?_ ?_)
  · show (b.val * 32 + h.val * 8 + t.val / 256) / 32 * 2048 + r.val = b.val * 2048 + r.val
    omega
  · show (b.val * 32 + h.val * 8 + t.val / 256) / 8 % 4 * 128 + d'.val = h.val * 128 + d'.val
    omega

theorem value_at (r : Fin 2048) (d' : Fin 128) : xv m c (pt b t h) (ix2 r d') = argV m c (ix4 b r h d') := by
  refine (iblk2 m c _ _ _).trans (arrV_apply m c b r h d' _ ?_ ?_)
  · show (b.val * 32 + h.val * 8 + t.val / 256) / 32 * 2048 + r.val = b.val * 2048 + r.val
    omega
  · show (b.val * 32 + h.val * 8 + t.val / 256) / 8 % 4 * 128 + d'.val = h.val * 128 + d'.val
    omega

theorem means_at (x1 : Vec Ideal S2048x128 .f32) (n : Fin 8) (d' : Fin 128) :
    k0_pay22 x1 (ix2 n d') = Ideal.div (∑ r : Fin 256, x1 (ix2 ⟨n.val * 256 + r.val, by omega⟩ d')) (FloatOps.ofBits (F := Ideal) .f32 0x43800000#32) := by
  unfold_payloads
  pointwise

theorem blk_lt (n : ℕ) (hn : n < 8) : (blk n).val = n := Nat.mod_eq_of_lt hn

/-- The kernel's gate is the reference's. -/
theorem gate_at : (fun a : Fin 8 => gate (grid0.coords (pt b t h)) (xq m c (pt b t h)) (k0_pay22 (xk m c (pt b t h))) (ix2 a (col t g d)))
    = gateOf (argQ m c) (argK m c) b t h g := by
  funext a
  rw [Attn.gate_apply, pt_own]
  unfold gateOf
  refine if_congr Iff.rfl (Finset.sum_congr rfl fun d' _ => ?_) rfl
  rw [means_at, query_at]
  simp only [key_at]

variable (hq : ∀ y, Real' (argQ m c y)) (hk : ∀ y, Real' (argK m c y))
include hq hk

theorem S_real (n : Fin 8) (r : Fin 256) : Real' (S (argQ m c) (argK m c) b t h g n r) :=
  (scale_sum (fun d' => argK m c (ix4 b ⟨n.val * 256 + r.val, by omega⟩ h d')) (fun d' => argQ m c (ix4 b t ⟨h.val * 4 + g.val, by omega⟩ d')) _
    (fun _ => hk _) (fun _ => hq _) sc_real).2

theorem score_at (n : ℕ) (r : Fin 256) :
    score (kslab (keysOf (xk m c (pt b t h))) n) (xq m c (pt b t h)) (col t g d) r = S (argQ m c) (argK m c) b t h g (blk n) r := by
  unfold score
  have e : ∀ d' : Fin 128, kslab (keysOf (xk m c (pt b t h))) n (ix3 0 r d') = argK m c (ix4 b ⟨(blk n).val * 256 + r.val, by have := (blk n).isLt; omega⟩ h d') :=
    fun d' => key_at m c b t h _ d'
  simp only [e, query_at]
  exact (scale_sum (fun d' => argK m c (ix4 b ⟨(blk n).val * 256 + r.val, by have := (blk n).isLt; omega⟩ h d')) (fun d' => argQ m c (ix4 b t ⟨h.val * 4 + g.val, by omega⟩ d')) _
    (fun _ => hk _) (fun _ => hq _) sc_real).1

theorem own_at : ownScore (kslab (keysOf (xk m c (pt b t h))) (t.val / 256)) (xq m c (pt b t h)) (col t g d) = ownS (argQ m c) (argK m c) b t h g := by
  funext r
  unfold ownScore ownS
  have e : (col t g d).val % 256 = t.val % 256 := by
    show ((g.val * 128 + d.val) / 128 * 256 + t.val % 256) % 256 = _
    omega
  rw [e, score_at m c b t h g d hq hk]
  have e2 : blk (t.val / 256) = own t := Fin.ext (Nat.mod_eq_of_lt (by omega))
  rw [e2]

theorem block_at (n : ℕ) :
    blockScore (Takes (grid0.coords (pt b t h)) (xq m c (pt b t h)) (k0_pay22 (xk m c (pt b t h))) (col t g d) n)
        (kslab (keysOf (xk m c (pt b t h))) n) (xq m c (pt b t h)) (col t g d)
      = blockS (argQ m c) (argK m c) b t h g n := by
  funext r
  unfold blockScore blockS Takes
  simp only [gate_at, score_at m c b t h g d hq hk]
  rfl

/-- The kernel's array holds the reference's result. -/
theorem cell_eq (p : Fin 256) (e : Fin 512) (hp : p.val = t.val % 256) (he : e.val = g.val * 128 + d.val) (y : S8192x2048.Idx)
    (h0 : (y 0).val = b.val * 2048 + t.val) (h1 : (y 1).val = (h.val * 4 + g.val) * 128 + d.val) :
    cell (grid0.coords (pt b t h)) (xq m c (pt b t h)) (k0_pay22 (xk m c (pt b t h))) (keysOf (xk m c (pt b t h))) (valuesOf (xv m c (pt b t h))) p e
      = Cert.ReferenceIdeal.Read.val_main_v111 (F := Ideal) (argQ m c) (argK m c) (argV m c) y := by
  rw [Cert.ReferenceIdeal.Attn.ref_value (argQ m c) (argK m c) (argV m c)
    (fun b t h g n r => S_real m c b t h g hq hk n r) y b t h g d h0 h1 0 _ rfl]
  have ec : (⟨e.val / 128 * 256 + p.val, by omega⟩ : Fin 1024) = col t g d := Fin.ext (by
    show e.val / 128 * 256 + p.val = (g.val * 128 + d.val) / 128 * 256 + t.val % 256
    rw [he, hp])
  have ed : (⟨e.val % 128, by omega⟩ : Fin 128) = d := Fin.ext (by show e.val % 128 = d.val; omega)
  have ev : ∀ n, (fun r : Fin 256 => vslab (valuesOf (xv m c (pt b t h))) n (ix3 0 d r)) = V (argV m c) b h d (blk n) :=
    fun n => funext fun r => value_at m c b t h _ d
  have e2 : blk (t.val / 256) = own t := Fin.ext (Nat.mod_eq_of_lt (by omega))
  have ev' : (fun (n : ℕ) (r : Fin 256) => vslab (valuesOf (xv m c (pt b t h))) n (ix3 0 d r)) = fun n => V (argV m c) b h d (blk n) := funext ev
  unfold cell
  rw [ec, ed]
  unfold column
  rw [pt_own, own_at m c b t h g d hq hk]
  rw [ev', ev]
  simp only [block_at m c b t h g d hq hk]
  rw [e2]
  refine after_div (J := Fin 256) _ _ _ _ (fun r => ?_) ⟨0, ?_⟩ _ (fun n _ r => ?_) 0
  · unfold ownS
    split_ifs
    · exact (S_real m c b t h g hq hk _ _).1
    · exact bot_ne_top
  · unfold ownS
    rw [if_pos (show (0 : Fin 256).val ≤ t.val % 256 from Nat.zero_le _)]
    exact (S_real m c b t h g hq hk _ _).2
  · unfold blockS
    split_ifs
    · exact (S_real m c b t h g hq hk _ _).1
    · exact bot_ne_top

/-- The arrays are equal. -/
theorem array_eq : (dats m 0 c).arrAt 3 cfg0.N = Cert.ReferenceIdeal.Read.val_main_v111 (F := Ideal) (argQ m c) (argK m c) (argV m c) := by
  funext y
  have hy0 : (y 0).val < 8192 := (y 0).isLt
  have hy1 : (y 1).val < 2048 := (y 1).isLt
  let b : Fin 4 := ⟨(y 0).val / 2048, by omega⟩
  let t : Fin 2048 := ⟨(y 0).val % 2048, by omega⟩
  let h : Fin 4 := ⟨(y 1).val / 512, by omega⟩
  let g : Fin 4 := ⟨(y 1).val / 128 % 4, by omega⟩
  let d : Fin 128 := ⟨(y 1).val % 128, by omega⟩
  have ht : t.val = (y 0).val % 2048 := rfl
  have hb : b.val = (y 0).val / 2048 := rfl
  have hh : h.val = (y 1).val / 512 := rfl
  have hg : g.val = (y 1).val / 128 % 4 := rfl
  have hd : d.val = (y 1).val % 128 := rfl
  have hpt : (pt b t h).val = b.val * 32 + h.val * 8 + t.val / 256 := rfl
  refine (array_apply m c (pt b t h) ⟨t.val % 256, by omega⟩ ⟨g.val * 128 + d.val, by omega⟩ y ?_ ?_).trans
    (cell_eq m c b t h g d hq hk ⟨t.val % 256, by omega⟩ ⟨g.val * 128 + d.val, by omega⟩ rfl rfl y ?_ ?_)
  · show (y 0).val = ((pt b t h).val / 32 * 8 + (pt b t h).val % 8) * 256 + t.val % 256
    omega
  · show (y 1).val = (pt b t h).val / 8 % 4 * 512 + (g.val * 128 + d.val)
    omega
  · omega
  · omega

end Cert.KernelIdeal.Attn
end
-- ==== Proof.Pre.lean ====
/-
  The precondition read back: it says that every query and every key is a real number.
-/
module

public import proofs.«01_k».proof.Pre_scores_finite
public import proofs.«01_k».proof.Proof.Equation
public import Idealize.ShloMosaic.Lib.ReduceAll
public import Idealize.ShloMosaic.Lib.Affine

@[expose] public section
set_option maxRecDepth 16384
noncomputable section
namespace Cert.Attn
open Idealize.ShloMosaic Idealize.ShloMosaic.TcCoe Idealize.SL.Sem

/-- The shape relations the precondition states. -/
theorem preFacts : Cert.Pre_scores_finite.Facts where
  bcast_S_S4x2048x16x128 := by decide
  reducesTo_S4x2048x16x128_S_d0_1_2_3 := by decide
  h_S_ := by decide
  bcast_S_S4x2048x4x128 := by decide
  reducesTo_S4x2048x4x128_S_d0_1_2_3 := by decide

/-- A magnitude below infinity is a real number's. -/
theorem real_of_lt {s : Shape} (x : FVec Ideal s .f32) (i : s.Idx) (T : FVec Ideal s .f32) (hT : T i = ⊤)
    (h : cmpf .olt (Host.absf x) T i = 1#1) : Real' (x i) := by
  have h1 : Ideal.cmp .olt (Host.absf x i) (T i) = 1#1 := h
  rw [hT] at h1
  have h2 : (Host.absf x i : EReal) < ⊤ := by
    have h4 : BitVec.ofBool (decide ((Host.absf x i : EReal) < ⊤)) = 1#1 := h1
    by_contra hn
    rw [decide_eq_false hn] at h4
    exact absurd h4 (by decide)
  have h3 : (Host.absf x i : EReal) = max (x i) (-(x i)) := rfl
  rw [h3, max_lt_iff] at h2
  refine ⟨h2.1.ne, fun hb => ?_⟩
  rw [hb] at h2
  exact absurd h2.2 (by simp)

theorem inf_top : (FloatOps.ofBits (F := Ideal) .f32 0x7F800000#32 : EReal) = ⊤ := by
  show Ideal.ofBits .f32 0x7F800000#32 = ⊤
  simp [Ideal.ofBits, Ideal.ieee]

/-- The precondition of three arrays, as a statement of each query and each key. -/
theorem pre_real [hP : Cert.Pre_scores_finite.Facts] (q : FVec Ideal Cert.Pre_scores_finite.S4x2048x16x128 .f32)
    (k v : FVec Ideal Cert.Pre_scores_finite.S4x2048x4x128 .f32)
    (h : Cert.Pre_scores_finite.fn (F := Ideal) q k v = fun _ => 1#1) :
    (∀ y, Real' (q y)) ∧ ∀ y, Real' (k y) := by
  have h0 := congrFun h ix0
  unfold Cert.Pre_scores_finite.fn at h0
  obtain ⟨hq, hk⟩ := IntOp.andi_eq_one.mp h0
  constructor
  · intro y
    refine real_of_lt q y _ ?_ (Host.reduce_andi_all _ _ _ _ _ hq y)
    exact inf_top
  · intro y
    refine real_of_lt k y _ ?_ (Host.reduce_andi_all _ _ _ _ _ hk y)
    exact inf_top

end Cert.Attn
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InProj
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3.Skeleton
public import proofs.«01_k».proof.Proof.RopeBits
public import proofs.«01_k».proof.Proof.Gen.Reference3Ideal
public import proofs.«01_k».proof.Proof.Gen.Reference3Ideal.Run
public import proofs.«01_k».proof.Proof.Gen.Reference3Ideal.Read
public import proofs.«01_k».proof.Proof.Rope
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.ConvPrompt
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.ConvSample
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.OutProj
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Merge
public import proofs.«01_k».proof.Proof.Frames
public import proofs.«01_k».proof.Proof.Pre

@[expose] public section

noncomputable section

namespace Cert.Proof

open Idealize.ShloMosaic Idealize.SL.Sem

/-- Block-sparse causal attention over the prompt: where the queries and keys are real numbers, the kernel's array is the
reference's. -/
theorem attention : Cert.algebraic_KernelIdeal_ReferenceIdeal_pre_scores_finite (hKernelIdeal := Cert.KernelIdeal.Gen.facts)
    (hReferenceIdeal := Cert.ReferenceIdeal.Gen.facts) (hPre_scores_finite := Cert.Attn.preFacts) := by
  intro m g m' g' hpre hargs
  refine ⟨fun c => (Cert.KernelIdeal.Gen.dats m 0 c).arrAt 3 Cert.KernelIdeal.cfg0.N,
    Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨hv, hrest⟩ := h c
  refine ⟨hv.trans ?_, hrest⟩
  have hreal := Cert.Attn.pre_real (hP := Cert.Attn.preFacts) _ _ _ (hpre c)
  rw [Cert.ReferenceIdeal.Read.val_main_v111_eq, (hargs c).1, (hargs c).2.1, (hargs c).2.2]
  exact (Cert.KernelIdeal.Attn.array_eq m c hreal.1 hreal.2).symm

/-- The input projection: the kernel's rows are the reference's. -/
theorem inProj : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G2 m c, Cert.Kernel2Ideal.Value.run (F := Ideal) m g, ?_⟩
  refine (θ_run (Cert.Reference2Ideal.defs (F := Ideal)) _ _).mono (fun r h c => ?_) (Cert.Reference2Ideal.Value.run (F := Ideal) m' g')
  obtain ⟨hv, hrest⟩ := h c
  refine ⟨hv.trans ?_, hrest⟩
  rw [Cert.Reference2Ideal.Read.val_main_v5_eq, (hargs c).1, (hargs c).2.1, (hargs c).2.2]
  exact (Cert.InProj.equation m c).symm

/-- The rotary embedding: the kernel's six arrays are the reference's. -/
theorem rope : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Rope.data m 0 c).arrAt 6 Cert.Kernel3Ideal.cfg0.N, fun c => (Cert.Kernel3Ideal.Rope.data m 0 c).arrAt 7 Cert.Kernel3Ideal.cfg0.N,
    fun c => (Cert.Kernel3Ideal.Rope.data m 0 c).arrAt 8 Cert.Kernel3Ideal.cfg0.N, fun c => (Cert.Kernel3Ideal.Rope.data m 0 c).arrAt 9 Cert.Kernel3Ideal.cfg0.N,
    fun c => (Cert.Kernel3Ideal.Rope.data m 0 c).arrAt 10 Cert.Kernel3Ideal.cfg0.N, fun c => (Cert.Kernel3Ideal.Rope.data m 0 c).arrAt 11 Cert.Kernel3Ideal.cfg0.N,
    Cert.Kernel3Ideal.Rope.run_results m g, ?_⟩
  refine (θ_run (Cert.Reference3Ideal.defs (F := Ideal)) _ _).mono (fun r h c => ?_) (Cert.Reference3Ideal.Value.run (F := Ideal) m' g')
  obtain ⟨h0, h1, h2, h3, h4, h5, hrest⟩ := h c
  refine ⟨h0.trans ?_, h1.trans ?_, h2.trans ?_, h3.trans ?_, h4.trans ?_, h5.trans ?_, hrest⟩
  · rw [Cert.Reference3Ideal.Read.val_main_v161_eq, hargs c]
    exact (Cert.Kernel3Ideal.Rope.equation_queries_prompt m c).symm
  · rw [Cert.Reference3Ideal.Read.val_main_v162_eq, hargs c]
    exact (Cert.Kernel3Ideal.Rope.equation_keys_prompt m c).symm
  · rw [Cert.Reference3Ideal.Read.val_main_v163_eq, hargs c]
    exact (Cert.Kernel3Ideal.Rope.equation_values_prompt m c).symm
  · rw [Cert.Reference3Ideal.Read.val_main_v165_eq, hargs c]
    exact (Cert.Kernel3Ideal.Rope.equation_queries_sample m c).symm
  · rw [Cert.Reference3Ideal.Read.val_main_v167_eq, hargs c]
    exact (Cert.Kernel3Ideal.Rope.equation_keys_sample m c).symm
  · rw [Cert.Reference3Ideal.Read.val_main_v169_eq, hargs c]
    exact (Cert.Kernel3Ideal.Rope.equation_values_sample m c).symm

/-- The prompt's short convolution: the kernel's two arrays are the reference's. -/
theorem convPrompt : Cert.algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N, Cert.Kernel4Ideal.Value.run_blocks (F := Ideal) m g, ?_⟩
  refine (θ_run (Cert.Reference4Ideal.defs (F := Ideal)) _ _).mono (fun r h c => ?_) (Cert.Reference4Ideal.Value.run (F := Ideal) m' g')
  obtain ⟨hv, hw, hrest⟩ := h c
  refine ⟨hv.trans ?_, hw.trans ?_, hrest⟩
  · rw [Cert.Reference4Ideal.Read.val_main_v38_eq, (hargs c).1, (hargs c).2]
    exact (Cert.ConvPrompt.equation m c).symm
  · rw [Cert.Reference4Ideal.Read.val_main_v35_eq, (hargs c).1]
    exact (Cert.ConvPrompt.equation_tail m c).symm

/-- The sample's short convolution: the kernel's two arrays are the reference's. -/
theorem convSample : Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, Cert.Kernel5Ideal.Value.run_blocks (F := Ideal) m g, ?_⟩
  refine (θ_run (Cert.Reference5Ideal.defs (F := Ideal)) _ _).mono (fun r h c => ?_) (Cert.Reference5Ideal.Value.run (F := Ideal) m' g')
  obtain ⟨hv, hw, hrest⟩ := h c
  refine ⟨hv.trans ?_, hw.trans ?_, hrest⟩
  · rw [Cert.Reference5Ideal.Read.val_main_v39_eq, (hargs c).1, (hargs c).2.1, (hargs c).2.2]
    exact (Cert.ConvSample.equation m c).symm
  · rw [Cert.Reference5Ideal.Read.val_main_v40_eq, (hargs c).1, (hargs c).2.1]
    exact (Cert.ConvSample.equation_tail m c).symm

/-- The output projection and the residual: the kernel's array is the reference's. -/
theorem outProj : Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Value.G4 m c, Cert.Kernel6Ideal.Value.run (F := Ideal) m g, ?_⟩
  refine (θ_run (Cert.Reference6Ideal.defs (F := Ideal)) _ _).mono (fun r h c => ?_) (Cert.Reference6Ideal.Value.run (F := Ideal) m' g')
  obtain ⟨hv, hrest⟩ := h c
  refine ⟨hv.trans ?_, hrest⟩
  rw [Cert.Reference6Ideal.Read.val_main_v16_eq, (hargs c).1, (hargs c).2.1, (hargs c).2.2.1, (hargs c).2.2.2]
  exact (Cert.OutProj.equation m c).symm

/-- The merge of the two branches: the kernel's array is the reference's. -/
theorem merge : Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Value.G8 m c, Cert.Kernel7Ideal.Value.run (F := Ideal) m g, ?_⟩
  refine (θ_run (Cert.Reference7Ideal.defs (F := Ideal)) _ _).mono (fun r h c => ?_) (Cert.Reference7Ideal.Value.run (F := Ideal) m' g')
  obtain ⟨hv, hrest⟩ := h c
  refine ⟨hv.trans ?_, hrest⟩
  rw [Cert.Reference7Ideal.Read.val_main_v53_eq, (hargs c).1, (hargs c).2.1, (hargs c).2.2.1, (hargs c).2.2.2.1, (hargs c).2.2.2.2.1, (hargs c).2.2.2.2.2.1, (hargs c).2.2.2.2.2.2]
  exact (Cert.Merge.equation m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Attn.preFacts,
    fun m ρ _ => Cert.Kernel.Gen.frame m ρ,
    fun m ρ _ => Cert.KernelIdeal.Gen.frame m ρ,
    fun m ρ _ => Cert.KernelIdeal.Gen.frame m ρ,
    fun m ρ _ => Cert.Attn.frame_reference m ρ,
    fun m ρ _ => Cert.Attn.frame_reference m ρ,
    fun m ρ _ => Cert.Kernel2.Gen.frame m ρ,
    fun m ρ _ => Cert.Kernel2Ideal.Gen.frame m ρ,
    Cert.Attn.frame_reference2,
    fun m ρ _ => Cert.Kernel3.Rope.frame m ρ,
    fun m ρ _ => Cert.Kernel3Ideal.Rope.frame m ρ,
    Cert.Attn.frame_reference3,
    fun m ρ _ => Cert.Kernel4.Gen.frame m ρ,
    fun m ρ _ => Cert.Kernel4Ideal.Gen.frame m ρ,
    Cert.Attn.frame_reference4,
    fun m ρ _ => Cert.Kernel5.Gen.frame m ρ,
    fun m ρ _ => Cert.Kernel5Ideal.Gen.frame m ρ,
    Cert.Attn.frame_reference5,
    fun m ρ _ => Cert.Kernel6.Gen.frame m ρ,
    fun m ρ _ => Cert.Kernel6Ideal.Gen.frame m ρ,
    Cert.Attn.frame_reference6,
    fun m ρ _ => Cert.Kernel7.Gen.frame m ρ,
    fun m ρ _ => Cert.Kernel7Ideal.Gen.frame m ρ,
    Cert.Attn.frame_reference7,
    trivial,
    attention,
    trivial,
    inProj,
    trivial,
    rope,
    trivial,
    convPrompt,
    trivial,
    convSample,
    trivial,
    outProj,
    trivial,
    merge⟩

end Cert.Proof

end
